-- ==== Defs.lean ====
def Pre_Kernel [hPre_items_in_order : Cert.Pre_items_in_order.Facts] (m : (ℓ : Loc Cert.Kernel.nD Cert.Kernel.τ Cert.Kernel.sig) → Buf (Elt Bits) ℓ) : Prop :=
  ∀ c : Dev Cert.Kernel.nD,
    (Cert.Pre_items_in_order.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_items_in_order : Cert.Pre_items_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_items_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_items_in_order [hPre_items_in_order : Cert.Pre_items_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_items_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_EvenFirst (m : (ℓ : Loc Cert.EvenFirst.nD Cert.EvenFirst.τ Cert.EvenFirst.sig) → Buf (Elt Bits) ℓ) : Prop :=
  True

def Pre_EvenFirstIdeal (m : (ℓ : Loc Cert.EvenFirstIdeal.nD Cert.EvenFirstIdeal.τ Cert.EvenFirstIdeal.sig) → Buf (Elt Ideal) ℓ) : Prop :=
  True

def Pre_EvenFirstReferenceIdeal (m : (ℓ : Loc Cert.EvenFirstReferenceIdeal.nD Cert.EvenFirstReferenceIdeal.τ Cert.EvenFirstReferenceIdeal.sig) → Buf (Elt Ideal) ℓ) : Prop :=
  True

def Pre_ProjEven (m : (ℓ : Loc Cert.ProjEven.nD Cert.ProjEven.τ Cert.ProjEven.sig) → Buf (Elt Bits) ℓ) : Prop :=
  True

def Pre_ProjEvenIdeal (m : (ℓ : Loc Cert.ProjEvenIdeal.nD Cert.ProjEvenIdeal.τ Cert.ProjEvenIdeal.sig) → Buf (Elt Ideal) ℓ) : Prop :=
  True

def Pre_ProjEvenReferenceIdeal (m : (ℓ : Loc Cert.ProjEvenReferenceIdeal.nD Cert.ProjEvenReferenceIdeal.τ Cert.ProjEvenReferenceIdeal.sig) → Buf (Elt Ideal) ℓ) : Prop :=
  True

def Pre_ProjOdd (m : (ℓ : Loc Cert.ProjOdd.nD Cert.ProjOdd.τ Cert.ProjOdd.sig) → Buf (Elt Bits) ℓ) : Prop :=
  True

def Pre_ProjOddIdeal (m : (ℓ : Loc Cert.ProjOddIdeal.nD Cert.ProjOddIdeal.τ Cert.ProjOddIdeal.sig) → Buf (Elt Ideal) ℓ) : Prop :=
  True

def Pre_ProjOddReferenceIdeal (m : (ℓ : Loc Cert.ProjOddReferenceIdeal.nD Cert.ProjOddReferenceIdeal.τ Cert.ProjOddReferenceIdeal.sig) → Buf (Elt Ideal) ℓ) : Prop :=
  True

def quiescent_Kernel [hKernel : Cert.Kernel.Facts] [hPre_items_in_order : Cert.Pre_items_in_order.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_items_in_order : Cert.Pre_items_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_items_in_order [hReferenceIdeal : Cert.ReferenceIdeal.Facts] [hPre_items_in_order : Cert.Pre_items_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_items_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4)
      ∧ r.2.mem ((c.tc : Thread Cert.EvenIn.nD Cert.EvenIn.τ).loc Cert.EvenIn.main_arg5) = m ((c.tc : Thread Cert.EvenIn.nD Cert.EvenIn.τ).loc Cert.EvenIn.main_arg5)
      ∧ r.2.mem ((c.tc : Thread Cert.EvenIn.nD Cert.EvenIn.τ).loc Cert.EvenIn.main_arg6) = m ((c.tc : Thread Cert.EvenIn.nD Cert.EvenIn.τ).loc Cert.EvenIn.main_arg6)
      ∧ r.2.mem ((c.tc : Thread Cert.EvenIn.nD Cert.EvenIn.τ).loc Cert.EvenIn.main_arg7) = m ((c.tc : Thread Cert.EvenIn.nD Cert.EvenIn.τ).loc Cert.EvenIn.main_arg7)
      ∧ r.2.mem ((c.tc : Thread Cert.EvenIn.nD Cert.EvenIn.τ).loc Cert.EvenIn.main_arg8) = m ((c.tc : Thread Cert.EvenIn.nD Cert.EvenIn.τ).loc Cert.EvenIn.main_arg8)
      ∧ r.2.mem ((c.tc : Thread Cert.EvenIn.nD Cert.EvenIn.τ).loc Cert.EvenIn.main_arg9) = m ((c.tc : Thread Cert.EvenIn.nD Cert.EvenIn.τ).loc Cert.EvenIn.main_arg9))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
      ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5)
      ∧ r.2.mem ((c.tc : Thread Cert.EvenInIdeal.nD Cert.EvenInIdeal.τ).loc Cert.EvenInIdeal.main_arg6) = m ((c.tc : Thread Cert.EvenInIdeal.nD Cert.EvenInIdeal.τ).loc Cert.EvenInIdeal.main_arg6)
      ∧ r.2.mem ((c.tc : Thread Cert.EvenInIdeal.nD Cert.EvenInIdeal.τ).loc Cert.EvenInIdeal.main_arg7) = m ((c.tc : Thread Cert.EvenInIdeal.nD Cert.EvenInIdeal.τ).loc Cert.EvenInIdeal.main_arg7)
      ∧ r.2.mem ((c.tc : Thread Cert.EvenInIdeal.nD Cert.EvenInIdeal.τ).loc Cert.EvenInIdeal.main_arg8) = m ((c.tc : Thread Cert.EvenInIdeal.nD Cert.EvenInIdeal.τ).loc Cert.EvenInIdeal.main_arg8)
      ∧ r.2.mem ((c.tc : Thread Cert.EvenInIdeal.nD Cert.EvenInIdeal.τ).loc Cert.EvenInIdeal.main_arg9) = m ((c.tc : Thread Cert.EvenInIdeal.nD Cert.EvenInIdeal.τ).loc Cert.EvenInIdeal.main_arg9))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1)
      ∧ r.2.mem ((c.tc : Thread Cert.EvenInReferenceIdeal.nD Cert.EvenInReferenceIdeal.τ).loc Cert.EvenInReferenceIdeal.main_arg2) = m ((c.tc : Thread Cert.EvenInReferenceIdeal.nD Cert.EvenInReferenceIdeal.τ).loc Cert.EvenInReferenceIdeal.main_arg2)
      ∧ r.2.mem ((c.tc : Thread Cert.EvenInReferenceIdeal.nD Cert.EvenInReferenceIdeal.τ).loc Cert.EvenInReferenceIdeal.main_arg3) = m ((c.tc : Thread Cert.EvenInReferenceIdeal.nD Cert.EvenInReferenceIdeal.τ).loc Cert.EvenInReferenceIdeal.main_arg3)
      ∧ r.2.mem ((c.tc : Thread Cert.EvenInReferenceIdeal.nD Cert.EvenInReferenceIdeal.τ).loc Cert.EvenInReferenceIdeal.main_arg4) = m ((c.tc : Thread Cert.EvenInReferenceIdeal.nD Cert.EvenInReferenceIdeal.τ).loc Cert.EvenInReferenceIdeal.main_arg4)
      ∧ r.2.mem ((c.tc : Thread Cert.EvenInReferenceIdeal.nD Cert.EvenInReferenceIdeal.τ).loc Cert.EvenInReferenceIdeal.main_arg5) = m ((c.tc : Thread Cert.EvenInReferenceIdeal.nD Cert.EvenInReferenceIdeal.τ).loc Cert.EvenInReferenceIdeal.main_arg5)
      ∧ r.2.mem ((c.tc : Thread Cert.EvenInReferenceIdeal.nD Cert.EvenInReferenceIdeal.τ).loc Cert.EvenInReferenceIdeal.main_arg6) = m ((c.tc : Thread Cert.EvenInReferenceIdeal.nD Cert.EvenInReferenceIdeal.τ).loc Cert.EvenInReferenceIdeal.main_arg6)
      ∧ r.2.mem ((c.tc : Thread Cert.EvenInReferenceIdeal.nD Cert.EvenInReferenceIdeal.τ).loc Cert.EvenInReferenceIdeal.main_arg7) = m ((c.tc : Thread Cert.EvenInReferenceIdeal.nD Cert.EvenInReferenceIdeal.τ).loc Cert.EvenInReferenceIdeal.main_arg7)
      ∧ r.2.mem ((c.tc : Thread Cert.EvenInReferenceIdeal.nD Cert.EvenInReferenceIdeal.τ).loc Cert.EvenInReferenceIdeal.main_arg8) = m ((c.tc : Thread Cert.EvenInReferenceIdeal.nD Cert.EvenInReferenceIdeal.τ).loc Cert.EvenInReferenceIdeal.main_arg8)
      ∧ r.2.mem ((c.tc : Thread Cert.EvenInReferenceIdeal.nD Cert.EvenInReferenceIdeal.τ).loc Cert.EvenInReferenceIdeal.main_arg9) = m ((c.tc : Thread Cert.EvenInReferenceIdeal.nD Cert.EvenInReferenceIdeal.τ).loc Cert.EvenInReferenceIdeal.main_arg9))
      ∧ r.2.sem = fun _ => 0)

def quiescent_EvenFirst [hEvenFirst : Cert.EvenFirst.Facts] : Prop :=
  ∀ (m : (ℓ : Loc Cert.EvenFirst.nD Cert.EvenFirst.τ Cert.EvenFirst.sig) → Buf (Elt Bits) ℓ) (g : Dev Cert.EvenFirst.nD → PrngReg), Pre_EvenFirst m →
    θ_run (Cert.EvenFirst.defs (F := Bits)) (onTc (τ := Cert.EvenFirst.τ) (Cert.EvenFirst.main (F := Bits))) ⟨m, fun _ => 0, g⟩ (fun r => (∀ c : Dev Cert.EvenFirst.nD,
      r.2.mem ((c.tc : Thread Cert.EvenFirst.nD Cert.EvenFirst.τ).loc Cert.EvenFirst.main_arg0) = m ((c.tc : Thread Cert.EvenFirst.nD Cert.EvenFirst.τ).loc Cert.EvenFirst.main_arg0)
      ∧ r.2.mem ((c.tc : Thread Cert.EvenFirst.nD Cert.EvenFirst.τ).loc Cert.EvenFirst.main_arg1) = m ((c.tc : Thread Cert.EvenFirst.nD Cert.EvenFirst.τ).loc Cert.EvenFirst.main_arg1)
      ∧ r.2.mem ((c.tc : Thread Cert.EvenFirst.nD Cert.EvenFirst.τ).loc Cert.EvenFirst.main_arg2) = m ((c.tc : Thread Cert.EvenFirst.nD Cert.EvenFirst.τ).loc Cert.EvenFirst.main_arg2)
      ∧ r.2.mem ((c.tc : Thread Cert.EvenFirst.nD Cert.EvenFirst.τ).loc Cert.EvenFirst.main_arg3) = m ((c.tc : Thread Cert.EvenFirst.nD Cert.EvenFirst.τ).loc Cert.EvenFirst.main_arg3)
      ∧ r.2.mem ((c.tc : Thread Cert.EvenFirst.nD Cert.EvenFirst.τ).loc Cert.EvenFirst.main_arg4) = m ((c.tc : Thread Cert.EvenFirst.nD Cert.EvenFirst.τ).loc Cert.EvenFirst.main_arg4)
      ∧ r.2.mem ((c.tc : Thread Cert.EvenFirst.nD Cert.EvenFirst.τ).loc Cert.EvenFirst.main_arg5) = m ((c.tc : Thread Cert.EvenFirst.nD Cert.EvenFirst.τ).loc Cert.EvenFirst.main_arg5))
      ∧ r.2.sem = fun _ => 0)

def quiescent_EvenFirstIdeal [hEvenFirstIdeal : Cert.EvenFirstIdeal.Facts] : Prop :=
  ∀ (m : (ℓ : Loc Cert.EvenFirstIdeal.nD Cert.EvenFirstIdeal.τ Cert.EvenFirstIdeal.sig) → Buf (Elt Ideal) ℓ) (g : Dev Cert.EvenFirstIdeal.nD → PrngReg), Pre_EvenFirstIdeal m →
    θ_run (Cert.EvenFirstIdeal.defs (F := Ideal)) (onTc (τ := Cert.EvenFirstIdeal.τ) (Cert.EvenFirstIdeal.main (F := Ideal))) ⟨m, fun _ => 0, g⟩ (fun r => (∀ c : Dev Cert.EvenFirstIdeal.nD,
      r.2.mem ((c.tc : Thread Cert.EvenFirstIdeal.nD Cert.EvenFirstIdeal.τ).loc Cert.EvenFirstIdeal.main_arg0) = m ((c.tc : Thread Cert.EvenFirstIdeal.nD Cert.EvenFirstIdeal.τ).loc Cert.EvenFirstIdeal.main_arg0)
      ∧ r.2.mem ((c.tc : Thread Cert.EvenFirstIdeal.nD Cert.EvenFirstIdeal.τ).loc Cert.EvenFirstIdeal.main_arg1) = m ((c.tc : Thread Cert.EvenFirstIdeal.nD Cert.EvenFirstIdeal.τ).loc Cert.EvenFirstIdeal.main_arg1)
      ∧ r.2.mem ((c.tc : Thread Cert.EvenFirstIdeal.nD Cert.EvenFirstIdeal.τ).loc Cert.EvenFirstIdeal.main_arg2) = m ((c.tc : Thread Cert.EvenFirstIdeal.nD Cert.EvenFirstIdeal.τ).loc Cert.EvenFirstIdeal.main_arg2)
      ∧ r.2.mem ((c.tc : Thread Cert.EvenFirstIdeal.nD Cert.EvenFirstIdeal.τ).loc Cert.EvenFirstIdeal.main_arg3) = m ((c.tc : Thread Cert.EvenFirstIdeal.nD Cert.EvenFirstIdeal.τ).loc Cert.EvenFirstIdeal.main_arg3)
      ∧ r.2.mem ((c.tc : Thread Cert.EvenFirstIdeal.nD Cert.EvenFirstIdeal.τ).loc Cert.EvenFirstIdeal.main_arg4) = m ((c.tc : Thread Cert.EvenFirstIdeal.nD Cert.EvenFirstIdeal.τ).loc Cert.EvenFirstIdeal.main_arg4)
      ∧ r.2.mem ((c.tc : Thread Cert.EvenFirstIdeal.nD Cert.EvenFirstIdeal.τ).loc Cert.EvenFirstIdeal.main_arg5) = m ((c.tc : Thread Cert.EvenFirstIdeal.nD Cert.EvenFirstIdeal.τ).loc Cert.EvenFirstIdeal.main_arg5))
      ∧ r.2.sem = fun _ => 0)

def quiescent_EvenFirstReferenceIdeal [hEvenFirstReferenceIdeal : Cert.EvenFirstReferenceIdeal.Facts] : Prop :=
  ∀ (m : (ℓ : Loc Cert.EvenFirstReferenceIdeal.nD Cert.EvenFirstReferenceIdeal.τ Cert.EvenFirstReferenceIdeal.sig) → Buf (Elt Ideal) ℓ) (g : Dev Cert.EvenFirstReferenceIdeal.nD → PrngReg), Pre_EvenFirstReferenceIdeal m →
    θ_run (Cert.EvenFirstReferenceIdeal.defs (F := Ideal)) (onTc (τ := Cert.EvenFirstReferenceIdeal.τ) (Cert.EvenFirstReferenceIdeal.main (F := Ideal))) ⟨m, fun _ => 0, g⟩ (fun r => (∀ c : Dev Cert.EvenFirstReferenceIdeal.nD,
      r.2.mem ((c.tc : Thread Cert.EvenFirstReferenceIdeal.nD Cert.EvenFirstReferenceIdeal.τ).loc Cert.EvenFirstReferenceIdeal.main_arg0) = m ((c.tc : Thread Cert.EvenFirstReferenceIdeal.nD Cert.EvenFirstReferenceIdeal.τ).loc Cert.EvenFirstReferenceIdeal.main_arg0)
      ∧ r.2.mem ((c.tc : Thread Cert.EvenFirstReferenceIdeal.nD Cert.EvenFirstReferenceIdeal.τ).loc Cert.EvenFirstReferenceIdeal.main_arg1) = m ((c.tc : Thread Cert.EvenFirstReferenceIdeal.nD Cert.EvenFirstReferenceIdeal.τ).loc Cert.EvenFirstReferenceIdeal.main_arg1)
      ∧ r.2.mem ((c.tc : Thread Cert.EvenFirstReferenceIdeal.nD Cert.EvenFirstReferenceIdeal.τ).loc Cert.EvenFirstReferenceIdeal.main_arg2) = m ((c.tc : Thread Cert.EvenFirstReferenceIdeal.nD Cert.EvenFirstReferenceIdeal.τ).loc Cert.EvenFirstReferenceIdeal.main_arg2)
      ∧ r.2.mem ((c.tc : Thread Cert.EvenFirstReferenceIdeal.nD Cert.EvenFirstReferenceIdeal.τ).loc Cert.EvenFirstReferenceIdeal.main_arg3) = m ((c.tc : Thread Cert.EvenFirstReferenceIdeal.nD Cert.EvenFirstReferenceIdeal.τ).loc Cert.EvenFirstReferenceIdeal.main_arg3)
      ∧ r.2.mem ((c.tc : Thread Cert.EvenFirstReferenceIdeal.nD Cert.EvenFirstReferenceIdeal.τ).loc Cert.EvenFirstReferenceIdeal.main_arg4) = m ((c.tc : Thread Cert.EvenFirstReferenceIdeal.nD Cert.EvenFirstReferenceIdeal.τ).loc Cert.EvenFirstReferenceIdeal.main_arg4)
      ∧ r.2.mem ((c.tc : Thread Cert.EvenFirstReferenceIdeal.nD Cert.EvenFirstReferenceIdeal.τ).loc Cert.EvenFirstReferenceIdeal.main_arg5) = m ((c.tc : Thread Cert.EvenFirstReferenceIdeal.nD Cert.EvenFirstReferenceIdeal.τ).loc Cert.EvenFirstReferenceIdeal.main_arg5))
      ∧ r.2.sem = fun _ => 0)

def quiescent_ProjEven [hProjEven : Cert.ProjEven.Facts] : Prop :=
  ∀ (m : (ℓ : Loc Cert.ProjEven.nD Cert.ProjEven.τ Cert.ProjEven.sig) → Buf (Elt Bits) ℓ) (g : Dev Cert.ProjEven.nD → PrngReg), Pre_ProjEven m →
    θ_run (Cert.ProjEven.defs (F := Bits)) (onTc (τ := Cert.ProjEven.τ) (Cert.ProjEven.main (F := Bits))) ⟨m, fun _ => 0, g⟩ (fun r => (∀ c : Dev Cert.ProjEven.nD,
      r.2.mem ((c.tc : Thread Cert.ProjEven.nD Cert.ProjEven.τ).loc Cert.ProjEven.main_arg0) = m ((c.tc : Thread Cert.ProjEven.nD Cert.ProjEven.τ).loc Cert.ProjEven.main_arg0)
      ∧ r.2.mem ((c.tc : Thread Cert.ProjEven.nD Cert.ProjEven.τ).loc Cert.ProjEven.main_arg1) = m ((c.tc : Thread Cert.ProjEven.nD Cert.ProjEven.τ).loc Cert.ProjEven.main_arg1)
      ∧ r.2.mem ((c.tc : Thread Cert.ProjEven.nD Cert.ProjEven.τ).loc Cert.ProjEven.main_arg2) = m ((c.tc : Thread Cert.ProjEven.nD Cert.ProjEven.τ).loc Cert.ProjEven.main_arg2)
      ∧ r.2.mem ((c.tc : Thread Cert.ProjEven.nD Cert.ProjEven.τ).loc Cert.ProjEven.main_arg3) = m ((c.tc : Thread Cert.ProjEven.nD Cert.ProjEven.τ).loc Cert.ProjEven.main_arg3)
      ∧ r.2.mem ((c.tc : Thread Cert.ProjEven.nD Cert.ProjEven.τ).loc Cert.ProjEven.main_arg4) = m ((c.tc : Thread Cert.ProjEven.nD Cert.ProjEven.τ).loc Cert.ProjEven.main_arg4)
      ∧ r.2.mem ((c.tc : Thread Cert.ProjEven.nD Cert.ProjEven.τ).loc Cert.ProjEven.main_arg5) = m ((c.tc : Thread Cert.ProjEven.nD Cert.ProjEven.τ).loc Cert.ProjEven.main_arg5)
      ∧ r.2.mem ((c.tc : Thread Cert.ProjEven.nD Cert.ProjEven.τ).loc Cert.ProjEven.main_arg6) = m ((c.tc : Thread Cert.ProjEven.nD Cert.ProjEven.τ).loc Cert.ProjEven.main_arg6)
      ∧ r.2.mem ((c.tc : Thread Cert.ProjEven.nD Cert.ProjEven.τ).loc Cert.ProjEven.main_arg7) = m ((c.tc : Thread Cert.ProjEven.nD Cert.ProjEven.τ).loc Cert.ProjEven.main_arg7))
      ∧ r.2.sem = fun _ => 0)

def quiescent_ProjEvenIdeal [hProjEvenIdeal : Cert.ProjEvenIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg), Pre_ProjEvenIdeal m →
    θ_run (Cert.ProjEvenIdeal.defs (F := Ideal)) (onTc (τ := Cert.ProjEvenIdeal.τ) (Cert.ProjEvenIdeal.main (F := Ideal))) ⟨m, fun _ => 0, g⟩ (fun r => (∀ c : Dev Cert.ProjEvenIdeal.nD,
      r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
      ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1)
      ∧ r.2.mem ((c.tc : Thread Cert.ProjEvenIdeal.nD Cert.ProjEvenIdeal.τ).loc Cert.ProjEvenIdeal.main_arg2) = m ((c.tc : Thread Cert.ProjEvenIdeal.nD Cert.ProjEvenIdeal.τ).loc Cert.ProjEvenIdeal.main_arg2)
      ∧ r.2.mem ((c.tc : Thread Cert.ProjEvenIdeal.nD Cert.ProjEvenIdeal.τ).loc Cert.ProjEvenIdeal.main_arg3) = m ((c.tc : Thread Cert.ProjEvenIdeal.nD Cert.ProjEvenIdeal.τ).loc Cert.ProjEvenIdeal.main_arg3)
      ∧ r.2.mem ((c.tc : Thread Cert.ProjEvenIdeal.nD Cert.ProjEvenIdeal.τ).loc Cert.ProjEvenIdeal.main_arg4) = m ((c.tc : Thread Cert.ProjEvenIdeal.nD Cert.ProjEvenIdeal.τ).loc Cert.ProjEvenIdeal.main_arg4)
      ∧ r.2.mem ((c.tc : Thread Cert.ProjEvenIdeal.nD Cert.ProjEvenIdeal.τ).loc Cert.ProjEvenIdeal.main_arg5) = m ((c.tc : Thread Cert.ProjEvenIdeal.nD Cert.ProjEvenIdeal.τ).loc Cert.ProjEvenIdeal.main_arg5)
      ∧ r.2.mem ((c.tc : Thread Cert.ProjEvenIdeal.nD Cert.ProjEvenIdeal.τ).loc Cert.ProjEvenIdeal.main_arg6) = m ((c.tc : Thread Cert.ProjEvenIdeal.nD Cert.ProjEvenIdeal.τ).loc Cert.ProjEvenIdeal.main_arg6)
      ∧ r.2.mem ((c.tc : Thread Cert.ProjEvenIdeal.nD Cert.ProjEvenIdeal.τ).loc Cert.ProjEvenIdeal.main_arg7) = m ((c.tc : Thread Cert.ProjEvenIdeal.nD Cert.ProjEvenIdeal.τ).loc Cert.ProjEvenIdeal.main_arg7))
      ∧ r.2.sem = fun _ => 0)

def quiescent_ProjEvenReferenceIdeal [hProjEvenReferenceIdeal : Cert.ProjEvenReferenceIdeal.Facts] : Prop :=
  ∀ (m : (ℓ : Loc Cert.ProjEvenReferenceIdeal.nD Cert.ProjEvenReferenceIdeal.τ Cert.ProjEvenReferenceIdeal.sig) → Buf (Elt Ideal) ℓ) (g : Dev Cert.ProjEvenReferenceIdeal.nD → PrngReg), Pre_ProjEvenReferenceIdeal m →
    θ_run (Cert.ProjEvenReferenceIdeal.defs (F := Ideal)) (onTc (τ := Cert.ProjEvenReferenceIdeal.τ) (Cert.ProjEvenReferenceIdeal.main (F := Ideal))) ⟨m, fun _ => 0, g⟩ (fun r => (∀ c : Dev Cert.ProjEvenReferenceIdeal.nD,
      r.2.mem ((c.tc : Thread Cert.ProjEvenReferenceIdeal.nD Cert.ProjEvenReferenceIdeal.τ).loc Cert.ProjEvenReferenceIdeal.main_arg0) = m ((c.tc : Thread Cert.ProjEvenReferenceIdeal.nD Cert.ProjEvenReferenceIdeal.τ).loc Cert.ProjEvenReferenceIdeal.main_arg0)
      ∧ r.2.mem ((c.tc : Thread Cert.ProjEvenReferenceIdeal.nD Cert.ProjEvenReferenceIdeal.τ).loc Cert.ProjEvenReferenceIdeal.main_arg1) = m ((c.tc : Thread Cert.ProjEvenReferenceIdeal.nD Cert.ProjEvenReferenceIdeal.τ).loc Cert.ProjEvenReferenceIdeal.main_arg1)
      ∧ r.2.mem ((c.tc : Thread Cert.ProjEvenReferenceIdeal.nD Cert.ProjEvenReferenceIdeal.τ).loc Cert.ProjEvenReferenceIdeal.main_arg2) = m ((c.tc : Thread Cert.ProjEvenReferenceIdeal.nD Cert.ProjEvenReferenceIdeal.τ).loc Cert.ProjEvenReferenceIdeal.main_arg2)
      ∧ r.2.mem ((c.tc : Thread Cert.ProjEvenReferenceIdeal.nD Cert.ProjEvenReferenceIdeal.τ).loc Cert.ProjEvenReferenceIdeal.main_arg3) = m ((c.tc : Thread Cert.ProjEvenReferenceIdeal.nD Cert.ProjEvenReferenceIdeal.τ).loc Cert.ProjEvenReferenceIdeal.main_arg3)
      ∧ r.2.mem ((c.tc : Thread Cert.ProjEvenReferenceIdeal.nD Cert.ProjEvenReferenceIdeal.τ).loc Cert.ProjEvenReferenceIdeal.main_arg4) = m ((c.tc : Thread Cert.ProjEvenReferenceIdeal.nD Cert.ProjEvenReferenceIdeal.τ).loc Cert.ProjEvenReferenceIdeal.main_arg4)
      ∧ r.2.mem ((c.tc : Thread Cert.ProjEvenReferenceIdeal.nD Cert.ProjEvenReferenceIdeal.τ).loc Cert.ProjEvenReferenceIdeal.main_arg5) = m ((c.tc : Thread Cert.ProjEvenReferenceIdeal.nD Cert.ProjEvenReferenceIdeal.τ).loc Cert.ProjEvenReferenceIdeal.main_arg5)
      ∧ r.2.mem ((c.tc : Thread Cert.ProjEvenReferenceIdeal.nD Cert.ProjEvenReferenceIdeal.τ).loc Cert.ProjEvenReferenceIdeal.main_arg6) = m ((c.tc : Thread Cert.ProjEvenReferenceIdeal.nD Cert.ProjEvenReferenceIdeal.τ).loc Cert.ProjEvenReferenceIdeal.main_arg6)
      ∧ r.2.mem ((c.tc : Thread Cert.ProjEvenReferenceIdeal.nD Cert.ProjEvenReferenceIdeal.τ).loc Cert.ProjEvenReferenceIdeal.main_arg7) = m ((c.tc : Thread Cert.ProjEvenReferenceIdeal.nD Cert.ProjEvenReferenceIdeal.τ).loc Cert.ProjEvenReferenceIdeal.main_arg7))
      ∧ r.2.sem = fun _ => 0)

def quiescent_ProjOdd [hProjOdd : Cert.ProjOdd.Facts] : Prop :=
  ∀ (m : (ℓ : Loc Cert.ProjOdd.nD Cert.ProjOdd.τ Cert.ProjOdd.sig) → Buf (Elt Bits) ℓ) (g : Dev Cert.ProjOdd.nD → PrngReg), Pre_ProjOdd m →
    θ_run (Cert.ProjOdd.defs (F := Bits)) (onTc (τ := Cert.ProjOdd.τ) (Cert.ProjOdd.main (F := Bits))) ⟨m, fun _ => 0, g⟩ (fun r => (∀ c : Dev Cert.ProjOdd.nD,
      r.2.mem ((c.tc : Thread Cert.ProjOdd.nD Cert.ProjOdd.τ).loc Cert.ProjOdd.main_arg0) = m ((c.tc : Thread Cert.ProjOdd.nD Cert.ProjOdd.τ).loc Cert.ProjOdd.main_arg0)
      ∧ r.2.mem ((c.tc : Thread Cert.ProjOdd.nD Cert.ProjOdd.τ).loc Cert.ProjOdd.main_arg1) = m ((c.tc : Thread Cert.ProjOdd.nD Cert.ProjOdd.τ).loc Cert.ProjOdd.main_arg1)
      ∧ r.2.mem ((c.tc : Thread Cert.ProjOdd.nD Cert.ProjOdd.τ).loc Cert.ProjOdd.main_arg2) = m ((c.tc : Thread Cert.ProjOdd.nD Cert.ProjOdd.τ).loc Cert.ProjOdd.main_arg2)
      ∧ r.2.mem ((c.tc : Thread Cert.ProjOdd.nD Cert.ProjOdd.τ).loc Cert.ProjOdd.main_arg3) = m ((c.tc : Thread Cert.ProjOdd.nD Cert.ProjOdd.τ).loc Cert.ProjOdd.main_arg3)
      ∧ r.2.mem ((c.tc : Thread Cert.ProjOdd.nD Cert.ProjOdd.τ).loc Cert.ProjOdd.main_arg4) = m ((c.tc : Thread Cert.ProjOdd.nD Cert.ProjOdd.τ).loc Cert.ProjOdd.main_arg4)
      ∧ r.2.mem ((c.tc : Thread Cert.ProjOdd.nD Cert.ProjOdd.τ).loc Cert.ProjOdd.main_arg5) = m ((c.tc : Thread Cert.ProjOdd.nD Cert.ProjOdd.τ).loc Cert.ProjOdd.main_arg5)
      ∧ r.2.mem ((c.tc : Thread Cert.ProjOdd.nD Cert.ProjOdd.τ).loc Cert.ProjOdd.main_arg6) = m ((c.tc : Thread Cert.ProjOdd.nD Cert.ProjOdd.τ).loc Cert.ProjOdd.main_arg6))
      ∧ r.2.sem = fun _ => 0)

def quiescent_ProjOddIdeal [hProjOddIdeal : Cert.ProjOddIdeal.Facts] : Prop :=
  ∀ (m : (ℓ : Loc Cert.ProjOddIdeal.nD Cert.ProjOddIdeal.τ Cert.ProjOddIdeal.sig) → Buf (Elt Ideal) ℓ) (g : Dev Cert.ProjOddIdeal.nD → PrngReg), Pre_ProjOddIdeal m →
    θ_run (Cert.ProjOddIdeal.defs (F := Ideal)) (onTc (τ := Cert.ProjOddIdeal.τ) (Cert.ProjOddIdeal.main (F := Ideal))) ⟨m, fun _ => 0, g⟩ (fun r => (∀ c : Dev Cert.ProjOddIdeal.nD,
      r.2.mem ((c.tc : Thread Cert.ProjOddIdeal.nD Cert.ProjOddIdeal.τ).loc Cert.ProjOddIdeal.main_arg0) = m ((c.tc : Thread Cert.ProjOddIdeal.nD Cert.ProjOddIdeal.τ).loc Cert.ProjOddIdeal.main_arg0)
      ∧ r.2.mem ((c.tc : Thread Cert.ProjOddIdeal.nD Cert.ProjOddIdeal.τ).loc Cert.ProjOddIdeal.main_arg1) = m ((c.tc : Thread Cert.ProjOddIdeal.nD Cert.ProjOddIdeal.τ).loc Cert.ProjOddIdeal.main_arg1)
      ∧ r.2.mem ((c.tc : Thread Cert.ProjOddIdeal.nD Cert.ProjOddIdeal.τ).loc Cert.ProjOddIdeal.main_arg2) = m ((c.tc : Thread Cert.ProjOddIdeal.nD Cert.ProjOddIdeal.τ).loc Cert.ProjOddIdeal.main_arg2)
      ∧ r.2.mem ((c.tc : Thread Cert.ProjOddIdeal.nD Cert.ProjOddIdeal.τ).loc Cert.ProjOddIdeal.main_arg3) = m ((c.tc : Thread Cert.ProjOddIdeal.nD Cert.ProjOddIdeal.τ).loc Cert.ProjOddIdeal.main_arg3)
      ∧ r.2.mem ((c.tc : Thread Cert.ProjOddIdeal.nD Cert.ProjOddIdeal.τ).loc Cert.ProjOddIdeal.main_arg4) = m ((c.tc : Thread Cert.ProjOddIdeal.nD Cert.ProjOddIdeal.τ).loc Cert.ProjOddIdeal.main_arg4)
      ∧ r.2.mem ((c.tc : Thread Cert.ProjOddIdeal.nD Cert.ProjOddIdeal.τ).loc Cert.ProjOddIdeal.main_arg5) = m ((c.tc : Thread Cert.ProjOddIdeal.nD Cert.ProjOddIdeal.τ).loc Cert.ProjOddIdeal.main_arg5)
      ∧ r.2.mem ((c.tc : Thread Cert.ProjOddIdeal.nD Cert.ProjOddIdeal.τ).loc Cert.ProjOddIdeal.main_arg6) = m ((c.tc : Thread Cert.ProjOddIdeal.nD Cert.ProjOddIdeal.τ).loc Cert.ProjOddIdeal.main_arg6))
      ∧ r.2.sem = fun _ => 0)

def quiescent_ProjOddReferenceIdeal [hProjOddReferenceIdeal : Cert.ProjOddReferenceIdeal.Facts] : Prop :=
  ∀ (m : (ℓ : Loc Cert.ProjOddReferenceIdeal.nD Cert.ProjOddReferenceIdeal.τ Cert.ProjOddReferenceIdeal.sig) → Buf (Elt Ideal) ℓ) (g : Dev Cert.ProjOddReferenceIdeal.nD → PrngReg), Pre_ProjOddReferenceIdeal m →
    θ_run (Cert.ProjOddReferenceIdeal.defs (F := Ideal)) (onTc (τ := Cert.ProjOddReferenceIdeal.τ) (Cert.ProjOddReferenceIdeal.main (F := Ideal))) ⟨m, fun _ => 0, g⟩ (fun r => (∀ c : Dev Cert.ProjOddReferenceIdeal.nD,
      r.2.mem ((c.tc : Thread Cert.ProjOddReferenceIdeal.nD Cert.ProjOddReferenceIdeal.τ).loc Cert.ProjOddReferenceIdeal.main_arg0) = m ((c.tc : Thread Cert.ProjOddReferenceIdeal.nD Cert.ProjOddReferenceIdeal.τ).loc Cert.ProjOddReferenceIdeal.main_arg0)
      ∧ r.2.mem ((c.tc : Thread Cert.ProjOddReferenceIdeal.nD Cert.ProjOddReferenceIdeal.τ).loc Cert.ProjOddReferenceIdeal.main_arg1) = m ((c.tc : Thread Cert.ProjOddReferenceIdeal.nD Cert.ProjOddReferenceIdeal.τ).loc Cert.ProjOddReferenceIdeal.main_arg1)
      ∧ r.2.mem ((c.tc : Thread Cert.ProjOddReferenceIdeal.nD Cert.ProjOddReferenceIdeal.τ).loc Cert.ProjOddReferenceIdeal.main_arg2) = m ((c.tc : Thread Cert.ProjOddReferenceIdeal.nD Cert.ProjOddReferenceIdeal.τ).loc Cert.ProjOddReferenceIdeal.main_arg2)
      ∧ r.2.mem ((c.tc : Thread Cert.ProjOddReferenceIdeal.nD Cert.ProjOddReferenceIdeal.τ).loc Cert.ProjOddReferenceIdeal.main_arg3) = m ((c.tc : Thread Cert.ProjOddReferenceIdeal.nD Cert.ProjOddReferenceIdeal.τ).loc Cert.ProjOddReferenceIdeal.main_arg3)
      ∧ r.2.mem ((c.tc : Thread Cert.ProjOddReferenceIdeal.nD Cert.ProjOddReferenceIdeal.τ).loc Cert.ProjOddReferenceIdeal.main_arg4) = m ((c.tc : Thread Cert.ProjOddReferenceIdeal.nD Cert.ProjOddReferenceIdeal.τ).loc Cert.ProjOddReferenceIdeal.main_arg4)
      ∧ r.2.mem ((c.tc : Thread Cert.ProjOddReferenceIdeal.nD Cert.ProjOddReferenceIdeal.τ).loc Cert.ProjOddReferenceIdeal.main_arg5) = m ((c.tc : Thread Cert.ProjOddReferenceIdeal.nD Cert.ProjOddReferenceIdeal.τ).loc Cert.ProjOddReferenceIdeal.main_arg5)
      ∧ r.2.mem ((c.tc : Thread Cert.ProjOddReferenceIdeal.nD Cert.ProjOddReferenceIdeal.τ).loc Cert.ProjOddReferenceIdeal.main_arg6) = m ((c.tc : Thread Cert.ProjOddReferenceIdeal.nD Cert.ProjOddReferenceIdeal.τ).loc Cert.ProjOddReferenceIdeal.main_arg6))
      ∧ r.2.sem = fun _ => 0)

def preserves_Kernel_KernelIdeal : Prop :=
  IdealRules.bf16_pair.Statement Cert.KernelIdeal.S512x128 Cert.KernelIdeal.S256x128

def algebraic_KernelIdeal_ReferenceIdeal [hKernelIdeal : Cert.KernelIdeal.Facts] [hReferenceIdeal : Cert.ReferenceIdeal.Facts] [hPre_items_in_order : Cert.Pre_items_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v34) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)
      ∧ m' ((c.tc : Thread Cert.EvenInReferenceIdeal.nD Cert.EvenInReferenceIdeal.τ).loc Cert.EvenInReferenceIdeal.main_arg2) = m ((c.tc : Thread Cert.EvenInIdeal.nD Cert.EvenInIdeal.τ).loc Cert.EvenInIdeal.main_arg2)
      ∧ m' ((c.tc : Thread Cert.EvenInReferenceIdeal.nD Cert.EvenInReferenceIdeal.τ).loc Cert.EvenInReferenceIdeal.main_arg3) = m ((c.tc : Thread Cert.EvenInIdeal.nD Cert.EvenInIdeal.τ).loc Cert.EvenInIdeal.main_arg3)
      ∧ m' ((c.tc : Thread Cert.EvenInReferenceIdeal.nD Cert.EvenInReferenceIdeal.τ).loc Cert.EvenInReferenceIdeal.main_arg4) = m ((c.tc : Thread Cert.EvenInIdeal.nD Cert.EvenInIdeal.τ).loc Cert.EvenInIdeal.main_arg4)
      ∧ m' ((c.tc : Thread Cert.EvenInReferenceIdeal.nD Cert.EvenInReferenceIdeal.τ).loc Cert.EvenInReferenceIdeal.main_arg5) = m ((c.tc : Thread Cert.EvenInIdeal.nD Cert.EvenInIdeal.τ).loc Cert.EvenInIdeal.main_arg5)
      ∧ m' ((c.tc : Thread Cert.EvenInReferenceIdeal.nD Cert.EvenInReferenceIdeal.τ).loc Cert.EvenInReferenceIdeal.main_arg6) = m ((c.tc : Thread Cert.EvenInIdeal.nD Cert.EvenInIdeal.τ).loc Cert.EvenInIdeal.main_arg6)
      ∧ m' ((c.tc : Thread Cert.EvenInReferenceIdeal.nD Cert.EvenInReferenceIdeal.τ).loc Cert.EvenInReferenceIdeal.main_arg7) = m ((c.tc : Thread Cert.EvenInIdeal.nD Cert.EvenInIdeal.τ).loc Cert.EvenInIdeal.main_arg7)
      ∧ m' ((c.tc : Thread Cert.EvenInReferenceIdeal.nD Cert.EvenInReferenceIdeal.τ).loc Cert.EvenInReferenceIdeal.main_arg8) = m ((c.tc : Thread Cert.EvenInIdeal.nD Cert.EvenInIdeal.τ).loc Cert.EvenInIdeal.main_arg8)
      ∧ m' ((c.tc : Thread Cert.EvenInReferenceIdeal.nD Cert.EvenInReferenceIdeal.τ).loc Cert.EvenInReferenceIdeal.main_arg9) = m ((c.tc : Thread Cert.EvenInIdeal.nD Cert.EvenInIdeal.τ).loc Cert.EvenInIdeal.main_arg9)) →
    ∃ (v0 : (c : Dev Cert.EvenInIdeal.nD) → Buf (Elt Ideal) ((c.tc : Thread Cert.EvenInIdeal.nD Cert.EvenInIdeal.τ).loc Cert.EvenInIdeal.main_v14_0)) (v1 : (c : Dev Cert.EvenInIdeal.nD) → Buf (Elt Ideal) ((c.tc : Thread Cert.EvenInIdeal.nD Cert.EvenInIdeal.τ).loc Cert.EvenInIdeal.main_v14_1)) (v2 : (c : Dev Cert.EvenInIdeal.nD) → Buf (Elt Ideal) ((c.tc : Thread Cert.EvenInIdeal.nD Cert.EvenInIdeal.τ).loc Cert.EvenInIdeal.main_v14_2)) (v3 : (c : Dev Cert.EvenInIdeal.nD) → Buf (Elt Ideal) ((c.tc : Thread Cert.EvenInIdeal.nD Cert.EvenInIdeal.τ).loc Cert.EvenInIdeal.main_v14_3)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v14_0) = v0 c
          ∧ r.2.mem ((c.tc : Thread Cert.EvenInIdeal.nD Cert.EvenInIdeal.τ).loc Cert.EvenInIdeal.main_v14_1) = v1 c
          ∧ r.2.mem ((c.tc : Thread Cert.EvenInIdeal.nD Cert.EvenInIdeal.τ).loc Cert.EvenInIdeal.main_v14_2) = v2 c
          ∧ r.2.mem ((c.tc : Thread Cert.EvenInIdeal.nD Cert.EvenInIdeal.τ).loc Cert.EvenInIdeal.main_v14_3) = v3 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
          ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5)
          ∧ r.2.mem ((c.tc : Thread Cert.EvenInIdeal.nD Cert.EvenInIdeal.τ).loc Cert.EvenInIdeal.main_arg6) = m ((c.tc : Thread Cert.EvenInIdeal.nD Cert.EvenInIdeal.τ).loc Cert.EvenInIdeal.main_arg6)
          ∧ r.2.mem ((c.tc : Thread Cert.EvenInIdeal.nD Cert.EvenInIdeal.τ).loc Cert.EvenInIdeal.main_arg7) = m ((c.tc : Thread Cert.EvenInIdeal.nD Cert.EvenInIdeal.τ).loc Cert.EvenInIdeal.main_arg7)
          ∧ r.2.mem ((c.tc : Thread Cert.EvenInIdeal.nD Cert.EvenInIdeal.τ).loc Cert.EvenInIdeal.main_arg8) = m ((c.tc : Thread Cert.EvenInIdeal.nD Cert.EvenInIdeal.τ).loc Cert.EvenInIdeal.main_arg8)
          ∧ r.2.mem ((c.tc : Thread Cert.EvenInIdeal.nD Cert.EvenInIdeal.τ).loc Cert.EvenInIdeal.main_arg9) = m ((c.tc : Thread Cert.EvenInIdeal.nD Cert.EvenInIdeal.τ).loc Cert.EvenInIdeal.main_arg9))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v34) = v0 c
          ∧ r.2.mem ((c.tc : Thread Cert.EvenInReferenceIdeal.nD Cert.EvenInReferenceIdeal.τ).loc Cert.EvenInReferenceIdeal.main_v104) = v1 c
          ∧ r.2.mem ((c.tc : Thread Cert.EvenInReferenceIdeal.nD Cert.EvenInReferenceIdeal.τ).loc Cert.EvenInReferenceIdeal.main_v106) = v2 c
          ∧ r.2.mem ((c.tc : Thread Cert.EvenInReferenceIdeal.nD Cert.EvenInReferenceIdeal.τ).loc Cert.EvenInReferenceIdeal.main_v103) = v3 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1)
          ∧ r.2.mem ((c.tc : Thread Cert.EvenInReferenceIdeal.nD Cert.EvenInReferenceIdeal.τ).loc Cert.EvenInReferenceIdeal.main_arg2) = m' ((c.tc : Thread Cert.EvenInReferenceIdeal.nD Cert.EvenInReferenceIdeal.τ).loc Cert.EvenInReferenceIdeal.main_arg2)
          ∧ r.2.mem ((c.tc : Thread Cert.EvenInReferenceIdeal.nD Cert.EvenInReferenceIdeal.τ).loc Cert.EvenInReferenceIdeal.main_arg3) = m' ((c.tc : Thread Cert.EvenInReferenceIdeal.nD Cert.EvenInReferenceIdeal.τ).loc Cert.EvenInReferenceIdeal.main_arg3)
          ∧ r.2.mem ((c.tc : Thread Cert.EvenInReferenceIdeal.nD Cert.EvenInReferenceIdeal.τ).loc Cert.EvenInReferenceIdeal.main_arg4) = m' ((c.tc : Thread Cert.EvenInReferenceIdeal.nD Cert.EvenInReferenceIdeal.τ).loc Cert.EvenInReferenceIdeal.main_arg4)
          ∧ r.2.mem ((c.tc : Thread Cert.EvenInReferenceIdeal.nD Cert.EvenInReferenceIdeal.τ).loc Cert.EvenInReferenceIdeal.main_arg5) = m' ((c.tc : Thread Cert.EvenInReferenceIdeal.nD Cert.EvenInReferenceIdeal.τ).loc Cert.EvenInReferenceIdeal.main_arg5)
          ∧ r.2.mem ((c.tc : Thread Cert.EvenInReferenceIdeal.nD Cert.EvenInReferenceIdeal.τ).loc Cert.EvenInReferenceIdeal.main_arg6) = m' ((c.tc : Thread Cert.EvenInReferenceIdeal.nD Cert.EvenInReferenceIdeal.τ).loc Cert.EvenInReferenceIdeal.main_arg6)
          ∧ r.2.mem ((c.tc : Thread Cert.EvenInReferenceIdeal.nD Cert.EvenInReferenceIdeal.τ).loc Cert.EvenInReferenceIdeal.main_arg7) = m' ((c.tc : Thread Cert.EvenInReferenceIdeal.nD Cert.EvenInReferenceIdeal.τ).loc Cert.EvenInReferenceIdeal.main_arg7)
          ∧ r.2.mem ((c.tc : Thread Cert.EvenInReferenceIdeal.nD Cert.EvenInReferenceIdeal.τ).loc Cert.EvenInReferenceIdeal.main_arg8) = m' ((c.tc : Thread Cert.EvenInReferenceIdeal.nD Cert.EvenInReferenceIdeal.τ).loc Cert.EvenInReferenceIdeal.main_arg8)
          ∧ r.2.mem ((c.tc : Thread Cert.EvenInReferenceIdeal.nD Cert.EvenInReferenceIdeal.τ).loc Cert.EvenInReferenceIdeal.main_arg9) = m' ((c.tc : Thread Cert.EvenInReferenceIdeal.nD Cert.EvenInReferenceIdeal.τ).loc Cert.EvenInReferenceIdeal.main_arg9))

def preserves_EvenFirst_EvenFirstIdeal : Prop :=
  True

def algebraic_EvenFirstIdeal_EvenFirstReferenceIdeal [hEvenFirstIdeal : Cert.EvenFirstIdeal.Facts] [hEvenFirstReferenceIdeal : Cert.EvenFirstReferenceIdeal.Facts] : Prop :=
  ∀ (m : (ℓ : Loc Cert.EvenFirstIdeal.nD Cert.EvenFirstIdeal.τ Cert.EvenFirstIdeal.sig) → Buf (Elt Ideal) ℓ) (g : Dev Cert.EvenFirstIdeal.nD → PrngReg)
    (m' : (ℓ : Loc Cert.EvenFirstReferenceIdeal.nD Cert.EvenFirstReferenceIdeal.τ Cert.EvenFirstReferenceIdeal.sig) → Buf (Elt Ideal) ℓ) (g' : Dev Cert.EvenFirstReferenceIdeal.nD → PrngReg), Pre_EvenFirstIdeal m →
    (∀ c : Dev Cert.EvenFirstIdeal.nD,
      m' ((c.tc : Thread Cert.EvenFirstReferenceIdeal.nD Cert.EvenFirstReferenceIdeal.τ).loc Cert.EvenFirstReferenceIdeal.main_arg0) = m ((c.tc : Thread Cert.EvenFirstIdeal.nD Cert.EvenFirstIdeal.τ).loc Cert.EvenFirstIdeal.main_arg0)
      ∧ m' ((c.tc : Thread Cert.EvenFirstReferenceIdeal.nD Cert.EvenFirstReferenceIdeal.τ).loc Cert.EvenFirstReferenceIdeal.main_arg1) = m ((c.tc : Thread Cert.EvenFirstIdeal.nD Cert.EvenFirstIdeal.τ).loc Cert.EvenFirstIdeal.main_arg1)
      ∧ m' ((c.tc : Thread Cert.EvenFirstReferenceIdeal.nD Cert.EvenFirstReferenceIdeal.τ).loc Cert.EvenFirstReferenceIdeal.main_arg2) = m ((c.tc : Thread Cert.EvenFirstIdeal.nD Cert.EvenFirstIdeal.τ).loc Cert.EvenFirstIdeal.main_arg2)
      ∧ m' ((c.tc : Thread Cert.EvenFirstReferenceIdeal.nD Cert.EvenFirstReferenceIdeal.τ).loc Cert.EvenFirstReferenceIdeal.main_arg3) = m ((c.tc : Thread Cert.EvenFirstIdeal.nD Cert.EvenFirstIdeal.τ).loc Cert.EvenFirstIdeal.main_arg3)
      ∧ m' ((c.tc : Thread Cert.EvenFirstReferenceIdeal.nD Cert.EvenFirstReferenceIdeal.τ).loc Cert.EvenFirstReferenceIdeal.main_arg4) = m ((c.tc : Thread Cert.EvenFirstIdeal.nD Cert.EvenFirstIdeal.τ).loc Cert.EvenFirstIdeal.main_arg4)
      ∧ m' ((c.tc : Thread Cert.EvenFirstReferenceIdeal.nD Cert.EvenFirstReferenceIdeal.τ).loc Cert.EvenFirstReferenceIdeal.main_arg5) = m ((c.tc : Thread Cert.EvenFirstIdeal.nD Cert.EvenFirstIdeal.τ).loc Cert.EvenFirstIdeal.main_arg5)) →
    ∃ (v0 : (c : Dev Cert.EvenFirstIdeal.nD) → Buf (Elt Ideal) ((c.tc : Thread Cert.EvenFirstIdeal.nD Cert.EvenFirstIdeal.τ).loc Cert.EvenFirstIdeal.main_v14_0)) (v1 : (c : Dev Cert.EvenFirstIdeal.nD) → Buf (Elt Ideal) ((c.tc : Thread Cert.EvenFirstIdeal.nD Cert.EvenFirstIdeal.τ).loc Cert.EvenFirstIdeal.main_v14_1)) (v2 : (c : Dev Cert.EvenFirstIdeal.nD) → Buf (Elt Ideal) ((c.tc : Thread Cert.EvenFirstIdeal.nD Cert.EvenFirstIdeal.τ).loc Cert.EvenFirstIdeal.main_v14_2)),
      θ_run (Cert.EvenFirstIdeal.defs (F := Ideal)) (onTc (τ := Cert.EvenFirstIdeal.τ) (Cert.EvenFirstIdeal.main (F := Ideal))) ⟨m, fun _ => 0, g⟩ (fun r => ∀ c : Dev Cert.EvenFirstIdeal.nD,
          r.2.mem ((c.tc : Thread Cert.EvenFirstIdeal.nD Cert.EvenFirstIdeal.τ).loc Cert.EvenFirstIdeal.main_v14_0) = v0 c
          ∧ r.2.mem ((c.tc : Thread Cert.EvenFirstIdeal.nD Cert.EvenFirstIdeal.τ).loc Cert.EvenFirstIdeal.main_v14_1) = v1 c
          ∧ r.2.mem ((c.tc : Thread Cert.EvenFirstIdeal.nD Cert.EvenFirstIdeal.τ).loc Cert.EvenFirstIdeal.main_v14_2) = v2 c
          ∧ r.2.mem ((c.tc : Thread Cert.EvenFirstIdeal.nD Cert.EvenFirstIdeal.τ).loc Cert.EvenFirstIdeal.main_arg0) = m ((c.tc : Thread Cert.EvenFirstIdeal.nD Cert.EvenFirstIdeal.τ).loc Cert.EvenFirstIdeal.main_arg0)
          ∧ r.2.mem ((c.tc : Thread Cert.EvenFirstIdeal.nD Cert.EvenFirstIdeal.τ).loc Cert.EvenFirstIdeal.main_arg1) = m ((c.tc : Thread Cert.EvenFirstIdeal.nD Cert.EvenFirstIdeal.τ).loc Cert.EvenFirstIdeal.main_arg1)
          ∧ r.2.mem ((c.tc : Thread Cert.EvenFirstIdeal.nD Cert.EvenFirstIdeal.τ).loc Cert.EvenFirstIdeal.main_arg2) = m ((c.tc : Thread Cert.EvenFirstIdeal.nD Cert.EvenFirstIdeal.τ).loc Cert.EvenFirstIdeal.main_arg2)
          ∧ r.2.mem ((c.tc : Thread Cert.EvenFirstIdeal.nD Cert.EvenFirstIdeal.τ).loc Cert.EvenFirstIdeal.main_arg3) = m ((c.tc : Thread Cert.EvenFirstIdeal.nD Cert.EvenFirstIdeal.τ).loc Cert.EvenFirstIdeal.main_arg3)
          ∧ r.2.mem ((c.tc : Thread Cert.EvenFirstIdeal.nD Cert.EvenFirstIdeal.τ).loc Cert.EvenFirstIdeal.main_arg4) = m ((c.tc : Thread Cert.EvenFirstIdeal.nD Cert.EvenFirstIdeal.τ).loc Cert.EvenFirstIdeal.main_arg4)
          ∧ r.2.mem ((c.tc : Thread Cert.EvenFirstIdeal.nD Cert.EvenFirstIdeal.τ).loc Cert.EvenFirstIdeal.main_arg5) = m ((c.tc : Thread Cert.EvenFirstIdeal.nD Cert.EvenFirstIdeal.τ).loc Cert.EvenFirstIdeal.main_arg5))
      ∧ θ_run (Cert.EvenFirstReferenceIdeal.defs (F := Ideal)) (onTc (τ := Cert.EvenFirstReferenceIdeal.τ) (Cert.EvenFirstReferenceIdeal.main (F := Ideal))) ⟨m', fun _ => 0, g'⟩ (fun r => ∀ c : Dev Cert.EvenFirstReferenceIdeal.nD,
          r.2.mem ((c.tc : Thread Cert.EvenFirstReferenceIdeal.nD Cert.EvenFirstReferenceIdeal.τ).loc Cert.EvenFirstReferenceIdeal.main_v69) = v0 c
          ∧ r.2.mem ((c.tc : Thread Cert.EvenFirstReferenceIdeal.nD Cert.EvenFirstReferenceIdeal.τ).loc Cert.EvenFirstReferenceIdeal.main_v71) = v1 c
          ∧ r.2.mem ((c.tc : Thread Cert.EvenFirstReferenceIdeal.nD Cert.EvenFirstReferenceIdeal.τ).loc Cert.EvenFirstReferenceIdeal.main_v68) = v2 c
          ∧ r.2.mem ((c.tc : Thread Cert.EvenFirstReferenceIdeal.nD Cert.EvenFirstReferenceIdeal.τ).loc Cert.EvenFirstReferenceIdeal.main_arg0) = m' ((c.tc : Thread Cert.EvenFirstReferenceIdeal.nD Cert.EvenFirstReferenceIdeal.τ).loc Cert.EvenFirstReferenceIdeal.main_arg0)
          ∧ r.2.mem ((c.tc : Thread Cert.EvenFirstReferenceIdeal.nD Cert.EvenFirstReferenceIdeal.τ).loc Cert.EvenFirstReferenceIdeal.main_arg1) = m' ((c.tc : Thread Cert.EvenFirstReferenceIdeal.nD Cert.EvenFirstReferenceIdeal.τ).loc Cert.EvenFirstReferenceIdeal.main_arg1)
          ∧ r.2.mem ((c.tc : Thread Cert.EvenFirstReferenceIdeal.nD Cert.EvenFirstReferenceIdeal.τ).loc Cert.EvenFirstReferenceIdeal.main_arg2) = m' ((c.tc : Thread Cert.EvenFirstReferenceIdeal.nD Cert.EvenFirstReferenceIdeal.τ).loc Cert.EvenFirstReferenceIdeal.main_arg2)
          ∧ r.2.mem ((c.tc : Thread Cert.EvenFirstReferenceIdeal.nD Cert.EvenFirstReferenceIdeal.τ).loc Cert.EvenFirstReferenceIdeal.main_arg3) = m' ((c.tc : Thread Cert.EvenFirstReferenceIdeal.nD Cert.EvenFirstReferenceIdeal.τ).loc Cert.EvenFirstReferenceIdeal.main_arg3)
          ∧ r.2.mem ((c.tc : Thread Cert.EvenFirstReferenceIdeal.nD Cert.EvenFirstReferenceIdeal.τ).loc Cert.EvenFirstReferenceIdeal.main_arg4) = m' ((c.tc : Thread Cert.EvenFirstReferenceIdeal.nD Cert.EvenFirstReferenceIdeal.τ).loc Cert.EvenFirstReferenceIdeal.main_arg4)
          ∧ r.2.mem ((c.tc : Thread Cert.EvenFirstReferenceIdeal.nD Cert.EvenFirstReferenceIdeal.τ).loc Cert.EvenFirstReferenceIdeal.main_arg5) = m' ((c.tc : Thread Cert.EvenFirstReferenceIdeal.nD Cert.EvenFirstReferenceIdeal.τ).loc Cert.EvenFirstReferenceIdeal.main_arg5))

def preserves_ProjEven_ProjEvenIdeal : Prop :=
  True

def algebraic_ProjEvenIdeal_ProjEvenReferenceIdeal [hProjEvenIdeal : Cert.ProjEvenIdeal.Facts] [hProjEvenReferenceIdeal : Cert.ProjEvenReferenceIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg)
    (m' : (ℓ : Loc Cert.ProjEvenReferenceIdeal.nD Cert.ProjEvenReferenceIdeal.τ Cert.ProjEvenReferenceIdeal.sig) → Buf (Elt Ideal) ℓ) (g' : Dev Cert.ProjEvenReferenceIdeal.nD → PrngReg), Pre_ProjEvenIdeal m →
    (∀ c : Dev Cert.ProjEvenIdeal.nD,
      m' ((c.tc : Thread Cert.ProjEvenReferenceIdeal.nD Cert.ProjEvenReferenceIdeal.τ).loc Cert.ProjEvenReferenceIdeal.main_arg0) = m ((c.tc : Thread Cert.ProjEvenIdeal.nD Cert.ProjEvenIdeal.τ).loc Cert.ProjEvenIdeal.main_arg0)
      ∧ m' ((c.tc : Thread Cert.ProjEvenReferenceIdeal.nD Cert.ProjEvenReferenceIdeal.τ).loc Cert.ProjEvenReferenceIdeal.main_arg1) = m ((c.tc : Thread Cert.ProjEvenIdeal.nD Cert.ProjEvenIdeal.τ).loc Cert.ProjEvenIdeal.main_arg1)
      ∧ m' ((c.tc : Thread Cert.ProjEvenReferenceIdeal.nD Cert.ProjEvenReferenceIdeal.τ).loc Cert.ProjEvenReferenceIdeal.main_arg2) = m ((c.tc : Thread Cert.ProjEvenIdeal.nD Cert.ProjEvenIdeal.τ).loc Cert.ProjEvenIdeal.main_arg2)
      ∧ m' ((c.tc : Thread Cert.ProjEvenReferenceIdeal.nD Cert.ProjEvenReferenceIdeal.τ).loc Cert.ProjEvenReferenceIdeal.main_arg3) = m ((c.tc : Thread Cert.ProjEvenIdeal.nD Cert.ProjEvenIdeal.τ).loc Cert.ProjEvenIdeal.main_arg3)
      ∧ m' ((c.tc : Thread Cert.ProjEvenReferenceIdeal.nD Cert.ProjEvenReferenceIdeal.τ).loc Cert.ProjEvenReferenceIdeal.main_arg4) = m ((c.tc : Thread Cert.ProjEvenIdeal.nD Cert.ProjEvenIdeal.τ).loc Cert.ProjEvenIdeal.main_arg4)
      ∧ m' ((c.tc : Thread Cert.ProjEvenReferenceIdeal.nD Cert.ProjEvenReferenceIdeal.τ).loc Cert.ProjEvenReferenceIdeal.main_arg5) = m ((c.tc : Thread Cert.ProjEvenIdeal.nD Cert.ProjEvenIdeal.τ).loc Cert.ProjEvenIdeal.main_arg5)
      ∧ m' ((c.tc : Thread Cert.ProjEvenReferenceIdeal.nD Cert.ProjEvenReferenceIdeal.τ).loc Cert.ProjEvenReferenceIdeal.main_arg6) = m ((c.tc : Thread Cert.ProjEvenIdeal.nD Cert.ProjEvenIdeal.τ).loc Cert.ProjEvenIdeal.main_arg6)
      ∧ m' ((c.tc : Thread Cert.ProjEvenReferenceIdeal.nD Cert.ProjEvenReferenceIdeal.τ).loc Cert.ProjEvenReferenceIdeal.main_arg7) = m ((c.tc : Thread Cert.ProjEvenIdeal.nD Cert.ProjEvenIdeal.τ).loc Cert.ProjEvenIdeal.main_arg7)) →
    ∃ (v0 : (c : Dev Cert.ProjEvenIdeal.nD) → Buf (Elt Ideal) ((c.tc : Thread Cert.ProjEvenIdeal.nD Cert.ProjEvenIdeal.τ).loc Cert.ProjEvenIdeal.main_v7_0)) (v1 : (c : Dev Cert.ProjEvenIdeal.nD) → Buf (Elt Ideal) ((c.tc : Thread Cert.ProjEvenIdeal.nD Cert.ProjEvenIdeal.τ).loc Cert.ProjEvenIdeal.main_v7_1)) (v2 : (c : Dev Cert.ProjEvenIdeal.nD) → Buf (Elt Ideal) ((c.tc : Thread Cert.ProjEvenIdeal.nD Cert.ProjEvenIdeal.τ).loc Cert.ProjEvenIdeal.main_v7_3)),
      θ_run (Cert.ProjEvenIdeal.defs (F := Ideal)) (onTc (τ := Cert.ProjEvenIdeal.τ) (Cert.ProjEvenIdeal.main (F := Ideal))) ⟨m, fun _ => 0, g⟩ (fun r => ∀ c : Dev Cert.ProjEvenIdeal.nD,
          r.2.mem ((c.tc : Thread Cert.ProjEvenIdeal.nD Cert.ProjEvenIdeal.τ).loc Cert.ProjEvenIdeal.main_v7_0) = v0 c
          ∧ r.2.mem ((c.tc : Thread Cert.ProjEvenIdeal.nD Cert.ProjEvenIdeal.τ).loc Cert.ProjEvenIdeal.main_v7_1) = v1 c
          ∧ r.2.mem ((c.tc : Thread Cert.ProjEvenIdeal.nD Cert.ProjEvenIdeal.τ).loc Cert.ProjEvenIdeal.main_v7_3) = v2 c
          ∧ r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
          ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1)
          ∧ r.2.mem ((c.tc : Thread Cert.ProjEvenIdeal.nD Cert.ProjEvenIdeal.τ).loc Cert.ProjEvenIdeal.main_arg2) = m ((c.tc : Thread Cert.ProjEvenIdeal.nD Cert.ProjEvenIdeal.τ).loc Cert.ProjEvenIdeal.main_arg2)
          ∧ r.2.mem ((c.tc : Thread Cert.ProjEvenIdeal.nD Cert.ProjEvenIdeal.τ).loc Cert.ProjEvenIdeal.main_arg3) = m ((c.tc : Thread Cert.ProjEvenIdeal.nD Cert.ProjEvenIdeal.τ).loc Cert.ProjEvenIdeal.main_arg3)
          ∧ r.2.mem ((c.tc : Thread Cert.ProjEvenIdeal.nD Cert.ProjEvenIdeal.τ).loc Cert.ProjEvenIdeal.main_arg4) = m ((c.tc : Thread Cert.ProjEvenIdeal.nD Cert.ProjEvenIdeal.τ).loc Cert.ProjEvenIdeal.main_arg4)
          ∧ r.2.mem ((c.tc : Thread Cert.ProjEvenIdeal.nD Cert.ProjEvenIdeal.τ).loc Cert.ProjEvenIdeal.main_arg5) = m ((c.tc : Thread Cert.ProjEvenIdeal.nD Cert.ProjEvenIdeal.τ).loc Cert.ProjEvenIdeal.main_arg5)
          ∧ r.2.mem ((c.tc : Thread Cert.ProjEvenIdeal.nD Cert.ProjEvenIdeal.τ).loc Cert.ProjEvenIdeal.main_arg6) = m ((c.tc : Thread Cert.ProjEvenIdeal.nD Cert.ProjEvenIdeal.τ).loc Cert.ProjEvenIdeal.main_arg6)
          ∧ r.2.mem ((c.tc : Thread Cert.ProjEvenIdeal.nD Cert.ProjEvenIdeal.τ).loc Cert.ProjEvenIdeal.main_arg7) = m ((c.tc : Thread Cert.ProjEvenIdeal.nD Cert.ProjEvenIdeal.τ).loc Cert.ProjEvenIdeal.main_arg7))
      ∧ θ_run (Cert.ProjEvenReferenceIdeal.defs (F := Ideal)) (onTc (τ := Cert.ProjEvenReferenceIdeal.τ) (Cert.ProjEvenReferenceIdeal.main (F := Ideal))) ⟨m', fun _ => 0, g'⟩ (fun r => ∀ c : Dev Cert.ProjEvenReferenceIdeal.nD,
          r.2.mem ((c.tc : Thread Cert.ProjEvenReferenceIdeal.nD Cert.ProjEvenReferenceIdeal.τ).loc Cert.ProjEvenReferenceIdeal.main_v32) = v0 c
          ∧ r.2.mem ((c.tc : Thread Cert.ProjEvenReferenceIdeal.nD Cert.ProjEvenReferenceIdeal.τ).loc Cert.ProjEvenReferenceIdeal.main_v33) = v1 c
          ∧ r.2.mem ((c.tc : Thread Cert.ProjEvenReferenceIdeal.nD Cert.ProjEvenReferenceIdeal.τ).loc Cert.ProjEvenReferenceIdeal.main_v97) = v2 c
          ∧ r.2.mem ((c.tc : Thread Cert.ProjEvenReferenceIdeal.nD Cert.ProjEvenReferenceIdeal.τ).loc Cert.ProjEvenReferenceIdeal.main_arg0) = m' ((c.tc : Thread Cert.ProjEvenReferenceIdeal.nD Cert.ProjEvenReferenceIdeal.τ).loc Cert.ProjEvenReferenceIdeal.main_arg0)
          ∧ r.2.mem ((c.tc : Thread Cert.ProjEvenReferenceIdeal.nD Cert.ProjEvenReferenceIdeal.τ).loc Cert.ProjEvenReferenceIdeal.main_arg1) = m' ((c.tc : Thread Cert.ProjEvenReferenceIdeal.nD Cert.ProjEvenReferenceIdeal.τ).loc Cert.ProjEvenReferenceIdeal.main_arg1)
          ∧ r.2.mem ((c.tc : Thread Cert.ProjEvenReferenceIdeal.nD Cert.ProjEvenReferenceIdeal.τ).loc Cert.ProjEvenReferenceIdeal.main_arg2) = m' ((c.tc : Thread Cert.ProjEvenReferenceIdeal.nD Cert.ProjEvenReferenceIdeal.τ).loc Cert.ProjEvenReferenceIdeal.main_arg2)
          ∧ r.2.mem ((c.tc : Thread Cert.ProjEvenReferenceIdeal.nD Cert.ProjEvenReferenceIdeal.τ).loc Cert.ProjEvenReferenceIdeal.main_arg3) = m' ((c.tc : Thread Cert.ProjEvenReferenceIdeal.nD Cert.ProjEvenReferenceIdeal.τ).loc Cert.ProjEvenReferenceIdeal.main_arg3)
          ∧ r.2.mem ((c.tc : Thread Cert.ProjEvenReferenceIdeal.nD Cert.ProjEvenReferenceIdeal.τ).loc Cert.ProjEvenReferenceIdeal.main_arg4) = m' ((c.tc : Thread Cert.ProjEvenReferenceIdeal.nD Cert.ProjEvenReferenceIdeal.τ).loc Cert.ProjEvenReferenceIdeal.main_arg4)
          ∧ r.2.mem ((c.tc : Thread Cert.ProjEvenReferenceIdeal.nD Cert.ProjEvenReferenceIdeal.τ).loc Cert.ProjEvenReferenceIdeal.main_arg5) = m' ((c.tc : Thread Cert.ProjEvenReferenceIdeal.nD Cert.ProjEvenReferenceIdeal.τ).loc Cert.ProjEvenReferenceIdeal.main_arg5)
          ∧ r.2.mem ((c.tc : Thread Cert.ProjEvenReferenceIdeal.nD Cert.ProjEvenReferenceIdeal.τ).loc Cert.ProjEvenReferenceIdeal.main_arg6) = m' ((c.tc : Thread Cert.ProjEvenReferenceIdeal.nD Cert.ProjEvenReferenceIdeal.τ).loc Cert.ProjEvenReferenceIdeal.main_arg6)
          ∧ r.2.mem ((c.tc : Thread Cert.ProjEvenReferenceIdeal.nD Cert.ProjEvenReferenceIdeal.τ).loc Cert.ProjEvenReferenceIdeal.main_arg7) = m' ((c.tc : Thread Cert.ProjEvenReferenceIdeal.nD Cert.ProjEvenReferenceIdeal.τ).loc Cert.ProjEvenReferenceIdeal.main_arg7))

def preserves_ProjOdd_ProjOddIdeal : Prop :=
  True

def algebraic_ProjOddIdeal_ProjOddReferenceIdeal [hProjOddIdeal : Cert.ProjOddIdeal.Facts] [hProjOddReferenceIdeal : Cert.ProjOddReferenceIdeal.Facts] : Prop :=
  ∀ (m : (ℓ : Loc Cert.ProjOddIdeal.nD Cert.ProjOddIdeal.τ Cert.ProjOddIdeal.sig) → Buf (Elt Ideal) ℓ) (g : Dev Cert.ProjOddIdeal.nD → PrngReg)
    (m' : (ℓ : Loc Cert.ProjOddReferenceIdeal.nD Cert.ProjOddReferenceIdeal.τ Cert.ProjOddReferenceIdeal.sig) → Buf (Elt Ideal) ℓ) (g' : Dev Cert.ProjOddReferenceIdeal.nD → PrngReg), Pre_ProjOddIdeal m →
    (∀ c : Dev Cert.ProjOddIdeal.nD,
      m' ((c.tc : Thread Cert.ProjOddReferenceIdeal.nD Cert.ProjOddReferenceIdeal.τ).loc Cert.ProjOddReferenceIdeal.main_arg0) = m ((c.tc : Thread Cert.ProjOddIdeal.nD Cert.ProjOddIdeal.τ).loc Cert.ProjOddIdeal.main_arg0)
      ∧ m' ((c.tc : Thread Cert.ProjOddReferenceIdeal.nD Cert.ProjOddReferenceIdeal.τ).loc Cert.ProjOddReferenceIdeal.main_arg1) = m ((c.tc : Thread Cert.ProjOddIdeal.nD Cert.ProjOddIdeal.τ).loc Cert.ProjOddIdeal.main_arg1)
      ∧ m' ((c.tc : Thread Cert.ProjOddReferenceIdeal.nD Cert.ProjOddReferenceIdeal.τ).loc Cert.ProjOddReferenceIdeal.main_arg2) = m ((c.tc : Thread Cert.ProjOddIdeal.nD Cert.ProjOddIdeal.τ).loc Cert.ProjOddIdeal.main_arg2)
      ∧ m' ((c.tc : Thread Cert.ProjOddReferenceIdeal.nD Cert.ProjOddReferenceIdeal.τ).loc Cert.ProjOddReferenceIdeal.main_arg3) = m ((c.tc : Thread Cert.ProjOddIdeal.nD Cert.ProjOddIdeal.τ).loc Cert.ProjOddIdeal.main_arg3)
      ∧ m' ((c.tc : Thread Cert.ProjOddReferenceIdeal.nD Cert.ProjOddReferenceIdeal.τ).loc Cert.ProjOddReferenceIdeal.main_arg4) = m ((c.tc : Thread Cert.ProjOddIdeal.nD Cert.ProjOddIdeal.τ).loc Cert.ProjOddIdeal.main_arg4)
      ∧ m' ((c.tc : Thread Cert.ProjOddReferenceIdeal.nD Cert.ProjOddReferenceIdeal.τ).loc Cert.ProjOddReferenceIdeal.main_arg5) = m ((c.tc : Thread Cert.ProjOddIdeal.nD Cert.ProjOddIdeal.τ).loc Cert.ProjOddIdeal.main_arg5)
      ∧ m' ((c.tc : Thread Cert.ProjOddReferenceIdeal.nD Cert.ProjOddReferenceIdeal.τ).loc Cert.ProjOddReferenceIdeal.main_arg6) = m ((c.tc : Thread Cert.ProjOddIdeal.nD Cert.ProjOddIdeal.τ).loc Cert.ProjOddIdeal.main_arg6)) →
    ∃ (v0 : (c : Dev Cert.ProjOddIdeal.nD) → Buf (Elt Ideal) ((c.tc : Thread Cert.ProjOddIdeal.nD Cert.ProjOddIdeal.τ).loc Cert.ProjOddIdeal.main_v5_0)) (v1 : (c : Dev Cert.ProjOddIdeal.nD) → Buf (Elt Ideal) ((c.tc : Thread Cert.ProjOddIdeal.nD Cert.ProjOddIdeal.τ).loc Cert.ProjOddIdeal.main_v5_1)) (v2 : (c : Dev Cert.ProjOddIdeal.nD) → Buf (Elt Ideal) ((c.tc : Thread Cert.ProjOddIdeal.nD Cert.ProjOddIdeal.τ).loc Cert.ProjOddIdeal.main_v5_3)),
      θ_run (Cert.ProjOddIdeal.defs (F := Ideal)) (onTc (τ := Cert.ProjOddIdeal.τ) (Cert.ProjOddIdeal.main (F := Ideal))) ⟨m, fun _ => 0, g⟩ (fun r => ∀ c : Dev Cert.ProjOddIdeal.nD,
          r.2.mem ((c.tc : Thread Cert.ProjOddIdeal.nD Cert.ProjOddIdeal.τ).loc Cert.ProjOddIdeal.main_v5_0) = v0 c
          ∧ r.2.mem ((c.tc : Thread Cert.ProjOddIdeal.nD Cert.ProjOddIdeal.τ).loc Cert.ProjOddIdeal.main_v5_1) = v1 c
          ∧ r.2.mem ((c.tc : Thread Cert.ProjOddIdeal.nD Cert.ProjOddIdeal.τ).loc Cert.ProjOddIdeal.main_v5_3) = v2 c
          ∧ r.2.mem ((c.tc : Thread Cert.ProjOddIdeal.nD Cert.ProjOddIdeal.τ).loc Cert.ProjOddIdeal.main_arg0) = m ((c.tc : Thread Cert.ProjOddIdeal.nD Cert.ProjOddIdeal.τ).loc Cert.ProjOddIdeal.main_arg0)
          ∧ r.2.mem ((c.tc : Thread Cert.ProjOddIdeal.nD Cert.ProjOddIdeal.τ).loc Cert.ProjOddIdeal.main_arg1) = m ((c.tc : Thread Cert.ProjOddIdeal.nD Cert.ProjOddIdeal.τ).loc Cert.ProjOddIdeal.main_arg1)
          ∧ r.2.mem ((c.tc : Thread Cert.ProjOddIdeal.nD Cert.ProjOddIdeal.τ).loc Cert.ProjOddIdeal.main_arg2) = m ((c.tc : Thread Cert.ProjOddIdeal.nD Cert.ProjOddIdeal.τ).loc Cert.ProjOddIdeal.main_arg2)
          ∧ r.2.mem ((c.tc : Thread Cert.ProjOddIdeal.nD Cert.ProjOddIdeal.τ).loc Cert.ProjOddIdeal.main_arg3) = m ((c.tc : Thread Cert.ProjOddIdeal.nD Cert.ProjOddIdeal.τ).loc Cert.ProjOddIdeal.main_arg3)
          ∧ r.2.mem ((c.tc : Thread Cert.ProjOddIdeal.nD Cert.ProjOddIdeal.τ).loc Cert.ProjOddIdeal.main_arg4) = m ((c.tc : Thread Cert.ProjOddIdeal.nD Cert.ProjOddIdeal.τ).loc Cert.ProjOddIdeal.main_arg4)
          ∧ r.2.mem ((c.tc : Thread Cert.ProjOddIdeal.nD Cert.ProjOddIdeal.τ).loc Cert.ProjOddIdeal.main_arg5) = m ((c.tc : Thread Cert.ProjOddIdeal.nD Cert.ProjOddIdeal.τ).loc Cert.ProjOddIdeal.main_arg5)
          ∧ r.2.mem ((c.tc : Thread Cert.ProjOddIdeal.nD Cert.ProjOddIdeal.τ).loc Cert.ProjOddIdeal.main_arg6) = m ((c.tc : Thread Cert.ProjOddIdeal.nD Cert.ProjOddIdeal.τ).loc Cert.ProjOddIdeal.main_arg6))
      ∧ θ_run (Cert.ProjOddReferenceIdeal.defs (F := Ideal)) (onTc (τ := Cert.ProjOddReferenceIdeal.τ) (Cert.ProjOddReferenceIdeal.main (F := Ideal))) ⟨m', fun _ => 0, g'⟩ (fun r => ∀ c : Dev Cert.ProjOddReferenceIdeal.nD,
          r.2.mem ((c.tc : Thread Cert.ProjOddReferenceIdeal.nD Cert.ProjOddReferenceIdeal.τ).loc Cert.ProjOddReferenceIdeal.main_v30) = v0 c
          ∧ r.2.mem ((c.tc : Thread Cert.ProjOddReferenceIdeal.nD Cert.ProjOddReferenceIdeal.τ).loc Cert.ProjOddReferenceIdeal.main_v31) = v1 c
          ∧ r.2.mem ((c.tc : Thread Cert.ProjOddReferenceIdeal.nD Cert.ProjOddReferenceIdeal.τ).loc Cert.ProjOddReferenceIdeal.main_v95) = v2 c
          ∧ r.2.mem ((c.tc : Thread Cert.ProjOddReferenceIdeal.nD Cert.ProjOddReferenceIdeal.τ).loc Cert.ProjOddReferenceIdeal.main_arg0) = m' ((c.tc : Thread Cert.ProjOddReferenceIdeal.nD Cert.ProjOddReferenceIdeal.τ).loc Cert.ProjOddReferenceIdeal.main_arg0)
          ∧ r.2.mem ((c.tc : Thread Cert.ProjOddReferenceIdeal.nD Cert.ProjOddReferenceIdeal.τ).loc Cert.ProjOddReferenceIdeal.main_arg1) = m' ((c.tc : Thread Cert.ProjOddReferenceIdeal.nD Cert.ProjOddReferenceIdeal.τ).loc Cert.ProjOddReferenceIdeal.main_arg1)
          ∧ r.2.mem ((c.tc : Thread Cert.ProjOddReferenceIdeal.nD Cert.ProjOddReferenceIdeal.τ).loc Cert.ProjOddReferenceIdeal.main_arg2) = m' ((c.tc : Thread Cert.ProjOddReferenceIdeal.nD Cert.ProjOddReferenceIdeal.τ).loc Cert.ProjOddReferenceIdeal.main_arg2)
          ∧ r.2.mem ((c.tc : Thread Cert.ProjOddReferenceIdeal.nD Cert.ProjOddReferenceIdeal.τ).loc Cert.ProjOddReferenceIdeal.main_arg3) = m' ((c.tc : Thread Cert.ProjOddReferenceIdeal.nD Cert.ProjOddReferenceIdeal.τ).loc Cert.ProjOddReferenceIdeal.main_arg3)
          ∧ r.2.mem ((c.tc : Thread Cert.ProjOddReferenceIdeal.nD Cert.ProjOddReferenceIdeal.τ).loc Cert.ProjOddReferenceIdeal.main_arg4) = m' ((c.tc : Thread Cert.ProjOddReferenceIdeal.nD Cert.ProjOddReferenceIdeal.τ).loc Cert.ProjOddReferenceIdeal.main_arg4)
          ∧ r.2.mem ((c.tc : Thread Cert.ProjOddReferenceIdeal.nD Cert.ProjOddReferenceIdeal.τ).loc Cert.ProjOddReferenceIdeal.main_arg5) = m' ((c.tc : Thread Cert.ProjOddReferenceIdeal.nD Cert.ProjOddReferenceIdeal.τ).loc Cert.ProjOddReferenceIdeal.main_arg5)
          ∧ r.2.mem ((c.tc : Thread Cert.ProjOddReferenceIdeal.nD Cert.ProjOddReferenceIdeal.τ).loc Cert.ProjOddReferenceIdeal.main_arg6) = m' ((c.tc : Thread Cert.ProjOddReferenceIdeal.nD Cert.ProjOddReferenceIdeal.τ).loc Cert.ProjOddReferenceIdeal.main_arg6))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineReferenceIdeal : Cert.CombineReferenceIdeal.Facts) (hEvenIn : Cert.EvenIn.Facts) (hEvenInIdeal : Cert.EvenInIdeal.Facts) (hEvenInReferenceIdeal : Cert.EvenInReferenceIdeal.Facts) (hEvenFirst : Cert.EvenFirst.Facts) (hEvenFirstIdeal : Cert.EvenFirstIdeal.Facts) (hEvenFirstReferenceIdeal : Cert.EvenFirstReferenceIdeal.Facts) (hProjEven : Cert.ProjEven.Facts) (hProjEvenIdeal : Cert.ProjEvenIdeal.Facts) (hProjEvenReferenceIdeal : Cert.ProjEvenReferenceIdeal.Facts) (hProjOdd : Cert.ProjOdd.Facts) (hProjOddIdeal : Cert.ProjOddIdeal.Facts) (hProjOddReferenceIdeal : Cert.ProjOddReferenceIdeal.Facts) (hPre_items_in_order : Cert.Pre_items_in_order.Facts),
    quiescent_Kernel (hKernel := hKernel) (hPre_items_in_order := hPre_items_in_order)
    ∧ quiescent_KernelIdeal (hKernelIdeal := hKernelIdeal) (hPre_items_in_order := hPre_items_in_order)
    ∧ quiescent_ReferenceIdeal (hReferenceIdeal := hReferenceIdeal)
    ∧ quiescent_ReferenceIdeal_pre_items_in_order (hReferenceIdeal := hReferenceIdeal) (hPre_items_in_order := hPre_items_in_order)
    ∧ quiescent_Combine (hCombine := hCombine)
    ∧ quiescent_CombineIdeal (hCombineIdeal := hCombineIdeal)
    ∧ quiescent_CombineReferenceIdeal (hCombineReferenceIdeal := hCombineReferenceIdeal)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_EvenFirst (hEvenFirst := hEvenFirst)
    ∧ quiescent_EvenFirstIdeal (hEvenFirstIdeal := hEvenFirstIdeal)
    ∧ quiescent_EvenFirstReferenceIdeal (hEvenFirstReferenceIdeal := hEvenFirstReferenceIdeal)
    ∧ quiescent_ProjEven (hProjEven := hProjEven)
    ∧ quiescent_ProjEvenIdeal (hProjEvenIdeal := hProjEvenIdeal)
    ∧ quiescent_ProjEvenReferenceIdeal (hProjEvenReferenceIdeal := hProjEvenReferenceIdeal)
    ∧ quiescent_ProjOdd (hProjOdd := hProjOdd)
    ∧ quiescent_ProjOddIdeal (hProjOddIdeal := hProjOddIdeal)
    ∧ quiescent_ProjOddReferenceIdeal (hProjOddReferenceIdeal := hProjOddReferenceIdeal)
    ∧ preserves_Kernel_KernelIdeal
    ∧ algebraic_KernelIdeal_ReferenceIdeal (hKernelIdeal := hKernelIdeal) (hReferenceIdeal := hReferenceIdeal) (hPre_items_in_order := hPre_items_in_order)
    ∧ preserves_Combine_CombineIdeal
    ∧ algebraic_CombineIdeal_CombineReferenceIdeal (hCombineIdeal := hCombineIdeal) (hCombineReferenceIdeal := hCombineReferenceIdeal)
    ∧ preserves_EvenIn_EvenInIdeal
    ∧ algebraic_EvenInIdeal_EvenInReferenceIdeal (hEvenInIdeal := hEvenInIdeal) (hEvenInReferenceIdeal := hEvenInReferenceIdeal)
    ∧ preserves_EvenFirst_EvenFirstIdeal
    ∧ algebraic_EvenFirstIdeal_EvenFirstReferenceIdeal (hEvenFirstIdeal := hEvenFirstIdeal) (hEvenFirstReferenceIdeal := hEvenFirstReferenceIdeal)
    ∧ preserves_ProjEven_ProjEvenIdeal
    ∧ algebraic_ProjEvenIdeal_ProjEvenReferenceIdeal (hProjEvenIdeal := hProjEvenIdeal) (hProjEvenReferenceIdeal := hProjEvenReferenceIdeal)
    ∧ preserves_ProjOdd_ProjOddIdeal
    ∧ algebraic_ProjOddIdeal_ProjOddReferenceIdeal (hProjOddIdeal := hProjOddIdeal) (hProjOddReferenceIdeal := hProjOddReferenceIdeal)
-- ==== Pre_items_in_order.lean ====
abbrev S288 : Shape := ⟨1, ![288]⟩
abbrev S131072x1024 : Shape := ⟨2, ![131072, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S287 : Shape := ⟨1, ![287]⟩
abbrev S_ : Shape := ⟨0, ![]⟩
abbrev S1 : Shape := ⟨1, ![1]⟩

class Facts : Prop where
  slices_S288_S287_1 : S288.Slices ![1] S287
  bcast_S_S1 : S_.BroadcastsInDim S1 (![] : Fin 0 → Fin S1.rank)
  concatenates_S287_S1_S288_d0 : Shape.Concatenates [S287, S1] S288 0
  bcast_S_S288 : S_.BroadcastsInDim S288 (![] : Fin 0 → Fin S288.rank)
  slices_S288_S1_0 : S288.Slices ![0] S1
  shapeCasts_S1_S_ : S1.ShapeCasts S_

variable [Facts]

def fn_part2 {F : FTy → Type} [FloatOps F] (main_arg0 : IVec S288 32) (main_arg2 : IVec S288 32) (main_v35 : IVec S288 1) (main_v36 : IVec S288 32) : IVec S288 1 :=
  let main_v37 : IVec S288 32 := muli main_arg0 main_v36
  let main_c_10 : IVec S_ 32 := constantI S_ 32 512#32
  let main_v38 : IVec S288 32 := broadcastInDim S288 ![] bcast_S_S288 main_c_10
  let main_v39 : IVec S288 32 := addi main_v37 main_v38
  let main_v40 : IVec S288 1 := cmpi .slt main_arg2 main_v39
  let main_c_11 : IVec S_ 32 := constantI S_ 32 255#32
  let main_v41 : IVec S288 32 := broadcastInDim S288 ![] bcast_S_S288 main_c_11
  let main_v42 : IVec S288 1 := cmpi .eq main_arg0 main_v41
  let main_v43 : IVec S288 1 := ori main_v40 main_v42
  let main_v44 : IVec S288 1 := andi main_v35 main_v43
  main_v44

def fn_part1 {F : FTy → Type} [FloatOps F] (main_arg0 : IVec S288 32) (main_arg2 : IVec S288 32) (main_arg3 : IVec S288 32) (main_v2 : IVec S288 32) (main_v16 : IVec S288 1) (main_v17 : IVec S288 1) : IVec S288 1 :=
  let main_v18 : IVec S288 1 := andi main_v16 main_v17
  let main_v19 : IVec S288 1 := cmpi .eq main_arg3 main_v2
  let main_v20 : IVec S288 1 := andi main_v18 main_v19
  let main_v21 : IVec S1 32 := (extractStridedSlice S1 ![0] · slices_S288_S1_0) main_arg2
  let main_v22 : IVec S_ 32 := shapeCast S_ main_v21 shapeCasts_S1_S_
  let main_c_5 : IVec S_ 32 := constantI S_ 32 0#32
  let main_v23 : IVec S_ 1 := cmpi .eq main_v22 main_c_5
  let main_v24 : IVec S288 1 := broadcastInDim S288 ![] bcast_S_S288 main_v23
  let main_v25 : IVec S288 1 := andi main_v20 main_v24
  let main_c_6 : IVec S_ 32 := constantI S_ 32 512#32
  let main_v26 : IVec S288 32 := broadcastInDim S288 ![] bcast_S_S288 main_c_6
  let main_v27 : IVec S288 32 := muli main_arg0 main_v26
  let main_v28 : IVec S288 1 := cmpi .sle main_v27 main_arg2
  let main_v29 : IVec S288 1 := andi main_v25 main_v28
  let main_c_7 : IVec S_ 32 := constantI S_ 32 512#32
  let main_v30 : IVec S288 32 := broadcastInDim S288 ![] bcast_S_S288 main_c_7
  let main_v31 : IVec S288 32 := muli main_arg0 main_v30
  let main_c_8 : IVec S_ 32 := constantI S_ 32 512#32
  let main_v32 : IVec S288 32 := broadcastInDim S288 ![] bcast_S_S288 main_c_8
  let main_v33 : IVec S288 32 := addi main_v31 main_v32
  let main_v34 : IVec S288 1 := cmpi .sle main_arg3 main_v33
  let main_v35 : IVec S288 1 := andi main_v29 main_v34
  let main_c_9 : IVec S_ 32 := constantI S_ 32 512#32
  let main_v36 : IVec S288 32 := broadcastInDim S288 ![] bcast_S_S288 main_c_9
  fn_part2 (F := F) main_arg0 main_arg2 main_v35 main_v36

def fn {F : FTy → Type} [FloatOps F] (main_arg0 : IVec S288 32) (main_arg1 : IVec S288 32) (main_arg2 : IVec S288 32) (main_arg3 : IVec S288 32) (main_arg4 : FVec F S131072x1024 .bf16) (main_arg5 : FVec F S4x32x1024x2048 .f32) (main_arg6 : FVec F S4x32x2048 .f32) (main_arg7 : FVec F S4x32x1024x1024 .f32) (main_arg8 : FVec F S4x32x1024 .f32) : IVec S288 1 :=
  let main_v0 : IVec S287 32 := (extractStridedSlice S287 ![1] · slices_S288_S287_1) main_arg2
  let main_c : IVec S_ 32 := constantI S_ 32 131072#32
  let main_v1 : IVec S1 32 := broadcastInDim S1 ![] bcast_S_S1 main_c
  let main_v2 : IVec S288 32 := (fun a b => concatenate S288 0 [⟨S287, a⟩, ⟨S1, b⟩] concatenates_S287_S1_S288_d0) main_v0 main_v1
  let main_c_0 : IVec S_ 32 := constantI S_ 32 0#32
  let main_v3 : IVec S288 32 := broadcastInDim S288 ![] bcast_S_S288 main_c_0
  let main_v4 : IVec S288 1 := cmpi .sge main_arg1 main_v3
  let main_c_1 : IVec S_ 32 := constantI S_ 32 32#32
  let main_v5 : IVec S288 32 := broadcastInDim S288 ![] bcast_S_S288 main_c_1
  let main_v6 : IVec S288 1 := cmpi .slt main_arg1 main_v5
  let main_v7 : IVec S288 1 := andi main_v4 main_v6
  let main_c_2 : IVec S_ 32 := constantI S_ 32 0#32
  let main_v8 : IVec S288 32 := broadcastInDim S288 ![] bcast_S_S288 main_c_2
  let main_v9 : IVec S288 1 := cmpi .sge main_arg0 main_v8
  let main_v10 : IVec S288 1 := andi main_v7 main_v9
  let main_c_3 : IVec S_ 32 := constantI S_ 32 256#32
  let main_v11 : IVec S288 32 := broadcastInDim S288 ![] bcast_S_S288 main_c_3
  let main_v12 : IVec S288 1 := cmpi .slt main_arg0 main_v11
  let main_v13 : IVec S288 1 := andi main_v10 main_v12
  let main_c_4 : IVec S_ 32 := constantI S_ 32 0#32
  let main_v14 : IVec S288 32 := broadcastInDim S288 ![] bcast_S_S288 main_c_4
  let main_v15 : IVec S288 1 := cmpi .sge main_arg2 main_v14
  let main_v16 : IVec S288 1 := andi main_v13 main_v15
  let main_v17 : IVec S288 1 := cmpi .sle main_arg2 main_arg3
  fn_part1 (F := F) main_arg0 main_arg2 main_arg3 main_v2 main_v16 main_v17
-- ==== Kernel.lean ====
abbrev S288 : Shape := ⟨1, ![288]⟩
abbrev S131072x1024 : Shape := ⟨2, ![131072, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S4x32x1x1024 : Shape := ⟨4, ![4, 32, 1, 1024]⟩
abbrev S512x1024 : Shape := ⟨2, ![512, 1024]⟩
abbrev S1 : Shape := ⟨1, ![1]⟩
abbrev S1x1x1024x2048 : Shape := ⟨4, ![1, 1, 1024, 2048]⟩
abbrev S1x1x1024x1024 : Shape := ⟨4, ![1, 1, 1024, 1024]⟩
abbrev S1x1x1x1024 : Shape := ⟨4, ![1, 1, 1, 1024]⟩
abbrev S1024x1024 : Shape := ⟨2, ![1024, 1024]⟩
abbrev S1x1x128x512 : Shape := ⟨4, ![1, 1, 128, 512]⟩
abbrev S128x512 : Shape := ⟨2, ![128, 512]⟩
abbrev S512x128 : Shape := ⟨2, ![512, 128]⟩
abbrev S256x128 : Shape := ⟨2, ![256, 128]⟩
abbrev S1x1024 : Shape := ⟨2, ![1, 1024]⟩
abbrev S256x1024 : Shape := ⟨2, ![256, 1024]⟩
abbrev S256x1 : Shape := ⟨2, ![256, 1]⟩

abbrev nBuf : Space → Nat
  | .hbm => 11
  | .vmem => 17
  | .smem => 4
  | _ => 0

abbrev bufTy : (tb : Table) → Fin (tcTables nBuf tb) → BufTy
  | .hbm, ⟨0, _⟩ => ⟨S131072x1024, .bf16⟩
  | .hbm, ⟨1, _⟩ => ⟨S4x32x1024x2048, .f32⟩
  | .hbm, ⟨2, _⟩ => ⟨S4x32x2048, .f32⟩
  | .hbm, ⟨3, _⟩ => ⟨S4x32x1024x1024, .f32⟩
  | .hbm, ⟨4, _⟩ => ⟨S4x32x1024, .f32⟩
  | .hbm, ⟨5, _⟩ => ⟨S4x32x1024, .f32⟩
  | .hbm, ⟨6, _⟩ => ⟨S4x32x1x1024, .f32⟩
  | .hbm, ⟨7, _⟩ => ⟨S4x32x1024, .f32⟩
  | .hbm, ⟨8, _⟩ => ⟨S4x32x1x1024, .f32⟩
  | .hbm, ⟨9, _⟩ => ⟨S4x32x1x1024, .f32⟩
  | .hbm, ⟨10, _⟩ => ⟨S131072x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S288, .i32⟩
  | .local _ .smem, ⟨3, _⟩ => ⟨S288, .i32⟩
  | _, _ => ⟨S131072x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨1, ![288], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32 : BitVec 32 := 0#32
  let v7 : BitVec 32 := Scalar.maxsi v6 c0_i32
  let v9 : Index := Scalar.indexCast v7
  ![v9.toNat]
def k0_cond2 (v3 : BitVec 32) (v5 : BitVec 32) : BitVec 1 :=
  let v22 : BitVec 32 := Scalar.subi v5 v3
  let c512_i32 : BitVec 32 := 512#32
  let v23 : BitVec 1 := Scalar.cmpi .eq v22 c512_i32
  let v24 : BitVec 32 := Scalar.extui v23
  let c0_i32_3 : BitVec 32 := 0#32
  let v25 : BitVec 1 := Scalar.cmpi .ne v24 c0_i32_3
  v25

def k0_cond3 (i : grid0.Coords) (v1 : BitVec 32) (v3 : BitVec 32) (v5 : BitVec 32) (v10 : BitVec 32) : BitVec 1 :=
  let arg0 : BitVec 32 := BitVec.ofNat 32 (i 0).val
  let c0_i32_0 : BitVec 32 := 0#32
  let v8 : BitVec 1 := Scalar.cmpi .eq arg0 c0_i32_0
  let v11 : BitVec 1 := Scalar.cmpi .ne v1 v10
  let v12 : BitVec 1 := Scalar.ori v8 v11
  let v22 : BitVec 32 := Scalar.subi v5 v3
  let c512_i32 : BitVec 32 := 512#32
  let v23 : BitVec 1 := Scalar.cmpi .eq v22 c512_i32
  let v_true : BitVec 1 := 1#1
  let v26 : BitVec 1 := Scalar.xori v23 v_true
  let v27 : BitVec 1 := Scalar.andi v12 v26
  let v28 : BitVec 32 := Scalar.extui v27
  let c0_i32_4 : BitVec 32 := 0#32
  let v29 : BitVec 1 := Scalar.cmpi .ne v28 c0_i32_4
  v29

def k0_cond4 (v1 : BitVec 32) (v3 : BitVec 32) (v5 : BitVec 32) : BitVec 1 :=
  let v22 : BitVec 32 := Scalar.subi v5 v3
  let c512_i32 : BitVec 32 := 512#32
  let v23 : BitVec 1 := Scalar.cmpi .eq v22 c512_i32
  let true_7 : BitVec 1 := 1#1
  let v38 : BitVec 1 := Scalar.xori v23 true_7
  let v32 : BitVec 1 := Scalar.cmpi .sgt v5 v3
  let c512_i32_5 : BitVec 32 := 512#32
  let v30 : BitVec 32 := Scalar.muli v1 c512_i32_5
  let c0_i32_6 : BitVec 32 := 0#32
  let v31 : BitVec 32 := Scalar.addi v30 c0_i32_6
  let c256_i32 : BitVec 32 := 256#32
  let v33 : BitVec 32 := Scalar.addi v31 c256_i32
  let v34 : BitVec 1 := Scalar.cmpi .slt v3 v33
  let v35 : BitVec 1 := Scalar.cmpi .sgt v5 v31
  let v36 : BitVec 1 := Scalar.andi v34 v35
  let v37 : BitVec 1 := Scalar.andi v32 v36
  let v39 : BitVec 1 := Scalar.andi v38 v37
  let v40 : BitVec 32 := Scalar.extui v39
  let c0_i32_8 : BitVec 32 := 0#32
  let v41 : BitVec 1 := Scalar.cmpi .ne v40 c0_i32_8
  v41

def k0_cond5 (v1 : BitVec 32) (v3 : BitVec 32) (v5 : BitVec 32) : BitVec 1 :=
  let v22 : BitVec 32 := Scalar.subi v5 v3
  let c512_i32 : BitVec 32 := 512#32
  let v23 : BitVec 1 := Scalar.cmpi .eq v22 c512_i32
  let true_12 : BitVec 1 := 1#1
  let v50 : BitVec 1 := Scalar.xori v23 true_12
  let v44 : BitVec 1 := Scalar.cmpi .sgt v5 v3
  let c512_i32_9 : BitVec 32 := 512#32
  let v42 : BitVec 32 := Scalar.muli v1 c512_i32_9
  let c256_i32_10 : BitVec 32 := 256#32
  let v43 : BitVec 32 := Scalar.addi v42 c256_i32_10
  let c256_i32_11 : BitVec 32 := 256#32
  let v45 : BitVec 32 := Scalar.addi v43 c256_i32_11
  let v46 : BitVec 1 := Scalar.cmpi .slt v3 v45
  let v47 : BitVec 1 := Scalar.cmpi .sgt v5 v43
  let v48 : BitVec 1 := Scalar.andi v46 v47
  let v49 : BitVec 1 := Scalar.andi v44 v48
  let v51 : BitVec 1 := Scalar.andi v50 v49
  let v52 : BitVec 32 := Scalar.extui v51
  let c0_i32_13 : BitVec 32 := 0#32
  let v53 : BitVec 1 := Scalar.cmpi .ne v52 c0_i32_13
  v53

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S288 : Shape := ⟨1, ![288]⟩
abbrev S131072x1024 : Shape := ⟨2, ![131072, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S131072 : Shape := ⟨1, ![131072]⟩
abbrev S1x288 : Shape := ⟨2, ![1, 288]⟩
abbrev S131072x1 : Shape := ⟨2, ![131072, 1]⟩
abbrev S131072x288 : Shape := ⟨2, ![131072, 288]⟩
abbrev S_ : Shape := ⟨0, ![]⟩
abbrev S1x32x1024x2048 : Shape := ⟨4, ![1, 32, 1024, 2048]⟩
abbrev S32x1024x2048 : Shape := ⟨3, ![32, 1024, 2048]⟩
abbrev S131072x1024x2048 : Shape := ⟨3, ![131072, 1024, 2048]⟩
abbrev S131072x2048 : Shape := ⟨2, ![131072, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S131072x1024x1024 : Shape := ⟨3, ![131072, 1024, 1024]⟩
abbrev S1x32x1024 : Shape := ⟨3, ![1, 32, 1024]⟩
abbrev S32x1024 : Shape := ⟨2, ![32, 1024]⟩

abbrev nBuf : Space → Nat
  | .hbm => 71
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S288, .i32⟩
  | .hbm, ⟨3, _⟩ => ⟨S288, .i32⟩
  | .hbm, ⟨4, _⟩ => ⟨S131072x1024, .bf16⟩
  | .hbm, ⟨5, _⟩ => ⟨S4x32x1024x2048, .f32⟩
  | .hbm, ⟨6, _⟩ => ⟨S4x32x2048, .f32⟩
  | .hbm, ⟨7, _⟩ => ⟨S4x32x1024x1024, .f32⟩
  | .hbm, ⟨8, _⟩ => ⟨S4x32x1024, .f32⟩
  | .hbm, ⟨9, _⟩ => ⟨S131072, .i32⟩
  | .hbm, ⟨10, _⟩ => ⟨S1x288, .i32⟩
  | .hbm, ⟨11, _⟩ => ⟨S131072x1, .i32⟩
  | .hbm, ⟨12, _⟩ => ⟨S131072x288, .i32⟩
  | .hbm, ⟨13, _⟩ => ⟨S131072x288, .i32⟩
  | .hbm, ⟨14, _⟩ => ⟨S131072x288, .i1⟩
  | .hbm, ⟨15, _⟩ => ⟨S131072x288, .i32⟩
  | .hbm, ⟨16, _⟩ => ⟨S_, .i32⟩
  | .hbm, ⟨17, _⟩ => ⟨S131072, .i32⟩
  | .hbm, ⟨18, _⟩ => ⟨S131072x1, .i32⟩
  | .hbm, ⟨19, _⟩ => ⟨S131072, .i32⟩
  | .hbm, ⟨20, _⟩ => ⟨S131072x1024, .f32⟩
  | .hbm, ⟨21, _⟩ => ⟨S1x32x1024x2048, .f32⟩
  | .hbm, ⟨22, _⟩ => ⟨S32x1024x2048, .f32⟩
  | .hbm, ⟨23, _⟩ => ⟨S131072x1, .i32⟩
  | .hbm, ⟨24, _⟩ => ⟨S131072x1024x2048, .f32⟩
  | .hbm, ⟨25, _⟩ => ⟨S131072x2048, .f32⟩
  | .hbm, ⟨26, _⟩ => ⟨S1x32x2048, .f32⟩
  | .hbm, ⟨27, _⟩ => ⟨S32x2048, .f32⟩
  | .hbm, ⟨28, _⟩ => ⟨S131072x1, .i32⟩
  | .hbm, ⟨29, _⟩ => ⟨S131072x2048, .f32⟩
  | .hbm, ⟨30, _⟩ => ⟨S131072x2048, .f32⟩
  | .hbm, ⟨31, _⟩ => ⟨S131072x1024, .f32⟩
  | .hbm, ⟨32, _⟩ => ⟨S_, .f32⟩
  | .hbm, ⟨33, _⟩ => ⟨S131072x1024, .f32⟩
  | .hbm, ⟨34, _⟩ => ⟨S131072x1024, .f32⟩
  | .hbm, ⟨35, _⟩ => ⟨S131072x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S131072x1024, .f32⟩
  | .hbm, ⟨40, _⟩ => ⟨S131072x1024, .f32⟩
  | .hbm, ⟨41, _⟩ => ⟨S_, .f32⟩
  | .hbm, ⟨42, _⟩ => ⟨S131072x1024, .f32⟩
  | .hbm, ⟨43, _⟩ => ⟨S131072x1024, .f32⟩
  | .hbm, ⟨44, _⟩ => ⟨S_, .f32⟩
  | .hbm, ⟨45, _⟩ => ⟨S131072x1024, .f32⟩
  | .hbm, ⟨46, _⟩ => ⟨S131072x1024, .f32⟩
  | .hbm, ⟨47, _⟩ => ⟨S131072x1024, .f32⟩
  | .hbm, ⟨48, _⟩ => ⟨S131072x1024, .f32⟩
  | .hbm, ⟨49, _⟩ => ⟨S_, .f32⟩
  | .hbm, ⟨50, _⟩ => ⟨S131072x1024, .f32⟩
  | .hbm, ⟨51, _⟩ => ⟨S131072x1024, .f32⟩
  | .hbm, ⟨52, _⟩ => ⟨S_, .f32⟩
  | .hbm, ⟨53, _⟩ => ⟨S131072x1024, .f32⟩
  | .hbm, ⟨54, _⟩ => ⟨S131072x1024, .f32⟩
  | .hbm, ⟨55, _⟩ => ⟨S131072x1024, .f32⟩
  | .hbm, ⟨56, _⟩ => ⟨S_, .f32⟩
  | .hbm, ⟨57, _⟩ => ⟨S131072x1024, .f32⟩
  | .hbm, ⟨58, _⟩ => ⟨S131072x1024, .f32⟩
  | .hbm, ⟨59, _⟩ => ⟨S131072x1024, .f32⟩
  | .hbm, ⟨60, _⟩ => ⟨S1x32x1024x1024, .f32⟩
  | .hbm, ⟨61, _⟩ => ⟨S32x1024x1024, .f32⟩
  | .hbm, ⟨62, _⟩ => ⟨S131072x1, .i32⟩
  | .hbm, ⟨63, _⟩ => ⟨S131072x1024x1024, .f32⟩
  | .hbm, ⟨64, _⟩ => ⟨S131072x1024, .f32⟩
  | .hbm, ⟨65, _⟩ => ⟨S1x32x1024, .f32⟩
  | .hbm, ⟨66, _⟩ => ⟨S32x1024, .f32⟩
  | .hbm, ⟨67, _⟩ => ⟨S131072x1, .i32⟩
  | .hbm, ⟨68, _⟩ => ⟨S131072x1024, .f32⟩
  | .hbm, ⟨69, _⟩ => ⟨S131072x1024, .f32⟩
  | .hbm, ⟨70, _⟩ => ⟨S131072x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Combine.lean ====
abbrev S32768x1024 : Shape := ⟨2, ![32768, 1024]⟩
abbrev S4x32768x1024 : Shape := ⟨3, ![4, 32768, 1024]⟩
abbrev S8x32768 : Shape := ⟨2, ![8, 32768]⟩
abbrev S1x1024 : Shape := ⟨2, ![1, 1024]⟩
abbrev S512x1024 : Shape := ⟨2, ![512, 1024]⟩
abbrev S4x512x1024 : Shape := ⟨3, ![4, 512, 1024]⟩
abbrev S8x512 : Shape := ⟨2, ![8, 512]⟩
abbrev S8x8 : Shape := ⟨2, ![8, 8]⟩
abbrev S512x8 : Shape := ⟨2, ![512, 8]⟩
abbrev S1x512x1024 : Shape := ⟨3, ![1, 512, 1024]⟩
abbrev S512x1 : Shape := ⟨2, ![512, 1]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S4x32768x1024, .bf16⟩
  | .hbm, ⟨2, _⟩ => ⟨S8x32768, .f32⟩
  | .hbm, ⟨3, _⟩ => ⟨S1x1024, .f32⟩
  | .hbm, ⟨4, _⟩ => ⟨S1x1024, .f32⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .bf16⟩
  | .local _ .vmem, ⟨3, _⟩ => ⟨S4x512x1024, .bf16⟩
  | .local _ .vmem, ⟨4, _⟩ => ⟨S8x512, .f32⟩
  | .local _ .vmem, ⟨5, _⟩ => ⟨S8x512, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineReferenceIdeal.lean ====
abbrev S32768x1024 : Shape := ⟨2, ![32768, 1024]⟩
abbrev S4x32768x1024 : Shape := ⟨3, ![4, 32768, 1024]⟩
abbrev S8x32768 : Shape := ⟨2, ![8, 32768]⟩
abbrev S1x1024 : Shape := ⟨2, ![1, 1024]⟩
abbrev S4x32768 : Shape := ⟨2, ![4, 32768]⟩
abbrev S4x32768x1 : Shape := ⟨3, ![4, 32768, 1]⟩
abbrev S_ : Shape := ⟨0, ![]⟩
abbrev S1024 : Shape := ⟨1, ![1024]⟩
abbrev S32768 : Shape := ⟨1, ![32768]⟩
abbrev S32768x1 : Shape := ⟨2, ![32768, 1]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x32768x1024, .bf16⟩
  | .hbm, ⟨2, _⟩ => ⟨S8x32768, .f32⟩
  | .hbm, ⟨3, _⟩ => ⟨S1x1024, .f32⟩
  | .hbm, ⟨4, _⟩ => ⟨S1x1024, .f32⟩
  | .hbm, ⟨5, _⟩ => ⟨S4x32768x1024, .f32⟩
  | .hbm, ⟨6, _⟩ => ⟨S4x32768, .f32⟩
  | .hbm, ⟨7, _⟩ => ⟨S4x32768x1, .f32⟩
  | .hbm, ⟨8, _⟩ => ⟨S4x32768x1024, .f32⟩
  | .hbm, ⟨9, _⟩ => ⟨S4x32768x1024, .f32⟩
  | .hbm, ⟨10, _⟩ => ⟨S_, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S32768x1024, .f32⟩
  | .hbm, ⟨43, _⟩ => ⟨S32768x1024, .f32⟩
  | .hbm, ⟨44, _⟩ => ⟨S1x1024, .f32⟩
  | .hbm, ⟨45, _⟩ => ⟨S32768x1024, .f32⟩
  | .hbm, ⟨46, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== EvenIn.lean ====
abbrev S32768x1024 : Shape := ⟨2, ![32768, 1024]⟩
abbrev S4x32768x1024 : Shape := ⟨3, ![4, 32768, 1024]⟩
abbrev S8x32768 : Shape := ⟨2, ![8, 32768]⟩
abbrev S1x1024 : Shape := ⟨2, ![1, 1024]⟩
abbrev S1024x3080 : Shape := ⟨2, ![1024, 3080]⟩
abbrev S1x512 : Shape := ⟨2, ![1, 512]⟩
abbrev S4x128x128 : Shape := ⟨3, ![4, 128, 128]⟩
abbrev S4x128 : Shape := ⟨2, ![4, 128]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S1024x3200 : Shape := ⟨2, ![1024, 3200]⟩
abbrev S1x128x128 : Shape := ⟨3, ![1, 128, 128]⟩
abbrev S4x128x1 : Shape := ⟨3, ![4, 128, 1]⟩
abbrev S32768x512 : Shape := ⟨2, ![32768, 512]⟩
abbrev S32768x2048 : Shape := ⟨2, ![32768, 2048]⟩
abbrev S32768x128 : Shape := ⟨2, ![32768, 128]⟩
abbrev S512x1024 : Shape := ⟨2, ![512, 1024]⟩
abbrev S4x512x1024 : Shape := ⟨3, ![4, 512, 1024]⟩
abbrev S8x512 : Shape := ⟨2, ![8, 512]⟩
abbrev S512x512 : Shape := ⟨2, ![512, 512]⟩
abbrev S512x2048 : Shape := ⟨2, ![512, 2048]⟩
abbrev S512x128 : Shape := ⟨2, ![512, 128]⟩
abbrev S8x8 : Shape := ⟨2, ![8, 8]⟩
abbrev S512x8 : Shape := ⟨2, ![512, 8]⟩
abbrev S1x512x1024 : Shape := ⟨3, ![1, 512, 1024]⟩
abbrev S512x1 : Shape := ⟨2, ![512, 1]⟩
abbrev S512 : Shape := ⟨1, ![512]⟩
abbrev S512x3200 : Shape := ⟨2, ![512, 3200]⟩

abbrev nBuf : Space → Nat
  | .hbm => 51
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S4x32768x1024, .bf16⟩
  | .hbm, ⟨2, _⟩ => ⟨S8x32768, .f32⟩
  | .hbm, ⟨3, _⟩ => ⟨S1x1024, .f32⟩
  | .hbm, ⟨4, _⟩ => ⟨S1x1024, .f32⟩
  | .hbm, ⟨5, _⟩ => ⟨S1024x3080, .f32⟩
  | .hbm, ⟨6, _⟩ => ⟨S1x512, .f32⟩
  | .hbm, ⟨7, _⟩ => ⟨S1x512, .f32⟩
  | .hbm, ⟨8, _⟩ => ⟨S4x128x128, .f32⟩
  | .hbm, ⟨9, _⟩ => ⟨S4x128, .f32⟩
  | .hbm, ⟨10, _⟩ => ⟨S128, .i32⟩
  | .hbm, ⟨11, _⟩ => ⟨S_, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S128, .i1⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S1x128, .i32⟩
  | .hbm, ⟨30, _⟩ => ⟨S128x1, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S_, .i32⟩
  | .hbm, ⟨35, _⟩ => ⟨S_, .f32⟩
  | .hbm, ⟨36, _⟩ => ⟨S1024x3200, .f32⟩
  | .hbm, ⟨37, _⟩ => ⟨S1024x3200, .bf16⟩
  | .hbm, ⟨38, _⟩ => ⟨S1x128x128, .i1⟩
  | .hbm, ⟨39, _⟩ => ⟨S_, .i32⟩
  | .hbm, ⟨40, _⟩ => ⟨S_, .f32⟩
  | .hbm, ⟨41, _⟩ => ⟨S4x128x128, .i1⟩
  | .hbm, ⟨42, _⟩ => ⟨S4x128x128, .f32⟩
  | .hbm, ⟨43, _⟩ => ⟨S4x128x128, .f32⟩
  | .hbm, ⟨44, _⟩ => ⟨S4x128x128, .bf16⟩
  | .hbm, ⟨45, _⟩ => ⟨S4x128x1, .f32⟩
  | .hbm, ⟨46, _⟩ => ⟨S4x128x128, .f32⟩
  | .hbm, ⟨47, _⟩ => ⟨S32768x1024, .f32⟩
  | .hbm, ⟨48, _⟩ => ⟨S32768x512, .bf16⟩
  | .hbm, ⟨49, _⟩ => ⟨S32768x2048, .bf16⟩
  | .hbm, ⟨50, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S4x512x1024, .bf16⟩
  | .local _ .vmem, ⟨3, _⟩ => ⟨S4x512x1024, .bf16⟩
  | .local _ .vmem, ⟨4, _⟩ => ⟨S8x512, .f32⟩
  | .local _ .vmem, ⟨5, _⟩ => ⟨S8x512, .f32⟩
  | .local _ .vmem, ⟨6, _⟩ => ⟨S1x1024, .f32⟩
  | .local _ .vmem, ⟨7, _⟩ => ⟨S1x1024, .f32⟩
  | .local _ .vmem, ⟨8, _⟩ => ⟨S1024x3200, .bf16⟩
  | .local _ .vmem, ⟨9, _⟩ => ⟨S1x512, .f32⟩
  | .local _ .vmem, ⟨10, _⟩ => ⟨S1x512, .f32⟩
  | .local _ .vmem, ⟨11, _⟩ => ⟨S4x128x128, .bf16⟩
  | .local _ .vmem, ⟨12, _⟩ => ⟨S4x128x128, .f32⟩
  | .local _ .vmem, ⟨13, _⟩ => ⟨S512x1024, .f32⟩
  | .local _ .vmem, ⟨14, _⟩ => ⟨S512x1024, .f32⟩
  | .local _ .vmem, ⟨15, _⟩ => ⟨S512x512, .bf16⟩
  | .local _ .vmem, ⟨16, _⟩ => ⟨S512x512, .bf16⟩
  | .local _ .vmem, ⟨17, _⟩ => ⟨S512x2048, .bf16⟩
  | .local _ .vmem, ⟨18, _⟩ => ⟨S512x2048, .bf16⟩
  | .local _ .vmem, ⟨19, _⟩ => ⟨S512x128, .f32⟩
  | .local _ .vmem, ⟨20, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_c_0 : Ref sig .tc := ⟨.hbm, 34, rfl⟩
abbrev main_call1_v0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_c_1 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14_0 : Ref sig .tc := ⟨.hbm, 47, rfl⟩
abbrev main_v14_1 : Ref sig .tc := ⟨.hbm, 48, rfl⟩
abbrev main_v14_2 : Ref sig .tc := ⟨.hbm, 49, rfl⟩
abbrev main_v14_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== EvenInReferenceIdeal.lean ====
abbrev S32768x1024 : Shape := ⟨2, ![32768, 1024]⟩
abbrev S4x32768x1024 : Shape := ⟨3, ![4, 32768, 1024]⟩
abbrev S8x32768 : Shape := ⟨2, ![8, 32768]⟩
abbrev S1x1024 : Shape := ⟨2, ![1, 1024]⟩
abbrev S1024x3080 : Shape := ⟨2, ![1024, 3080]⟩
abbrev S1x512 : Shape := ⟨2, ![1, 512]⟩
abbrev S4x128x128 : Shape := ⟨3, ![4, 128, 128]⟩
abbrev S4x128 : Shape := ⟨2, ![4, 128]⟩
abbrev S4x32768 : Shape := ⟨2, ![4, 32768]⟩
abbrev S4x32768x1 : Shape := ⟨3, ![4, 32768, 1]⟩
abbrev S_ : Shape := ⟨0, ![]⟩
abbrev S1024 : Shape := ⟨1, ![1024]⟩
abbrev S32768 : Shape := ⟨1, ![32768]⟩
abbrev S32768x1 : Shape := ⟨2, ![32768, 1]⟩
abbrev S32768x3080 : Shape := ⟨2, ![32768, 3080]⟩
abbrev S32768x512 : Shape := ⟨2, ![32768, 512]⟩
abbrev S512 : Shape := ⟨1, ![512]⟩
abbrev S32768x4x128 : Shape := ⟨3, ![32768, 4, 128]⟩
abbrev S32768x4 : Shape := ⟨2, ![32768, 4]⟩
abbrev S32768x4x1 : Shape := ⟨3, ![32768, 4, 1]⟩
abbrev S1x4x128 : Shape := ⟨3, ![1, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S256x128x4x128 : Shape := ⟨4, ![256, 128, 4, 128]⟩
abbrev S4x256x128x128 : Shape := ⟨4, ![4, 256, 128, 128]⟩
abbrev S128x4 : Shape := ⟨2, ![128, 4]⟩
abbrev S128x4x1 : Shape := ⟨3, ![128, 4, 1]⟩
abbrev S1x128x4x1 : Shape := ⟨4, ![1, 128, 4, 1]⟩
abbrev S32768x8 : Shape := ⟨2, ![32768, 8]⟩
abbrev S32768x128 : Shape := ⟨2, ![32768, 128]⟩
abbrev S32768x2048 : Shape := ⟨2, ![32768, 2048]⟩

abbrev nBuf : Space → Nat
  | .hbm => 158
  | .vmem => 0
  | .smem => 0
  | _ => 0

abbrev hbmTy0_0 (i : Nat) : BufTy := match i % 128 with
  | 0 => ⟨S32768x1024, .f32⟩
  | 1 => ⟨S4x32768x1024, .bf16⟩
  | 2 => ⟨S8x32768, .f32⟩
  | 3 => ⟨S1x1024, .f32⟩
  | 4 => ⟨S1x1024, .f32⟩
  | 5 => ⟨S1024x3080, .f32⟩
  | 6 => ⟨S1x512, .f32⟩
  | 7 => ⟨S1x512, .f32⟩
  | 8 => ⟨S4x128x128, .f32⟩
  | 9 => ⟨S4x128, .f32⟩
  | 10 => ⟨S4x32768x1024, .f32⟩
  | 11 => ⟨S4x32768, .f32⟩
  | 12 => ⟨S4x32768x1, .f32⟩
  | 13 => ⟨S4x32768x1024, .f32⟩
  | 14 => ⟨S4x32768x1024, .f32⟩
  | 15 => ⟨S_, .f32⟩
  | 16 => ⟨S32768x1024, .f32⟩
  | 17 => ⟨S_, .f32⟩
  | 18 => ⟨S32768x1024, .f32⟩
  | 19 => ⟨S32768x1024, .f32⟩
  | 20 => ⟨S32768x1024, .f32⟩
  | 21 => ⟨S1024, .f32⟩
  | 22 => ⟨S1024, .f32⟩
  | 23 => ⟨S_, .f32⟩
  | 24 => ⟨S32768, .f32⟩
  | 25 => ⟨S32768x1, .f32⟩
  | 26 => ⟨S_, .f32⟩
  | 27 => ⟨S32768x1, .f32⟩
  | 28 => ⟨S32768x1, .f32⟩
  | 29 => ⟨S32768x1024, .f32⟩
  | 30 => ⟨S32768x1024, .f32⟩
  | 31 => ⟨S32768x1024, .f32⟩
  | 32 => ⟨S_, .f32⟩
  | 33 => ⟨S32768, .f32⟩
  | 34 => ⟨S32768x1, .f32⟩
  | 35 => ⟨S_, .f32⟩
  | 36 => ⟨S32768x1, .f32⟩
  | 37 => ⟨S32768x1, .f32⟩
  | 38 => ⟨S32768x1024, .f32⟩
  | 39 => ⟨S32768x1024, .f32⟩
  | 40 => ⟨S_, .f32⟩
  | 41 => ⟨S32768x1, .f32⟩
  | 42 => ⟨S32768x1, .f32⟩
  | 43 => ⟨S32768x1, .f32⟩
  | 44 => ⟨S32768x1024, .f32⟩
  | 45 => ⟨S32768x1024, .f32⟩
  | 46 => ⟨S1x1024, .f32⟩
  | 47 => ⟨S32768x1024, .f32⟩
  | 48 => ⟨S32768x1024, .f32⟩
  | 49 => ⟨S1x1024, .f32⟩
  | 50 => ⟨S32768x1024, .f32⟩
  | 51 => ⟨S32768x1024, .f32⟩
  | 52 => ⟨S32768x3080, .f32⟩
  | 53 => ⟨S32768x512, .f32⟩
  | 54 => ⟨S32768x512, .f32⟩
  | 55 => ⟨S512, .f32⟩
  | 56 => ⟨S512, .f32⟩
  | 57 => ⟨S_, .f32⟩
  | 58 => ⟨S32768x512, .f32⟩
  | 59 => ⟨S32768x512, .f32⟩
  | 60 => ⟨S_, .f32⟩
  | 61 => ⟨S32768x512, .f32⟩
  | 62 => ⟨S32768x512, .f32⟩
  | 63 => ⟨S32768x512, .f32⟩
  | 64 => ⟨S_, .f32⟩
  | 65 => ⟨S32768x512, .f32⟩
  | 66 => ⟨S32768x512, .f32⟩
  | 67 => ⟨S32768x512, .f32⟩
  | 68 => ⟨S_, .f32⟩
  | 69 => ⟨S32768x512, .f32⟩
  | 70 => ⟨S32768x512, .f32⟩
  | 71 => ⟨S_, .f32⟩
  | 72 => ⟨S32768x512, .f32⟩
  | 73 => ⟨S32768x512, .f32⟩
  | 74 => ⟨S32768x512, .f32⟩
  | 75 => ⟨S_, .f32⟩
  | 76 => ⟨S32768x512, .f32⟩
  | 77 => ⟨S32768x512, .f32⟩
  | 78 => ⟨S32768x512, .f32⟩
  | 79 => ⟨S32768x4x128, .f32⟩
  | 80 => ⟨S4x128, .f32⟩
  | 81 => ⟨S4x128, .f32⟩
  | 82 => ⟨S_, .f32⟩
  | 83 => ⟨S32768x4, .f32⟩
  | 84 => ⟨S32768x4x1, .f32⟩
  | 85 => ⟨S_, .f32⟩
  | 86 => ⟨S32768x4x1, .f32⟩
  | 87 => ⟨S32768x4x1, .f32⟩
  | 88 => ⟨S32768x4x128, .f32⟩
  | 89 => ⟨S32768x4x128, .f32⟩
  | 90 => ⟨S32768x4x128, .f32⟩
  | 91 => ⟨S_, .f32⟩
  | 92 => ⟨S32768x4, .f32⟩
  | 93 => ⟨S32768x4x1, .f32⟩
  | 94 => ⟨S_, .f32⟩
  | 95 => ⟨S32768x4x1, .f32⟩
  | 96 => ⟨S32768x4x1, .f32⟩
  | 97 => ⟨S32768x4x128, .f32⟩
  | 98 => ⟨S32768x4x128, .f32⟩
  | 99 => ⟨S_, .f32⟩
  | 100 => ⟨S32768x4x1, .f32⟩
  | 101 => ⟨S32768x4x1, .f32⟩
  | 102 => ⟨S32768x4x1, .f32⟩
  | 103 => ⟨S32768x4x128, .f32⟩
  | 104 => ⟨S32768x4x128, .f32⟩
  | 105 => ⟨S1x4x128, .f32⟩
  | 106 => ⟨S32768x4x128, .f32⟩
  | 107 => ⟨S32768x4x128, .f32⟩
  | 108 => ⟨S1x4x128, .f32⟩
  | 109 => ⟨S32768x4x128, .f32⟩
  | 110 => ⟨S32768x4x128, .f32⟩
  | 111 => ⟨S128, .i32⟩
  | 112 => ⟨S_, .i32⟩
  | 113 => ⟨S_, .i32⟩
  | 114 => ⟨S128, .i32⟩
  | 115 => ⟨S128, .i32⟩
  | 116 => ⟨S128, .i32⟩
  | 117 => ⟨S_, .i32⟩
  | 118 => ⟨S128, .i32⟩
  | 119 => ⟨S128, .i1⟩
  | 120 => ⟨S128, .i32⟩
  | 121 => ⟨S128, .i32⟩
  | 122 => ⟨S_, .i32⟩
  | 123 => ⟨S128, .i32⟩
  | 124 => ⟨S128, .i1⟩
  | 125 => ⟨S128, .i1⟩
  | 126 => ⟨S_, .i32⟩
  | 127 => ⟨S128, .i32⟩
  | _ => ⟨S32768x1024, .f32⟩

abbrev hbmTy0_1 (i : Nat) : BufTy := match i % 128 with
  | 0 => ⟨S128, .i32⟩
  | 1 => ⟨S128, .i32⟩
  | 2 => ⟨S1x128, .i32⟩
  | 3 => ⟨S128x1, .i32⟩
  | 4 => ⟨S128x128, .i32⟩
  | 5 => ⟨S128x128, .i32⟩
  | 6 => ⟨S128x128, .i1⟩
  | 7 => ⟨S1x128x128, .i1⟩
  | 8 => ⟨S_, .i32⟩
  | 9 => ⟨S_, .f32⟩
  | 10 => ⟨S4x128x128, .i1⟩
  | 11 => ⟨S4x128x128, .f32⟩
  | 12 => ⟨S4x128x128, .f32⟩
  | 13 => ⟨S256x128x4x128, .f32⟩
  | 14 => ⟨S4x256x128x128, .f32⟩
  | 15 => ⟨S256x128x4x128, .f32⟩
  | 16 => ⟨S128x4, .f32⟩
  | 17 => ⟨S128x4x1, .f32⟩
  | 18 => ⟨S1x128x4x1, .f32⟩
  | 19 => ⟨S256x128x4x128, .f32⟩
  | 20 => ⟨S256x128x4x128, .f32⟩
  | 21 => ⟨S32768x512, .f32⟩
  | 22 => ⟨S32768x512, .f32⟩
  | 23 => ⟨S32768x8, .f32⟩
  | 24 => ⟨S_, .i32⟩
  | 25 => ⟨S_, .f32⟩
  | 26 => ⟨S32768x128, .f32⟩
  | 27 => ⟨S32768x512, .bf16⟩
  | 28 => ⟨S32768x2048, .f32⟩
  | 29 => ⟨S32768x2048, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_16 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c : Ref sig .tc := ⟨.hbm, 112, rfl⟩
abbrev main_call0_v0 : Ref sig .tc := ⟨.hbm, 113, rfl⟩
abbrev main_call0_v1 : Ref sig .tc := ⟨.hbm, 114, rfl⟩
abbrev main_call0_v2 : Ref sig .tc := ⟨.hbm, 115, rfl⟩
abbrev main_call0_v3 : Ref sig .tc := ⟨.hbm, 116, rfl⟩
abbrev main_call0_v4 : Ref sig .tc := ⟨.hbm, 117, rfl⟩
abbrev main_call0_v5 : Ref sig .tc := ⟨.hbm, 118, rfl⟩
abbrev main_call0_v6 : Ref sig .tc := ⟨.hbm, 119, rfl⟩
abbrev main_call0_v7 : Ref sig .tc := ⟨.hbm, 120, rfl⟩
abbrev main_call0_v8 : Ref sig .tc := ⟨.hbm, 121, rfl⟩
abbrev main_call0_c : Ref sig .tc := ⟨.hbm, 122, rfl⟩
abbrev main_call0_v9 : Ref sig .tc := ⟨.hbm, 123, rfl⟩
abbrev main_call0_v10 : Ref sig .tc := ⟨.hbm, 124, rfl⟩
abbrev main_call0_v11 : Ref sig .tc := ⟨.hbm, 125, rfl⟩
abbrev main_call0_c_0 : Ref sig .tc := ⟨.hbm, 126, rfl⟩
abbrev main_call0_v12 : Ref sig .tc := ⟨.hbm, 127, rfl⟩
abbrev main_call0_v13 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_17 : Ref sig .tc := ⟨.hbm, 136, rfl⟩
abbrev main_call1_v0 : Ref sig .tc := ⟨.hbm, 137, rfl⟩
abbrev main_call1_v1 : Ref sig .tc := ⟨.hbm, 138, rfl⟩
abbrev main_call1_v2 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_c_18 : Ref sig .tc := ⟨.hbm, 152, rfl⟩
abbrev main_call2_v0 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩

abbrev nD : Nat := 1
abbrev τ : Topo := Topo.v7x

variable {F : FTy → Type} [FloatOps F]
-- ==== EvenFirst.lean ====
abbrev S32768x1024 : Shape := ⟨2, ![32768, 1024]⟩
abbrev S1024x3080 : Shape := ⟨2, ![1024, 3080]⟩
abbrev S1x512 : Shape := ⟨2, ![1, 512]⟩
abbrev S4x128x128 : Shape := ⟨3, ![4, 128, 128]⟩
abbrev S4x128 : Shape := ⟨2, ![4, 128]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S1024x3200 : Shape := ⟨2, ![1024, 3200]⟩
abbrev S1x128x128 : Shape := ⟨3, ![1, 128, 128]⟩
abbrev S4x128x1 : Shape := ⟨3, ![4, 128, 1]⟩
abbrev S32768x512 : Shape := ⟨2, ![32768, 512]⟩
abbrev S32768x2048 : Shape := ⟨2, ![32768, 2048]⟩
abbrev S32768x128 : Shape := ⟨2, ![32768, 128]⟩
abbrev S512x1024 : Shape := ⟨2, ![512, 1024]⟩
abbrev S512x512 : Shape := ⟨2, ![512, 512]⟩
abbrev S512x2048 : Shape := ⟨2, ![512, 2048]⟩
abbrev S512x128 : Shape := ⟨2, ![512, 128]⟩
abbrev S512x3200 : Shape := ⟨2, ![512, 3200]⟩
abbrev S512 : Shape := ⟨1, ![512]⟩
abbrev S512x1 : Shape := ⟨2, ![512, 1]⟩

abbrev nBuf : Space → Nat
  | .hbm => 46
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024x3080, .f32⟩
  | .hbm, ⟨2, _⟩ => ⟨S1x512, .f32⟩
  | .hbm, ⟨3, _⟩ => ⟨S1x512, .f32⟩
  | .hbm, ⟨4, _⟩ => ⟨S4x128x128, .f32⟩
  | .hbm, ⟨5, _⟩ => ⟨S4x128, .f32⟩
  | .hbm, ⟨6, _⟩ => ⟨S128, .i32⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S1x128, .i32⟩
  | .hbm, ⟨26, _⟩ => ⟨S128x1, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S_, .i32⟩
  | .hbm, ⟨31, _⟩ => ⟨S_, .f32⟩
  | .hbm, ⟨32, _⟩ => ⟨S1024x3200, .f32⟩
  | .hbm, ⟨33, _⟩ => ⟨S1024x3200, .bf16⟩
  | .hbm, ⟨34, _⟩ => ⟨S1x128x128, .i1⟩
  | .hbm, ⟨35, _⟩ => ⟨S_, .i32⟩
  | .hbm, ⟨36, _⟩ => ⟨S_, .f32⟩
  | .hbm, ⟨37, _⟩ => ⟨S4x128x128, .i1⟩
  | .hbm, ⟨38, _⟩ => ⟨S4x128x128, .f32⟩
  | .hbm, ⟨39, _⟩ => ⟨S4x128x128, .f32⟩
  | .hbm, ⟨40, _⟩ => ⟨S4x128x128, .bf16⟩
  | .hbm, ⟨41, _⟩ => ⟨S4x128x1, .f32⟩
  | .hbm, ⟨42, _⟩ => ⟨S4x128x128, .f32⟩
  | .hbm, ⟨43, _⟩ => ⟨S32768x512, .bf16⟩
  | .hbm, ⟨44, _⟩ => ⟨S32768x2048, .bf16⟩
  | .hbm, ⟨45, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1024x3200, .bf16⟩
  | .local _ .vmem, ⟨3, _⟩ => ⟨S1x512, .f32⟩
  | .local _ .vmem, ⟨4, _⟩ => ⟨S1x512, .f32⟩
  | .local _ .vmem, ⟨5, _⟩ => ⟨S4x128x128, .bf16⟩
  | .local _ .vmem, ⟨6, _⟩ => ⟨S4x128x128, .f32⟩
  | .local _ .vmem, ⟨7, _⟩ => ⟨S512x512, .bf16⟩
  | .local _ .vmem, ⟨8, _⟩ => ⟨S512x512, .bf16⟩
  | .local _ .vmem, ⟨9, _⟩ => ⟨S512x2048, .bf16⟩
  | .local _ .vmem, ⟨10, _⟩ => ⟨S512x2048, .bf16⟩
  | .local _ .vmem, ⟨11, _⟩ => ⟨S512x128, .f32⟩
  | .local _ .vmem, ⟨12, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_call1_v0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_1 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14_0 : Ref sig .tc := ⟨.hbm, 43, rfl⟩
abbrev main_v14_1 : Ref sig .tc := ⟨.hbm, 44, rfl⟩
abbrev main_v14_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EvenFirstReferenceIdeal.lean ====
abbrev S32768x1024 : Shape := ⟨2, ![32768, 1024]⟩
abbrev S1024x3080 : Shape := ⟨2, ![1024, 3080]⟩
abbrev S1x512 : Shape := ⟨2, ![1, 512]⟩
abbrev S4x128x128 : Shape := ⟨3, ![4, 128, 128]⟩
abbrev S4x128 : Shape := ⟨2, ![4, 128]⟩
abbrev S32768x3080 : Shape := ⟨2, ![32768, 3080]⟩
abbrev S32768x512 : Shape := ⟨2, ![32768, 512]⟩
abbrev S512 : Shape := ⟨1, ![512]⟩
abbrev S_ : Shape := ⟨0, ![]⟩
abbrev S32768x4x128 : Shape := ⟨3, ![32768, 4, 128]⟩
abbrev S32768x4 : Shape := ⟨2, ![32768, 4]⟩
abbrev S32768x4x1 : Shape := ⟨3, ![32768, 4, 1]⟩
abbrev S1x4x128 : Shape := ⟨3, ![1, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S256x128x4x128 : Shape := ⟨4, ![256, 128, 4, 128]⟩
abbrev S4x256x128x128 : Shape := ⟨4, ![4, 256, 128, 128]⟩
abbrev S128x4 : Shape := ⟨2, ![128, 4]⟩
abbrev S128x4x1 : Shape := ⟨3, ![128, 4, 1]⟩
abbrev S1x128x4x1 : Shape := ⟨4, ![1, 128, 4, 1]⟩
abbrev S32768x8 : Shape := ⟨2, ![32768, 8]⟩
abbrev S32768x128 : Shape := ⟨2, ![32768, 128]⟩
abbrev S32768x2048 : Shape := ⟨2, ![32768, 2048]⟩

abbrev nBuf : Space → Nat
  | .hbm => 112
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3080, .f32⟩
  | .hbm, ⟨2, _⟩ => ⟨S1x512, .f32⟩
  | .hbm, ⟨3, _⟩ => ⟨S1x512, .f32⟩
  | .hbm, ⟨4, _⟩ => ⟨S4x128x128, .f32⟩
  | .hbm, ⟨5, _⟩ => ⟨S4x128, .f32⟩
  | .hbm, ⟨6, _⟩ => ⟨S32768x3080, .f32⟩
  | .hbm, ⟨7, _⟩ => ⟨S32768x512, .f32⟩
  | .hbm, ⟨8, _⟩ => ⟨S32768x512, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S32768x512, .f32⟩
  | .hbm, ⟨13, _⟩ => ⟨S32768x512, .f32⟩
  | .hbm, ⟨14, _⟩ => ⟨S_, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S_, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S_, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S_, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x4x128, .f32⟩
  | .hbm, ⟨34, _⟩ => ⟨S4x128, .f32⟩
  | .hbm, ⟨35, _⟩ => ⟨S4x128, .f32⟩
  | .hbm, ⟨36, _⟩ => ⟨S_, .f32⟩
  | .hbm, ⟨37, _⟩ => ⟨S32768x4, .f32⟩
  | .hbm, ⟨38, _⟩ => ⟨S32768x4x1, .f32⟩
  | .hbm, ⟨39, _⟩ => ⟨S_, .f32⟩
  | .hbm, ⟨40, _⟩ => ⟨S32768x4x1, .f32⟩
  | .hbm, ⟨41, _⟩ => ⟨S32768x4x1, .f32⟩
  | .hbm, ⟨42, _⟩ => ⟨S32768x4x128, .f32⟩
  | .hbm, ⟨43, _⟩ => ⟨S32768x4x128, .f32⟩
  | .hbm, ⟨44, _⟩ => ⟨S32768x4x128, .f32⟩
  | .hbm, ⟨45, _⟩ => ⟨S_, .f32⟩
  | .hbm, ⟨46, _⟩ => ⟨S32768x4, .f32⟩
  | .hbm, ⟨47, _⟩ => ⟨S32768x4x1, .f32⟩
  | .hbm, ⟨48, _⟩ => ⟨S_, .f32⟩
  | .hbm, ⟨49, _⟩ => ⟨S32768x4x1, .f32⟩
  | .hbm, ⟨50, _⟩ => ⟨S32768x4x1, .f32⟩
  | .hbm, ⟨51, _⟩ => ⟨S32768x4x128, .f32⟩
  | .hbm, ⟨52, _⟩ => ⟨S32768x4x128, .f32⟩
  | .hbm, ⟨53, _⟩ => ⟨S_, .f32⟩
  | .hbm, ⟨54, _⟩ => ⟨S32768x4x1, .f32⟩
  | .hbm, ⟨55, _⟩ => ⟨S32768x4x1, .f32⟩
  | .hbm, ⟨56, _⟩ => ⟨S32768x4x1, .f32⟩
  | .hbm, ⟨57, _⟩ => ⟨S32768x4x128, .f32⟩
  | .hbm, ⟨58, _⟩ => ⟨S32768x4x128, .f32⟩
  | .hbm, ⟨59, _⟩ => ⟨S1x4x128, .f32⟩
  | .hbm, ⟨60, _⟩ => ⟨S32768x4x128, .f32⟩
  | .hbm, ⟨61, _⟩ => ⟨S32768x4x128, .f32⟩
  | .hbm, ⟨62, _⟩ => ⟨S1x4x128, .f32⟩
  | .hbm, ⟨63, _⟩ => ⟨S32768x4x128, .f32⟩
  | .hbm, ⟨64, _⟩ => ⟨S32768x4x128, .f32⟩
  | .hbm, ⟨65, _⟩ => ⟨S128, .i32⟩
  | .hbm, ⟨66, _⟩ => ⟨S_, .i32⟩
  | .hbm, ⟨67, _⟩ => ⟨S_, .i32⟩
  | .hbm, ⟨68, _⟩ => ⟨S128, .i32⟩
  | .hbm, ⟨69, _⟩ => ⟨S128, .i32⟩
  | .hbm, ⟨70, _⟩ => ⟨S128, .i32⟩
  | .hbm, ⟨71, _⟩ => ⟨S_, .i32⟩
  | .hbm, ⟨72, _⟩ => ⟨S128, .i32⟩
  | .hbm, ⟨73, _⟩ => ⟨S128, .i1⟩
  | .hbm, ⟨74, _⟩ => ⟨S128, .i32⟩
  | .hbm, ⟨75, _⟩ => ⟨S128, .i32⟩
  | .hbm, ⟨76, _⟩ => ⟨S_, .i32⟩
  | .hbm, ⟨77, _⟩ => ⟨S128, .i32⟩
  | .hbm, ⟨78, _⟩ => ⟨S128, .i1⟩
  | .hbm, ⟨79, _⟩ => ⟨S128, .i1⟩
  | .hbm, ⟨80, _⟩ => ⟨S_, .i32⟩
  | .hbm, ⟨81, _⟩ => ⟨S128, .i32⟩
  | .hbm, ⟨82, _⟩ => ⟨S128, .i32⟩
  | .hbm, ⟨83, _⟩ => ⟨S128, .i32⟩
  | .hbm, ⟨84, _⟩ => ⟨S1x128, .i32⟩
  | .hbm, ⟨85, _⟩ => ⟨S128x1, .i32⟩
  | .hbm, ⟨86, _⟩ => ⟨S128x128, .i32⟩
  | .hbm, ⟨87, _⟩ => ⟨S128x128, .i32⟩
  | .hbm, ⟨88, _⟩ => ⟨S128x128, .i1⟩
  | .hbm, ⟨89, _⟩ => ⟨S1x128x128, .i1⟩
  | .hbm, ⟨90, _⟩ => ⟨S_, .i32⟩
  | .hbm, ⟨91, _⟩ => ⟨S_, .f32⟩
  | .hbm, ⟨92, _⟩ => ⟨S4x128x128, .i1⟩
  | .hbm, ⟨93, _⟩ => ⟨S4x128x128, .f32⟩
  | .hbm, ⟨94, _⟩ => ⟨S4x128x128, .f32⟩
  | .hbm, ⟨95, _⟩ => ⟨S256x128x4x128, .f32⟩
  | .hbm, ⟨96, _⟩ => ⟨S4x256x128x128, .f32⟩
  | .hbm, ⟨97, _⟩ => ⟨S256x128x4x128, .f32⟩
  | .hbm, ⟨98, _⟩ => ⟨S128x4, .f32⟩
  | .hbm, ⟨99, _⟩ => ⟨S128x4x1, .f32⟩
  | .hbm, ⟨100, _⟩ => ⟨S1x128x4x1, .f32⟩
  | .hbm, ⟨101, _⟩ => ⟨S256x128x4x128, .f32⟩
  | .hbm, ⟨102, _⟩ => ⟨S256x128x4x128, .f32⟩
  | .hbm, ⟨103, _⟩ => ⟨S32768x512, .f32⟩
  | .hbm, ⟨104, _⟩ => ⟨S32768x512, .f32⟩
  | .hbm, ⟨105, _⟩ => ⟨S32768x8, .f32⟩
  | .hbm, ⟨106, _⟩ => ⟨S_, .i32⟩
  | .hbm, ⟨107, _⟩ => ⟨S_, .f32⟩
  | .hbm, ⟨108, _⟩ => ⟨S32768x128, .f32⟩
  | .hbm, ⟨109, _⟩ => ⟨S32768x512, .bf16⟩
  | .hbm, ⟨110, _⟩ => ⟨S32768x2048, .f32⟩
  | .hbm, ⟨111, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_c : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_c_0 : Ref sig .tc := ⟨.hbm, 80, rfl⟩
abbrev main_call0_v12 : Ref sig .tc := ⟨.hbm, 81, rfl⟩
abbrev main_call0_v13 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_10 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_11 : Ref sig .tc := ⟨.hbm, 106, rfl⟩
abbrev main_call2_v0 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩

abbrev nD : Nat := 1
abbrev τ : Topo := Topo.v7x

variable {F : FTy → Type} [FloatOps F]
-- ==== ProjEven.lean ====
abbrev S32768x512 : Shape := ⟨2, ![32768, 512]⟩
abbrev S32768x1024 : Shape := ⟨2, ![32768, 1024]⟩
abbrev S1x1024 : Shape := ⟨2, ![1, 1024]⟩
abbrev S1024x1024 : Shape := ⟨2, ![1024, 1024]⟩
abbrev S1024x32 : Shape := ⟨2, ![1024, 32]⟩
abbrev S32 : Shape := ⟨1, ![32]⟩
abbrev S32x1024 : Shape := ⟨2, ![32, 1024]⟩
abbrev S32x1 : Shape := ⟨2, ![32, 1]⟩
abbrev S32x128 : Shape := ⟨2, ![32, 128]⟩
abbrev S512x1024 : Shape := ⟨2, ![512, 1024]⟩
abbrev S8x32768 : Shape := ⟨2, ![8, 32768]⟩
abbrev S512x512 : Shape := ⟨2, ![512, 512]⟩
abbrev S8x512 : Shape := ⟨2, ![8, 512]⟩
abbrev S512 : Shape := ⟨1, ![512]⟩
abbrev S512x1 : Shape := ⟨2, ![512, 1]⟩
abbrev S32x512 : Shape := ⟨2, ![32, 512]⟩
abbrev S1x512 : Shape := ⟨2, ![1, 512]⟩

abbrev nBuf : Space → Nat
  | .hbm => 20
  | .vmem => 22
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S1024x32, .f32⟩
  | .hbm, ⟨7, _⟩ => ⟨S32, .f32⟩
  | .hbm, ⟨8, _⟩ => ⟨S1024x1024, .bf16⟩
  | .hbm, ⟨9, _⟩ => ⟨S32x1024, .f32⟩
  | .hbm, ⟨10, _⟩ => ⟨S32x1024, .bf16⟩
  | .hbm, ⟨11, _⟩ => ⟨S32x1, .f32⟩
  | .hbm, ⟨12, _⟩ => ⟨S32x128, .f32⟩
  | .hbm, ⟨13, _⟩ => ⟨S512x1024, .bf16⟩
  | .hbm, ⟨14, _⟩ => ⟨S512x1024, .bf16⟩
  | .hbm, ⟨15, _⟩ => ⟨S32768x1024, .f32⟩
  | .hbm, ⟨16, _⟩ => ⟨S32768x1024, .bf16⟩
  | .hbm, ⟨17, _⟩ => ⟨S8x32768, .i32⟩
  | .hbm, ⟨18, _⟩ => ⟨S8x32768, .f32⟩
  | .hbm, ⟨19, _⟩ => ⟨S32x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S32x1024, .bf16⟩
  | .local _ .vmem, ⟨11, _⟩ => ⟨S32x128, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x512, .i32⟩
  | .local _ .vmem, ⟨17, _⟩ => ⟨S8x512, .i32⟩
  | .local _ .vmem, ⟨18, _⟩ => ⟨S8x512, .f32⟩
  | .local _ .vmem, ⟨19, _⟩ => ⟨S8x512, .f32⟩
  | .local _ .vmem, ⟨20, _⟩ => ⟨S32x128, .f32⟩
  | .local _ .vmem, ⟨21, _⟩ => ⟨S32x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ProjEvenReferenceIdeal.lean ====
abbrev S32768x512 : Shape := ⟨2, ![32768, 512]⟩
abbrev S32768x1024 : Shape := ⟨2, ![32768, 1024]⟩
abbrev S1x1024 : Shape := ⟨2, ![1, 1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S1024 : Shape := ⟨1, ![1024]⟩
abbrev S32768 : Shape := ⟨1, ![32768]⟩
abbrev S32768x1 : Shape := ⟨2, ![32768, 1]⟩
abbrev S32768x32 : Shape := ⟨2, ![32768, 32]⟩
abbrev S1x32 : Shape := ⟨2, ![1, 32]⟩
abbrev S32768x4 : Shape := ⟨2, ![32768, 4]⟩
abbrev S4x32768 : Shape := ⟨2, ![4, 32768]⟩
abbrev S8x32768 : Shape := ⟨2, ![8, 32768]⟩

abbrev nBuf : Space → Nat
  | .hbm => 151
  | .vmem => 0
  | .smem => 0
  | _ => 0

abbrev hbmTy0_0 (i : Nat) : BufTy := match i % 128 with
  | 0 => ⟨S32768x512, .bf16⟩
  | 1 => ⟨S32768x512, .bf16⟩
  | 2 => ⟨S32768x1024, .f32⟩
  | 3 => ⟨S1x1024, .f32⟩
  | 4 => ⟨S1x1024, .f32⟩
  | 5 => ⟨S1024x1024, .f32⟩
  | 6 => ⟨S1024x32, .f32⟩
  | 7 => ⟨S32, .f32⟩
  | 8 => ⟨S32768x512, .f32⟩
  | 9 => ⟨S32768x512, .f32⟩
  | 10 => ⟨S32768x1024, .f32⟩
  | 11 => ⟨S32768x1024, .f32⟩
  | 12 => ⟨S_, .f32⟩
  | 13 => ⟨S32768x1024, .f32⟩
  | 14 => ⟨S32768x1024, .f32⟩
  | 15 => ⟨S32768x1024, .f32⟩
  | 16 => ⟨S1024, .f32⟩
  | 17 => ⟨S1024, .f32⟩
  | 18 => ⟨S_, .f32⟩
  | 19 => ⟨S32768, .f32⟩
  | 20 => ⟨S32768x1, .f32⟩
  | 21 => ⟨S_, .f32⟩
  | 22 => ⟨S32768x1, .f32⟩
  | 23 => ⟨S32768x1, .f32⟩
  | 24 => ⟨S32768x1024, .f32⟩
  | 25 => ⟨S32768x1024, .f32⟩
  | 26 => ⟨S32768x1024, .f32⟩
  | 27 => ⟨S_, .f32⟩
  | 28 => ⟨S32768, .f32⟩
  | 29 => ⟨S32768x1, .f32⟩
  | 30 => ⟨S_, .f32⟩
  | 31 => ⟨S32768x1, .f32⟩
  | 32 => ⟨S32768x1, .f32⟩
  | 33 => ⟨S32768x1024, .f32⟩
  | 34 => ⟨S32768x1024, .f32⟩
  | 35 => ⟨S_, .f32⟩
  | 36 => ⟨S32768x1, .f32⟩
  | 37 => ⟨S32768x1, .f32⟩
  | 38 => ⟨S32768x1, .f32⟩
  | 39 => ⟨S32768x1024, .f32⟩
  | 40 => ⟨S32768x1024, .f32⟩
  | 41 => ⟨S1x1024, .f32⟩
  | 42 => ⟨S32768x1024, .f32⟩
  | 43 => ⟨S32768x1024, .f32⟩
  | 44 => ⟨S1x1024, .f32⟩
  | 45 => ⟨S32768x1024, .f32⟩
  | 46 => ⟨S32768x1024, .f32⟩
  | 47 => ⟨S32768x1024, .bf16⟩
  | 48 => ⟨S32, .f32⟩
  | 49 => ⟨S32768x32, .f32⟩
  | 50 => ⟨S1x32, .f32⟩
  | 51 => ⟨S32768x32, .f32⟩
  | 52 => ⟨S32768x32, .f32⟩
  | 53 => ⟨S_, .f32⟩
  | 54 => ⟨S32768, .f32⟩
  | 55 => ⟨S32768x1, .f32⟩
  | 56 => ⟨S32768x32, .f32⟩
  | 57 => ⟨S32768x32, .i1⟩
  | 58 => ⟨S_, .f32⟩
  | 59 => ⟨S_, .f32⟩
  | 60 => ⟨S32768x32, .f32⟩
  | 61 => ⟨S32768x32, .f32⟩
  | 62 => ⟨S32768x32, .f32⟩
  | 63 => ⟨S_, .f32⟩
  | 64 => ⟨S32768, .f32⟩
  | 65 => ⟨S32768x1, .f32⟩
  | 66 => ⟨S1x32, .f32⟩
  | 67 => ⟨S32768x32, .f32⟩
  | 68 => ⟨S32768x32, .f32⟩
  | 69 => ⟨S32768x32, .i1⟩
  | 70 => ⟨S_, .f32⟩
  | 71 => ⟨S_, .f32⟩
  | 72 => ⟨S32768x32, .f32⟩
  | 73 => ⟨S32768x32, .f32⟩
  | 74 => ⟨S_, .f32⟩
  | 75 => ⟨S32768, .f32⟩
  | 76 => ⟨S32768x1, .f32⟩
  | 77 => ⟨S32768x32, .f32⟩
  | 78 => ⟨S32768x32, .i1⟩
  | 79 => ⟨S_, .f32⟩
  | 80 => ⟨S_, .f32⟩
  | 81 => ⟨S32768x32, .f32⟩
  | 82 => ⟨S32768x32, .f32⟩
  | 83 => ⟨S32768x32, .f32⟩
  | 84 => ⟨S_, .f32⟩
  | 85 => ⟨S32768, .f32⟩
  | 86 => ⟨S32768x1, .f32⟩
  | 87 => ⟨S1x32, .f32⟩
  | 88 => ⟨S32768x32, .f32⟩
  | 89 => ⟨S32768x32, .f32⟩
  | 90 => ⟨S32768x32, .i1⟩
  | 91 => ⟨S_, .f32⟩
  | 92 => ⟨S_, .f32⟩
  | 93 => ⟨S32768x32, .f32⟩
  | 94 => ⟨S32768x32, .f32⟩
  | 95 => ⟨S_, .f32⟩
  | 96 => ⟨S32768, .f32⟩
  | 97 => ⟨S32768x1, .f32⟩
  | 98 => ⟨S32768x32, .f32⟩
  | 99 => ⟨S32768x32, .i1⟩
  | 100 => ⟨S_, .f32⟩
  | 101 => ⟨S_, .f32⟩
  | 102 => ⟨S32768x32, .f32⟩
  | 103 => ⟨S32768x32, .f32⟩
  | 104 => ⟨S32768x32, .f32⟩
  | 105 => ⟨S_, .f32⟩
  | 106 => ⟨S32768, .f32⟩
  | 107 => ⟨S32768x1, .f32⟩
  | 108 => ⟨S1x32, .f32⟩
  | 109 => ⟨S32768x32, .f32⟩
  | 110 => ⟨S32768x32, .f32⟩
  | 111 => ⟨S32768x32, .i1⟩
  | 112 => ⟨S_, .f32⟩
  | 113 => ⟨S_, .f32⟩
  | 114 => ⟨S32768x32, .f32⟩
  | 115 => ⟨S32768x32, .f32⟩
  | 116 => ⟨S_, .f32⟩
  | 117 => ⟨S32768, .f32⟩
  | 118 => ⟨S32768x1, .f32⟩
  | 119 => ⟨S32768x32, .f32⟩
  | 120 => ⟨S32768x32, .i1⟩
  | 121 => ⟨S_, .f32⟩
  | 122 => ⟨S_, .f32⟩
  | 123 => ⟨S32768x32, .f32⟩
  | 124 => ⟨S32768x32, .f32⟩
  | 125 => ⟨S32768x32, .f32⟩
  | 126 => ⟨S_, .f32⟩
  | 127 => ⟨S32768, .f32⟩
  | _ => ⟨S32768x512, .bf16⟩

abbrev hbmTy0_1 (i : Nat) : BufTy := match i % 128 with
  | 0 => ⟨S32768x1, .f32⟩
  | 1 => ⟨S1x32, .f32⟩
  | 2 => ⟨S32768x32, .f32⟩
  | 3 => ⟨S32768x32, .f32⟩
  | 4 => ⟨S32768x32, .i1⟩
  | 5 => ⟨S_, .f32⟩
  | 6 => ⟨S_, .f32⟩
  | 7 => ⟨S32768x32, .f32⟩
  | 8 => ⟨S32768x32, .f32⟩
  | 9 => ⟨S32768x4, .f32⟩
  | 10 => ⟨S32768x1, .f32⟩
  | 11 => ⟨S32768x4, .f32⟩
  | 12 => ⟨S32768x4, .f32⟩
  | 13 => ⟨S32768x4, .f32⟩
  | 14 => ⟨S_, .f32⟩
  | 15 => ⟨S32768, .f32⟩
  | 16 => ⟨S32768x1, .f32⟩
  | 17 => ⟨S32768x4, .f32⟩
  | 18 => ⟨S32768x4, .f32⟩
  | 19 => ⟨S4x32768, .f32⟩
  | 20 => ⟨S_, .i32⟩
  | 21 => ⟨S_, .f32⟩
  | 22 => ⟨S8x32768, .f32⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_call1_v0 : Ref sig .tc := ⟨.hbm, 71, rfl⟩
abbrev main_call1_v1 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_call3_v0 : Ref sig .tc := ⟨.hbm, 92, rfl⟩
abbrev main_call3_v1 : Ref sig .tc := ⟨.hbm, 93, rfl⟩
abbrev main_v62 : Ref sig .tc := ⟨.hbm, 94, rfl⟩
abbrev main_cst_13 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_14 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_16 : Ref sig .tc := ⟨.hbm, 112, rfl⟩
abbrev main_call5_v0 : Ref sig .tc := ⟨.hbm, 113, rfl⟩
abbrev main_call5_v1 : Ref sig .tc := ⟨.hbm, 114, rfl⟩
abbrev main_v74 : Ref sig .tc := ⟨.hbm, 115, rfl⟩
abbrev main_cst_17 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_18 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_v79 : Ref sig .tc := ⟨.hbm, 125, rfl⟩
abbrev main_cst_19 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_20 : Ref sig .tc := ⟨.hbm, 133, rfl⟩
abbrev main_call7_v0 : Ref sig .tc := ⟨.hbm, 134, rfl⟩
abbrev main_call7_v1 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_21 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_c : Ref sig .tc := ⟨.hbm, 148, rfl⟩
abbrev main_call8_v0 : Ref sig .tc := ⟨.hbm, 149, rfl⟩
abbrev main_v97 : Ref sig .tc := ⟨.hbm, 150, rfl⟩

abbrev nD : Nat := 1
abbrev τ : Topo := Topo.v7x

variable {F : FTy → Type} [FloatOps F]
-- ==== ProjOdd.lean ====
abbrev S32768x1024 : Shape := ⟨2, ![32768, 1024]⟩
abbrev S1x1024 : Shape := ⟨2, ![1, 1024]⟩
abbrev S1024x1024 : Shape := ⟨2, ![1024, 1024]⟩
abbrev S1024x32 : Shape := ⟨2, ![1024, 32]⟩
abbrev S32 : Shape := ⟨1, ![32]⟩
abbrev S32x1024 : Shape := ⟨2, ![32, 1024]⟩
abbrev S32x1 : Shape := ⟨2, ![32, 1]⟩
abbrev S32x128 : Shape := ⟨2, ![32, 128]⟩
abbrev S8x32768 : Shape := ⟨2, ![8, 32768]⟩
abbrev S512x1024 : Shape := ⟨2, ![512, 1024]⟩
abbrev S8x512 : Shape := ⟨2, ![8, 512]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S512x512 : Shape := ⟨2, ![512, 512]⟩

abbrev nBuf : Space → Nat
  | .hbm => 17
  | .vmem => 19
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1x1024, .f32⟩
  | .hbm, ⟨3, _⟩ => ⟨S1x1024, .f32⟩
  | .hbm, ⟨4, _⟩ => ⟨S1024x1024, .f32⟩
  | .hbm, ⟨5, _⟩ => ⟨S1024x32, .f32⟩
  | .hbm, ⟨6, _⟩ => ⟨S32, .f32⟩
  | .hbm, ⟨7, _⟩ => ⟨S32x1024, .f32⟩
  | .hbm, ⟨8, _⟩ => ⟨S32x1024, .bf16⟩
  | .hbm, ⟨9, _⟩ => ⟨S32x1, .f32⟩
  | .hbm, ⟨10, _⟩ => ⟨S32x128, .f32⟩
  | .hbm, ⟨11, _⟩ => ⟨S1024x1024, .bf16⟩
  | .hbm, ⟨12, _⟩ => ⟨S32768x1024, .f32⟩
  | .hbm, ⟨13, _⟩ => ⟨S32768x1024, .bf16⟩
  | .hbm, ⟨14, _⟩ => ⟨S8x32768, .i32⟩
  | .hbm, ⟨15, _⟩ => ⟨S8x32768, .f32⟩
  | .hbm, ⟨16, _⟩ => ⟨S32x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S32x1024, .bf16⟩
  | .local _ .vmem, ⟨8, _⟩ => ⟨S32x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x512, .i32⟩
  | .local _ .vmem, ⟨14, _⟩ => ⟨S8x512, .i32⟩
  | .local _ .vmem, ⟨15, _⟩ => ⟨S8x512, .f32⟩
  | .local _ .vmem, ⟨16, _⟩ => ⟨S8x512, .f32⟩
  | .local _ .vmem, ⟨17, _⟩ => ⟨S32x128, .f32⟩
  | .local _ .vmem, ⟨18, _⟩ => ⟨S32x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ProjOddReferenceIdeal.lean ====
abbrev S32768x1024 : Shape := ⟨2, ![32768, 1024]⟩
abbrev S1x1024 : Shape := ⟨2, ![1, 1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S1024 : Shape := ⟨1, ![1024]⟩
abbrev S32768 : Shape := ⟨1, ![32768]⟩
abbrev S32768x1 : Shape := ⟨2, ![32768, 1]⟩
abbrev S32768x32 : Shape := ⟨2, ![32768, 32]⟩
abbrev S1x32 : Shape := ⟨2, ![1, 32]⟩
abbrev S32768x4 : Shape := ⟨2, ![32768, 4]⟩
abbrev S4x32768 : Shape := ⟨2, ![4, 32768]⟩
abbrev S8x32768 : Shape := ⟨2, ![8, 32768]⟩

abbrev nBuf : Space → Nat
  | .hbm => 148
  | .vmem => 0
  | .smem => 0
  | _ => 0

abbrev hbmTy0_0 (i : Nat) : BufTy := match i % 128 with
  | 0 => ⟨S32768x1024, .bf16⟩
  | 1 => ⟨S32768x1024, .f32⟩
  | 2 => ⟨S1x1024, .f32⟩
  | 3 => ⟨S1x1024, .f32⟩
  | 4 => ⟨S1024x1024, .f32⟩
  | 5 => ⟨S1024x32, .f32⟩
  | 6 => ⟨S32, .f32⟩
  | 7 => ⟨S_, .f32⟩
  | 8 => ⟨S32768x1024, .f32⟩
  | 9 => ⟨S32768x1024, .f32⟩
  | 10 => ⟨S32768x1024, .f32⟩
  | 11 => ⟨S32768x1024, .f32⟩
  | 12 => ⟨S32768x1024, .f32⟩
  | 13 => ⟨S1024, .f32⟩
  | 14 => ⟨S1024, .f32⟩
  | 15 => ⟨S_, .f32⟩
  | 16 => ⟨S32768, .f32⟩
  | 17 => ⟨S32768x1, .f32⟩
  | 18 => ⟨S_, .f32⟩
  | 19 => ⟨S32768x1, .f32⟩
  | 20 => ⟨S32768x1, .f32⟩
  | 21 => ⟨S32768x1024, .f32⟩
  | 22 => ⟨S32768x1024, .f32⟩
  | 23 => ⟨S32768x1024, .f32⟩
  | 24 => ⟨S_, .f32⟩
  | 25 => ⟨S32768, .f32⟩
  | 26 => ⟨S32768x1, .f32⟩
  | 27 => ⟨S_, .f32⟩
  | 28 => ⟨S32768x1, .f32⟩
  | 29 => ⟨S32768x1, .f32⟩
  | 30 => ⟨S32768x1024, .f32⟩
  | 31 => ⟨S32768x1024, .f32⟩
  | 32 => ⟨S_, .f32⟩
  | 33 => ⟨S32768x1, .f32⟩
  | 34 => ⟨S32768x1, .f32⟩
  | 35 => ⟨S32768x1, .f32⟩
  | 36 => ⟨S32768x1024, .f32⟩
  | 37 => ⟨S32768x1024, .f32⟩
  | 38 => ⟨S1x1024, .f32⟩
  | 39 => ⟨S32768x1024, .f32⟩
  | 40 => ⟨S32768x1024, .f32⟩
  | 41 => ⟨S1x1024, .f32⟩
  | 42 => ⟨S32768x1024, .f32⟩
  | 43 => ⟨S32768x1024, .f32⟩
  | 44 => ⟨S32768x1024, .bf16⟩
  | 45 => ⟨S32, .f32⟩
  | 46 => ⟨S32768x32, .f32⟩
  | 47 => ⟨S1x32, .f32⟩
  | 48 => ⟨S32768x32, .f32⟩
  | 49 => ⟨S32768x32, .f32⟩
  | 50 => ⟨S_, .f32⟩
  | 51 => ⟨S32768, .f32⟩
  | 52 => ⟨S32768x1, .f32⟩
  | 53 => ⟨S32768x32, .f32⟩
  | 54 => ⟨S32768x32, .i1⟩
  | 55 => ⟨S_, .f32⟩
  | 56 => ⟨S_, .f32⟩
  | 57 => ⟨S32768x32, .f32⟩
  | 58 => ⟨S32768x32, .f32⟩
  | 59 => ⟨S32768x32, .f32⟩
  | 60 => ⟨S_, .f32⟩
  | 61 => ⟨S32768, .f32⟩
  | 62 => ⟨S32768x1, .f32⟩
  | 63 => ⟨S1x32, .f32⟩
  | 64 => ⟨S32768x32, .f32⟩
  | 65 => ⟨S32768x32, .f32⟩
  | 66 => ⟨S32768x32, .i1⟩
  | 67 => ⟨S_, .f32⟩
  | 68 => ⟨S_, .f32⟩
  | 69 => ⟨S32768x32, .f32⟩
  | 70 => ⟨S32768x32, .f32⟩
  | 71 => ⟨S_, .f32⟩
  | 72 => ⟨S32768, .f32⟩
  | 73 => ⟨S32768x1, .f32⟩
  | 74 => ⟨S32768x32, .f32⟩
  | 75 => ⟨S32768x32, .i1⟩
  | 76 => ⟨S_, .f32⟩
  | 77 => ⟨S_, .f32⟩
  | 78 => ⟨S32768x32, .f32⟩
  | 79 => ⟨S32768x32, .f32⟩
  | 80 => ⟨S32768x32, .f32⟩
  | 81 => ⟨S_, .f32⟩
  | 82 => ⟨S32768, .f32⟩
  | 83 => ⟨S32768x1, .f32⟩
  | 84 => ⟨S1x32, .f32⟩
  | 85 => ⟨S32768x32, .f32⟩
  | 86 => ⟨S32768x32, .f32⟩
  | 87 => ⟨S32768x32, .i1⟩
  | 88 => ⟨S_, .f32⟩
  | 89 => ⟨S_, .f32⟩
  | 90 => ⟨S32768x32, .f32⟩
  | 91 => ⟨S32768x32, .f32⟩
  | 92 => ⟨S_, .f32⟩
  | 93 => ⟨S32768, .f32⟩
  | 94 => ⟨S32768x1, .f32⟩
  | 95 => ⟨S32768x32, .f32⟩
  | 96 => ⟨S32768x32, .i1⟩
  | 97 => ⟨S_, .f32⟩
  | 98 => ⟨S_, .f32⟩
  | 99 => ⟨S32768x32, .f32⟩
  | 100 => ⟨S32768x32, .f32⟩
  | 101 => ⟨S32768x32, .f32⟩
  | 102 => ⟨S_, .f32⟩
  | 103 => ⟨S32768, .f32⟩
  | 104 => ⟨S32768x1, .f32⟩
  | 105 => ⟨S1x32, .f32⟩
  | 106 => ⟨S32768x32, .f32⟩
  | 107 => ⟨S32768x32, .f32⟩
  | 108 => ⟨S32768x32, .i1⟩
  | 109 => ⟨S_, .f32⟩
  | 110 => ⟨S_, .f32⟩
  | 111 => ⟨S32768x32, .f32⟩
  | 112 => ⟨S32768x32, .f32⟩
  | 113 => ⟨S_, .f32⟩
  | 114 => ⟨S32768, .f32⟩
  | 115 => ⟨S32768x1, .f32⟩
  | 116 => ⟨S32768x32, .f32⟩
  | 117 => ⟨S32768x32, .i1⟩
  | 118 => ⟨S_, .f32⟩
  | 119 => ⟨S_, .f32⟩
  | 120 => ⟨S32768x32, .f32⟩
  | 121 => ⟨S32768x32, .f32⟩
  | 122 => ⟨S32768x32, .f32⟩
  | 123 => ⟨S_, .f32⟩
  | 124 => ⟨S32768, .f32⟩
  | 125 => ⟨S32768x1, .f32⟩
  | 126 => ⟨S1x32, .f32⟩
  | 127 => ⟨S32768x32, .f32⟩
  | _ => ⟨S32768x1024, .bf16⟩

abbrev hbmTy0_1 (i : Nat) : BufTy := match i % 128 with
  | 0 => ⟨S32768x32, .f32⟩
  | 1 => ⟨S32768x32, .i1⟩
  | 2 => ⟨S_, .f32⟩
  | 3 => ⟨S_, .f32⟩
  | 4 => ⟨S32768x32, .f32⟩
  | 5 => ⟨S32768x32, .f32⟩
  | 6 => ⟨S32768x4, .f32⟩
  | 7 => ⟨S32768x1, .f32⟩
  | 8 => ⟨S32768x4, .f32⟩
  | 9 => ⟨S32768x4, .f32⟩
  | 10 => ⟨S32768x4, .f32⟩
  | 11 => ⟨S_, .f32⟩
  | 12 => ⟨S32768, .f32⟩
  | 13 => ⟨S32768x1, .f32⟩
  | 14 => ⟨S32768x4, .f32⟩
  | 15 => ⟨S32768x4, .f32⟩
  | 16 => ⟨S4x32768, .f32⟩
  | 17 => ⟨S_, .i32⟩
  | 18 => ⟨S_, .f32⟩
  | 19 => ⟨S8x32768, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_call1_v0 : Ref sig .tc := ⟨.hbm, 68, rfl⟩
abbrev main_call1_v1 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_call3_v0 : Ref sig .tc := ⟨.hbm, 89, rfl⟩
abbrev main_call3_v1 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_14 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v65 : Ref sig .tc := ⟨.hbm, 101, rfl⟩
abbrev main_cst_15 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_16 : Ref sig .tc := ⟨.hbm, 109, rfl⟩
abbrev main_call5_v0 : Ref sig .tc := ⟨.hbm, 110, rfl⟩
abbrev main_call5_v1 : Ref sig .tc := ⟨.hbm, 111, rfl⟩
abbrev main_v72 : Ref sig .tc := ⟨.hbm, 112, rfl⟩
abbrev main_cst_17 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_18 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_v77 : Ref sig .tc := ⟨.hbm, 122, rfl⟩
abbrev main_cst_19 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_20 : Ref sig .tc := ⟨.hbm, 130, rfl⟩
abbrev main_call7_v0 : Ref sig .tc := ⟨.hbm, 131, rfl⟩
abbrev main_call7_v1 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_21 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_c : Ref sig .tc := ⟨.hbm, 145, rfl⟩
abbrev main_call8_v0 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Proof.Items.lean ====
module

public import proofs.«01_k».proof.Proof.Gen.Pre_items_in_order
public import Idealize.ShloMosaic.Lib.Pipeline.Value
public import Idealize.ShloMosaic.Lib.Affine

@[expose] public section

/-! # The work list

The precondition `items_in_order` read as facts about natural numbers: item `k` covers rows `lo k` to `hi k` of block
`blk k`, with the weights of expert `ex k`; the items follow one another over all 131072 rows. -/

namespace Cert.Items

open Idealize.ShloMosaic

abbrev S288 : Shape := ⟨1, ![288]⟩

/-- Item `k`'s place in a table. -/
def ix (k : ℕ) (h : k < 288) : S288.Idx := fun a => ⟨k, by fin_cases a; exact h⟩

theorem ix_eta (y : S288.Idx) : y = ix (y 0).val (y 0).isLt := by
  funext a
  obtain rfl : a = 0 := Subsingleton.elim _ _
  rfl

/-- What the precondition says. -/
structure Ordered (blk ex lo hi : S288.Idx → BitVec 32) : Prop where
  ex_lt : ∀ y, (ex y).toNat < 32
  blk_lt : ∀ y, (blk y).toNat < 256
  lo_le : ∀ y, (lo y).toNat ≤ (hi y).toNat
  lo_zero : (lo (ix 0 (by decide))).toNat = 0
  next : ∀ k (h : k + 1 < 288), (hi (ix k (by omega))).toNat = (lo (ix (k + 1) h)).toNat
  last : (hi (ix 287 (by decide))).toNat = 131072
  blk_le : ∀ y, (blk y).toNat * 512 ≤ (lo y).toNat
  hi_le : ∀ y, (hi y).toNat ≤ (blk y).toNat * 512 + 512
  inside : ∀ y, (lo y).toNat < (blk y).toNat * 512 + 512 ∨ (blk y).toNat = 255

theorem ofBool_one (b : Bool) : BitVec.ofBool b = 1#1 ↔ b = true := by cases b <;> decide

theorem andi_one (a b : BitVec 1) : IntOp.andi a b = 1#1 ↔ a = 1#1 ∧ b = 1#1 := by
  revert a b; decide

theorem ori_one (a b : BitVec 1) : IntOp.ori a b = 1#1 ↔ a = 1#1 ∨ b = 1#1 := by
  revert a b; decide

theorem eq_one (x y : BitVec 32) : IntOp.cmpi .eq x y = 1#1 ↔ x = y := by
  simp [IntOp.cmpi, ofBool_one]

theorem ne_one (x y : BitVec 32) : IntOp.cmpi .ne x y = 1#1 ↔ x ≠ y := by
  simp [IntOp.cmpi, ofBool_one]

theorem slt_one (x y : BitVec 32) : IntOp.cmpi .slt x y = 1#1 ↔ x.toInt < y.toInt := by
  simp [IntOp.cmpi, ofBool_one, BitVec.slt_iff_toInt_lt]

theorem sle_one (x y : BitVec 32) : IntOp.cmpi .sle x y = 1#1 ↔ x.toInt ≤ y.toInt := by
  simp [IntOp.cmpi, ofBool_one, BitVec.sle_iff_toInt_le]

theorem sgt_one (x y : BitVec 32) : IntOp.cmpi .sgt x y = 1#1 ↔ y.toInt < x.toInt := by
  simp [IntOp.cmpi, ofBool_one, BitVec.slt_iff_toInt_lt]

theorem sge_one (x y : BitVec 32) : IntOp.cmpi .sge x y = 1#1 ↔ y.toInt ≤ x.toInt := by
  simp [IntOp.cmpi, ofBool_one, BitVec.sle_iff_toInt_le]

theorem toInt_small (x : BitVec 32) (h : x.toNat < 2 ^ 31) : x.toInt = x.toNat := by
  rw [BitVec.toInt_eq_toNat_cond, if_pos (by omega)]

theorem small_of_nonneg (x : BitVec 32) (h : 0 ≤ x.toInt) : x.toNat < 2 ^ 31 := by
  rw [BitVec.toInt_eq_toNat_cond] at h
  have := x.isLt
  split at h <;> omega

theorem muli_512 (x : BitVec 32) (h : x.toNat < 256) : (IntOp.muli x 512#32).toNat = x.toNat * 512 := by
  unfold IntOp.muli
  rw [BitVec.toNat_mul]
  have : (512#32).toNat = 512 := rfl
  rw [this]
  omega

theorem addi_small (x y : BitVec 32) (h : x.toNat + y.toNat < 2 ^ 32) : (IntOp.addi x y).toNat = x.toNat + y.toNat := by
  unfold IntOp.addi
  rw [BitVec.toNat_add]
  omega

/-- The precondition gives the facts. -/
theorem ordered_of_pre {F : FTy → Type} [FloatOps F] (blk ex lo hi : S288.Idx → BitVec 32) (a4 : FVec F Cert.Pre_items_in_order.S131072x1024 .bf16)
    (a5 : FVec F Cert.Pre_items_in_order.S4x32x1024x2048 .f32) (a6 : FVec F Cert.Pre_items_in_order.S4x32x2048 .f32)
    (a7 : FVec F Cert.Pre_items_in_order.S4x32x1024x1024 .f32) (a8 : FVec F Cert.Pre_items_in_order.S4x32x1024 .f32)
    (h : Cert.Pre_items_in_order.fn blk ex lo hi a4 a5 a6 a7 a8 = fun _ => 1#1) : Ordered blk ex lo hi := by
  unfold Cert.Pre_items_in_order.fn Cert.Pre_items_in_order.fn_part1 Cert.Pre_items_in_order.fn_part2 at h
  dsimp only at h
  have H := fun y => congrFun h y
  simp only [andi, cmpi, ori, muli, addi, broadcastInDim, constantI, andi_one, ori_one, eq_one, slt_one, sle_one, sge_one] at H
  have c0 : (0#32 : BitVec 32).toInt = 0 := rfl
  have c32 : (32#32 : BitVec 32).toInt = 32 := rfl
  have c256 : (256#32 : BitVec 32).toInt = 256 := rfl
  -- everything pointwise but the two that move along the table
  have E : ∀ y, (ex y).toNat < 32 := fun y => by
    obtain ⟨⟨⟨⟨⟨⟨⟨⟨⟨⟨h1, h2⟩, h3⟩, h4⟩, h5⟩, h6⟩, h7⟩, h8⟩, h9⟩, h10⟩, h11⟩ := H y
    have s := small_of_nonneg (ex y) (by omega)
    rw [toInt_small _ s] at h2
    omega
  have B : ∀ y, (blk y).toNat < 256 := fun y => by
    obtain ⟨⟨⟨⟨⟨⟨⟨⟨⟨⟨h1, h2⟩, h3⟩, h4⟩, h5⟩, h6⟩, h7⟩, h8⟩, h9⟩, h10⟩, h11⟩ := H y
    have s := small_of_nonneg (blk y) (by omega)
    rw [toInt_small _ s] at h4
    omega
  have L : ∀ y, (lo y).toNat < 2 ^ 31 := fun y => by
    obtain ⟨⟨⟨⟨⟨⟨⟨⟨⟨⟨h1, h2⟩, h3⟩, h4⟩, h5⟩, h6⟩, h7⟩, h8⟩, h9⟩, h10⟩, h11⟩ := H y
    exact small_of_nonneg (lo y) (by omega)
  have Hs : ∀ y, (hi y).toNat < 2 ^ 31 := fun y => by
    obtain ⟨⟨⟨⟨⟨⟨⟨⟨⟨⟨h1, h2⟩, h3⟩, h4⟩, h5⟩, h6⟩, h7⟩, h8⟩, h9⟩, h10⟩, h11⟩ := H y
    have := toInt_small _ (L y)
    exact small_of_nonneg (hi y) (by omega)
  have M : ∀ y, (IntOp.muli (blk y) 512#32).toNat = (blk y).toNat * 512 := fun y => muli_512 _ (B y)
  have M' : ∀ y, (IntOp.muli (blk y) 512#32).toInt = (blk y).toNat * 512 := fun y => by
    have := B y
    rw [toInt_small _ (by rw [M]; omega), M]; push_cast; rfl
  have A' : ∀ y, (IntOp.addi (IntOp.muli (blk y) 512#32) 512#32).toInt = (blk y).toNat * 512 + 512 := fun y => by
    have := B y
    have e : (512#32 : BitVec 32).toNat = 512 := rfl
    have e2 := addi_small (IntOp.muli (blk y) 512#32) 512#32 (by rw [M, e]; omega)
    rw [toInt_small _ (by rw [e2, M, e]; omega), e2, M, e]; push_cast; rfl
  refine ⟨E, B, ?_, ?_, ?_, ?_, ?_, ?_, ?_⟩
  · intro y
    obtain ⟨⟨⟨⟨⟨⟨⟨⟨⟨⟨h1, h2⟩, h3⟩, h4⟩, h5⟩, h6⟩, h7⟩, h8⟩, h9⟩, h10⟩, h11⟩ := H y
    rw [toInt_small _ (L y), toInt_small _ (Hs y)] at h6
    omega
  · obtain ⟨⟨⟨⟨⟨⟨⟨⟨⟨⟨h1, h2⟩, h3⟩, h4⟩, h5⟩, h6⟩, h7⟩, h8⟩, h9⟩, h10⟩, h11⟩ := H (ix 0 (by decide))
    have e : lo (ix 0 (by decide)) = 0#32 := by
      rw [← h8]
      unfold shapeCast extractStridedSlice
      refine congrArg lo (funext fun a => Fin.ext ?_)
      fin_cases a
      change 0 = 0 + Fin.val (n := 1) _
      rw [Nat.zero_add]; exact (Nat.lt_one_iff.mp (Fin.isLt _)).symm
    rw [e]; rfl
  · intro k hk
    obtain ⟨⟨⟨⟨⟨⟨⟨⟨⟨⟨h1, h2⟩, h3⟩, h4⟩, h5⟩, h6⟩, h7⟩, h8⟩, h9⟩, h10⟩, h11⟩ := H (ix k (by omega))
    rw [h7, concatenate_pair_apply_left (s₁ := Cert.Pre_items_in_order.S287) (s₂ := Cert.Pre_items_in_order.S1) 0 _ _ _ (ix k (by omega)) rfl
      (fun a => ⟨k, by obtain rfl : a = 0 := Subsingleton.elim _ _; show k < 287; omega⟩) (fun b => rfl)]
    unfold extractStridedSlice
    refine congrArg (fun i => (lo i).toNat) (funext fun a => Fin.ext ?_)
    fin_cases a
    show 1 + k = k + 1
    omega
  · obtain ⟨⟨⟨⟨⟨⟨⟨⟨⟨⟨h1, h2⟩, h3⟩, h4⟩, h5⟩, h6⟩, h7⟩, h8⟩, h9⟩, h10⟩, h11⟩ := H (ix 287 (by decide))
    rw [h7, concatenate_pair_apply_right (s₁ := Cert.Pre_items_in_order.S287) (s₂ := Cert.Pre_items_in_order.S1) 0 _ _ _ (ix 287 (by decide)) rfl rfl
      (fun a => ⟨0, by obtain rfl : a = 0 := Subsingleton.elim _ _; decide⟩) (fun b hb => absurd (Subsingleton.elim (α := Fin 1) _ _) hb) rfl]
    rfl
  · intro y
    obtain ⟨⟨⟨⟨⟨⟨⟨⟨⟨⟨h1, h2⟩, h3⟩, h4⟩, h5⟩, h6⟩, h7⟩, h8⟩, h9⟩, h10⟩, h11⟩ := H y
    rw [M', toInt_small _ (L y)] at h9
    omega
  · intro y
    obtain ⟨⟨⟨⟨⟨⟨⟨⟨⟨⟨h1, h2⟩, h3⟩, h4⟩, h5⟩, h6⟩, h7⟩, h8⟩, h9⟩, h10⟩, h11⟩ := H y
    rw [A', toInt_small _ (Hs y)] at h10
    omega
  · intro y
    obtain ⟨⟨⟨⟨⟨⟨⟨⟨⟨⟨h1, h2⟩, h3⟩, h4⟩, h5⟩, h6⟩, h7⟩, h8⟩, h9⟩, h10⟩, h11⟩ := H y
    rcases h11 with h | h
    · rw [A', toInt_small _ (L y)] at h
      left; omega
    · right; rw [h]; rfl

variable {blk ex lo hi : S288.Idx → BitVec 32}

/-- The blocks come in order. -/
theorem Ordered.blk_mono (O : Ordered blk ex lo hi) (k : ℕ) (h : k + 1 < 288) :
    (blk (ix k (by omega))).toNat ≤ (blk (ix (k + 1) h)).toNat := by
  have a := O.next k h
  have b := O.lo_le (ix k (by omega))
  have c := O.inside (ix (k + 1) h)
  have d := O.blk_le (ix k (by omega))
  have e := O.blk_lt (ix k (by omega))
  omega

/-- No block is passed over. -/
theorem Ordered.blk_step (O : Ordered blk ex lo hi) (k : ℕ) (h : k + 1 < 288) :
    (blk (ix (k + 1) h)).toNat ≤ (blk (ix k (by omega))).toNat + 1 := by
  have a := O.next k h
  have b := O.hi_le (ix k (by omega))
  have c := O.blk_le (ix (k + 1) h)
  omega

/-- Later items start later. -/
theorem Ordered.hi_le_lo (O : Ordered blk ex lo hi) (j : ℕ) : ∀ k (hjk : j < k) (h : k < 288),
    (hi (ix j (by omega))).toNat ≤ (lo (ix k h)).toNat := by
  intro k
  induction k with
  | zero => intro hjk; omega
  | succ k ih =>
    intro hjk h
    have a := O.next k h
    rcases Nat.lt_or_eq_of_le (Nat.le_of_lt_succ hjk) with h1 | h1
    · have b := ih h1 (by omega)
      have c := O.lo_le (ix k (by omega))
      omega
    · subst h1; omega

/-- Every row is some item's. -/
theorem Ordered.cover (O : Ordered blk ex lo hi) (r : ℕ) (hr : r < 131072) :
    ∃ k, ∃ h : k < 288, (lo (ix k h)).toNat ≤ r ∧ r < (hi (ix k h)).toNat := by
  by_contra hno
  have : ∀ k (h : k < 288), (hi (ix k h)).toNat ≤ r := by
    intro k
    induction k with
    | zero =>
      intro h
      by_contra hc
      exact hno ⟨0, h, by rw [O.lo_zero]; omega, by omega⟩
    | succ k ih =>
      intro h
      by_contra hc
      have a := ih (by omega)
      have b := O.next k h
      exact hno ⟨k + 1, h, by omega, by omega⟩
  have a := this 287 (by decide)
  have b := O.last
  omega

/-- A work list: the four tables and the facts of them. -/
structure Tabs where
  blk : S288.Idx → BitVec 32
  ex : S288.Idx → BitVec 32
  lo : S288.Idx → BitVec 32
  hi : S288.Idx → BitVec 32
  ok : Ordered blk ex lo hi

/-- The expert of an item, and its block of rows. -/
def Tabs.expert (T : Tabs) (y : S288.Idx) : Fin 32 := ⟨(T.ex y).toNat, T.ok.ex_lt y⟩
def Tabs.block (T : Tabs) (y : S288.Idx) : Fin 256 := ⟨(T.blk y).toNat, T.ok.blk_lt y⟩

end Cert.Items
-- ==== Proof.Kernel.Body.lean ====
module

public import proofs.«01_k».proof.Proof.Gen.Kernel.Skeleton
public import proofs.«01_k».proof.Proof.Gen.Kernel.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.WritesUnit
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! # The kernel body cut at its branches

The body reads five table words and then runs four guarded pieces: it copies one expert's weights, rounded and
with the two halves separated, into three scratch buffers; it computes a whole block; it clears a block; it
computes the upper or the lower 256 rows of a block and keeps the rows of the other experts. Each piece is named
here, and the printed body is shown to be their sequence. -/

/-- The four tables of the work list and the three scratch buffers, whole. -/
abbrev table0 : Memref sig .tc .smem S288 .i32 := Memref.whole main_arg0
abbrev table1 : Memref sig .tc .smem S288 .i32 := Memref.whole main_arg1
abbrev table2 : Memref sig .tc .smem S288 .i32 := Memref.whole main_arg2
abbrev table3 : Memref sig .tc .smem S288 .i32 := Memref.whole main_arg3
abbrev gateBuf : Memref sig .tc .vmem S1024x1024 .bf16 := Memref.whole cc0_scratch0
abbrev upBuf : Memref sig .tc .vmem S1024x1024 .bf16 := Memref.whole cc0_scratch1
abbrev downBuf : Memref sig .tc .vmem S1024x1024 .bf16 := Memref.whole cc0_scratch2

/-- The weights of a new expert are copied into the scratch buffers. -/
def fillProg (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) : Prog (TpuEff nD τ sig (Elt Bits) Λ₀ .tc) PUnit := do
  let v667 : FVec Bits S1024x1024 .bf16 ← k0_part17 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  Prog.lift (.store downBuf (Rect.unit (s := S1024x1024) ![0, 0] S1024x1024.size inb_S1024x1024_S1024x1024_0_0) v667 Finset.univ (View.stores_vmem h_S1024x1024 ((Memref.isWhole_whole _).storeExact_slice rfl _ packedbf16_S1024x1024_S1024x1024_0_0) (fun _ => rfl)) (.inl rfl))
  pure ⟨⟩

/-- A block that one expert owns is computed whole. -/
def fullProg (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) : Prog (TpuEff nD τ sig (Elt Bits) Λ₀ .tc) PUnit := do
  let ⟨v86, v87⟩ : Σ' (v86 : FVec Bits S512x1024 .bf16), Vec Bits S1024x1024 .bf16 ← k0_part18 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  let v89 : Vec Bits S1x1x1x1024 .f32 ← Prog.lift (.load arg10 (Rect.unit (s := S1x1x1x1024) ![0, 0, 0, 0] S1x1x1x1024.size inb_S1x1x1x1024_S1x1x1x1024_0_0_0_0).toLoadRect (View.loadsAt_vmem h_S1x1x1x1024))
  let v94 : Vec Bits S512x1024 .bf16 ← Prog.lift (.load arg11 (Rect.unit (s := S512x1024) ![0, 0] S512x1024.size inb_S512x1024_S512x1024_0_0).toLoadRect (View.loadsAt_vmem h_S512x1024))
  Prog.lift (.store arg11 (Rect.unit (s := S512x1024) ![0, 0] S512x1024.size inb_S512x1024_S512x1024_0_0) (k0_pay118 v86 v87 v89) Finset.univ (View.stores_vmem h_S512x1024 (harg11.storeExact_slice rfl _ packedbf16_S512x1024_S512x1024_0_0) (fun _ => rfl)) (.inl rfl))
  pure ⟨⟩

/-- A block shared between experts is cleared when it is first met. -/
def zeroProg (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) : Prog (TpuEff nD τ sig (Elt Bits) Λ₀ .tc) PUnit := do
  let v55 : Vec Bits S512x1024 .bf16 ← Prog.lift (.load arg11 (Rect.unit (s := S512x1024) ![0, 0] S512x1024.size inb_S512x1024_S512x1024_0_0).toLoadRect (View.loadsAt_vmem h_S512x1024))
  Prog.lift (.store arg11 (Rect.unit (s := S512x1024) ![0, 0] S512x1024.size inb_S512x1024_S512x1024_0_0) (k0_pay119 (F := Bits)) Finset.univ (View.stores_vmem h_S512x1024 (harg11.storeExact_slice rfl _ packedbf16_S512x1024_S512x1024_0_0) (fun _ => rfl)) (.inl rfl))
  pure ⟨⟩

/-- The upper 256 rows of a shared block. -/
def upperProg (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (v3 v5 v31 : BitVec 32) : Prog (TpuEff nD τ sig (Elt Bits) Λ₀ .tc) PUnit := do
  let ⟨v86, v87⟩ : Σ' (v86 : FVec Bits S256x1024 .bf16), Vec Bits S1024x1024 .bf16 ← k0_part19 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  let v89 : Vec Bits S1x1x1x1024 .f32 ← Prog.lift (.load arg10 (Rect.unit (s := S1x1x1x1024) ![0, 0, 0, 0] S1x1x1x1024.size inb_S1x1x1x1024_S1x1x1x1024_0_0_0_0).toLoadRect (View.loadsAt_vmem h_S1x1x1x1024))
  let v102 : Vec Bits S256x1024 .bf16 ← Prog.lift (.load arg11 (Rect.unit (s := S512x1024) ![0, 0] S256x1024.size inb_S512x1024_S256x1024_0_0).toLoadRect (View.loadsAt_vmem h_S256x1024))
  let v107 : Vec Bits S256x1024 .bf16 ← Prog.lift (.load arg11 (Rect.unit (s := S512x1024) ![0, 0] S256x1024.size inb_S512x1024_S256x1024_0_0).toLoadRect (View.loadsAt_vmem h_S256x1024))
  Prog.lift (.store arg11 (Rect.unit (s := S512x1024) ![0, 0] S256x1024.size inb_S512x1024_S256x1024_0_0) (k0_pay1 v3 v5 v31 v86 v87 v89 v102) Finset.univ (View.stores_vmem h_S256x1024 (harg11.storeExact_slice rfl _ packedbf16_S512x1024_S256x1024_0_0) (fun _ => rfl)) (.inl rfl))
  pure ⟨⟩

/-- The lower 256 rows of a shared block. -/
def lowerProg (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (v1 v3 v5 : BitVec 32) : Prog (TpuEff nD τ sig (Elt Bits) Λ₀ .tc) PUnit := do
  let ⟨v86, v87⟩ : Σ' (v86 : FVec Bits S256x1024 .bf16), Vec Bits S1024x1024 .bf16 ← k0_part20 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  let v89 : Vec Bits S1x1x1x1024 .f32 ← Prog.lift (.load arg10 (Rect.unit (s := S1x1x1x1024) ![0, 0, 0, 0] S1x1x1x1024.size inb_S1x1x1x1024_S1x1x1x1024_0_0_0_0).toLoadRect (View.loadsAt_vmem h_S1x1x1x1024))
  let v102 : Vec Bits S256x1024 .bf16 ← Prog.lift (.load arg11 (Rect.unit (s := S512x1024) ![256, 0] S256x1024.size inb_S512x1024_S256x1024_256_0).toLoadRect (View.loadsAt_vmem h_S256x1024))
  let v107 : Vec Bits S256x1024 .bf16 ← Prog.lift (.load arg11 (Rect.unit (s := S512x1024) ![256, 0] S256x1024.size inb_S512x1024_S256x1024_256_0).toLoadRect (View.loadsAt_vmem h_S256x1024))
  Prog.lift (.store arg11 (Rect.unit (s := S512x1024) ![256, 0] S256x1024.size inb_S512x1024_S256x1024_256_0) (k0_pay2 v1 v3 v5 v86 v87 v89 v102) Finset.univ (View.stores_vmem h_S256x1024 (harg11.storeExact_slice rfl _ packedbf16_S512x1024_S256x1024_256_0) (fun _ => rfl)) (.inl rfl))
  pure ⟨⟩

/-- Whether the weights are another expert's than at the point before: the first point, or the expert changed. -/
def newExpert (i : grid0.Coords) (v15 v17 : BitVec 32) : BitVec 1 :=
  Scalar.cmpi .ne (Scalar.extui (Scalar.ori (Scalar.cmpi .eq (BitVec.ofNat 32 (i 0).val) 0#32) (Scalar.cmpi .ne v15 v17))) 0#32

/-- The guarded pieces, after the table words are read. -/
def piecesProg (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (v1 v3 v5 v10 v15 v17 : BitVec 32) : Prog (TpuEff nD τ sig (Elt Bits) Λ₀ .tc) PUnit := do
  if newExpert i v15 v17 = 1#1 then fillProg i arg5 harg5 arg6 harg6 arg7 harg7 arg8 harg8 arg9 harg9 arg10 harg10 arg11 harg11 else pure ⟨⟩
  if k0_cond2 v3 v5 = 1#1 then fullProg i arg5 harg5 arg6 harg6 arg7 harg7 arg8 harg8 arg9 harg9 arg10 harg10 arg11 harg11 else pure ⟨⟩
  if k0_cond3 i v1 v3 v5 v10 = 1#1 then zeroProg i arg5 harg5 arg6 harg6 arg7 harg7 arg8 harg8 arg9 harg9 arg10 harg10 arg11 harg11 else pure ⟨⟩
  if k0_cond4 v1 v3 v5 = 1#1 then upperProg i arg5 harg5 arg6 harg6 arg7 harg7 arg8 harg8 arg9 harg9 arg10 harg10 arg11 harg11 v3 v5 (Scalar.addi (Scalar.muli v1 512#32) 0#32) else pure ⟨⟩
  if k0_cond5 v1 v3 v5 = 1#1 then lowerProg i arg5 harg5 arg6 harg6 arg7 harg7 arg8 harg8 arg9 harg9 arg10 harg10 arg11 harg11 v1 v3 v5 else pure ⟨⟩

/-- The body: the six table words, then the pieces. -/
def cutBody (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) : Prog (TpuEff nD τ sig (Elt Bits) Λ₀ .tc) PUnit := do
  let v1 : Elt Bits .i32 ← smemLoad table0 (Rect.unit (s := S288) (k0_off1 i) S1.size (k0_off1_inb i)) numel1_S1 rfl
  let v3 : Elt Bits .i32 ← smemLoad table2 (Rect.unit (s := S288) (k0_off1 i) S1.size (k0_off1_inb i)) numel1_S1 rfl
  let v5 : Elt Bits .i32 ← smemLoad table3 (Rect.unit (s := S288) (k0_off1 i) S1.size (k0_off1_inb i)) numel1_S1 rfl
  let v10 : Elt Bits .i32 ← smemLoad table0 (Rect.unit (s := S288) (k0_off2 i) S1.size (k0_off2_inb i)) numel1_S1 rfl
  let v15 : Elt Bits .i32 ← smemLoad table1 (Rect.unit (s := S288) (k0_off1 i) S1.size (k0_off1_inb i)) numel1_S1 rfl
  let v17 : Elt Bits .i32 ← smemLoad table1 (Rect.unit (s := S288) (k0_off2 i) S1.size (k0_off2_inb i)) numel1_S1 rfl
  piecesProg i arg5 harg5 arg6 harg6 arg7 harg7 arg8 harg8 arg9 harg9 arg10 harg10 arg11 harg11 v1 v3 v5 v10 v15 v17

set_option maxRecDepth 65536 in
/-- The printed body is the body so cut. -/
theorem body_eq_cut (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) :
    cc0_moe_ffn (F := Bits) i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _) = cutBody i arg5 harg5 arg6 harg6 arg7 harg7 arg8 harg8 arg9 harg9 arg10 harg10 arg11 harg11 := by
  rw [cc0_moe_ffn_eq_skeleton]
  unfold cc0_moe_ffn_skel cutBody
  rw [k0_part21_eq_skeleton]
  unfold k0_part21_skel
  simp only [bind_assoc]
  refine congrArg _ (funext fun v1 => congrArg _ (funext fun v3 => congrArg _ (funext fun v5 => congrArg _ (funext fun v10 =>
    congrArg _ (funext fun v15 => congrArg _ (funext fun v17 => ?_))))))
  unfold piecesProg fillProg fullProg zeroProg upperProg lowerProg newExpert
  by_cases h1 : Scalar.cmpi .ne (Scalar.extui (Scalar.ori (Scalar.cmpi .eq (BitVec.ofNat 32 (i 0).val) 0#32) (Scalar.cmpi .ne v15 v17))) 0#32 = 1#1 <;>
  by_cases h2 : k0_cond2 v3 v5 = 1#1 <;> by_cases h3 : k0_cond3 i v1 v3 v5 v10 = 1#1 <;>
  by_cases h4 : k0_cond4 v1 v3 v5 = 1#1 <;> by_cases h5 : k0_cond5 v1 v3 v5 = 1#1 <;>
  simp only [h1, h2, h3, h4, h5, bind_assoc, pure_bind, if_true, if_false, dif_pos, dif_neg, not_false_eq_true, reduceIte, reduceDIte] <;> rfl

end Cert.Kernel.Moe

end
-- ==== Proof.Kernel.Runs.lean ====
module

public import proofs.«01_k».proof.Proof.Kernel.Body

@[expose] public section

set_option maxRecDepth 16384
set_option Elab.async false

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! # What each piece of the body leaves

Each piece is run on whole staging memrefs, from any contents of what it reads, to the contents of what it
writes as one function. -/

/-- The rows of a block this item owns, computed: the hidden layer of the block, its product with the down weights
and the bias. -/
def wholeBlock (x0 : S512x1024.Idx → Elt Bits .bf16) (g u w : S1024x1024.Idx → Elt Bits .bf16) (x3 x4 x5 : S1x1x1x1024.Idx → Elt Bits .f32) :
    S512x1024.Idx → Elt Bits .bf16 :=
  k0_pay118 (k0_pay115 x0 g x3 u x4) w x5

/-- The part of a block from row `r` on, 256 rows. -/
def rowsFrom (r : ℕ) (inb : ∀ a, (![r, 0] : Fin 2 → ℕ) a + S256x1024.size a ≤ S512x1024.size a) (d : S512x1024.Idx → Elt Bits .bf16) : S256x1024.Idx → Elt Bits .bf16 :=
  fun y => d ((Rect.unit (s := S512x1024) ![r, 0] S256x1024.size inb).toLoadRect.idx y)

/-- A load of 256 rows reads those rows. -/
theorem readAt_rows {sp : Space} (v : View sig .tc sp S512x1024 .bf16) (x : S512x1024.Idx → Elt Bits .bf16) (r : ℕ)
    (inb : ∀ a, (![r, 0] : Fin 2 → ℕ) a + S256x1024.size a ≤ S512x1024.size a) :
    v.readAt (Elt Bits) (Rect.unit (s := S512x1024) ![r, 0] S256x1024.size inb).toLoadRect (v.rep x) = rowsFrom r inb x := View.readAt_rep _ _ _

/-- A shared block after its upper 256 rows are done. -/
def upperBlock (v3 v5 v31 : BitVec 32) (x0 : S512x1024.Idx → Elt Bits .bf16) (g u w : S1024x1024.Idx → Elt Bits .bf16) (x3 x4 x5 : S1x1x1x1024.Idx → Elt Bits .f32)
    (d : S512x1024.Idx → Elt Bits .bf16) : S512x1024.Idx → Elt Bits .bf16 :=
  VecWindow.put d ![0, 0] S256x1024.size
    (k0_pay1 v3 v5 v31 (k0_pay116 (rowsFrom 0 inb_S512x1024_S256x1024_0_0 x0) g x3 u x4) w x5 (rowsFrom 0 inb_S512x1024_S256x1024_0_0 d))

/-- A shared block after its lower 256 rows are done. -/
def lowerBlock (v1 v3 v5 : BitVec 32) (x0 : S512x1024.Idx → Elt Bits .bf16) (g u w : S1024x1024.Idx → Elt Bits .bf16) (x3 x4 x5 : S1x1x1x1024.Idx → Elt Bits .f32)
    (d : S512x1024.Idx → Elt Bits .bf16) : S512x1024.Idx → Elt Bits .bf16 :=
  VecWindow.put d ![256, 0] S256x1024.size
    (k0_pay2 v1 v3 v5 (k0_pay117 (rowsFrom 256 inb_S512x1024_S256x1024_256_0 x0) g x3 u x4) w x5 (rowsFrom 256 inb_S512x1024_S256x1024_256_0 d))

/-- A load of a whole memref reads its contents. -/
theorem readAt_rep_whole {sh : Shape} {e : EltTy} {sp : Space} (v : View sig .tc sp sh e) (x : sh.Idx → Elt Bits e) {off : Fin sh.rank → ℕ}
    (inb : ∀ a, off a + sh.size a ≤ sh.size a) :
    v.readAt (Elt Bits) (Rect.unit off sh.size inb).toLoadRect (v.rep x) = x := by
  rw [View.readAt_rep]
  funext y
  refine congrArg x (funext fun a => Fin.ext ?_)
  show off a + 1 * (y a).val = (y a).val
  have := inb a
  omega

/-- A memref holding contents that read as `X` is owned at `X`. -/
theorem owns_of_read (c : Dev nD) {sh : Shape} {e : EltTy} {m : Memref sig .tc .vmem sh e} {X : sh.Idx → Elt Bits e} {f : m.view.ty.Contents (Elt Bits)} :
    iprop((m.view.loc (c : Thread nD τ) ↦[m.view.set]{fullShare} f) ∗ ⌜m.view.read (Elt Bits) f = X⌝)
      ⊢ (m.view.loc (c : Thread nD τ) ↦[m.view.set]{fullShare} m.view.rep X : sProp 𝕄) := by
  rw [← owns_eq_rep]
  unfold owns
  iintro ⟨H, %h⟩
  iexists f
  isplitr [H]
  · ipureintro; exact h
  · iexact H

set_option maxHeartbeats 400000

/-- The whole block is computed. -/
theorem full_run (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Bits .bf16) (g u w : S1024x1024.Idx → Elt Bits .bf16) (x3 x4 x5 : S1x1x1x1024.Idx → Elt Bits .f32) (d : S512x1024.Idx → Elt Bits .bf16) (K : PUnit → sProp 𝕄) :
    iprop(owns (c : Thread nD τ) arg5 fullShare x0 ∗ owns (c : Thread nD τ) arg8 fullShare x3 ∗ owns (c : Thread nD τ) arg9 fullShare x4 ∗ owns (c : Thread nD τ) arg10 fullShare x5 ∗ owns (c : Thread nD τ) gateBuf fullShare g ∗ owns (c : Thread nD τ) upBuf fullShare u ∗ owns (c : Thread nD τ) downBuf fullShare w ∗ owns (c : Thread nD τ) arg11 fullShare d
        ∗ (iprop(owns (c : Thread nD τ) arg5 fullShare x0 ∗ owns (c : Thread nD τ) arg8 fullShare x3 ∗ owns (c : Thread nD τ) arg9 fullShare x4 ∗ owns (c : Thread nD τ) arg10 fullShare x5 ∗ owns (c : Thread nD τ) gateBuf fullShare g ∗ owns (c : Thread nD τ) upBuf fullShare u ∗ owns (c : Thread nD τ) downBuf fullShare w ∗ owns (c : Thread nD τ) arg11 fullShare (wholeBlock x0 g u w x3 x4 x5)) -∗ K ⟨⟩))
      ⊢ wp frame (wpE (defs₀ (F := Bits)) Variants.none c none) Set.univ (fullProg i arg5 harg5 arg6 harg6 arg7 harg7 arg8 harg8 arg9 harg9 arg10 harg10 arg11 harg11) K := by
  unfold fullProg

  repeat rw [owns_eq_rep]
  iintro ⟨H0, H3, H4, H5, HG, HU, HD, HO, Hk⟩
  have hG : gateBuf.IsWhole := Memref.isWhole_whole _
  have hU : upBuf.IsWhole := Memref.isWhole_whole _
  have hD : downBuf.IsWhole := Memref.isWhole_whole _
  sl_exec
  sl_step
  iapply Hk
  isplitl [H0]; · iexact H0
  isplitl [H3]; · iexact H3
  isplitl [H4]; · iexact H4
  isplitl [H5]; · iexact H5
  isplitl [HG]; · iexact HG
  isplitl [HU]; · iexact HU
  isplitl [HD]; · iexact HD
  iapply owns_of_read c
  isplitl [HO]; · iexact HO
  ipureintro
  refine (View.read_writes_full _ _ _ _ _).trans ?_
  unfold full_run.sl.r full_run.sl.r_1 full_run.sl.v89 full_run.sl.v57 full_run.sl.v65 wholeBlock
  repeat rw [readAt_rep_whole]

/-- The block is cleared. -/
theorem zero_run (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (d : S512x1024.Idx → Elt Bits .bf16) (K : PUnit → sProp 𝕄) :
    iprop(owns (c : Thread nD τ) arg11 fullShare d
        ∗ (iprop(owns (c : Thread nD τ) arg11 fullShare (k0_pay119 (F := Bits))) -∗ K ⟨⟩))
      ⊢ wp frame (wpE (defs₀ (F := Bits)) Variants.none c none) Set.univ (zeroProg i arg5 harg5 arg6 harg6 arg7 harg7 arg8 harg8 arg9 harg9 arg10 harg10 arg11 harg11) K := by
  unfold zeroProg
  repeat rw [owns_eq_rep]
  iintro ⟨HO, Hk⟩
  have hG : gateBuf.IsWhole := Memref.isWhole_whole _
  have hU : upBuf.IsWhole := Memref.isWhole_whole _
  have hD : downBuf.IsWhole := Memref.isWhole_whole _
  sl_exec
  sl_step
  iapply Hk

  iapply owns_of_read c
  isplitl [HO]; · iexact HO
  ipureintro
  exact View.read_writes_full _ _ _ _ _

/-- The upper rows are computed and the item's rows kept. -/
theorem upper_run (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Bits .bf16) (g u w : S1024x1024.Idx → Elt Bits .bf16) (x3 x4 x5 : S1x1x1x1024.Idx → Elt Bits .f32) (d : S512x1024.Idx → Elt Bits .bf16) (v3 v5 v31 : BitVec 32) (K : PUnit → sProp 𝕄) :
    iprop(owns (c : Thread nD τ) arg5 fullShare x0 ∗ owns (c : Thread nD τ) arg8 fullShare x3 ∗ owns (c : Thread nD τ) arg9 fullShare x4 ∗ owns (c : Thread nD τ) arg10 fullShare x5 ∗ owns (c : Thread nD τ) gateBuf fullShare g ∗ owns (c : Thread nD τ) upBuf fullShare u ∗ owns (c : Thread nD τ) downBuf fullShare w ∗ owns (c : Thread nD τ) arg11 fullShare d
        ∗ (iprop(owns (c : Thread nD τ) arg5 fullShare x0 ∗ owns (c : Thread nD τ) arg8 fullShare x3 ∗ owns (c : Thread nD τ) arg9 fullShare x4 ∗ owns (c : Thread nD τ) arg10 fullShare x5 ∗ owns (c : Thread nD τ) gateBuf fullShare g ∗ owns (c : Thread nD τ) upBuf fullShare u ∗ owns (c : Thread nD τ) downBuf fullShare w ∗ owns (c : Thread nD τ) arg11 fullShare (upperBlock v3 v5 v31 x0 g u w x3 x4 x5 d)) -∗ K ⟨⟩))
      ⊢ wp frame (wpE (defs₀ (F := Bits)) Variants.none c none) Set.univ (upperProg i arg5 harg5 arg6 harg6 arg7 harg7 arg8 harg8 arg9 harg9 arg10 harg10 arg11 harg11 v3 v5 v31) K := by
  unfold upperProg

  repeat rw [owns_eq_rep]
  iintro ⟨H0, H3, H4, H5, HG, HU, HD, HO, Hk⟩
  have hG : gateBuf.IsWhole := Memref.isWhole_whole _
  have hU : upBuf.IsWhole := Memref.isWhole_whole _
  have hD : downBuf.IsWhole := Memref.isWhole_whole _
  sl_exec
  sl_step
  iapply Hk
  isplitl [H0]; · iexact H0
  isplitl [H3]; · iexact H3
  isplitl [H4]; · iexact H4
  isplitl [H5]; · iexact H5
  isplitl [HG]; · iexact HG
  isplitl [HU]; · iexact HU
  isplitl [HD]; · iexact HD
  iapply owns_of_read c
  isplitl [HO]; · iexact HO
  ipureintro
  refine (View.read_writes_rep_unit _ _ _ _ rfl).trans ?_
  unfold upper_run.sl.r upper_run.sl.r_1 upper_run.sl.v89 upper_run.sl.v57 upper_run.sl.v65 upperBlock
  repeat rw [readAt_rep_whole]
  rw [readAt_rows, readAt_rows]

/-- The lower rows are computed and the item's rows kept. -/
theorem lower_run (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Bits .bf16) (g u w : S1024x1024.Idx → Elt Bits .bf16) (x3 x4 x5 : S1x1x1x1024.Idx → Elt Bits .f32) (d : S512x1024.Idx → Elt Bits .bf16) (v1 v3 v5 : BitVec 32) (K : PUnit → sProp 𝕄) :
    iprop(owns (c : Thread nD τ) arg5 fullShare x0 ∗ owns (c : Thread nD τ) arg8 fullShare x3 ∗ owns (c : Thread nD τ) arg9 fullShare x4 ∗ owns (c : Thread nD τ) arg10 fullShare x5 ∗ owns (c : Thread nD τ) gateBuf fullShare g ∗ owns (c : Thread nD τ) upBuf fullShare u ∗ owns (c : Thread nD τ) downBuf fullShare w ∗ owns (c : Thread nD τ) arg11 fullShare d
        ∗ (iprop(owns (c : Thread nD τ) arg5 fullShare x0 ∗ owns (c : Thread nD τ) arg8 fullShare x3 ∗ owns (c : Thread nD τ) arg9 fullShare x4 ∗ owns (c : Thread nD τ) arg10 fullShare x5 ∗ owns (c : Thread nD τ) gateBuf fullShare g ∗ owns (c : Thread nD τ) upBuf fullShare u ∗ owns (c : Thread nD τ) downBuf fullShare w ∗ owns (c : Thread nD τ) arg11 fullShare (lowerBlock v1 v3 v5 x0 g u w x3 x4 x5 d)) -∗ K ⟨⟩))
      ⊢ wp frame (wpE (defs₀ (F := Bits)) Variants.none c none) Set.univ (lowerProg i arg5 harg5 arg6 harg6 arg7 harg7 arg8 harg8 arg9 harg9 arg10 harg10 arg11 harg11 v1 v3 v5) K := by
  unfold lowerProg

  repeat rw [owns_eq_rep]
  iintro ⟨H0, H3, H4, H5, HG, HU, HD, HO, Hk⟩
  have hG : gateBuf.IsWhole := Memref.isWhole_whole _
  have hU : upBuf.IsWhole := Memref.isWhole_whole _
  have hD : downBuf.IsWhole := Memref.isWhole_whole _
  sl_exec
  sl_step
  iapply Hk
  isplitl [H0]; · iexact H0
  isplitl [H3]; · iexact H3
  isplitl [H4]; · iexact H4
  isplitl [H5]; · iexact H5
  isplitl [HG]; · iexact HG
  isplitl [HU]; · iexact HU
  isplitl [HD]; · iexact HD
  iapply owns_of_read c
  isplitl [HO]; · iexact HO
  ipureintro
  refine (View.read_writes_rep_unit _ _ _ _ rfl).trans ?_
  unfold lower_run.sl.r lower_run.sl.r_1 lower_run.sl.v89 lower_run.sl.v57 lower_run.sl.v65 lowerBlock
  repeat rw [readAt_rep_whole]
  rw [readAt_rows, readAt_rows]

end Cert.Kernel.Moe

end
-- ==== Proof.Kernel.Fill.lean ====
module

public import proofs.«01_k».proof.Proof.Kernel.Runs

@[expose] public section

set_option maxRecDepth 16384
set_option Elab.async false

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! # The copy of one expert's weights into scratch

The gate and up columns alternate in the stored weights. The copy reads 32 pieces of 128 rows by 512 columns, and of each
leaves the even columns in one scratch buffer and the odd columns in the other. Here the two buffers are read as
one function of the weights each. -/

theorem piece_inb (r q : ℕ) (hr : r < 1024) (hq : q < 1024) :
    ∀ a, (![0, 0, q / 128 * 128, r / 256 * 512] : Fin 4 → ℕ) a + S1x1x128x512.size a ≤ S1x1x1024x2048.size a := by
  intro a
  fin_cases a
  · exact Nat.le_refl _
  · exact Nat.le_refl _
  · show q / 128 * 128 + 128 ≤ 1024; omega
  · show r / 256 * 512 + 512 ≤ 2048; omega

/-- The piece of the weights that row `r`, column `q` of a scratch buffer is read from. -/
def piece (w : S1x1x1024x2048.Idx → Elt Bits .f32) (r q : ℕ) (hr : r < 1024) (hq : q < 1024) : S1x1x128x512.Idx → Elt Bits .f32 :=
  fun z => w ((Rect.unit (s := S1x1x1024x2048) ![0, 0, q / 128 * 128, r / 256 * 512] S1x1x128x512.size (piece_inb r q hr hq)).toLoadRect.idx z)

/-- Row and column of a scratch element within its piece. -/
def inPiece (r q : ℕ) : S256x128.Idx := Shape.pair (d := S256x128.size) ⟨r % 256, Nat.mod_lt _ (by decide)⟩ ⟨q % 128, Nat.mod_lt _ (by decide)⟩

/-- What the gate buffer holds: column `q` of row `r` is the gate weight of input `q` and hidden unit `r`. -/
def gateOf (w : S1x1x1024x2048.Idx → Elt Bits .f32) : S1024x1024.Idx → Elt Bits .bf16 :=
  fun y => k0_pay4 (piece w (y 0).val (y 1).val (y 0).isLt (y 1).isLt) (inPiece (y 0).val (y 1).val)

/-- What the up buffer holds. -/
def upOf (w : S1x1x1024x2048.Idx → Elt Bits .f32) : S1024x1024.Idx → Elt Bits .bf16 :=
  fun y => k0_pay5 (piece w (y 0).val (y 1).val (y 0).isLt (y 1).isLt) (inPiece (y 0).val (y 1).val)

/-- What the down buffer holds. -/
def downOf (w : S1x1x1024x1024.Idx → Elt Bits .f32) : S1024x1024.Idx → Elt Bits .bf16 := k0_pay114 w

theorem piece_congr (w : S1x1x1024x2048.Idx → Elt Bits .f32) {off off' : Fin 4 → ℕ} (h : off = off') (inb : ∀ a, off a + S1x1x128x512.size a ≤ S1x1x1024x2048.size a)
    (inb' : ∀ a, off' a + S1x1x128x512.size a ≤ S1x1x1024x2048.size a) :
    (fun z => w ((Rect.unit (s := S1x1x1024x2048) off S1x1x128x512.size inb).toLoadRect.idx z))
      = fun z => w ((Rect.unit (s := S1x1x1024x2048) off' S1x1x128x512.size inb').toLoadRect.idx z) := by
  subst h; rfl

/-- One stored piece agrees with the function of the whole buffer. -/
theorem stored_piece (P : (S1x1x128x512.Idx → Elt Bits .f32) → S256x128.Idx → Elt Bits .bf16)
    (w : S1x1x1024x2048.Idx → Elt Bits .f32) (o0 o1 b : ℕ)
    (inb : ∀ a, (![o0, o1] : Fin 2 → ℕ) a + S256x128.size a ≤ S1024x1024.size a)
    (inb' : ∀ a, (![0, 0, o1, b] : Fin 4 → ℕ) a + S1x1x128x512.size a ≤ S1x1x1024x2048.size a)
    (h0 : o0 % 256 = 0) (h1 : o1 % 128 = 0) (hb : b = 2 * o0) (x : S256x128.Idx) (y : S1024x1024.Idx)
    (hy : y = (Rect.unit (s := S1024x1024) ![o0, o1] S256x128.size inb).emb x) :
    P (fun z => w ((Rect.unit (s := S1x1x1024x2048) ![0, 0, o1, b] S1x1x128x512.size inb').toLoadRect.idx z)) x
      = P (piece w (y 0).val (y 1).val (y 0).isLt (y 1).isLt) (inPiece (y 0).val (y 1).val) := by
  have hx0 : (x 0).val < 256 := (x 0).isLt
  have hx1 : (x 1).val < 128 := (x 1).isLt
  have e0 : (y 0).val = o0 + (x 0).val := by rw [hy]; show o0 + 1 * (x 0).val = _; omega
  have e1 : (y 1).val = o1 + (x 1).val := by rw [hy]; show o1 + 1 * (x 1).val = _; omega
  have hp : inPiece (y 0).val (y 1).val = x := by
    rw [← Shape.pair_eta (d := S256x128.size) x]
    unfold inPiece
    congr 1
    · apply Fin.ext; show (y 0).val % 256 = (x 0).val; omega
    · apply Fin.ext; show (y 1).val % 128 = (x 1).val; omega
  rw [hp]
  refine congrFun (congrArg P ?_) x
  unfold piece
  refine piece_congr w ?_ inb' _
  have a2 : (y 1).val / 128 * 128 = o1 := by omega
  have a3 : (y 0).val / 256 * 512 = b := by omega
  rw [a2, a3]

theorem readAt_piece {off : Fin 4 → ℕ} (arg6 : Memref sig .tc .vmem S1x1x1024x2048 .f32) (w : S1x1x1024x2048.Idx → Elt Bits .f32)
    (inb : ∀ a, off a + S1x1x128x512.size a ≤ S1x1x1024x2048.size a) :
    arg6.view.readAt (Elt Bits) (Rect.unit (s := S1x1x1024x2048) off S1x1x128x512.size inb).toLoadRect (arg6.view.rep w)
      = fun z => w ((Rect.unit (s := S1x1x1024x2048) off S1x1x128x512.size inb).toLoadRect.idx z) := View.readAt_rep _ _ _

/-- The piece stored at row `o0`, column `o1` is the part of the whole function there. -/
theorem stored (P : (S1x1x128x512.Idx → Elt Bits .f32) → S256x128.Idx → Elt Bits .bf16) (arg6 : Memref sig .tc .vmem S1x1x1024x2048 .f32)
    (w : S1x1x1024x2048.Idx → Elt Bits .f32) {o0 o1 : ℕ}
    (inb : ∀ a, (![o0, o1] : Fin 2 → ℕ) a + S256x128.size a ≤ S1024x1024.size a) (h0 : o0 % 256 = 0) (h1 : o1 % 128 = 0)
    (q : S256x128.Idx → Elt Bits .bf16)
    (hq : ∀ inb', q = P (arg6.view.readAt (Elt Bits) (Rect.unit (s := S1x1x1024x2048) ![0, 0, o1, 2 * o0] S1x1x128x512.size inb').toLoadRect (arg6.view.rep w)))
    (x : S256x128.Idx) (y : S1024x1024.Idx) (hy : y = (Rect.unit (s := S1024x1024) ![o0, o1] S256x128.size inb).emb x) :
    q x = P (piece w (y 0).val (y 1).val (y 0).isLt (y 1).isLt) (inPiece (y 0).val (y 1).val) := by
  have inb' : ∀ a, (![0, 0, o1, 2 * o0] : Fin 4 → ℕ) a + S1x1x128x512.size a ≤ S1x1x1024x2048.size a := by
    have a0 : o0 + 256 ≤ 1024 := inb 0
    have a1 : o1 + 128 ≤ 1024 := inb 1
    intro a
    fin_cases a
    · exact Nat.le_refl _
    · exact Nat.le_refl _
    · exact a1
    · show 2 * o0 + 512 ≤ 2048; omega
  rw [hq inb', readAt_piece]
  exact stored_piece P w o0 o1 (2 * o0) inb inb' h0 h1 rfl x y hy

set_option maxHeartbeats 1000000
set_option maxRecDepth 65536

/-- The copy leaves both halves of the first weights and the down weights in the scratch buffers. -/
theorem fill_run (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x1 : S1x1x1024x2048.Idx → Elt Bits .f32) (x2 : S1x1x1024x1024.Idx → Elt Bits .f32)
    (g u w : S1024x1024.Idx → Elt Bits .bf16) (K : PUnit → sProp 𝕄) :
    iprop(owns (c : Thread nD τ) arg6 fullShare x1 ∗ owns (c : Thread nD τ) arg7 fullShare x2 ∗ owns (c : Thread nD τ) gateBuf fullShare g ∗ owns (c : Thread nD τ) upBuf fullShare u ∗ owns (c : Thread nD τ) downBuf fullShare w
        ∗ (iprop(owns (c : Thread nD τ) arg6 fullShare x1 ∗ owns (c : Thread nD τ) arg7 fullShare x2 ∗ owns (c : Thread nD τ) gateBuf fullShare (gateOf x1) ∗ owns (c : Thread nD τ) upBuf fullShare (upOf x1) ∗ owns (c : Thread nD τ) downBuf fullShare (downOf x2)) -∗ K ⟨⟩))
      ⊢ wp frame (wpE (defs₀ (F := Bits)) Variants.none c none) Set.univ (fillProg i arg5 harg5 arg6 harg6 arg7 harg7 arg8 harg8 arg9 harg9 arg10 harg10 arg11 harg11) K := by
  unfold fillProg
  repeat rw [owns_eq_rep]
  iintro ⟨H1, H2, HG, HU, HD, Hk⟩
  have hG : gateBuf.IsWhole := Memref.isWhole_whole _
  have hU : upBuf.IsWhole := Memref.isWhole_whole _
  have hD : downBuf.IsWhole := Memref.isWhole_whole _
  sl_exec
  sl_step
  iapply Hk
  isplitl [H1]; · iexact H1
  isplitl [H2]; · iexact H2
  isplitl [HG]
  · iapply owns_of_read c
    isplitl [HG]; · iexact HG
    ipureintro
    funext y
    refine View.read_writes_apply_of_pieces _ _ (gateOf x1) _ ?_ y (View.cover_of_tiledL (s := S1024x1024) _ S256x128.size (by sl_kernel_rfl) y)
    repeat' (first | exact (fun _ h => absurd h List.not_mem_nil) | refine List.forall_mem_cons.2 ⟨?_, ?_⟩)
    all_goals
      intro x
      exact stored k0_pay4 arg6 x1 (by decide) rfl rfl _ (fun _ => by rfl) x _ rfl
  isplitl [HU]
  · iapply owns_of_read c
    isplitl [HU]; · iexact HU
    ipureintro
    funext y
    refine View.read_writes_apply_of_pieces _ _ (upOf x1) _ ?_ y (View.cover_of_tiledL (s := S1024x1024) _ S256x128.size (by sl_kernel_rfl) y)
    repeat' (first | exact (fun _ h => absurd h List.not_mem_nil) | refine List.forall_mem_cons.2 ⟨?_, ?_⟩)
    all_goals
      intro x
      exact stored k0_pay5 arg6 x1 (by decide) rfl rfl _ (fun _ => by rfl) x _ rfl
  iapply owns_of_read c
  isplitl [HD]; · iexact HD
  ipureintro
  refine (View.read_writes_full _ _ _ _ _).trans ?_
  unfold fill_run.sl.r_19 fill_run.sl.v662 downOf
  rw [readAt_rep_whole]

end Cert.Kernel.Moe

end
-- ==== Proof.Kernel.Pieces.lean ====
module

public import proofs.«01_k».proof.Proof.Kernel.Fill
public import proofs.«01_k».proof.Proof.Kernel.Runs
public import proofs.«01_k».proof.Proof.Items

@[expose] public section

set_option maxRecDepth 16384
set_option Elab.async false

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! # The pieces in sequence

The guarded pieces run one after another over one set of buffers: what the scratch buffers and the output block hold
after the body, as functions of what they held before and of the table words. -/

/-- The buffers the pieces run over, each at its contents. -/
def bank (c : Dev nD) (arg5 : Memref sig .tc .vmem S512x1024 .bf16) (arg6 : Memref sig .tc .vmem S1x1x1024x2048 .f32) (arg7 : Memref sig .tc .vmem S1x1x1024x1024 .f32) (arg8 arg9 arg10 : Memref sig .tc .vmem S1x1x1x1024 .f32) (arg11 : Memref sig .tc .vmem S512x1024 .bf16)
    (x0 : S512x1024.Idx → Elt Bits .bf16) (x1 : S1x1x1024x2048.Idx → Elt Bits .f32) (x2 : S1x1x1024x1024.Idx → Elt Bits .f32) (x3 x4 x5 : S1x1x1x1024.Idx → Elt Bits .f32) (g u w : S1024x1024.Idx → Elt Bits .bf16) (d : S512x1024.Idx → Elt Bits .bf16) : sProp 𝕄 :=
  iprop(owns (c : Thread nD τ) arg5 fullShare x0 ∗ owns (c : Thread nD τ) arg6 fullShare x1 ∗ owns (c : Thread nD τ) arg7 fullShare x2 ∗ owns (c : Thread nD τ) arg8 fullShare x3
    ∗ owns (c : Thread nD τ) arg9 fullShare x4 ∗ owns (c : Thread nD τ) arg10 fullShare x5 ∗ owns (c : Thread nD τ) gateBuf fullShare g ∗ owns (c : Thread nD τ) upBuf fullShare u
    ∗ owns (c : Thread nD τ) downBuf fullShare w ∗ owns (c : Thread nD τ) arg11 fullShare d)

/-- A program, then another: what the first leaves is what the second starts from. -/
theorem seq_run (c : Dev nD) {p rest : Prog (TpuEff nD τ sig (Elt Bits) Λ₀ .tc) PUnit} {A B C : sProp 𝕄} {K : PUnit → sProp 𝕄}
    (hp : ∀ K : PUnit → sProp 𝕄, iprop(A ∗ (B -∗ K ⟨⟩)) ⊢ wp frame (wpE (defs₀ (F := Bits)) Variants.none c none) Set.univ p K)
    (hr : iprop(B ∗ C) ⊢ wp frame (wpE (defs₀ (F := Bits)) Variants.none c none) Set.univ rest K) :
    iprop(A ∗ C) ⊢ wp frame (wpE (defs₀ (F := Bits)) Variants.none c none) Set.univ (p >>= fun _ => rest) K := by
  rw [wp_bind]
  refine BIBase.Entails.trans ?_ (hp _)
  iintro ⟨HA, HC⟩
  isplitl [HA]; · iexact HA
  iintro HB
  iapply hr
  isplitl [HB]; · iexact HB
  iexact HC

/-- New weights are copied if the expert changed. -/
theorem fillIf (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Bits .bf16) (x1 : S1x1x1024x2048.Idx → Elt Bits .f32) (x2 : S1x1x1024x1024.Idx → Elt Bits .f32) (x3 x4 x5 : S1x1x1x1024.Idx → Elt Bits .f32) (g u w : S1024x1024.Idx → Elt Bits .bf16) (d : S512x1024.Idx → Elt Bits .bf16) (v15 v17 : BitVec 32) (K : PUnit → sProp 𝕄) :
    iprop(bank c arg5 arg6 arg7 arg8 arg9 arg10 arg11 x0 x1 x2 x3 x4 x5 g u w d ∗ (bank c arg5 arg6 arg7 arg8 arg9 arg10 arg11 x0 x1 x2 x3 x4 x5 (if newExpert i v15 v17 = 1#1 then gateOf x1 else g) (if newExpert i v15 v17 = 1#1 then upOf x1 else u) (if newExpert i v15 v17 = 1#1 then downOf x2 else w) d -∗ K ⟨⟩))
      ⊢ wp frame (wpE (defs₀ (F := Bits)) Variants.none c none) Set.univ (if newExpert i v15 v17 = 1#1 then fillProg i arg5 harg5 arg6 harg6 arg7 harg7 arg8 harg8 arg9 harg9 arg10 harg10 arg11 harg11 else pure ⟨⟩) K := by
  by_cases h : newExpert i v15 v17 = 1#1
  · simp only [if_pos h]
    unfold bank
    iintro ⟨⟨H0, H1, H2, H3, H4, H5, HG, HU, HD, HO⟩, Hk⟩
    iapply fill_run c i arg5 harg5 arg6 harg6 arg7 harg7 arg8 harg8 arg9 harg9 arg10 harg10 arg11 harg11 x1 x2 g u w K
    isplitl [H1]; · iexact H1
    isplitl [H2]; · iexact H2
    isplitl [HG]; · iexact HG
    isplitl [HU]; · iexact HU
    isplitl [HD]; · iexact HD
    iintro ⟨H1, H2, HG, HU, HD⟩
    iapply Hk
    isplitl [H0]; · iexact H0
    isplitl [H1]; · iexact H1
    isplitl [H2]; · iexact H2
    isplitl [H3]; · iexact H3
    isplitl [H4]; · iexact H4
    isplitl [H5]; · iexact H5
    isplitl [HG]; · iexact HG
    isplitl [HU]; · iexact HU
    isplitl [HD]; · iexact HD
    iexact HO
  · simp only [if_neg h]
    iintro ⟨HB, Hk⟩
    iapply le_wp_ret
    iapply Hk; iexact HB

/-- A block of one expert. -/
theorem fullIf (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Bits .bf16) (x1 : S1x1x1024x2048.Idx → Elt Bits .f32) (x2 : S1x1x1024x1024.Idx → Elt Bits .f32) (x3 x4 x5 : S1x1x1x1024.Idx → Elt Bits .f32) (g u w : S1024x1024.Idx → Elt Bits .bf16) (d : S512x1024.Idx → Elt Bits .bf16) (v3 v5 : BitVec 32) (K : PUnit → sProp 𝕄) :
    iprop(bank c arg5 arg6 arg7 arg8 arg9 arg10 arg11 x0 x1 x2 x3 x4 x5 g u w d ∗ (bank c arg5 arg6 arg7 arg8 arg9 arg10 arg11 x0 x1 x2 x3 x4 x5 g u w (if k0_cond2 v3 v5 = 1#1 then wholeBlock x0 g u w x3 x4 x5 else d) -∗ K ⟨⟩))
      ⊢ wp frame (wpE (defs₀ (F := Bits)) Variants.none c none) Set.univ (if k0_cond2 v3 v5 = 1#1 then fullProg i arg5 harg5 arg6 harg6 arg7 harg7 arg8 harg8 arg9 harg9 arg10 harg10 arg11 harg11 else pure ⟨⟩) K := by
  by_cases h : k0_cond2 v3 v5 = 1#1
  · simp only [if_pos h]
    unfold bank
    iintro ⟨⟨H0, H1, H2, H3, H4, H5, HG, HU, HD, HO⟩, Hk⟩
    iapply full_run c i arg5 harg5 arg6 harg6 arg7 harg7 arg8 harg8 arg9 harg9 arg10 harg10 arg11 harg11 x0 g u w x3 x4 x5 d K
    isplitl [H0]; · iexact H0
    isplitl [H3]; · iexact H3
    isplitl [H4]; · iexact H4
    isplitl [H5]; · iexact H5
    isplitl [HG]; · iexact HG
    isplitl [HU]; · iexact HU
    isplitl [HD]; · iexact HD
    isplitl [HO]; · iexact HO
    iintro ⟨H0, H3, H4, H5, HG, HU, HD, HO⟩
    iapply Hk
    isplitl [H0]; · iexact H0
    isplitl [H1]; · iexact H1
    isplitl [H2]; · iexact H2
    isplitl [H3]; · iexact H3
    isplitl [H4]; · iexact H4
    isplitl [H5]; · iexact H5
    isplitl [HG]; · iexact HG
    isplitl [HU]; · iexact HU
    isplitl [HD]; · iexact HD
    iexact HO
  · simp only [if_neg h]
    iintro ⟨HB, Hk⟩
    iapply le_wp_ret
    iapply Hk; iexact HB

/-- A shared block is cleared. -/
theorem zeroIf (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Bits .bf16) (x1 : S1x1x1024x2048.Idx → Elt Bits .f32) (x2 : S1x1x1024x1024.Idx → Elt Bits .f32) (x3 x4 x5 : S1x1x1x1024.Idx → Elt Bits .f32) (g u w : S1024x1024.Idx → Elt Bits .bf16) (d : S512x1024.Idx → Elt Bits .bf16) (v1 v3 v5 v10 : BitVec 32) (K : PUnit → sProp 𝕄) :
    iprop(bank c arg5 arg6 arg7 arg8 arg9 arg10 arg11 x0 x1 x2 x3 x4 x5 g u w d ∗ (bank c arg5 arg6 arg7 arg8 arg9 arg10 arg11 x0 x1 x2 x3 x4 x5 g u w (if k0_cond3 i v1 v3 v5 v10 = 1#1 then k0_pay119 (F := Bits) else d) -∗ K ⟨⟩))
      ⊢ wp frame (wpE (defs₀ (F := Bits)) Variants.none c none) Set.univ (if k0_cond3 i v1 v3 v5 v10 = 1#1 then zeroProg i arg5 harg5 arg6 harg6 arg7 harg7 arg8 harg8 arg9 harg9 arg10 harg10 arg11 harg11 else pure ⟨⟩) K := by
  by_cases h : k0_cond3 i v1 v3 v5 v10 = 1#1
  · simp only [if_pos h]
    unfold bank
    iintro ⟨⟨H0, H1, H2, H3, H4, H5, HG, HU, HD, HO⟩, Hk⟩
    iapply zero_run c i arg5 harg5 arg6 harg6 arg7 harg7 arg8 harg8 arg9 harg9 arg10 harg10 arg11 harg11 d K
    isplitl [HO]; · iexact HO
    iintro ⟨HO⟩
    iapply Hk
    isplitl [H0]; · iexact H0
    isplitl [H1]; · iexact H1
    isplitl [H2]; · iexact H2
    isplitl [H3]; · iexact H3
    isplitl [H4]; · iexact H4
    isplitl [H5]; · iexact H5
    isplitl [HG]; · iexact HG
    isplitl [HU]; · iexact HU
    isplitl [HD]; · iexact HD
    iexact HO
  · simp only [if_neg h]
    iintro ⟨HB, Hk⟩
    iapply le_wp_ret
    iapply Hk; iexact HB

/-- The upper rows of a shared block. -/
theorem upperIf (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Bits .bf16) (x1 : S1x1x1024x2048.Idx → Elt Bits .f32) (x2 : S1x1x1024x1024.Idx → Elt Bits .f32) (x3 x4 x5 : S1x1x1x1024.Idx → Elt Bits .f32) (g u w : S1024x1024.Idx → Elt Bits .bf16) (d : S512x1024.Idx → Elt Bits .bf16) (v1 v3 v5 v31 : BitVec 32) (K : PUnit → sProp 𝕄) :
    iprop(bank c arg5 arg6 arg7 arg8 arg9 arg10 arg11 x0 x1 x2 x3 x4 x5 g u w d ∗ (bank c arg5 arg6 arg7 arg8 arg9 arg10 arg11 x0 x1 x2 x3 x4 x5 g u w (if k0_cond4 v1 v3 v5 = 1#1 then upperBlock v3 v5 v31 x0 g u w x3 x4 x5 d else d) -∗ K ⟨⟩))
      ⊢ wp frame (wpE (defs₀ (F := Bits)) Variants.none c none) Set.univ (if k0_cond4 v1 v3 v5 = 1#1 then upperProg i arg5 harg5 arg6 harg6 arg7 harg7 arg8 harg8 arg9 harg9 arg10 harg10 arg11 harg11 v3 v5 v31 else pure ⟨⟩) K := by
  by_cases h : k0_cond4 v1 v3 v5 = 1#1
  · simp only [if_pos h]
    unfold bank
    iintro ⟨⟨H0, H1, H2, H3, H4, H5, HG, HU, HD, HO⟩, Hk⟩
    iapply upper_run c i arg5 harg5 arg6 harg6 arg7 harg7 arg8 harg8 arg9 harg9 arg10 harg10 arg11 harg11 x0 g u w x3 x4 x5 d v3 v5 v31 K
    isplitl [H0]; · iexact H0
    isplitl [H3]; · iexact H3
    isplitl [H4]; · iexact H4
    isplitl [H5]; · iexact H5
    isplitl [HG]; · iexact HG
    isplitl [HU]; · iexact HU
    isplitl [HD]; · iexact HD
    isplitl [HO]; · iexact HO
    iintro ⟨H0, H3, H4, H5, HG, HU, HD, HO⟩
    iapply Hk
    isplitl [H0]; · iexact H0
    isplitl [H1]; · iexact H1
    isplitl [H2]; · iexact H2
    isplitl [H3]; · iexact H3
    isplitl [H4]; · iexact H4
    isplitl [H5]; · iexact H5
    isplitl [HG]; · iexact HG
    isplitl [HU]; · iexact HU
    isplitl [HD]; · iexact HD
    iexact HO
  · simp only [if_neg h]
    iintro ⟨HB, Hk⟩
    iapply le_wp_ret
    iapply Hk; iexact HB

/-- The lower rows of a shared block. -/
theorem lowerIf (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Bits .bf16) (x1 : S1x1x1024x2048.Idx → Elt Bits .f32) (x2 : S1x1x1024x1024.Idx → Elt Bits .f32) (x3 x4 x5 : S1x1x1x1024.Idx → Elt Bits .f32) (g u w : S1024x1024.Idx → Elt Bits .bf16) (d : S512x1024.Idx → Elt Bits .bf16) (v1 v3 v5 : BitVec 32) (K : PUnit → sProp 𝕄) :
    iprop(bank c arg5 arg6 arg7 arg8 arg9 arg10 arg11 x0 x1 x2 x3 x4 x5 g u w d ∗ (bank c arg5 arg6 arg7 arg8 arg9 arg10 arg11 x0 x1 x2 x3 x4 x5 g u w (if k0_cond5 v1 v3 v5 = 1#1 then lowerBlock v1 v3 v5 x0 g u w x3 x4 x5 d else d) -∗ K ⟨⟩))
      ⊢ wp frame (wpE (defs₀ (F := Bits)) Variants.none c none) Set.univ (if k0_cond5 v1 v3 v5 = 1#1 then lowerProg i arg5 harg5 arg6 harg6 arg7 harg7 arg8 harg8 arg9 harg9 arg10 harg10 arg11 harg11 v1 v3 v5 else pure ⟨⟩) K := by
  by_cases h : k0_cond5 v1 v3 v5 = 1#1
  · simp only [if_pos h]
    unfold bank
    iintro ⟨⟨H0, H1, H2, H3, H4, H5, HG, HU, HD, HO⟩, Hk⟩
    iapply lower_run c i arg5 harg5 arg6 harg6 arg7 harg7 arg8 harg8 arg9 harg9 arg10 harg10 arg11 harg11 x0 g u w x3 x4 x5 d v1 v3 v5 K
    isplitl [H0]; · iexact H0
    isplitl [H3]; · iexact H3
    isplitl [H4]; · iexact H4
    isplitl [H5]; · iexact H5
    isplitl [HG]; · iexact HG
    isplitl [HU]; · iexact HU
    isplitl [HD]; · iexact HD
    isplitl [HO]; · iexact HO
    iintro ⟨H0, H3, H4, H5, HG, HU, HD, HO⟩
    iapply Hk
    isplitl [H0]; · iexact H0
    isplitl [H1]; · iexact H1
    isplitl [H2]; · iexact H2
    isplitl [H3]; · iexact H3
    isplitl [H4]; · iexact H4
    isplitl [H5]; · iexact H5
    isplitl [HG]; · iexact HG
    isplitl [HU]; · iexact HU
    isplitl [HD]; · iexact HD
    iexact HO
  · simp only [if_neg h]
    iintro ⟨HB, Hk⟩
    iapply le_wp_ret
    iapply Hk; iexact HB

/-- The pieces as one sequence. -/
theorem pieces_eq (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (v1 v3 v5 v10 v15 v17 : BitVec 32) :
    piecesProg i arg5 harg5 arg6 harg6 arg7 harg7 arg8 harg8 arg9 harg9 arg10 harg10 arg11 harg11 v1 v3 v5 v10 v15 v17 =
      ((if newExpert i v15 v17 = 1#1 then fillProg i arg5 harg5 arg6 harg6 arg7 harg7 arg8 harg8 arg9 harg9 arg10 harg10 arg11 harg11 else pure ⟨⟩) >>= fun _ =>
       (if k0_cond2 v3 v5 = 1#1 then fullProg i arg5 harg5 arg6 harg6 arg7 harg7 arg8 harg8 arg9 harg9 arg10 harg10 arg11 harg11 else pure ⟨⟩) >>= fun _ =>
       (if k0_cond3 i v1 v3 v5 v10 = 1#1 then zeroProg i arg5 harg5 arg6 harg6 arg7 harg7 arg8 harg8 arg9 harg9 arg10 harg10 arg11 harg11 else pure ⟨⟩) >>= fun _ =>
       (if k0_cond4 v1 v3 v5 = 1#1 then upperProg i arg5 harg5 arg6 harg6 arg7 harg7 arg8 harg8 arg9 harg9 arg10 harg10 arg11 harg11 v3 v5 (Scalar.addi (Scalar.muli v1 512#32) 0#32) else pure ⟨⟩) >>= fun _ =>
       (if k0_cond5 v1 v3 v5 = 1#1 then lowerProg i arg5 harg5 arg6 harg6 arg7 harg7 arg8 harg8 arg9 harg9 arg10 harg10 arg11 harg11 v1 v3 v5 else pure ⟨⟩)) := by
  unfold piecesProg
  by_cases h1 : newExpert i v15 v17 = 1#1 <;>
  by_cases h2 : k0_cond2 v3 v5 = 1#1 <;> by_cases h3 : k0_cond3 i v1 v3 v5 v10 = 1#1 <;>
  by_cases h4 : k0_cond4 v1 v3 v5 = 1#1 <;> by_cases h5 : k0_cond5 v1 v3 v5 = 1#1 <;>
  simp only [h1, h2, h3, h4, h5, bind_assoc, pure_bind, if_true, if_false, reduceIte] <;> rfl

/-- What the output block holds after a point, from what it held before: computed whole, or cleared at its first point and
then filled part by part. -/
def stepOf (i : grid0.Coords) (v1 v3 v5 v10 : BitVec 32) (x0 : S512x1024.Idx → Elt Bits .bf16) (g u w : S1024x1024.Idx → Elt Bits .bf16) (x3 x4 x5 : S1x1x1x1024.Idx → Elt Bits .f32)
    (d : S512x1024.Idx → Elt Bits .bf16) : S512x1024.Idx → Elt Bits .bf16 :=
  let d2 := if k0_cond2 v3 v5 = 1#1 then wholeBlock x0 g u w x3 x4 x5 else d
  let d3 := if k0_cond3 i v1 v3 v5 v10 = 1#1 then k0_pay119 (F := Bits) else d2
  let d4 := if k0_cond4 v1 v3 v5 = 1#1 then upperBlock v3 v5 (Scalar.addi (Scalar.muli v1 512#32) 0#32) x0 g u w x3 x4 x5 d3 else d3
  if k0_cond5 v1 v3 v5 = 1#1 then lowerBlock v1 v3 v5 x0 g u w x3 x4 x5 d4 else d4

/-- The pieces' triple. -/
theorem pieces_run (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Bits .bf16) (x1 : S1x1x1024x2048.Idx → Elt Bits .f32) (x2 : S1x1x1024x1024.Idx → Elt Bits .f32) (x3 x4 x5 : S1x1x1x1024.Idx → Elt Bits .f32) (g u w : S1024x1024.Idx → Elt Bits .bf16) (d : S512x1024.Idx → Elt Bits .bf16) (v1 v3 v5 v10 v15 v17 : BitVec 32) (C : sProp 𝕄) (K : PUnit → sProp 𝕄)
    (hK : iprop(bank c arg5 arg6 arg7 arg8 arg9 arg10 arg11 x0 x1 x2 x3 x4 x5 (if newExpert i v15 v17 = 1#1 then gateOf x1 else g) (if newExpert i v15 v17 = 1#1 then upOf x1 else u) (if newExpert i v15 v17 = 1#1 then downOf x2 else w)
        (stepOf i v1 v3 v5 v10 x0 (if newExpert i v15 v17 = 1#1 then gateOf x1 else g) (if newExpert i v15 v17 = 1#1 then upOf x1 else u) (if newExpert i v15 v17 = 1#1 then downOf x2 else w) x3 x4 x5 d) ∗ C) ⊢ K ⟨⟩) :
    iprop(bank c arg5 arg6 arg7 arg8 arg9 arg10 arg11 x0 x1 x2 x3 x4 x5 g u w d ∗ C) ⊢ wp frame (wpE (defs₀ (F := Bits)) Variants.none c none) Set.univ (piecesProg i arg5 harg5 arg6 harg6 arg7 harg7 arg8 harg8 arg9 harg9 arg10 harg10 arg11 harg11 v1 v3 v5 v10 v15 v17) K := by
  rw [pieces_eq]
  refine seq_run c (fillIf c i arg5 harg5 arg6 harg6 arg7 harg7 arg8 harg8 arg9 harg9 arg10 harg10 arg11 harg11 x0 x1 x2 x3 x4 x5 g u w d v15 v17) ?_
  refine seq_run c (fullIf c i arg5 harg5 arg6 harg6 arg7 harg7 arg8 harg8 arg9 harg9 arg10 harg10 arg11 harg11 x0 x1 x2 x3 x4 x5 (if newExpert i v15 v17 = 1#1 then gateOf x1 else g) (if newExpert i v15 v17 = 1#1 then upOf x1 else u) (if newExpert i v15 v17 = 1#1 then downOf x2 else w) d v3 v5) ?_
  refine seq_run c (zeroIf c i arg5 harg5 arg6 harg6 arg7 harg7 arg8 harg8 arg9 harg9 arg10 harg10 arg11 harg11 x0 x1 x2 x3 x4 x5 (if newExpert i v15 v17 = 1#1 then gateOf x1 else g) (if newExpert i v15 v17 = 1#1 then upOf x1 else u) (if newExpert i v15 v17 = 1#1 then downOf x2 else w) (if k0_cond2 v3 v5 = 1#1 then wholeBlock x0 (if newExpert i v15 v17 = 1#1 then gateOf x1 else g) (if newExpert i v15 v17 = 1#1 then upOf x1 else u) (if newExpert i v15 v17 = 1#1 then downOf x2 else w) x3 x4 x5 else d) v1 v3 v5 v10) ?_
  refine seq_run c (upperIf c i arg5 harg5 arg6 harg6 arg7 harg7 arg8 harg8 arg9 harg9 arg10 harg10 arg11 harg11 x0 x1 x2 x3 x4 x5 (if newExpert i v15 v17 = 1#1 then gateOf x1 else g) (if newExpert i v15 v17 = 1#1 then upOf x1 else u) (if newExpert i v15 v17 = 1#1 then downOf x2 else w) (if k0_cond3 i v1 v3 v5 v10 = 1#1 then k0_pay119 (F := Bits) else (if k0_cond2 v3 v5 = 1#1 then wholeBlock x0 (if newExpert i v15 v17 = 1#1 then gateOf x1 else g) (if newExpert i v15 v17 = 1#1 then upOf x1 else u) (if newExpert i v15 v17 = 1#1 then downOf x2 else w) x3 x4 x5 else d)) v1 v3 v5 (Scalar.addi (Scalar.muli v1 512#32) 0#32)) ?_
  refine BIBase.Entails.trans ?_ (lowerIf c i arg5 harg5 arg6 harg6 arg7 harg7 arg8 harg8 arg9 harg9 arg10 harg10 arg11 harg11 x0 x1 x2 x3 x4 x5 (if newExpert i v15 v17 = 1#1 then gateOf x1 else g) (if newExpert i v15 v17 = 1#1 then upOf x1 else u) (if newExpert i v15 v17 = 1#1 then downOf x2 else w) (if k0_cond4 v1 v3 v5 = 1#1 then upperBlock v3 v5 (Scalar.addi (Scalar.muli v1 512#32) 0#32) x0 (if newExpert i v15 v17 = 1#1 then gateOf x1 else g) (if newExpert i v15 v17 = 1#1 then upOf x1 else u) (if newExpert i v15 v17 = 1#1 then downOf x2 else w) x3 x4 x5 (if k0_cond3 i v1 v3 v5 v10 = 1#1 then k0_pay119 (F := Bits) else (if k0_cond2 v3 v5 = 1#1 then wholeBlock x0 (if newExpert i v15 v17 = 1#1 then gateOf x1 else g) (if newExpert i v15 v17 = 1#1 then upOf x1 else u) (if newExpert i v15 v17 = 1#1 then downOf x2 else w) x3 x4 x5 else d)) else (if k0_cond3 i v1 v3 v5 v10 = 1#1 then k0_pay119 (F := Bits) else (if k0_cond2 v3 v5 = 1#1 then wholeBlock x0 (if newExpert i v15 v17 = 1#1 then gateOf x1 else g) (if newExpert i v15 v17 = 1#1 then upOf x1 else u) (if newExpert i v15 v17 = 1#1 then downOf x2 else w) x3 x4 x5 else d))) v1 v3 v5 K)
  iintro ⟨HB, HC⟩
  isplitl [HB]; · iexact HB
  iintro HB
  iapply hK
  isplitl [HB]
  · unfold stepOf; iexact HB
  iexact HC

/-! ## The table words -/

/-- The item a point works on, and the one before it (the first has none, and is its own). -/
def here (i : grid0.Coords) : S288.Idx := fun a => ⟨(i 0).val, by obtain rfl : a = 0 := Subsingleton.elim _ _; exact (i 0).isLt⟩
def prior (i : grid0.Coords) : S288.Idx := fun a => ⟨(i 0).val - 1, by obtain rfl : a = 0 := Subsingleton.elim _ _; exact lt_of_le_of_lt (Nat.sub_le _ _) (i 0).isLt⟩

theorem off1_all : ∀ n : Fin 288, (Scalar.indexCast (BitVec.ofNat 32 n.val)).toNat = n.val := by decide +kernel
theorem off2_all : ∀ n : Fin 288, (Scalar.indexCast (Scalar.maxsi (Scalar.subi (BitVec.ofNat 32 n.val) 1#32) 0#32)).toNat = n.val - 1 := by decide +kernel

theorem off1_val (i : grid0.Coords) : k0_off1 i = ![(i 0).val] := by
  unfold k0_off1
  exact congrArg (fun n => ![n]) (off1_all (i 0))
theorem off2_val (i : grid0.Coords) : k0_off2 i = ![(i 0).val - 1] := by
  unfold k0_off2
  exact congrArg (fun n => ![n]) (off2_all (i 0))

/-- Reading a word of a table. -/
theorem word_run (c : Dev nD) (m : Memref sig .tc .smem S288 .i32) (r : Rect S288) (h1 : r.shape.numel = 1) (q : PosShare TreeShare) (f : Buf (Elt Bits) (m.view.loc (c : Thread nD τ)))
    (K : Elt Bits .i32 → sProp 𝕄) :
    iprop((m.view.loc (c : Thread nD τ) ↦{q} f) ∗ ((m.view.loc (c : Thread nD τ) ↦{q} f) -∗ K ((m.access r).read (Elt Bits) f (Shape.Idx.first (h1.symm ▸ Nat.one_pos)))))
      ⊢ wp frame (wpE (defs₀ (F := Bits)) Variants.none c none) Set.univ (smemLoad m r h1 rfl) K := by
  unfold smemLoad
  iintro ⟨HT, Hk⟩
  iapply (wp_smemLoadElt Variants.none (c : Thread nD τ) none Set.univ (m := m) (r := r) (S := Finset.univ) (Finset.subset_univ _)) $$ HT
  iintro HT
  iapply le_wp_ret
  iapply Hk; iexact HT

end Cert.Kernel.Moe

end
-- ==== Proof.Kernel.Whole.lean ====
module

public import proofs.«01_k».proof.Proof.Kernel.Pieces

@[expose] public section

set_option maxRecDepth 16384
set_option Elab.async false

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! # The body's triple

From the tables, the staged blocks and the scratch buffers to the same with the scratch buffers and the output block
moved on by one point. -/

/-- A share of the four tables. -/
def tables (c : Dev nD) (T0 T1 T2 T3 : S288.Idx → BitVec 32) : sProp 𝕄 :=
  iprop((table0.view.loc (c : Thread nD τ) ↦{fullShare.right} T0) ∗ (table1.view.loc (c : Thread nD τ) ↦{fullShare.right} T1)
    ∗ (table2.view.loc (c : Thread nD τ) ↦{fullShare.right} T2) ∗ (table3.view.loc (c : Thread nD τ) ↦{fullShare.right} T3))

theorem first_val (a : Fin 1) (h : 0 < S1.numel) : (Shape.Idx.first h a : Fin (S1.size a)).val = 0 :=
  Nat.lt_one_iff.mp (lt_of_lt_of_eq (Fin.isLt _) (by obtain rfl : a = 0 := Subsingleton.elim _ _; rfl))

/-- The word a table holds at the point's item; -/
theorem unit_here (i : grid0.Coords) (h : 0 < S1.numel) : (Rect.unit (s := S288) (k0_off1 i) S1.size (k0_off1_inb i)).emb (Shape.Idx.first h) = here i := by
  funext a
  obtain rfl : a = 0 := Subsingleton.elim _ _
  refine Fin.ext ?_
  show k0_off1 i 0 + 1 * (Shape.Idx.first h 0 : Fin (S1.size 0)).val = (i 0).val
  rw [first_val, off1_val]; rfl

/-- at the item before. -/
theorem unit_prior (i : grid0.Coords) (h : 0 < S1.numel) : (Rect.unit (s := S288) (k0_off2 i) S1.size (k0_off2_inb i)).emb (Shape.Idx.first h) = prior i := by
  funext a
  obtain rfl : a = 0 := Subsingleton.elim _ _
  refine Fin.ext ?_
  show k0_off2 i 0 + 1 * (Shape.Idx.first h 0 : Fin (S1.size 0)).val = (i 0).val - 1
  rw [first_val, off2_val]; rfl

theorem word0_here (i : grid0.Coords) (T : S288.Idx → BitVec 32) (h : 0 < S1.numel) :
    (table0.access (Rect.unit (s := S288) (k0_off1 i) S1.size (k0_off1_inb i))).read (Elt Bits) T (Shape.Idx.first h) = T (here i) :=
  congrArg T (unit_here i h)

theorem word1_here (i : grid0.Coords) (T : S288.Idx → BitVec 32) (h : 0 < S1.numel) :
    (table1.access (Rect.unit (s := S288) (k0_off1 i) S1.size (k0_off1_inb i))).read (Elt Bits) T (Shape.Idx.first h) = T (here i) :=
  congrArg T (unit_here i h)

theorem word2_here (i : grid0.Coords) (T : S288.Idx → BitVec 32) (h : 0 < S1.numel) :
    (table2.access (Rect.unit (s := S288) (k0_off1 i) S1.size (k0_off1_inb i))).read (Elt Bits) T (Shape.Idx.first h) = T (here i) :=
  congrArg T (unit_here i h)

theorem word3_here (i : grid0.Coords) (T : S288.Idx → BitVec 32) (h : 0 < S1.numel) :
    (table3.access (Rect.unit (s := S288) (k0_off1 i) S1.size (k0_off1_inb i))).read (Elt Bits) T (Shape.Idx.first h) = T (here i) :=
  congrArg T (unit_here i h)

theorem word0_prior (i : grid0.Coords) (T : S288.Idx → BitVec 32) (h : 0 < S1.numel) :
    (table0.access (Rect.unit (s := S288) (k0_off2 i) S1.size (k0_off2_inb i))).read (Elt Bits) T (Shape.Idx.first h) = T (prior i) :=
  congrArg T (unit_prior i h)

theorem word1_prior (i : grid0.Coords) (T : S288.Idx → BitVec 32) (h : 0 < S1.numel) :
    (table1.access (Rect.unit (s := S288) (k0_off2 i) S1.size (k0_off2_inb i))).read (Elt Bits) T (Shape.Idx.first h) = T (prior i) :=
  congrArg T (unit_prior i h)

theorem word2_prior (i : grid0.Coords) (T : S288.Idx → BitVec 32) (h : 0 < S1.numel) :
    (table2.access (Rect.unit (s := S288) (k0_off2 i) S1.size (k0_off2_inb i))).read (Elt Bits) T (Shape.Idx.first h) = T (prior i) :=
  congrArg T (unit_prior i h)

theorem word3_prior (i : grid0.Coords) (T : S288.Idx → BitVec 32) (h : 0 < S1.numel) :
    (table3.access (Rect.unit (s := S288) (k0_off2 i) S1.size (k0_off2_inb i))).read (Elt Bits) T (Shape.Idx.first h) = T (prior i) :=
  congrArg T (unit_prior i h)

set_option maxHeartbeats 1000000 in
/-- The body's triple. -/
theorem body_run (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Bits .bf16) (x1 : S1x1x1024x2048.Idx → Elt Bits .f32) (x2 : S1x1x1024x1024.Idx → Elt Bits .f32) (x3 x4 x5 : S1x1x1x1024.Idx → Elt Bits .f32) (g u w : S1024x1024.Idx → Elt Bits .bf16) (d : S512x1024.Idx → Elt Bits .bf16) (T0 T1 T2 T3 : S288.Idx → BitVec 32) (C : sProp 𝕄) (K : PUnit → sProp 𝕄)
    (hK : iprop(bank c arg5 arg6 arg7 arg8 arg9 arg10 arg11 x0 x1 x2 x3 x4 x5 (if newExpert i (T1 (here i)) (T1 (prior i)) = 1#1 then gateOf x1 else g) (if newExpert i (T1 (here i)) (T1 (prior i)) = 1#1 then upOf x1 else u) (if newExpert i (T1 (here i)) (T1 (prior i)) = 1#1 then downOf x2 else w)
        (stepOf i (T0 (here i)) (T2 (here i)) (T3 (here i)) (T0 (prior i)) x0 (if newExpert i (T1 (here i)) (T1 (prior i)) = 1#1 then gateOf x1 else g) (if newExpert i (T1 (here i)) (T1 (prior i)) = 1#1 then upOf x1 else u) (if newExpert i (T1 (here i)) (T1 (prior i)) = 1#1 then downOf x2 else w) x3 x4 x5 d) ∗ (tables c T0 T1 T2 T3 ∗ C)) ⊢ K ⟨⟩) :
    iprop(bank c arg5 arg6 arg7 arg8 arg9 arg10 arg11 x0 x1 x2 x3 x4 x5 g u w d ∗ (tables c T0 T1 T2 T3 ∗ C)) ⊢ wp frame (wpE (defs₀ (F := Bits)) Variants.none c none) Set.univ (cc0_moe_ffn (F := Bits) i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)) K := by
  rw [body_eq_cut]
  unfold cutBody
  refine BIBase.Entails.trans (Q := iprop((table0.view.loc (c : Thread nD τ) ↦{fullShare.right} T0) ∗ (table1.view.loc (c : Thread nD τ) ↦{fullShare.right} T1)
    ∗ (table2.view.loc (c : Thread nD τ) ↦{fullShare.right} T2) ∗ (table3.view.loc (c : Thread nD τ) ↦{fullShare.right} T3) ∗ bank c arg5 arg6 arg7 arg8 arg9 arg10 arg11 x0 x1 x2 x3 x4 x5 g u w d ∗ C)) ?_ ?_
  · unfold tables
    iintro ⟨HB, ⟨HT0, HT1, HT2, HT3⟩, HC⟩
    isplitl [HT0]; · iexact HT0
    isplitl [HT1]; · iexact HT1
    isplitl [HT2]; · iexact HT2
    isplitl [HT3]; · iexact HT3
    isplitl [HB]; · iexact HB
    iexact HC
  iintro ⟨HT0, HT1, HT2, HT3, HB, HC⟩
  rw [wp_bind]
  iapply word_run c table0 (Rect.unit (s := S288) (k0_off1 i) S1.size (k0_off1_inb i)) numel1_S1 _ T0
  isplitl [HT0]; · iexact HT0
  iintro HT0
  rw [word0_here]
  rw [wp_bind]
  iapply word_run c table2 (Rect.unit (s := S288) (k0_off1 i) S1.size (k0_off1_inb i)) numel1_S1 _ T2
  isplitl [HT2]; · iexact HT2
  iintro HT2
  rw [word2_here]
  rw [wp_bind]
  iapply word_run c table3 (Rect.unit (s := S288) (k0_off1 i) S1.size (k0_off1_inb i)) numel1_S1 _ T3
  isplitl [HT3]; · iexact HT3
  iintro HT3
  rw [word3_here]
  rw [wp_bind]
  iapply word_run c table0 (Rect.unit (s := S288) (k0_off2 i) S1.size (k0_off2_inb i)) numel1_S1 _ T0
  isplitl [HT0]; · iexact HT0
  iintro HT0
  rw [word0_prior]
  rw [wp_bind]
  iapply word_run c table1 (Rect.unit (s := S288) (k0_off1 i) S1.size (k0_off1_inb i)) numel1_S1 _ T1
  isplitl [HT1]; · iexact HT1
  iintro HT1
  rw [word1_here]
  rw [wp_bind]
  iapply word_run c table1 (Rect.unit (s := S288) (k0_off2 i) S1.size (k0_off2_inb i)) numel1_S1 _ T1
  isplitl [HT1]; · iexact HT1
  iintro HT1
  rw [word1_prior]

  iapply pieces_run c i arg5 harg5 arg6 harg6 arg7 harg7 arg8 harg8 arg9 harg9 arg10 harg10 arg11 harg11 x0 x1 x2 x3 x4 x5 g u w d (T0 (here i)) (T2 (here i)) (T3 (here i)) (T0 (prior i)) (T1 (here i)) (T1 (prior i)) iprop(tables c T0 T1 T2 T3 ∗ C) K hK
  isplitl [HB]; · iexact HB
  isplitr [HC]
  · unfold tables
    isplitl [HT0]; · iexact HT0
    isplitl [HT1]; · iexact HT1
    isplitl [HT2]; · iexact HT2
    iexact HT3
  iexact HC

end Cert.Kernel.Moe

end
-- ==== Proof.Kernel.Launch.lean ====
module

public import proofs.«01_k».proof.Proof.Kernel.Sound
public import Idealize.ShloMosaic.Lib.StableHlo.RunRead

@[expose] public section

set_option maxRecDepth 16384
set_option Elab.async false

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! # The launch

The host lines prepare the biases, then the pipeline runs. What every array holds at the end. -/

open Cert.Items

/-- The pipeline's resources. -/
abbrev EP : Emb (UR sig nD τ) 𝕄 := emb₁

variable (T : Tabs) (m : (ℓ : Loc nD τ sig) → Buf (Elt Bits) ℓ) (ρ : Dev nD → PrngReg)

/-- What the arrays hold when the pipeline starts. -/
def V (c : Dev nD) (b : Ref sig .tc) : Buf (Elt Bits) ((c : Thread nD τ).loc b) :=
  StableHlo.after (hostOps0 (F := Bits)) (fun b => m (c, b)) (Proc.devRef .tc b)

/-- The host lines write five arrays; every other one is as it was. -/
theorem V_of_not_written (c : Dev nD) (r : Ref sig .tc) (hr : r ∉ [main_v0, main_v1, main_v2, main_v3, main_v4]) :
    V m c r = m ((c : Thread nD τ).loc r) :=
  StableHlo.after_unwritten (τ := τ) (ops := hostOps0 (F := Bits)) [main_v0, main_v1, main_v2, main_v3, main_v4] rfl hr _

theorem V_main_arg0 (c : Dev nD) : V m c main_arg0 = m ((c : Thread nD τ).loc main_arg0) := V_of_not_written m c main_arg0 (by decide)
theorem V_main_arg1 (c : Dev nD) : V m c main_arg1 = m ((c : Thread nD τ).loc main_arg1) := V_of_not_written m c main_arg1 (by decide)
theorem V_main_arg2 (c : Dev nD) : V m c main_arg2 = m ((c : Thread nD τ).loc main_arg2) := V_of_not_written m c main_arg2 (by decide)
theorem V_main_arg3 (c : Dev nD) : V m c main_arg3 = m ((c : Thread nD τ).loc main_arg3) := V_of_not_written m c main_arg3 (by decide)
theorem V_main_arg4 (c : Dev nD) : V m c main_arg4 = m ((c : Thread nD τ).loc main_arg4) := V_of_not_written m c main_arg4 (by decide)
theorem V_main_arg5 (c : Dev nD) : V m c main_arg5 = m ((c : Thread nD τ).loc main_arg5) := V_of_not_written m c main_arg5 (by decide)
theorem V_main_arg6 (c : Dev nD) : V m c main_arg6 = m ((c : Thread nD τ).loc main_arg6) := V_of_not_written m c main_arg6 (by decide)
theorem V_main_arg7 (c : Dev nD) : V m c main_arg7 = m ((c : Thread nD τ).loc main_arg7) := V_of_not_written m c main_arg7 (by decide)
theorem V_main_arg8 (c : Dev nD) : V m c main_arg8 = m ((c : Thread nD τ).loc main_arg8) := V_of_not_written m c main_arg8 (by decide)

/-- The tables in the launch memory are `T`'s. -/
def Tables : Prop := ∀ c : Dev nD, m ((c : Thread nD τ).loc main_arg0) = T.blk ∧ m ((c : Thread nD τ).loc main_arg1) = T.ex
  ∧ m ((c : Thread nD τ).loc main_arg2) = T.lo ∧ m ((c : Thread nD τ).loc main_arg3) = T.hi

theorem V_pre (hT : Tables T m) (c : Dev nD) (j : Fin 4) : V m c (pre0.ref j) = (adm T).1 j := by
  fin_cases j
  · exact (V_main_arg0 m c).trans (hT c).1
  · exact (V_main_arg1 m c).trans (hT c).2.1
  · exact (V_main_arg2 m c).trans (hT c).2.2.1
  · exact (V_main_arg3 m c).trans (hT c).2.2.2

/-- The element the launch begins with. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_full (c : Dev nD) (w : Fin (cfgA T).W) : (dats T (V m) 0 c).share w = fullShare := by unfold Dat.share; split <;> rfl

/-- The four tables, one by one. -/
theorem prefHeld_four (c : Dev nD) (q : Fin 4 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2) ∗ (((c : Thread nD τ).loc main_arg3) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- A whole scratch buffer at some contents, as the body holds it; and back. -/
theorem gate_whole (c : Dev nD) (f : S1024x1024.Idx → Elt Bits EltTy.bf16) :
    (owns (c : Thread nD τ) gateBuf fullShare f : sProp 𝕄) = (((c : Thread nD τ).loc cc0_scratch0) ↦{fullShare} f) := by exact owns_whole (c : Thread nD τ) cc0_scratch0 fullShare f
theorem up_whole (c : Dev nD) (f : S1024x1024.Idx → Elt Bits EltTy.bf16) :
    (owns (c : Thread nD τ) upBuf fullShare f : sProp 𝕄) = (((c : Thread nD τ).loc cc0_scratch1) ↦{fullShare} f) := by exact owns_whole (c : Thread nD τ) cc0_scratch1 fullShare f
theorem down_whole (c : Dev nD) (f : S1024x1024.Idx → Elt Bits EltTy.bf16) :
    (owns (c : Thread nD τ) downBuf fullShare f : sProp 𝕄) = (((c : Thread nD τ).loc cc0_scratch2) ↦{fullShare} f) := by exact owns_whole (c : Thread nD τ) cc0_scratch2 fullShare f

/-- The invariant before the first point, -/
theorem phi_first (c : Dev nD) :
    iprop(BI.emp ∗ Pipeline.prefHeld pre0 c (fun _ => fullShare.right) (adm T).1 ∗ Pipeline.scopedRest spec0 c) ⊢ (dats T (V m) 0 c).Φ 0 := by
  rw [prefHeld_four, scopedRest0_eq, show (dats T (V m) 0 c).Φ 0 = Phi T (V m) c 0 from rfl]
  unfold Phi tables
  iintro ⟨-, HT, ⟨%a0, HS0⟩, ⟨%a1, HS1⟩, ⟨%a2, HS2⟩⟩
  isplitl [HS0]
  · iexists a0; isplitr; swap
    · rw [gate_whole]; iexact HS0
    · ipureintro; intro n _ h; exact absurd h (Nat.succ_ne_zero n).symm
  isplitl [HS1]
  · iexists a1; isplitr; swap
    · rw [up_whole]; iexact HS1
    · ipureintro; intro n _ h; exact absurd h (Nat.succ_ne_zero n).symm
  isplitl [HS2]
  · iexists a2; isplitr; swap
    · rw [down_whole]; iexact HS2
    · ipureintro; intro n _ h; exact absurd h (Nat.succ_ne_zero n).symm
  iexact HT

/-- and what it gives back after the last. -/
theorem phi_last (c : Dev nD) : (dats T (V m) 0 c).Φ (Fin.last (cfgA T).N) ⊢ iprop(BI.emp ∗ Pipeline.scopedRest spec0 c) := by
  rw [scopedRest0_eq, show (dats T (V m) 0 c).Φ (Fin.last (cfgA T).N) = Phi T (V m) c (Fin.last _) from rfl]
  unfold Phi
  iintro ⟨⟨%a0, -, HS0⟩, ⟨%a1, -, HS1⟩, ⟨%a2, -, HS2⟩, -⟩
  isplitr; · iempintro
  isplitl [HS0]
  · iexists a0; rw [← gate_whole]; iexact HS0
  isplitl [HS1]
  · iexists a1; rw [← up_whole]; iexact HS1
  iexists a2; rw [← down_whole]; iexact HS2

/-- The two bias arguments, which the pipeline does not touch. -/
def biases (c : Dev nD) : sProp 𝕄 :=
  iprop((((c : Thread nD τ).loc main_arg6) ↦{fullShare} m ((c : Thread nD τ).loc main_arg6)) ∗ (((c : Thread nD τ).loc main_arg8) ↦{fullShare} m ((c : Thread nD τ).loc main_arg8)))

theorem biases_of_rest (c : Dev nD) :
    (Pipeline.unscopedRestP (Ix := Unit) (Name := ℕ) (U := UR sig nD τ) (Lvl := ℕ) pre0 spec0 c (V m c) : sProp 𝕄) ⊢ iprop(emp ∗ biases m c) := by
  rw [unscopedRestP0_eq, V_main_arg6, V_main_arg8]
  unfold biases
  iintro ⟨H6, H8, -⟩
  isplitr; · iempintro
  isplitl [H6] <;> iassumption

theorem biases_read (c : Dev nD) (s' : Phys nD τ sig (Elt Bits)) :
    iprop(emp ∗ biases m c ∗ SI s') ⊢ |={Set.univ}=> iprop(⌜s'.mem.mem ((c : Thread nD τ).loc main_arg6) = m ((c : Thread nD τ).loc main_arg6)
      ∧ s'.mem.mem ((c : Thread nD τ).loc main_arg8) = m ((c : Thread nD τ).loc main_arg8)⌝ ∗ SI s' : sProp 𝕄) := by
  unfold biases
  iintro ⟨-, ⟨H6, H8⟩, HSI⟩
  icombine HSI H6 gives %h6
  icombine HSI H8 gives %h8
  imodintro
  isplitr
  · ipureintro; exact ⟨funext fun i => h6 i (Finset.mem_univ i), funext fun i => h8 i (Finset.mem_univ i)⟩
  · iexact HSI

/-- What every array holds at the end. -/
def Ends : PUnit × MemSt nD τ sig (Elt Bits) → Prop := fun r =>
  ∀ c : Dev nD, (∀ w : Fin (cfgA T).W, r.2.mem (((cfgA T).win w).arr.view.loc (c : Thread nD τ)) = (dats T (V m) 0 c).arrAt w (cfgA T).N)
    ∧ (∀ j, r.2.mem ((c : Thread nD τ).loc (pre0.ref j)) = (adm T).1 j)
    ∧ r.2.mem ((c : Thread nD τ).loc main_arg6) = m ((c : Thread nD τ).loc main_arg6)
    ∧ r.2.mem ((c : Thread nD τ).loc main_arg8) = m ((c : Thread nD τ).loc main_arg8)

set_option backward.isDefEq.respectTransparency.types false in
set_option maxHeartbeats 4000000 in
/-- The program ends, with every array at the contents the pipeline computes and every counter at zero. -/
theorem run_ends (hT : Tables T m) :
    θ_run (defs (F := Bits)) (onTc (τ := τ) (main (F := Bits))) ⟨m, fun _ => 0, ρ⟩ (fun r => Ends T m r ∧ r.2.sem = fun _ => 0) :=
  Pipeline.θ_run_region_noSem_pf_quiescent pcfgs (fun _ => adm T) (dats T (V m)) () ((launch0 (F := Bits)).cellOf_inj fun _ => adm T) (0 : Fin 1)
    (launch0 (F := Bits)).win.to₀ (launch0 (F := Bits)).pre EP defs₀ Variants.none m ρ main
    (hbody := fun c => (body_obligation T (V m) c).loose) (hne := (launch0 (F := Bits)).block_pos)
    (harr := (launch0 (F := Bits)).arr_whole) (hstage := (launch0 (F := Bits)).stage_whole) (howed := fun _ _ => rfl)
    (u₀ := u₀ T) (hu₀ := .rfl) (V := V m)
    (hmain := Pipeline.hmainP_prefix pcfgs 0 defs₀ Variants.none m main hostOps0 hostOps0_sub ⟨rfl, rfl, rfl, rfl, rfl⟩ main_chain)
    (hsplit := fun c => Pipeline.arrays_split (pcs T) (dats T (V m)) 0 (launch0 (F := Bits)).win.arr_inj c (launch0 (F := Bits)).arr_whole
      (share_full T m c) _ _ fun _ => rfl)
    (hpf := V_pre T m hT)
    (X := fun _ => iprop(emp)) (Y := fun _ => iprop(emp)) (Z := biases m)
    (hX := biases_of_rest m) (hin := phi_first T m) (hout := phi_last T m)
    (QY := fun c s => s.mem ((c : Thread nD τ).loc main_arg6) = m ((c : Thread nD τ).loc main_arg6) ∧ s.mem ((c : Thread nD τ).loc main_arg8) = m ((c : Thread nD τ).loc main_arg8))
    (hY := biases_read m)
    (hQ := fun _ h hz => ⟨fun c => ⟨(h c).1, (h c).2.1, (h c).2.2.1, (h c).2.2.2⟩, hz⟩)

/-- The arguments are unchanged at the end, -/
def Kept (r : PUnit × MemSt nD τ sig (Elt Bits)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)

theorem kept_of_ends (hT : Tables T m) {r : PUnit × MemSt nD τ sig (Elt Bits)} (h : Ends T m r) : Kept m r := fun c =>
  ⟨((h c).2.1 0).trans (hT c).1.symm, ((h c).2.1 1).trans (hT c).2.1.symm, ((h c).2.1 2).trans (hT c).2.2.1.symm, ((h c).2.1 3).trans (hT c).2.2.2.symm,
    (((h c).1 (0 : Fin 7)).trans ((dats T (V m) 0 c).arrAt_in (0 : Fin 7) rfl _)).trans (V_main_arg4 m c),
    (((h c).1 (1 : Fin 7)).trans ((dats T (V m) 0 c).arrAt_in (1 : Fin 7) rfl _)).trans (V_main_arg5 m c),
    (h c).2.2.1,
    (((h c).1 (2 : Fin 7)).trans ((dats T (V m) 0 c).arrAt_in (2 : Fin 7) rfl _)).trans (V_main_arg7 m c),
    (h c).2.2.2⟩

/-- and so the program keeps its arguments and leaves every counter at zero. -/
theorem run_kept (hT : Tables T m) :
    θ_run (defs (F := Bits)) (onTc (τ := τ) (main (F := Bits))) ⟨m, fun _ => 0, ρ⟩ (fun r => Kept m r ∧ r.2.sem = fun _ => 0) :=
  (θ_run defs _ _).mono (fun _ h => ⟨kept_of_ends T m hT h.1, h.2⟩) (run_ends T m ρ hT)

end Cert.Kernel.Moe

end
-- ==== Proof.KernelIdeal.Body.lean ====
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.WritesUnit
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # The kernel body cut at its branches

The body reads five table words and then runs four guarded pieces: it copies one expert's weights, rounded and
with the two halves separated, into three scratch buffers; it computes a whole block; it clears a block; it
computes the upper or the lower 256 rows of a block and keeps the rows of the other experts. Each piece is named
here, and the printed body is shown to be their sequence. -/

/-- The four tables of the work list and the three scratch buffers, whole. -/
abbrev table0 : Memref sig .tc .smem S288 .i32 := Memref.whole main_arg0
abbrev table1 : Memref sig .tc .smem S288 .i32 := Memref.whole main_arg1
abbrev table2 : Memref sig .tc .smem S288 .i32 := Memref.whole main_arg2
abbrev table3 : Memref sig .tc .smem S288 .i32 := Memref.whole main_arg3
abbrev gateBuf : Memref sig .tc .vmem S1024x1024 .bf16 := Memref.whole cc0_scratch0
abbrev upBuf : Memref sig .tc .vmem S1024x1024 .bf16 := Memref.whole cc0_scratch1
abbrev downBuf : Memref sig .tc .vmem S1024x1024 .bf16 := Memref.whole cc0_scratch2

/-- The weights of a new expert are copied into the scratch buffers. -/
def fillProg (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) : Prog (TpuEff nD τ sig (Elt Ideal) Λ₀ .tc) PUnit := do
  k0_part1 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part2 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part3 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part4 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part5 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part6 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part7 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part8 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part9 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part10 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part11 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part12 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part13 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part14 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part15 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  k0_part16 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  let v662 : Vec Ideal S1x1x1024x1024 .f32 ← Prog.lift (.load arg7 (Rect.unit (s := S1x1x1024x1024) ![0, 0, 0, 0] S1x1x1024x1024.size inb_S1x1x1024x1024_S1x1x1024x1024_0_0_0_0).toLoadRect (View.loadsAt_vmem h_S1x1x1024x1024))
  let v665 : Vec Ideal S1024x1024 .bf16 ← Prog.lift (.load downBuf (Rect.unit (s := S1024x1024) ![0, 0] S1024x1024.size inb_S1024x1024_S1024x1024_0_0).toLoadRect (View.loadsAt_vmem h_S1024x1024))
  Prog.lift (.store downBuf (Rect.unit (s := S1024x1024) ![0, 0] S1024x1024.size inb_S1024x1024_S1024x1024_0_0) (k0_pay102 v662) Finset.univ (View.stores_vmem h_S1024x1024 ((Memref.isWhole_whole _).storeExact_slice rfl _ packedbf16_S1024x1024_S1024x1024_0_0) (fun _ => rfl)) (.inl rfl))
  pure ⟨⟩

/-- A block that one expert owns is computed whole. -/
def fullProg (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) : Prog (TpuEff nD τ sig (Elt Ideal) Λ₀ .tc) PUnit := do
  let ⟨v86, v87⟩ : Σ' (v86 : FVec Ideal S512x1024 .bf16), Vec Ideal S1024x1024 .bf16 ← k0_part17 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  let v89 : Vec Ideal S1x1x1x1024 .f32 ← Prog.lift (.load arg10 (Rect.unit (s := S1x1x1x1024) ![0, 0, 0, 0] S1x1x1x1024.size inb_S1x1x1x1024_S1x1x1x1024_0_0_0_0).toLoadRect (View.loadsAt_vmem h_S1x1x1x1024))
  let v94 : Vec Ideal S512x1024 .bf16 ← Prog.lift (.load arg11 (Rect.unit (s := S512x1024) ![0, 0] S512x1024.size inb_S512x1024_S512x1024_0_0).toLoadRect (View.loadsAt_vmem h_S512x1024))
  Prog.lift (.store arg11 (Rect.unit (s := S512x1024) ![0, 0] S512x1024.size inb_S512x1024_S512x1024_0_0) (k0_pay103 v86 v87 v89) Finset.univ (View.stores_vmem h_S512x1024 (harg11.storeExact_slice rfl _ packedbf16_S512x1024_S512x1024_0_0) (fun _ => rfl)) (.inl rfl))
  pure ⟨⟩

/-- A block shared between experts is cleared when it is first met. -/
def zeroProg (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) : Prog (TpuEff nD τ sig (Elt Ideal) Λ₀ .tc) PUnit := do
  let v55 : Vec Ideal S512x1024 .bf16 ← Prog.lift (.load arg11 (Rect.unit (s := S512x1024) ![0, 0] S512x1024.size inb_S512x1024_S512x1024_0_0).toLoadRect (View.loadsAt_vmem h_S512x1024))
  Prog.lift (.store arg11 (Rect.unit (s := S512x1024) ![0, 0] S512x1024.size inb_S512x1024_S512x1024_0_0) (k0_pay104 (F := Ideal)) Finset.univ (View.stores_vmem h_S512x1024 (harg11.storeExact_slice rfl _ packedbf16_S512x1024_S512x1024_0_0) (fun _ => rfl)) (.inl rfl))
  pure ⟨⟩

/-- The upper 256 rows of a shared block. -/
def upperProg (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (v3 v5 v31 : BitVec 32) : Prog (TpuEff nD τ sig (Elt Ideal) Λ₀ .tc) PUnit := do
  let ⟨v86, v87⟩ : Σ' (v86 : FVec Ideal S256x1024 .bf16), Vec Ideal S1024x1024 .bf16 ← k0_part18 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  let v89 : Vec Ideal S1x1x1x1024 .f32 ← Prog.lift (.load arg10 (Rect.unit (s := S1x1x1x1024) ![0, 0, 0, 0] S1x1x1x1024.size inb_S1x1x1x1024_S1x1x1x1024_0_0_0_0).toLoadRect (View.loadsAt_vmem h_S1x1x1x1024))
  let v102 : Vec Ideal S256x1024 .bf16 ← Prog.lift (.load arg11 (Rect.unit (s := S512x1024) ![0, 0] S256x1024.size inb_S512x1024_S256x1024_0_0).toLoadRect (View.loadsAt_vmem h_S256x1024))
  let v107 : Vec Ideal S256x1024 .bf16 ← Prog.lift (.load arg11 (Rect.unit (s := S512x1024) ![0, 0] S256x1024.size inb_S512x1024_S256x1024_0_0).toLoadRect (View.loadsAt_vmem h_S256x1024))
  Prog.lift (.store arg11 (Rect.unit (s := S512x1024) ![0, 0] S256x1024.size inb_S512x1024_S256x1024_0_0) (k0_pay1 v3 v5 v31 v86 v87 v89 v102) Finset.univ (View.stores_vmem h_S256x1024 (harg11.storeExact_slice rfl _ packedbf16_S512x1024_S256x1024_0_0) (fun _ => rfl)) (.inl rfl))
  pure ⟨⟩

/-- The lower 256 rows of a shared block. -/
def lowerProg (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (v1 v3 v5 : BitVec 32) : Prog (TpuEff nD τ sig (Elt Ideal) Λ₀ .tc) PUnit := do
  let ⟨v86, v87⟩ : Σ' (v86 : FVec Ideal S256x1024 .bf16), Vec Ideal S1024x1024 .bf16 ← k0_part19 i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)
  let v89 : Vec Ideal S1x1x1x1024 .f32 ← Prog.lift (.load arg10 (Rect.unit (s := S1x1x1x1024) ![0, 0, 0, 0] S1x1x1x1024.size inb_S1x1x1x1024_S1x1x1x1024_0_0_0_0).toLoadRect (View.loadsAt_vmem h_S1x1x1x1024))
  let v102 : Vec Ideal S256x1024 .bf16 ← Prog.lift (.load arg11 (Rect.unit (s := S512x1024) ![256, 0] S256x1024.size inb_S512x1024_S256x1024_256_0).toLoadRect (View.loadsAt_vmem h_S256x1024))
  let v107 : Vec Ideal S256x1024 .bf16 ← Prog.lift (.load arg11 (Rect.unit (s := S512x1024) ![256, 0] S256x1024.size inb_S512x1024_S256x1024_256_0).toLoadRect (View.loadsAt_vmem h_S256x1024))
  Prog.lift (.store arg11 (Rect.unit (s := S512x1024) ![256, 0] S256x1024.size inb_S512x1024_S256x1024_256_0) (k0_pay2 v1 v3 v5 v86 v87 v89 v102) Finset.univ (View.stores_vmem h_S256x1024 (harg11.storeExact_slice rfl _ packedbf16_S512x1024_S256x1024_256_0) (fun _ => rfl)) (.inl rfl))
  pure ⟨⟩

/-- Whether the weights are another expert's than at the point before: the first point, or the expert changed. -/
def newExpert (i : grid0.Coords) (v15 v17 : BitVec 32) : BitVec 1 :=
  Scalar.cmpi .ne (Scalar.extui (Scalar.ori (Scalar.cmpi .eq (BitVec.ofNat 32 (i 0).val) 0#32) (Scalar.cmpi .ne v15 v17))) 0#32

/-- The guarded pieces, after the table words are read. -/
def piecesProg (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (v1 v3 v5 v10 v15 v17 : BitVec 32) : Prog (TpuEff nD τ sig (Elt Ideal) Λ₀ .tc) PUnit := do
  if newExpert i v15 v17 = 1#1 then fillProg i arg5 harg5 arg6 harg6 arg7 harg7 arg8 harg8 arg9 harg9 arg10 harg10 arg11 harg11 else pure ⟨⟩
  if k0_cond2 v3 v5 = 1#1 then fullProg i arg5 harg5 arg6 harg6 arg7 harg7 arg8 harg8 arg9 harg9 arg10 harg10 arg11 harg11 else pure ⟨⟩
  if k0_cond3 i v1 v3 v5 v10 = 1#1 then zeroProg i arg5 harg5 arg6 harg6 arg7 harg7 arg8 harg8 arg9 harg9 arg10 harg10 arg11 harg11 else pure ⟨⟩
  if k0_cond4 v1 v3 v5 = 1#1 then upperProg i arg5 harg5 arg6 harg6 arg7 harg7 arg8 harg8 arg9 harg9 arg10 harg10 arg11 harg11 v3 v5 (Scalar.addi (Scalar.muli v1 512#32) 0#32) else pure ⟨⟩
  if k0_cond5 v1 v3 v5 = 1#1 then lowerProg i arg5 harg5 arg6 harg6 arg7 harg7 arg8 harg8 arg9 harg9 arg10 harg10 arg11 harg11 v1 v3 v5 else pure ⟨⟩

/-- The body: the six table words, then the pieces. -/
def cutBody (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) : Prog (TpuEff nD τ sig (Elt Ideal) Λ₀ .tc) PUnit := do
  let v1 : Elt Ideal .i32 ← smemLoad table0 (Rect.unit (s := S288) (k0_off1 i) S1.size (k0_off1_inb i)) numel1_S1 rfl
  let v3 : Elt Ideal .i32 ← smemLoad table2 (Rect.unit (s := S288) (k0_off1 i) S1.size (k0_off1_inb i)) numel1_S1 rfl
  let v5 : Elt Ideal .i32 ← smemLoad table3 (Rect.unit (s := S288) (k0_off1 i) S1.size (k0_off1_inb i)) numel1_S1 rfl
  let v10 : Elt Ideal .i32 ← smemLoad table0 (Rect.unit (s := S288) (k0_off2 i) S1.size (k0_off2_inb i)) numel1_S1 rfl
  let v15 : Elt Ideal .i32 ← smemLoad table1 (Rect.unit (s := S288) (k0_off1 i) S1.size (k0_off1_inb i)) numel1_S1 rfl
  let v17 : Elt Ideal .i32 ← smemLoad table1 (Rect.unit (s := S288) (k0_off2 i) S1.size (k0_off2_inb i)) numel1_S1 rfl
  piecesProg i arg5 harg5 arg6 harg6 arg7 harg7 arg8 harg8 arg9 harg9 arg10 harg10 arg11 harg11 v1 v3 v5 v10 v15 v17

set_option maxRecDepth 65536 in
/-- The printed body is the body so cut. -/
theorem body_eq_cut (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) :
    cc0_moe_ffn (F := Ideal) i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _) = cutBody i arg5 harg5 arg6 harg6 arg7 harg7 arg8 harg8 arg9 harg9 arg10 harg10 arg11 harg11 := by
  rw [cc0_moe_ffn_eq_skeleton]
  unfold cc0_moe_ffn_skel cutBody
  rw [k0_part20_eq_skeleton]
  unfold k0_part20_skel
  simp only [bind_assoc]
  refine congrArg _ (funext fun v1 => congrArg _ (funext fun v3 => congrArg _ (funext fun v5 => congrArg _ (funext fun v10 =>
    congrArg _ (funext fun v15 => congrArg _ (funext fun v17 => ?_))))))
  unfold piecesProg fillProg fullProg zeroProg upperProg lowerProg newExpert
  by_cases h1 : Scalar.cmpi .ne (Scalar.extui (Scalar.ori (Scalar.cmpi .eq (BitVec.ofNat 32 (i 0).val) 0#32) (Scalar.cmpi .ne v15 v17))) 0#32 = 1#1 <;>
  by_cases h2 : k0_cond2 v3 v5 = 1#1 <;> by_cases h3 : k0_cond3 i v1 v3 v5 v10 = 1#1 <;>
  by_cases h4 : k0_cond4 v1 v3 v5 = 1#1 <;> by_cases h5 : k0_cond5 v1 v3 v5 = 1#1 <;>
  simp only [h1, h2, h3, h4, h5, bind_assoc, pure_bind, if_true, if_false, dif_pos, dif_neg, not_false_eq_true, reduceIte, reduceDIte] <;> rfl

end Cert.KernelIdeal.Moe

end
-- ==== Proof.KernelIdeal.Runs.lean ====
module

public import proofs.«01_k».proof.Proof.KernelIdeal.Body

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # What each piece of the body leaves

Each piece is run on whole staging memrefs, from any contents of what it reads, to the contents of what it
writes as one function. -/

/-- The rows of a block this item owns, computed: the hidden layer of the block, its product with the down weights
and the bias. -/
def wholeBlock (x0 : S512x1024.Idx → Elt Ideal .bf16) (g u w : S1024x1024.Idx → Elt Ideal .bf16) (x3 x4 x5 : S1x1x1x1024.Idx → Elt Ideal .f32) :
    S512x1024.Idx → Elt Ideal .bf16 :=
  k0_pay103 (k0_pay99 x0 g x3 u x4) w x5

/-- The part of a block from row `r` on, 256 rows. -/
def rowsFrom (r : ℕ) (inb : ∀ a, (![r, 0] : Fin 2 → ℕ) a + S256x1024.size a ≤ S512x1024.size a) (d : S512x1024.Idx → Elt Ideal .bf16) : S256x1024.Idx → Elt Ideal .bf16 :=
  fun y => d ((Rect.unit (s := S512x1024) ![r, 0] S256x1024.size inb).toLoadRect.idx y)

/-- A load of 256 rows reads those rows. -/
theorem readAt_rows {sp : Space} (v : View sig .tc sp S512x1024 .bf16) (x : S512x1024.Idx → Elt Ideal .bf16) (r : ℕ)
    (inb : ∀ a, (![r, 0] : Fin 2 → ℕ) a + S256x1024.size a ≤ S512x1024.size a) :
    v.readAt (Elt Ideal) (Rect.unit (s := S512x1024) ![r, 0] S256x1024.size inb).toLoadRect (v.rep x) = rowsFrom r inb x := View.readAt_rep _ _ _

/-- A shared block after its upper 256 rows are done. -/
def upperBlock (v3 v5 v31 : BitVec 32) (x0 : S512x1024.Idx → Elt Ideal .bf16) (g u w : S1024x1024.Idx → Elt Ideal .bf16) (x3 x4 x5 : S1x1x1x1024.Idx → Elt Ideal .f32)
    (d : S512x1024.Idx → Elt Ideal .bf16) : S512x1024.Idx → Elt Ideal .bf16 :=
  VecWindow.put d ![0, 0] S256x1024.size
    (k0_pay1 v3 v5 v31 (k0_pay100 (rowsFrom 0 inb_S512x1024_S256x1024_0_0 x0) g x3 u x4) w x5 (rowsFrom 0 inb_S512x1024_S256x1024_0_0 d))

/-- A shared block after its lower 256 rows are done. -/
def lowerBlock (v1 v3 v5 : BitVec 32) (x0 : S512x1024.Idx → Elt Ideal .bf16) (g u w : S1024x1024.Idx → Elt Ideal .bf16) (x3 x4 x5 : S1x1x1x1024.Idx → Elt Ideal .f32)
    (d : S512x1024.Idx → Elt Ideal .bf16) : S512x1024.Idx → Elt Ideal .bf16 :=
  VecWindow.put d ![256, 0] S256x1024.size
    (k0_pay2 v1 v3 v5 (k0_pay101 (rowsFrom 256 inb_S512x1024_S256x1024_256_0 x0) g x3 u x4) w x5 (rowsFrom 256 inb_S512x1024_S256x1024_256_0 d))

/-- A load of a whole memref reads its contents. -/
theorem readAt_rep_whole {sh : Shape} {e : EltTy} {sp : Space} (v : View sig .tc sp sh e) (x : sh.Idx → Elt Ideal e) {off : Fin sh.rank → ℕ}
    (inb : ∀ a, off a + sh.size a ≤ sh.size a) :
    v.readAt (Elt Ideal) (Rect.unit off sh.size inb).toLoadRect (v.rep x) = x := by
  rw [View.readAt_rep]
  funext y
  refine congrArg x (funext fun a => Fin.ext ?_)
  show off a + 1 * (y a).val = (y a).val
  have := inb a
  omega

/-- A memref holding contents that read as `X` is owned at `X`. -/
theorem owns_of_read (c : Dev nD) {sh : Shape} {e : EltTy} {m : Memref sig .tc .vmem sh e} {X : sh.Idx → Elt Ideal e} {f : m.view.ty.Contents (Elt Ideal)} :
    iprop((m.view.loc (c : Thread nD τ) ↦[m.view.set]{fullShare} f) ∗ ⌜m.view.read (Elt Ideal) f = X⌝)
      ⊢ (m.view.loc (c : Thread nD τ) ↦[m.view.set]{fullShare} m.view.rep X : sProp 𝕄) := by
  rw [← owns_eq_rep]
  unfold owns
  iintro ⟨H, %h⟩
  iexists f
  isplitr [H]
  · ipureintro; exact h
  · iexact H

set_option maxHeartbeats 400000

/-- The whole block is computed. -/
theorem full_run (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Ideal .bf16) (g u w : S1024x1024.Idx → Elt Ideal .bf16) (x3 x4 x5 : S1x1x1x1024.Idx → Elt Ideal .f32) (d : S512x1024.Idx → Elt Ideal .bf16) (K : PUnit → sProp 𝕄) :
    iprop(owns (c : Thread nD τ) arg5 fullShare x0 ∗ owns (c : Thread nD τ) arg8 fullShare x3 ∗ owns (c : Thread nD τ) arg9 fullShare x4 ∗ owns (c : Thread nD τ) arg10 fullShare x5 ∗ owns (c : Thread nD τ) gateBuf fullShare g ∗ owns (c : Thread nD τ) upBuf fullShare u ∗ owns (c : Thread nD τ) downBuf fullShare w ∗ owns (c : Thread nD τ) arg11 fullShare d
        ∗ (iprop(owns (c : Thread nD τ) arg5 fullShare x0 ∗ owns (c : Thread nD τ) arg8 fullShare x3 ∗ owns (c : Thread nD τ) arg9 fullShare x4 ∗ owns (c : Thread nD τ) arg10 fullShare x5 ∗ owns (c : Thread nD τ) gateBuf fullShare g ∗ owns (c : Thread nD τ) upBuf fullShare u ∗ owns (c : Thread nD τ) downBuf fullShare w ∗ owns (c : Thread nD τ) arg11 fullShare (wholeBlock x0 g u w x3 x4 x5)) -∗ K ⟨⟩))
      ⊢ wp frame (wpE (defs₀ (F := Ideal)) Variants.none c none) Set.univ (fullProg i arg5 harg5 arg6 harg6 arg7 harg7 arg8 harg8 arg9 harg9 arg10 harg10 arg11 harg11) K := by
  unfold fullProg

  repeat rw [owns_eq_rep]
  iintro ⟨H0, H3, H4, H5, HG, HU, HD, HO, Hk⟩
  have hG : gateBuf.IsWhole := Memref.isWhole_whole _
  have hU : upBuf.IsWhole := Memref.isWhole_whole _
  have hD : downBuf.IsWhole := Memref.isWhole_whole _
  sl_exec
  sl_step
  iapply Hk
  isplitl [H0]; · iexact H0
  isplitl [H3]; · iexact H3
  isplitl [H4]; · iexact H4
  isplitl [H5]; · iexact H5
  isplitl [HG]; · iexact HG
  isplitl [HU]; · iexact HU
  isplitl [HD]; · iexact HD
  iapply owns_of_read c
  isplitl [HO]; · iexact HO
  ipureintro
  refine (View.read_writes_full _ _ _ _ _).trans ?_
  unfold full_run.sl.r full_run.sl.r_1 full_run.sl.v89 full_run.sl.v57 full_run.sl.v65 wholeBlock
  repeat rw [readAt_rep_whole]

/-- The block is cleared. -/
theorem zero_run (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (d : S512x1024.Idx → Elt Ideal .bf16) (K : PUnit → sProp 𝕄) :
    iprop(owns (c : Thread nD τ) arg11 fullShare d
        ∗ (iprop(owns (c : Thread nD τ) arg11 fullShare (k0_pay104 (F := Ideal))) -∗ K ⟨⟩))
      ⊢ wp frame (wpE (defs₀ (F := Ideal)) Variants.none c none) Set.univ (zeroProg i arg5 harg5 arg6 harg6 arg7 harg7 arg8 harg8 arg9 harg9 arg10 harg10 arg11 harg11) K := by
  unfold zeroProg
  repeat rw [owns_eq_rep]
  iintro ⟨HO, Hk⟩
  have hG : gateBuf.IsWhole := Memref.isWhole_whole _
  have hU : upBuf.IsWhole := Memref.isWhole_whole _
  have hD : downBuf.IsWhole := Memref.isWhole_whole _
  sl_exec
  sl_step
  iapply Hk

  iapply owns_of_read c
  isplitl [HO]; · iexact HO
  ipureintro
  exact View.read_writes_full _ _ _ _ _

/-- The upper rows are computed and the item's rows kept. -/
theorem upper_run (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Ideal .bf16) (g u w : S1024x1024.Idx → Elt Ideal .bf16) (x3 x4 x5 : S1x1x1x1024.Idx → Elt Ideal .f32) (d : S512x1024.Idx → Elt Ideal .bf16) (v3 v5 v31 : BitVec 32) (K : PUnit → sProp 𝕄) :
    iprop(owns (c : Thread nD τ) arg5 fullShare x0 ∗ owns (c : Thread nD τ) arg8 fullShare x3 ∗ owns (c : Thread nD τ) arg9 fullShare x4 ∗ owns (c : Thread nD τ) arg10 fullShare x5 ∗ owns (c : Thread nD τ) gateBuf fullShare g ∗ owns (c : Thread nD τ) upBuf fullShare u ∗ owns (c : Thread nD τ) downBuf fullShare w ∗ owns (c : Thread nD τ) arg11 fullShare d
        ∗ (iprop(owns (c : Thread nD τ) arg5 fullShare x0 ∗ owns (c : Thread nD τ) arg8 fullShare x3 ∗ owns (c : Thread nD τ) arg9 fullShare x4 ∗ owns (c : Thread nD τ) arg10 fullShare x5 ∗ owns (c : Thread nD τ) gateBuf fullShare g ∗ owns (c : Thread nD τ) upBuf fullShare u ∗ owns (c : Thread nD τ) downBuf fullShare w ∗ owns (c : Thread nD τ) arg11 fullShare (upperBlock v3 v5 v31 x0 g u w x3 x4 x5 d)) -∗ K ⟨⟩))
      ⊢ wp frame (wpE (defs₀ (F := Ideal)) Variants.none c none) Set.univ (upperProg i arg5 harg5 arg6 harg6 arg7 harg7 arg8 harg8 arg9 harg9 arg10 harg10 arg11 harg11 v3 v5 v31) K := by
  unfold upperProg

  repeat rw [owns_eq_rep]
  iintro ⟨H0, H3, H4, H5, HG, HU, HD, HO, Hk⟩
  have hG : gateBuf.IsWhole := Memref.isWhole_whole _
  have hU : upBuf.IsWhole := Memref.isWhole_whole _
  have hD : downBuf.IsWhole := Memref.isWhole_whole _
  sl_exec
  sl_step
  iapply Hk
  isplitl [H0]; · iexact H0
  isplitl [H3]; · iexact H3
  isplitl [H4]; · iexact H4
  isplitl [H5]; · iexact H5
  isplitl [HG]; · iexact HG
  isplitl [HU]; · iexact HU
  isplitl [HD]; · iexact HD
  iapply owns_of_read c
  isplitl [HO]; · iexact HO
  ipureintro
  refine (View.read_writes_rep_unit _ _ _ _ rfl).trans ?_
  unfold upper_run.sl.r upper_run.sl.r_1 upper_run.sl.v89 upper_run.sl.v57 upper_run.sl.v65 upperBlock
  repeat rw [readAt_rep_whole]
  rw [readAt_rows, readAt_rows]

/-- The lower rows are computed and the item's rows kept. -/
theorem lower_run (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Ideal .bf16) (g u w : S1024x1024.Idx → Elt Ideal .bf16) (x3 x4 x5 : S1x1x1x1024.Idx → Elt Ideal .f32) (d : S512x1024.Idx → Elt Ideal .bf16) (v1 v3 v5 : BitVec 32) (K : PUnit → sProp 𝕄) :
    iprop(owns (c : Thread nD τ) arg5 fullShare x0 ∗ owns (c : Thread nD τ) arg8 fullShare x3 ∗ owns (c : Thread nD τ) arg9 fullShare x4 ∗ owns (c : Thread nD τ) arg10 fullShare x5 ∗ owns (c : Thread nD τ) gateBuf fullShare g ∗ owns (c : Thread nD τ) upBuf fullShare u ∗ owns (c : Thread nD τ) downBuf fullShare w ∗ owns (c : Thread nD τ) arg11 fullShare d
        ∗ (iprop(owns (c : Thread nD τ) arg5 fullShare x0 ∗ owns (c : Thread nD τ) arg8 fullShare x3 ∗ owns (c : Thread nD τ) arg9 fullShare x4 ∗ owns (c : Thread nD τ) arg10 fullShare x5 ∗ owns (c : Thread nD τ) gateBuf fullShare g ∗ owns (c : Thread nD τ) upBuf fullShare u ∗ owns (c : Thread nD τ) downBuf fullShare w ∗ owns (c : Thread nD τ) arg11 fullShare (lowerBlock v1 v3 v5 x0 g u w x3 x4 x5 d)) -∗ K ⟨⟩))
      ⊢ wp frame (wpE (defs₀ (F := Ideal)) Variants.none c none) Set.univ (lowerProg i arg5 harg5 arg6 harg6 arg7 harg7 arg8 harg8 arg9 harg9 arg10 harg10 arg11 harg11 v1 v3 v5) K := by
  unfold lowerProg

  repeat rw [owns_eq_rep]
  iintro ⟨H0, H3, H4, H5, HG, HU, HD, HO, Hk⟩
  have hG : gateBuf.IsWhole := Memref.isWhole_whole _
  have hU : upBuf.IsWhole := Memref.isWhole_whole _
  have hD : downBuf.IsWhole := Memref.isWhole_whole _
  sl_exec
  sl_step
  iapply Hk
  isplitl [H0]; · iexact H0
  isplitl [H3]; · iexact H3
  isplitl [H4]; · iexact H4
  isplitl [H5]; · iexact H5
  isplitl [HG]; · iexact HG
  isplitl [HU]; · iexact HU
  isplitl [HD]; · iexact HD
  iapply owns_of_read c
  isplitl [HO]; · iexact HO
  ipureintro
  refine (View.read_writes_rep_unit _ _ _ _ rfl).trans ?_
  unfold lower_run.sl.r lower_run.sl.r_1 lower_run.sl.v89 lower_run.sl.v57 lower_run.sl.v65 lowerBlock
  repeat rw [readAt_rep_whole]
  rw [readAt_rows, readAt_rows]

end Cert.KernelIdeal.Moe

end
-- ==== Proof.KernelIdeal.Fill.lean ====
module

public import proofs.«01_k».proof.Proof.KernelIdeal.Runs

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # The copy of one expert's weights into scratch

The gate and up columns alternate in the stored weights. The copy reads 32 pieces of 128 rows by 512 columns, and of each
leaves the even columns in one scratch buffer and the odd columns in the other. Here the two buffers are read as
one function of the weights each. -/

theorem piece_inb (r q : ℕ) (hr : r < 1024) (hq : q < 1024) :
    ∀ a, (![0, 0, q / 128 * 128, r / 256 * 512] : Fin 4 → ℕ) a + S1x1x128x512.size a ≤ S1x1x1024x2048.size a := by
  intro a
  fin_cases a
  · exact Nat.le_refl _
  · exact Nat.le_refl _
  · show q / 128 * 128 + 128 ≤ 1024; omega
  · show r / 256 * 512 + 512 ≤ 2048; omega

/-- The piece of the weights that row `r`, column `q` of a scratch buffer is read from. -/
def piece (w : S1x1x1024x2048.Idx → Elt Ideal .f32) (r q : ℕ) (hr : r < 1024) (hq : q < 1024) : S1x1x128x512.Idx → Elt Ideal .f32 :=
  fun z => w ((Rect.unit (s := S1x1x1024x2048) ![0, 0, q / 128 * 128, r / 256 * 512] S1x1x128x512.size (piece_inb r q hr hq)).toLoadRect.idx z)

/-- Row and column of a scratch element within its piece. -/
def inPiece (r q : ℕ) : S256x128.Idx := Shape.pair (d := S256x128.size) ⟨r % 256, Nat.mod_lt _ (by decide)⟩ ⟨q % 128, Nat.mod_lt _ (by decide)⟩

/-- What the gate buffer holds: column `q` of row `r` is the gate weight of input `q` and hidden unit `r`. -/
def gateOf (w : S1x1x1024x2048.Idx → Elt Ideal .f32) : S1024x1024.Idx → Elt Ideal .bf16 :=
  fun y => k0_pay4 (piece w (y 0).val (y 1).val (y 0).isLt (y 1).isLt) (inPiece (y 0).val (y 1).val)

/-- What the up buffer holds. -/
def upOf (w : S1x1x1024x2048.Idx → Elt Ideal .f32) : S1024x1024.Idx → Elt Ideal .bf16 :=
  fun y => k0_pay5 (piece w (y 0).val (y 1).val (y 0).isLt (y 1).isLt) (inPiece (y 0).val (y 1).val)

/-- What the down buffer holds. -/
def downOf (w : S1x1x1024x1024.Idx → Elt Ideal .f32) : S1024x1024.Idx → Elt Ideal .bf16 := k0_pay102 w

theorem piece_congr (w : S1x1x1024x2048.Idx → Elt Ideal .f32) {off off' : Fin 4 → ℕ} (h : off = off') (inb : ∀ a, off a + S1x1x128x512.size a ≤ S1x1x1024x2048.size a)
    (inb' : ∀ a, off' a + S1x1x128x512.size a ≤ S1x1x1024x2048.size a) :
    (fun z => w ((Rect.unit (s := S1x1x1024x2048) off S1x1x128x512.size inb).toLoadRect.idx z))
      = fun z => w ((Rect.unit (s := S1x1x1024x2048) off' S1x1x128x512.size inb').toLoadRect.idx z) := by
  subst h; rfl

/-- One stored piece agrees with the function of the whole buffer. -/
theorem stored_piece (P : (S1x1x128x512.Idx → Elt Ideal .f32) → S256x128.Idx → Elt Ideal .bf16)
    (w : S1x1x1024x2048.Idx → Elt Ideal .f32) (o0 o1 b : ℕ)
    (inb : ∀ a, (![o0, o1] : Fin 2 → ℕ) a + S256x128.size a ≤ S1024x1024.size a)
    (inb' : ∀ a, (![0, 0, o1, b] : Fin 4 → ℕ) a + S1x1x128x512.size a ≤ S1x1x1024x2048.size a)
    (h0 : o0 % 256 = 0) (h1 : o1 % 128 = 0) (hb : b = 2 * o0) (x : S256x128.Idx) (y : S1024x1024.Idx)
    (hy : y = (Rect.unit (s := S1024x1024) ![o0, o1] S256x128.size inb).emb x) :
    P (fun z => w ((Rect.unit (s := S1x1x1024x2048) ![0, 0, o1, b] S1x1x128x512.size inb').toLoadRect.idx z)) x
      = P (piece w (y 0).val (y 1).val (y 0).isLt (y 1).isLt) (inPiece (y 0).val (y 1).val) := by
  have hx0 : (x 0).val < 256 := (x 0).isLt
  have hx1 : (x 1).val < 128 := (x 1).isLt
  have e0 : (y 0).val = o0 + (x 0).val := by rw [hy]; show o0 + 1 * (x 0).val = _; omega
  have e1 : (y 1).val = o1 + (x 1).val := by rw [hy]; show o1 + 1 * (x 1).val = _; omega
  have hp : inPiece (y 0).val (y 1).val = x := by
    rw [← Shape.pair_eta (d := S256x128.size) x]
    unfold inPiece
    congr 1
    · apply Fin.ext; show (y 0).val % 256 = (x 0).val; omega
    · apply Fin.ext; show (y 1).val % 128 = (x 1).val; omega
  rw [hp]
  refine congrFun (congrArg P ?_) x
  unfold piece
  refine piece_congr w ?_ inb' _
  have a2 : (y 1).val / 128 * 128 = o1 := by omega
  have a3 : (y 0).val / 256 * 512 = b := by omega
  rw [a2, a3]

theorem readAt_piece {off : Fin 4 → ℕ} (arg6 : Memref sig .tc .vmem S1x1x1024x2048 .f32) (w : S1x1x1024x2048.Idx → Elt Ideal .f32)
    (inb : ∀ a, off a + S1x1x128x512.size a ≤ S1x1x1024x2048.size a) :
    arg6.view.readAt (Elt Ideal) (Rect.unit (s := S1x1x1024x2048) off S1x1x128x512.size inb).toLoadRect (arg6.view.rep w)
      = fun z => w ((Rect.unit (s := S1x1x1024x2048) off S1x1x128x512.size inb).toLoadRect.idx z) := View.readAt_rep _ _ _

/-- The piece stored at row `o0`, column `o1` is the part of the whole function there. -/
theorem stored (P : (S1x1x128x512.Idx → Elt Ideal .f32) → S256x128.Idx → Elt Ideal .bf16) (arg6 : Memref sig .tc .vmem S1x1x1024x2048 .f32)
    (w : S1x1x1024x2048.Idx → Elt Ideal .f32) {o0 o1 : ℕ}
    (inb : ∀ a, (![o0, o1] : Fin 2 → ℕ) a + S256x128.size a ≤ S1024x1024.size a) (h0 : o0 % 256 = 0) (h1 : o1 % 128 = 0)
    (q : S256x128.Idx → Elt Ideal .bf16)
    (hq : ∀ inb', q = P (arg6.view.readAt (Elt Ideal) (Rect.unit (s := S1x1x1024x2048) ![0, 0, o1, 2 * o0] S1x1x128x512.size inb').toLoadRect (arg6.view.rep w)))
    (x : S256x128.Idx) (y : S1024x1024.Idx) (hy : y = (Rect.unit (s := S1024x1024) ![o0, o1] S256x128.size inb).emb x) :
    q x = P (piece w (y 0).val (y 1).val (y 0).isLt (y 1).isLt) (inPiece (y 0).val (y 1).val) := by
  have inb' : ∀ a, (![0, 0, o1, 2 * o0] : Fin 4 → ℕ) a + S1x1x128x512.size a ≤ S1x1x1024x2048.size a := by
    have a0 : o0 + 256 ≤ 1024 := inb 0
    have a1 : o1 + 128 ≤ 1024 := inb 1
    intro a
    fin_cases a
    · exact Nat.le_refl _
    · exact Nat.le_refl _
    · exact a1
    · show 2 * o0 + 512 ≤ 2048; omega
  rw [hq inb', readAt_piece]
  exact stored_piece P w o0 o1 (2 * o0) inb inb' h0 h1 rfl x y hy

set_option maxHeartbeats 1000000
set_option maxRecDepth 65536

/-- The copy leaves both halves of the first weights and the down weights in the scratch buffers. -/
theorem fill_run (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x1 : S1x1x1024x2048.Idx → Elt Ideal .f32) (x2 : S1x1x1024x1024.Idx → Elt Ideal .f32)
    (g u w : S1024x1024.Idx → Elt Ideal .bf16) (K : PUnit → sProp 𝕄) :
    iprop(owns (c : Thread nD τ) arg6 fullShare x1 ∗ owns (c : Thread nD τ) arg7 fullShare x2 ∗ owns (c : Thread nD τ) gateBuf fullShare g ∗ owns (c : Thread nD τ) upBuf fullShare u ∗ owns (c : Thread nD τ) downBuf fullShare w
        ∗ (iprop(owns (c : Thread nD τ) arg6 fullShare x1 ∗ owns (c : Thread nD τ) arg7 fullShare x2 ∗ owns (c : Thread nD τ) gateBuf fullShare (gateOf x1) ∗ owns (c : Thread nD τ) upBuf fullShare (upOf x1) ∗ owns (c : Thread nD τ) downBuf fullShare (downOf x2)) -∗ K ⟨⟩))
      ⊢ wp frame (wpE (defs₀ (F := Ideal)) Variants.none c none) Set.univ (fillProg i arg5 harg5 arg6 harg6 arg7 harg7 arg8 harg8 arg9 harg9 arg10 harg10 arg11 harg11) K := by
  unfold fillProg
  repeat rw [owns_eq_rep]
  iintro ⟨H1, H2, HG, HU, HD, Hk⟩
  have hG : gateBuf.IsWhole := Memref.isWhole_whole _
  have hU : upBuf.IsWhole := Memref.isWhole_whole _
  have hD : downBuf.IsWhole := Memref.isWhole_whole _
  sl_exec
  sl_step
  iapply Hk
  isplitl [H1]; · iexact H1
  isplitl [H2]; · iexact H2
  isplitl [HG]
  · iapply owns_of_read c
    isplitl [HG]; · iexact HG
    ipureintro
    funext y
    refine View.read_writes_apply_of_pieces _ _ (gateOf x1) _ ?_ y (View.cover_of_tiledL (s := S1024x1024) _ S256x128.size (by sl_kernel_rfl) y)
    repeat' (first | exact (fun _ h => absurd h List.not_mem_nil) | refine List.forall_mem_cons.2 ⟨?_, ?_⟩)
    all_goals
      intro x
      exact stored k0_pay4 arg6 x1 (by decide) rfl rfl _ (fun _ => by rfl) x _ rfl
  isplitl [HU]
  · iapply owns_of_read c
    isplitl [HU]; · iexact HU
    ipureintro
    funext y
    refine View.read_writes_apply_of_pieces _ _ (upOf x1) _ ?_ y (View.cover_of_tiledL (s := S1024x1024) _ S256x128.size (by sl_kernel_rfl) y)
    repeat' (first | exact (fun _ h => absurd h List.not_mem_nil) | refine List.forall_mem_cons.2 ⟨?_, ?_⟩)
    all_goals
      intro x
      exact stored k0_pay5 arg6 x1 (by decide) rfl rfl _ (fun _ => by rfl) x _ rfl
  iapply owns_of_read c
  isplitl [HD]; · iexact HD
  ipureintro
  refine (View.read_writes_full _ _ _ _ _).trans ?_
  unfold fill_run.sl.v662 downOf
  rw [readAt_rep_whole]

end Cert.KernelIdeal.Moe

end
-- ==== Proof.KernelIdeal.Pieces.lean ====
module

public import proofs.«01_k».proof.Proof.KernelIdeal.Fill
public import proofs.«01_k».proof.Proof.KernelIdeal.Runs
public import proofs.«01_k».proof.Proof.Items

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # The pieces in sequence

The guarded pieces run one after another over one set of buffers: what the scratch buffers and the output block hold
after the body, as functions of what they held before and of the table words. -/

/-- The buffers the pieces run over, each at its contents. -/
def bank (c : Dev nD) (arg5 : Memref sig .tc .vmem S512x1024 .bf16) (arg6 : Memref sig .tc .vmem S1x1x1024x2048 .f32) (arg7 : Memref sig .tc .vmem S1x1x1024x1024 .f32) (arg8 arg9 arg10 : Memref sig .tc .vmem S1x1x1x1024 .f32) (arg11 : Memref sig .tc .vmem S512x1024 .bf16)
    (x0 : S512x1024.Idx → Elt Ideal .bf16) (x1 : S1x1x1024x2048.Idx → Elt Ideal .f32) (x2 : S1x1x1024x1024.Idx → Elt Ideal .f32) (x3 x4 x5 : S1x1x1x1024.Idx → Elt Ideal .f32) (g u w : S1024x1024.Idx → Elt Ideal .bf16) (d : S512x1024.Idx → Elt Ideal .bf16) : sProp 𝕄 :=
  iprop(owns (c : Thread nD τ) arg5 fullShare x0 ∗ owns (c : Thread nD τ) arg6 fullShare x1 ∗ owns (c : Thread nD τ) arg7 fullShare x2 ∗ owns (c : Thread nD τ) arg8 fullShare x3
    ∗ owns (c : Thread nD τ) arg9 fullShare x4 ∗ owns (c : Thread nD τ) arg10 fullShare x5 ∗ owns (c : Thread nD τ) gateBuf fullShare g ∗ owns (c : Thread nD τ) upBuf fullShare u
    ∗ owns (c : Thread nD τ) downBuf fullShare w ∗ owns (c : Thread nD τ) arg11 fullShare d)

/-- A program, then another: what the first leaves is what the second starts from. -/
theorem seq_run (c : Dev nD) {p rest : Prog (TpuEff nD τ sig (Elt Ideal) Λ₀ .tc) PUnit} {A B C : sProp 𝕄} {K : PUnit → sProp 𝕄}
    (hp : ∀ K : PUnit → sProp 𝕄, iprop(A ∗ (B -∗ K ⟨⟩)) ⊢ wp frame (wpE (defs₀ (F := Ideal)) Variants.none c none) Set.univ p K)
    (hr : iprop(B ∗ C) ⊢ wp frame (wpE (defs₀ (F := Ideal)) Variants.none c none) Set.univ rest K) :
    iprop(A ∗ C) ⊢ wp frame (wpE (defs₀ (F := Ideal)) Variants.none c none) Set.univ (p >>= fun _ => rest) K := by
  rw [wp_bind]
  refine BIBase.Entails.trans ?_ (hp _)
  iintro ⟨HA, HC⟩
  isplitl [HA]; · iexact HA
  iintro HB
  iapply hr
  isplitl [HB]; · iexact HB
  iexact HC

/-- New weights are copied if the expert changed. -/
theorem fillIf (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Ideal .bf16) (x1 : S1x1x1024x2048.Idx → Elt Ideal .f32) (x2 : S1x1x1024x1024.Idx → Elt Ideal .f32) (x3 x4 x5 : S1x1x1x1024.Idx → Elt Ideal .f32) (g u w : S1024x1024.Idx → Elt Ideal .bf16) (d : S512x1024.Idx → Elt Ideal .bf16) (v15 v17 : BitVec 32) (K : PUnit → sProp 𝕄) :
    iprop(bank c arg5 arg6 arg7 arg8 arg9 arg10 arg11 x0 x1 x2 x3 x4 x5 g u w d ∗ (bank c arg5 arg6 arg7 arg8 arg9 arg10 arg11 x0 x1 x2 x3 x4 x5 (if newExpert i v15 v17 = 1#1 then gateOf x1 else g) (if newExpert i v15 v17 = 1#1 then upOf x1 else u) (if newExpert i v15 v17 = 1#1 then downOf x2 else w) d -∗ K ⟨⟩))
      ⊢ wp frame (wpE (defs₀ (F := Ideal)) Variants.none c none) Set.univ (if newExpert i v15 v17 = 1#1 then fillProg i arg5 harg5 arg6 harg6 arg7 harg7 arg8 harg8 arg9 harg9 arg10 harg10 arg11 harg11 else pure ⟨⟩) K := by
  by_cases h : newExpert i v15 v17 = 1#1
  · simp only [if_pos h]
    unfold bank
    iintro ⟨⟨H0, H1, H2, H3, H4, H5, HG, HU, HD, HO⟩, Hk⟩
    iapply fill_run c i arg5 harg5 arg6 harg6 arg7 harg7 arg8 harg8 arg9 harg9 arg10 harg10 arg11 harg11 x1 x2 g u w K
    isplitl [H1]; · iexact H1
    isplitl [H2]; · iexact H2
    isplitl [HG]; · iexact HG
    isplitl [HU]; · iexact HU
    isplitl [HD]; · iexact HD
    iintro ⟨H1, H2, HG, HU, HD⟩
    iapply Hk
    isplitl [H0]; · iexact H0
    isplitl [H1]; · iexact H1
    isplitl [H2]; · iexact H2
    isplitl [H3]; · iexact H3
    isplitl [H4]; · iexact H4
    isplitl [H5]; · iexact H5
    isplitl [HG]; · iexact HG
    isplitl [HU]; · iexact HU
    isplitl [HD]; · iexact HD
    iexact HO
  · simp only [if_neg h]
    iintro ⟨HB, Hk⟩
    iapply le_wp_ret
    iapply Hk; iexact HB

/-- A block of one expert. -/
theorem fullIf (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Ideal .bf16) (x1 : S1x1x1024x2048.Idx → Elt Ideal .f32) (x2 : S1x1x1024x1024.Idx → Elt Ideal .f32) (x3 x4 x5 : S1x1x1x1024.Idx → Elt Ideal .f32) (g u w : S1024x1024.Idx → Elt Ideal .bf16) (d : S512x1024.Idx → Elt Ideal .bf16) (v3 v5 : BitVec 32) (K : PUnit → sProp 𝕄) :
    iprop(bank c arg5 arg6 arg7 arg8 arg9 arg10 arg11 x0 x1 x2 x3 x4 x5 g u w d ∗ (bank c arg5 arg6 arg7 arg8 arg9 arg10 arg11 x0 x1 x2 x3 x4 x5 g u w (if k0_cond2 v3 v5 = 1#1 then wholeBlock x0 g u w x3 x4 x5 else d) -∗ K ⟨⟩))
      ⊢ wp frame (wpE (defs₀ (F := Ideal)) Variants.none c none) Set.univ (if k0_cond2 v3 v5 = 1#1 then fullProg i arg5 harg5 arg6 harg6 arg7 harg7 arg8 harg8 arg9 harg9 arg10 harg10 arg11 harg11 else pure ⟨⟩) K := by
  by_cases h : k0_cond2 v3 v5 = 1#1
  · simp only [if_pos h]
    unfold bank
    iintro ⟨⟨H0, H1, H2, H3, H4, H5, HG, HU, HD, HO⟩, Hk⟩
    iapply full_run c i arg5 harg5 arg6 harg6 arg7 harg7 arg8 harg8 arg9 harg9 arg10 harg10 arg11 harg11 x0 g u w x3 x4 x5 d K
    isplitl [H0]; · iexact H0
    isplitl [H3]; · iexact H3
    isplitl [H4]; · iexact H4
    isplitl [H5]; · iexact H5
    isplitl [HG]; · iexact HG
    isplitl [HU]; · iexact HU
    isplitl [HD]; · iexact HD
    isplitl [HO]; · iexact HO
    iintro ⟨H0, H3, H4, H5, HG, HU, HD, HO⟩
    iapply Hk
    isplitl [H0]; · iexact H0
    isplitl [H1]; · iexact H1
    isplitl [H2]; · iexact H2
    isplitl [H3]; · iexact H3
    isplitl [H4]; · iexact H4
    isplitl [H5]; · iexact H5
    isplitl [HG]; · iexact HG
    isplitl [HU]; · iexact HU
    isplitl [HD]; · iexact HD
    iexact HO
  · simp only [if_neg h]
    iintro ⟨HB, Hk⟩
    iapply le_wp_ret
    iapply Hk; iexact HB

/-- A shared block is cleared. -/
theorem zeroIf (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Ideal .bf16) (x1 : S1x1x1024x2048.Idx → Elt Ideal .f32) (x2 : S1x1x1024x1024.Idx → Elt Ideal .f32) (x3 x4 x5 : S1x1x1x1024.Idx → Elt Ideal .f32) (g u w : S1024x1024.Idx → Elt Ideal .bf16) (d : S512x1024.Idx → Elt Ideal .bf16) (v1 v3 v5 v10 : BitVec 32) (K : PUnit → sProp 𝕄) :
    iprop(bank c arg5 arg6 arg7 arg8 arg9 arg10 arg11 x0 x1 x2 x3 x4 x5 g u w d ∗ (bank c arg5 arg6 arg7 arg8 arg9 arg10 arg11 x0 x1 x2 x3 x4 x5 g u w (if k0_cond3 i v1 v3 v5 v10 = 1#1 then k0_pay104 (F := Ideal) else d) -∗ K ⟨⟩))
      ⊢ wp frame (wpE (defs₀ (F := Ideal)) Variants.none c none) Set.univ (if k0_cond3 i v1 v3 v5 v10 = 1#1 then zeroProg i arg5 harg5 arg6 harg6 arg7 harg7 arg8 harg8 arg9 harg9 arg10 harg10 arg11 harg11 else pure ⟨⟩) K := by
  by_cases h : k0_cond3 i v1 v3 v5 v10 = 1#1
  · simp only [if_pos h]
    unfold bank
    iintro ⟨⟨H0, H1, H2, H3, H4, H5, HG, HU, HD, HO⟩, Hk⟩
    iapply zero_run c i arg5 harg5 arg6 harg6 arg7 harg7 arg8 harg8 arg9 harg9 arg10 harg10 arg11 harg11 d K
    isplitl [HO]; · iexact HO
    iintro ⟨HO⟩
    iapply Hk
    isplitl [H0]; · iexact H0
    isplitl [H1]; · iexact H1
    isplitl [H2]; · iexact H2
    isplitl [H3]; · iexact H3
    isplitl [H4]; · iexact H4
    isplitl [H5]; · iexact H5
    isplitl [HG]; · iexact HG
    isplitl [HU]; · iexact HU
    isplitl [HD]; · iexact HD
    iexact HO
  · simp only [if_neg h]
    iintro ⟨HB, Hk⟩
    iapply le_wp_ret
    iapply Hk; iexact HB

/-- The upper rows of a shared block. -/
theorem upperIf (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Ideal .bf16) (x1 : S1x1x1024x2048.Idx → Elt Ideal .f32) (x2 : S1x1x1024x1024.Idx → Elt Ideal .f32) (x3 x4 x5 : S1x1x1x1024.Idx → Elt Ideal .f32) (g u w : S1024x1024.Idx → Elt Ideal .bf16) (d : S512x1024.Idx → Elt Ideal .bf16) (v1 v3 v5 v31 : BitVec 32) (K : PUnit → sProp 𝕄) :
    iprop(bank c arg5 arg6 arg7 arg8 arg9 arg10 arg11 x0 x1 x2 x3 x4 x5 g u w d ∗ (bank c arg5 arg6 arg7 arg8 arg9 arg10 arg11 x0 x1 x2 x3 x4 x5 g u w (if k0_cond4 v1 v3 v5 = 1#1 then upperBlock v3 v5 v31 x0 g u w x3 x4 x5 d else d) -∗ K ⟨⟩))
      ⊢ wp frame (wpE (defs₀ (F := Ideal)) Variants.none c none) Set.univ (if k0_cond4 v1 v3 v5 = 1#1 then upperProg i arg5 harg5 arg6 harg6 arg7 harg7 arg8 harg8 arg9 harg9 arg10 harg10 arg11 harg11 v3 v5 v31 else pure ⟨⟩) K := by
  by_cases h : k0_cond4 v1 v3 v5 = 1#1
  · simp only [if_pos h]
    unfold bank
    iintro ⟨⟨H0, H1, H2, H3, H4, H5, HG, HU, HD, HO⟩, Hk⟩
    iapply upper_run c i arg5 harg5 arg6 harg6 arg7 harg7 arg8 harg8 arg9 harg9 arg10 harg10 arg11 harg11 x0 g u w x3 x4 x5 d v3 v5 v31 K
    isplitl [H0]; · iexact H0
    isplitl [H3]; · iexact H3
    isplitl [H4]; · iexact H4
    isplitl [H5]; · iexact H5
    isplitl [HG]; · iexact HG
    isplitl [HU]; · iexact HU
    isplitl [HD]; · iexact HD
    isplitl [HO]; · iexact HO
    iintro ⟨H0, H3, H4, H5, HG, HU, HD, HO⟩
    iapply Hk
    isplitl [H0]; · iexact H0
    isplitl [H1]; · iexact H1
    isplitl [H2]; · iexact H2
    isplitl [H3]; · iexact H3
    isplitl [H4]; · iexact H4
    isplitl [H5]; · iexact H5
    isplitl [HG]; · iexact HG
    isplitl [HU]; · iexact HU
    isplitl [HD]; · iexact HD
    iexact HO
  · simp only [if_neg h]
    iintro ⟨HB, Hk⟩
    iapply le_wp_ret
    iapply Hk; iexact HB

/-- The lower rows of a shared block. -/
theorem lowerIf (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Ideal .bf16) (x1 : S1x1x1024x2048.Idx → Elt Ideal .f32) (x2 : S1x1x1024x1024.Idx → Elt Ideal .f32) (x3 x4 x5 : S1x1x1x1024.Idx → Elt Ideal .f32) (g u w : S1024x1024.Idx → Elt Ideal .bf16) (d : S512x1024.Idx → Elt Ideal .bf16) (v1 v3 v5 : BitVec 32) (K : PUnit → sProp 𝕄) :
    iprop(bank c arg5 arg6 arg7 arg8 arg9 arg10 arg11 x0 x1 x2 x3 x4 x5 g u w d ∗ (bank c arg5 arg6 arg7 arg8 arg9 arg10 arg11 x0 x1 x2 x3 x4 x5 g u w (if k0_cond5 v1 v3 v5 = 1#1 then lowerBlock v1 v3 v5 x0 g u w x3 x4 x5 d else d) -∗ K ⟨⟩))
      ⊢ wp frame (wpE (defs₀ (F := Ideal)) Variants.none c none) Set.univ (if k0_cond5 v1 v3 v5 = 1#1 then lowerProg i arg5 harg5 arg6 harg6 arg7 harg7 arg8 harg8 arg9 harg9 arg10 harg10 arg11 harg11 v1 v3 v5 else pure ⟨⟩) K := by
  by_cases h : k0_cond5 v1 v3 v5 = 1#1
  · simp only [if_pos h]
    unfold bank
    iintro ⟨⟨H0, H1, H2, H3, H4, H5, HG, HU, HD, HO⟩, Hk⟩
    iapply lower_run c i arg5 harg5 arg6 harg6 arg7 harg7 arg8 harg8 arg9 harg9 arg10 harg10 arg11 harg11 x0 g u w x3 x4 x5 d v1 v3 v5 K
    isplitl [H0]; · iexact H0
    isplitl [H3]; · iexact H3
    isplitl [H4]; · iexact H4
    isplitl [H5]; · iexact H5
    isplitl [HG]; · iexact HG
    isplitl [HU]; · iexact HU
    isplitl [HD]; · iexact HD
    isplitl [HO]; · iexact HO
    iintro ⟨H0, H3, H4, H5, HG, HU, HD, HO⟩
    iapply Hk
    isplitl [H0]; · iexact H0
    isplitl [H1]; · iexact H1
    isplitl [H2]; · iexact H2
    isplitl [H3]; · iexact H3
    isplitl [H4]; · iexact H4
    isplitl [H5]; · iexact H5
    isplitl [HG]; · iexact HG
    isplitl [HU]; · iexact HU
    isplitl [HD]; · iexact HD
    iexact HO
  · simp only [if_neg h]
    iintro ⟨HB, Hk⟩
    iapply le_wp_ret
    iapply Hk; iexact HB

/-- The pieces as one sequence. -/
theorem pieces_eq (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (v1 v3 v5 v10 v15 v17 : BitVec 32) :
    piecesProg i arg5 harg5 arg6 harg6 arg7 harg7 arg8 harg8 arg9 harg9 arg10 harg10 arg11 harg11 v1 v3 v5 v10 v15 v17 =
      ((if newExpert i v15 v17 = 1#1 then fillProg i arg5 harg5 arg6 harg6 arg7 harg7 arg8 harg8 arg9 harg9 arg10 harg10 arg11 harg11 else pure ⟨⟩) >>= fun _ =>
       (if k0_cond2 v3 v5 = 1#1 then fullProg i arg5 harg5 arg6 harg6 arg7 harg7 arg8 harg8 arg9 harg9 arg10 harg10 arg11 harg11 else pure ⟨⟩) >>= fun _ =>
       (if k0_cond3 i v1 v3 v5 v10 = 1#1 then zeroProg i arg5 harg5 arg6 harg6 arg7 harg7 arg8 harg8 arg9 harg9 arg10 harg10 arg11 harg11 else pure ⟨⟩) >>= fun _ =>
       (if k0_cond4 v1 v3 v5 = 1#1 then upperProg i arg5 harg5 arg6 harg6 arg7 harg7 arg8 harg8 arg9 harg9 arg10 harg10 arg11 harg11 v3 v5 (Scalar.addi (Scalar.muli v1 512#32) 0#32) else pure ⟨⟩) >>= fun _ =>
       (if k0_cond5 v1 v3 v5 = 1#1 then lowerProg i arg5 harg5 arg6 harg6 arg7 harg7 arg8 harg8 arg9 harg9 arg10 harg10 arg11 harg11 v1 v3 v5 else pure ⟨⟩)) := by
  unfold piecesProg
  by_cases h1 : newExpert i v15 v17 = 1#1 <;>
  by_cases h2 : k0_cond2 v3 v5 = 1#1 <;> by_cases h3 : k0_cond3 i v1 v3 v5 v10 = 1#1 <;>
  by_cases h4 : k0_cond4 v1 v3 v5 = 1#1 <;> by_cases h5 : k0_cond5 v1 v3 v5 = 1#1 <;>
  simp only [h1, h2, h3, h4, h5, bind_assoc, pure_bind, if_true, if_false, reduceIte] <;> rfl

/-- What the output block holds after a point, from what it held before: computed whole, or cleared at its first point and
then filled part by part. -/
def stepOf (i : grid0.Coords) (v1 v3 v5 v10 : BitVec 32) (x0 : S512x1024.Idx → Elt Ideal .bf16) (g u w : S1024x1024.Idx → Elt Ideal .bf16) (x3 x4 x5 : S1x1x1x1024.Idx → Elt Ideal .f32)
    (d : S512x1024.Idx → Elt Ideal .bf16) : S512x1024.Idx → Elt Ideal .bf16 :=
  let d2 := if k0_cond2 v3 v5 = 1#1 then wholeBlock x0 g u w x3 x4 x5 else d
  let d3 := if k0_cond3 i v1 v3 v5 v10 = 1#1 then k0_pay104 (F := Ideal) else d2
  let d4 := if k0_cond4 v1 v3 v5 = 1#1 then upperBlock v3 v5 (Scalar.addi (Scalar.muli v1 512#32) 0#32) x0 g u w x3 x4 x5 d3 else d3
  if k0_cond5 v1 v3 v5 = 1#1 then lowerBlock v1 v3 v5 x0 g u w x3 x4 x5 d4 else d4

/-- The pieces' triple. -/
theorem pieces_run (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Ideal .bf16) (x1 : S1x1x1024x2048.Idx → Elt Ideal .f32) (x2 : S1x1x1024x1024.Idx → Elt Ideal .f32) (x3 x4 x5 : S1x1x1x1024.Idx → Elt Ideal .f32) (g u w : S1024x1024.Idx → Elt Ideal .bf16) (d : S512x1024.Idx → Elt Ideal .bf16) (v1 v3 v5 v10 v15 v17 : BitVec 32) (C : sProp 𝕄) (K : PUnit → sProp 𝕄)
    (hK : iprop(bank c arg5 arg6 arg7 arg8 arg9 arg10 arg11 x0 x1 x2 x3 x4 x5 (if newExpert i v15 v17 = 1#1 then gateOf x1 else g) (if newExpert i v15 v17 = 1#1 then upOf x1 else u) (if newExpert i v15 v17 = 1#1 then downOf x2 else w)
        (stepOf i v1 v3 v5 v10 x0 (if newExpert i v15 v17 = 1#1 then gateOf x1 else g) (if newExpert i v15 v17 = 1#1 then upOf x1 else u) (if newExpert i v15 v17 = 1#1 then downOf x2 else w) x3 x4 x5 d) ∗ C) ⊢ K ⟨⟩) :
    iprop(bank c arg5 arg6 arg7 arg8 arg9 arg10 arg11 x0 x1 x2 x3 x4 x5 g u w d ∗ C) ⊢ wp frame (wpE (defs₀ (F := Ideal)) Variants.none c none) Set.univ (piecesProg i arg5 harg5 arg6 harg6 arg7 harg7 arg8 harg8 arg9 harg9 arg10 harg10 arg11 harg11 v1 v3 v5 v10 v15 v17) K := by
  rw [pieces_eq]
  refine seq_run c (fillIf c i arg5 harg5 arg6 harg6 arg7 harg7 arg8 harg8 arg9 harg9 arg10 harg10 arg11 harg11 x0 x1 x2 x3 x4 x5 g u w d v15 v17) ?_
  refine seq_run c (fullIf c i arg5 harg5 arg6 harg6 arg7 harg7 arg8 harg8 arg9 harg9 arg10 harg10 arg11 harg11 x0 x1 x2 x3 x4 x5 (if newExpert i v15 v17 = 1#1 then gateOf x1 else g) (if newExpert i v15 v17 = 1#1 then upOf x1 else u) (if newExpert i v15 v17 = 1#1 then downOf x2 else w) d v3 v5) ?_
  refine seq_run c (zeroIf c i arg5 harg5 arg6 harg6 arg7 harg7 arg8 harg8 arg9 harg9 arg10 harg10 arg11 harg11 x0 x1 x2 x3 x4 x5 (if newExpert i v15 v17 = 1#1 then gateOf x1 else g) (if newExpert i v15 v17 = 1#1 then upOf x1 else u) (if newExpert i v15 v17 = 1#1 then downOf x2 else w) (if k0_cond2 v3 v5 = 1#1 then wholeBlock x0 (if newExpert i v15 v17 = 1#1 then gateOf x1 else g) (if newExpert i v15 v17 = 1#1 then upOf x1 else u) (if newExpert i v15 v17 = 1#1 then downOf x2 else w) x3 x4 x5 else d) v1 v3 v5 v10) ?_
  refine seq_run c (upperIf c i arg5 harg5 arg6 harg6 arg7 harg7 arg8 harg8 arg9 harg9 arg10 harg10 arg11 harg11 x0 x1 x2 x3 x4 x5 (if newExpert i v15 v17 = 1#1 then gateOf x1 else g) (if newExpert i v15 v17 = 1#1 then upOf x1 else u) (if newExpert i v15 v17 = 1#1 then downOf x2 else w) (if k0_cond3 i v1 v3 v5 v10 = 1#1 then k0_pay104 (F := Ideal) else (if k0_cond2 v3 v5 = 1#1 then wholeBlock x0 (if newExpert i v15 v17 = 1#1 then gateOf x1 else g) (if newExpert i v15 v17 = 1#1 then upOf x1 else u) (if newExpert i v15 v17 = 1#1 then downOf x2 else w) x3 x4 x5 else d)) v1 v3 v5 (Scalar.addi (Scalar.muli v1 512#32) 0#32)) ?_
  refine BIBase.Entails.trans ?_ (lowerIf c i arg5 harg5 arg6 harg6 arg7 harg7 arg8 harg8 arg9 harg9 arg10 harg10 arg11 harg11 x0 x1 x2 x3 x4 x5 (if newExpert i v15 v17 = 1#1 then gateOf x1 else g) (if newExpert i v15 v17 = 1#1 then upOf x1 else u) (if newExpert i v15 v17 = 1#1 then downOf x2 else w) (if k0_cond4 v1 v3 v5 = 1#1 then upperBlock v3 v5 (Scalar.addi (Scalar.muli v1 512#32) 0#32) x0 (if newExpert i v15 v17 = 1#1 then gateOf x1 else g) (if newExpert i v15 v17 = 1#1 then upOf x1 else u) (if newExpert i v15 v17 = 1#1 then downOf x2 else w) x3 x4 x5 (if k0_cond3 i v1 v3 v5 v10 = 1#1 then k0_pay104 (F := Ideal) else (if k0_cond2 v3 v5 = 1#1 then wholeBlock x0 (if newExpert i v15 v17 = 1#1 then gateOf x1 else g) (if newExpert i v15 v17 = 1#1 then upOf x1 else u) (if newExpert i v15 v17 = 1#1 then downOf x2 else w) x3 x4 x5 else d)) else (if k0_cond3 i v1 v3 v5 v10 = 1#1 then k0_pay104 (F := Ideal) else (if k0_cond2 v3 v5 = 1#1 then wholeBlock x0 (if newExpert i v15 v17 = 1#1 then gateOf x1 else g) (if newExpert i v15 v17 = 1#1 then upOf x1 else u) (if newExpert i v15 v17 = 1#1 then downOf x2 else w) x3 x4 x5 else d))) v1 v3 v5 K)
  iintro ⟨HB, HC⟩
  isplitl [HB]; · iexact HB
  iintro HB
  iapply hK
  isplitl [HB]
  · unfold stepOf; iexact HB
  iexact HC

/-! ## The table words -/

/-- The item a point works on, and the one before it (the first has none, and is its own). -/
def here (i : grid0.Coords) : S288.Idx := fun a => ⟨(i 0).val, by obtain rfl : a = 0 := Subsingleton.elim _ _; exact (i 0).isLt⟩
def prior (i : grid0.Coords) : S288.Idx := fun a => ⟨(i 0).val - 1, by obtain rfl : a = 0 := Subsingleton.elim _ _; exact lt_of_le_of_lt (Nat.sub_le _ _) (i 0).isLt⟩

theorem off1_all : ∀ n : Fin 288, (Scalar.indexCast (BitVec.ofNat 32 n.val)).toNat = n.val := by decide +kernel
theorem off2_all : ∀ n : Fin 288, (Scalar.indexCast (Scalar.maxsi (Scalar.subi (BitVec.ofNat 32 n.val) 1#32) 0#32)).toNat = n.val - 1 := by decide +kernel

theorem off1_val (i : grid0.Coords) : k0_off1 i = ![(i 0).val] := by
  unfold k0_off1
  exact congrArg (fun n => ![n]) (off1_all (i 0))
theorem off2_val (i : grid0.Coords) : k0_off2 i = ![(i 0).val - 1] := by
  unfold k0_off2
  exact congrArg (fun n => ![n]) (off2_all (i 0))

/-- Reading a word of a table. -/
theorem word_run (c : Dev nD) (m : Memref sig .tc .smem S288 .i32) (r : Rect S288) (h1 : r.shape.numel = 1) (q : PosShare TreeShare) (f : Buf (Elt Ideal) (m.view.loc (c : Thread nD τ)))
    (K : Elt Ideal .i32 → sProp 𝕄) :
    iprop((m.view.loc (c : Thread nD τ) ↦{q} f) ∗ ((m.view.loc (c : Thread nD τ) ↦{q} f) -∗ K ((m.access r).read (Elt Ideal) f (Shape.Idx.first (h1.symm ▸ Nat.one_pos)))))
      ⊢ wp frame (wpE (defs₀ (F := Ideal)) Variants.none c none) Set.univ (smemLoad m r h1 rfl) K := by
  unfold smemLoad
  iintro ⟨HT, Hk⟩
  iapply (wp_smemLoadElt Variants.none (c : Thread nD τ) none Set.univ (m := m) (r := r) (S := Finset.univ) (Finset.subset_univ _)) $$ HT
  iintro HT
  iapply le_wp_ret
  iapply Hk; iexact HT

end Cert.KernelIdeal.Moe

end
-- ==== Proof.KernelIdeal.Whole.lean ====
module

public import proofs.«01_k».proof.Proof.KernelIdeal.Pieces

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # The body's triple

From the tables, the staged blocks and the scratch buffers to the same with the scratch buffers and the output block
moved on by one point. -/

/-- A share of the four tables. -/
def tables (c : Dev nD) (T0 T1 T2 T3 : S288.Idx → BitVec 32) : sProp 𝕄 :=
  iprop((table0.view.loc (c : Thread nD τ) ↦{fullShare.right} T0) ∗ (table1.view.loc (c : Thread nD τ) ↦{fullShare.right} T1)
    ∗ (table2.view.loc (c : Thread nD τ) ↦{fullShare.right} T2) ∗ (table3.view.loc (c : Thread nD τ) ↦{fullShare.right} T3))

theorem first_val (a : Fin 1) (h : 0 < S1.numel) : (Shape.Idx.first h a : Fin (S1.size a)).val = 0 :=
  Nat.lt_one_iff.mp (lt_of_lt_of_eq (Fin.isLt _) (by obtain rfl : a = 0 := Subsingleton.elim _ _; rfl))

/-- The word a table holds at the point's item; -/
theorem unit_here (i : grid0.Coords) (h : 0 < S1.numel) : (Rect.unit (s := S288) (k0_off1 i) S1.size (k0_off1_inb i)).emb (Shape.Idx.first h) = here i := by
  funext a
  obtain rfl : a = 0 := Subsingleton.elim _ _
  refine Fin.ext ?_
  show k0_off1 i 0 + 1 * (Shape.Idx.first h 0 : Fin (S1.size 0)).val = (i 0).val
  rw [first_val, off1_val]; rfl

/-- at the item before. -/
theorem unit_prior (i : grid0.Coords) (h : 0 < S1.numel) : (Rect.unit (s := S288) (k0_off2 i) S1.size (k0_off2_inb i)).emb (Shape.Idx.first h) = prior i := by
  funext a
  obtain rfl : a = 0 := Subsingleton.elim _ _
  refine Fin.ext ?_
  show k0_off2 i 0 + 1 * (Shape.Idx.first h 0 : Fin (S1.size 0)).val = (i 0).val - 1
  rw [first_val, off2_val]; rfl

theorem word0_here (i : grid0.Coords) (T : S288.Idx → BitVec 32) (h : 0 < S1.numel) :
    (table0.access (Rect.unit (s := S288) (k0_off1 i) S1.size (k0_off1_inb i))).read (Elt Ideal) T (Shape.Idx.first h) = T (here i) :=
  congrArg T (unit_here i h)

theorem word1_here (i : grid0.Coords) (T : S288.Idx → BitVec 32) (h : 0 < S1.numel) :
    (table1.access (Rect.unit (s := S288) (k0_off1 i) S1.size (k0_off1_inb i))).read (Elt Ideal) T (Shape.Idx.first h) = T (here i) :=
  congrArg T (unit_here i h)

theorem word2_here (i : grid0.Coords) (T : S288.Idx → BitVec 32) (h : 0 < S1.numel) :
    (table2.access (Rect.unit (s := S288) (k0_off1 i) S1.size (k0_off1_inb i))).read (Elt Ideal) T (Shape.Idx.first h) = T (here i) :=
  congrArg T (unit_here i h)

theorem word3_here (i : grid0.Coords) (T : S288.Idx → BitVec 32) (h : 0 < S1.numel) :
    (table3.access (Rect.unit (s := S288) (k0_off1 i) S1.size (k0_off1_inb i))).read (Elt Ideal) T (Shape.Idx.first h) = T (here i) :=
  congrArg T (unit_here i h)

theorem word0_prior (i : grid0.Coords) (T : S288.Idx → BitVec 32) (h : 0 < S1.numel) :
    (table0.access (Rect.unit (s := S288) (k0_off2 i) S1.size (k0_off2_inb i))).read (Elt Ideal) T (Shape.Idx.first h) = T (prior i) :=
  congrArg T (unit_prior i h)

theorem word1_prior (i : grid0.Coords) (T : S288.Idx → BitVec 32) (h : 0 < S1.numel) :
    (table1.access (Rect.unit (s := S288) (k0_off2 i) S1.size (k0_off2_inb i))).read (Elt Ideal) T (Shape.Idx.first h) = T (prior i) :=
  congrArg T (unit_prior i h)

theorem word2_prior (i : grid0.Coords) (T : S288.Idx → BitVec 32) (h : 0 < S1.numel) :
    (table2.access (Rect.unit (s := S288) (k0_off2 i) S1.size (k0_off2_inb i))).read (Elt Ideal) T (Shape.Idx.first h) = T (prior i) :=
  congrArg T (unit_prior i h)

theorem word3_prior (i : grid0.Coords) (T : S288.Idx → BitVec 32) (h : 0 < S1.numel) :
    (table3.access (Rect.unit (s := S288) (k0_off2 i) S1.size (k0_off2_inb i))).read (Elt Ideal) T (Shape.Idx.first h) = T (prior i) :=
  congrArg T (unit_prior i h)

set_option maxHeartbeats 1000000 in
/-- The body's triple. -/
theorem body_run (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S512x1024 .bf16) (harg11 : arg11.IsWhole) (x0 : S512x1024.Idx → Elt Ideal .bf16) (x1 : S1x1x1024x2048.Idx → Elt Ideal .f32) (x2 : S1x1x1024x1024.Idx → Elt Ideal .f32) (x3 x4 x5 : S1x1x1x1024.Idx → Elt Ideal .f32) (g u w : S1024x1024.Idx → Elt Ideal .bf16) (d : S512x1024.Idx → Elt Ideal .bf16) (T0 T1 T2 T3 : S288.Idx → BitVec 32) (C : sProp 𝕄) (K : PUnit → sProp 𝕄)
    (hK : iprop(bank c arg5 arg6 arg7 arg8 arg9 arg10 arg11 x0 x1 x2 x3 x4 x5 (if newExpert i (T1 (here i)) (T1 (prior i)) = 1#1 then gateOf x1 else g) (if newExpert i (T1 (here i)) (T1 (prior i)) = 1#1 then upOf x1 else u) (if newExpert i (T1 (here i)) (T1 (prior i)) = 1#1 then downOf x2 else w)
        (stepOf i (T0 (here i)) (T2 (here i)) (T3 (here i)) (T0 (prior i)) x0 (if newExpert i (T1 (here i)) (T1 (prior i)) = 1#1 then gateOf x1 else g) (if newExpert i (T1 (here i)) (T1 (prior i)) = 1#1 then upOf x1 else u) (if newExpert i (T1 (here i)) (T1 (prior i)) = 1#1 then downOf x2 else w) x3 x4 x5 d) ∗ (tables c T0 T1 T2 T3 ∗ C)) ⊢ K ⟨⟩) :
    iprop(bank c arg5 arg6 arg7 arg8 arg9 arg10 arg11 x0 x1 x2 x3 x4 x5 g u w d ∗ (tables c T0 T1 T2 T3 ∗ C)) ⊢ wp frame (wpE (defs₀ (F := Ideal)) Variants.none c none) Set.univ (cc0_moe_ffn (F := Ideal) i table0 (Memref.isWhole_whole _) table1 (Memref.isWhole_whole _) table2 (Memref.isWhole_whole _) table3 (Memref.isWhole_whole _) arg5 harg5 arg6 harg6 arg7 harg7 arg8 harg8 arg9 harg9 arg10 harg10 arg11 harg11 gateBuf (Memref.isWhole_whole _) upBuf (Memref.isWhole_whole _) downBuf (Memref.isWhole_whole _)) K := by
  rw [body_eq_cut]
  unfold cutBody
  refine BIBase.Entails.trans (Q := iprop((table0.view.loc (c : Thread nD τ) ↦{fullShare.right} T0) ∗ (table1.view.loc (c : Thread nD τ) ↦{fullShare.right} T1)
    ∗ (table2.view.loc (c : Thread nD τ) ↦{fullShare.right} T2) ∗ (table3.view.loc (c : Thread nD τ) ↦{fullShare.right} T3) ∗ bank c arg5 arg6 arg7 arg8 arg9 arg10 arg11 x0 x1 x2 x3 x4 x5 g u w d ∗ C)) ?_ ?_
  · unfold tables
    iintro ⟨HB, ⟨HT0, HT1, HT2, HT3⟩, HC⟩
    isplitl [HT0]; · iexact HT0
    isplitl [HT1]; · iexact HT1
    isplitl [HT2]; · iexact HT2
    isplitl [HT3]; · iexact HT3
    isplitl [HB]; · iexact HB
    iexact HC
  iintro ⟨HT0, HT1, HT2, HT3, HB, HC⟩
  rw [wp_bind]
  iapply word_run c table0 (Rect.unit (s := S288) (k0_off1 i) S1.size (k0_off1_inb i)) numel1_S1 _ T0
  isplitl [HT0]; · iexact HT0
  iintro HT0
  rw [word0_here]
  rw [wp_bind]
  iapply word_run c table2 (Rect.unit (s := S288) (k0_off1 i) S1.size (k0_off1_inb i)) numel1_S1 _ T2
  isplitl [HT2]; · iexact HT2
  iintro HT2
  rw [word2_here]
  rw [wp_bind]
  iapply word_run c table3 (Rect.unit (s := S288) (k0_off1 i) S1.size (k0_off1_inb i)) numel1_S1 _ T3
  isplitl [HT3]; · iexact HT3
  iintro HT3
  rw [word3_here]
  rw [wp_bind]
  iapply word_run c table0 (Rect.unit (s := S288) (k0_off2 i) S1.size (k0_off2_inb i)) numel1_S1 _ T0
  isplitl [HT0]; · iexact HT0
  iintro HT0
  rw [word0_prior]
  rw [wp_bind]
  iapply word_run c table1 (Rect.unit (s := S288) (k0_off1 i) S1.size (k0_off1_inb i)) numel1_S1 _ T1
  isplitl [HT1]; · iexact HT1
  iintro HT1
  rw [word1_here]
  rw [wp_bind]
  iapply word_run c table1 (Rect.unit (s := S288) (k0_off2 i) S1.size (k0_off2_inb i)) numel1_S1 _ T1
  isplitl [HT1]; · iexact HT1
  iintro HT1
  rw [word1_prior]

  iapply pieces_run c i arg5 harg5 arg6 harg6 arg7 harg7 arg8 harg8 arg9 harg9 arg10 harg10 arg11 harg11 x0 x1 x2 x3 x4 x5 g u w d (T0 (here i)) (T2 (here i)) (T3 (here i)) (T0 (prior i)) (T1 (here i)) (T1 (prior i)) iprop(tables c T0 T1 T2 T3 ∗ C) K hK
  isplitl [HB]; · iexact HB
  isplitr [HC]
  · unfold tables
    isplitl [HT0]; · iexact HT0
    isplitl [HT1]; · iexact HT1
    isplitl [HT2]; · iexact HT2
    iexact HT3
  iexact HC

end Cert.KernelIdeal.Moe

end
-- ==== Proof.KernelIdeal.Cfg.lean ====
module

public import proofs.«01_k».proof.Proof.Items
public import proofs.«01_k».proof.Proof.KernelIdeal.Whole

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # The pipeline at a work list

The tables choose the blocks: the point's item names the block of rows and the expert. With the tables' facts every
chosen block lies in its array. -/

open Cert.Items

set_option backward.proofsInPublic true in
/-- The tables as the pipeline reads them. -/
def pf (T : Tabs) : pre0.Contents (Elt Ideal) := fun | ⟨0, _⟩ => T.blk | ⟨1, _⟩ => T.ex | ⟨2, _⟩ => T.lo | ⟨3, _⟩ => T.hi | ⟨_ + 4, h⟩ => absurd h (by simp)

theorem transform0_val (T : Tabs) (i : grid0.Coords) : cc0_transform_0 k0_off1_inb numel1_S1 (pf T) i = ![(T.blk (here i)).toNat, 0] := by
  have h := congrArg T.blk (unit_here i (numel1_S1.symm ▸ Nat.one_pos))
  unfold cc0_transform_0
  exact congrArg (fun z : BitVec 32 => ![z.toNat, 0]) h

theorem transform1_val (T : Tabs) (i : grid0.Coords) : cc0_transform_1 k0_off1_inb numel1_S1 (pf T) i = ![0, (T.ex (here i)).toNat, 0, 0] := by
  have h := congrArg T.ex (unit_here i (numel1_S1.symm ▸ Nat.one_pos))
  unfold cc0_transform_1
  exact congrArg (fun z : BitVec 32 => ![0, z.toNat, 0, 0]) h

theorem transform2_val (T : Tabs) (i : grid0.Coords) : cc0_transform_2 k0_off1_inb numel1_S1 (pf T) i = ![0, (T.ex (here i)).toNat, 0, 0] := by
  have h := congrArg T.ex (unit_here i (numel1_S1.symm ▸ Nat.one_pos))
  unfold cc0_transform_2
  exact congrArg (fun z : BitVec 32 => ![0, z.toNat, 0, 0]) h

theorem transform3_val (T : Tabs) (i : grid0.Coords) : cc0_transform_3 k0_off1_inb numel1_S1 (pf T) i = ![0, (T.ex (here i)).toNat, 0, 0] := by
  have h := congrArg T.ex (unit_here i (numel1_S1.symm ▸ Nat.one_pos))
  unfold cc0_transform_3
  exact congrArg (fun z : BitVec 32 => ![0, z.toNat, 0, 0]) h

theorem transform4_val (T : Tabs) (i : grid0.Coords) : cc0_transform_4 k0_off1_inb numel1_S1 (pf T) i = ![0, (T.ex (here i)).toNat, 0, 0] := by
  have h := congrArg T.ex (unit_here i (numel1_S1.symm ▸ Nat.one_pos))
  unfold cc0_transform_4
  exact congrArg (fun z : BitVec 32 => ![0, z.toNat, 0, 0]) h

theorem transform5_val (T : Tabs) (i : grid0.Coords) : cc0_transform_5 k0_off1_inb numel1_S1 (pf T) i = ![0, (T.ex (here i)).toNat, 0, 0] := by
  have h := congrArg T.ex (unit_here i (numel1_S1.symm ▸ Nat.one_pos))
  unfold cc0_transform_5
  exact congrArg (fun z : BitVec 32 => ![0, z.toNat, 0, 0]) h

theorem transform6_val (T : Tabs) (i : grid0.Coords) : cc0_transform_6 k0_off1_inb numel1_S1 (pf T) i = ![(T.blk (here i)).toNat, 0] := by
  have h := congrArg T.blk (unit_here i (numel1_S1.symm ▸ Nat.one_pos))
  unfold cc0_transform_6
  exact congrArg (fun z : BitVec 32 => ![z.toNat, 0]) h

theorem inb_0 (T : Tabs) : ∀ i : grid0.Coords, ∀ a, (cc0_transform_0 k0_off1_inb numel1_S1 (pf T) i a + 1) * S512x1024.size a ≤ S131072x1024.size a := by
  intro i a
  rw [transform0_val]
  have h := T.ok.blk_lt (here i)
  fin_cases a
  · show ((T.blk (here i)).toNat + 1) * 512 ≤ 131072; omega
  · exact Nat.le_refl _

theorem inb_1 (T : Tabs) : ∀ i : grid0.Coords, ∀ a, (cc0_transform_1 k0_off1_inb numel1_S1 (pf T) i a + 1) * S1x1x1024x2048.size a ≤ S4x32x1024x2048.size a := by
  intro i a
  rw [transform1_val]
  have h := T.ok.ex_lt (here i)
  fin_cases a
  · show (0 + 1) * 1 ≤ 4; omega
  · show ((T.ex (here i)).toNat + 1) * 1 ≤ 32; omega
  · exact Nat.le_refl _
  · exact Nat.le_refl _

theorem inb_2 (T : Tabs) : ∀ i : grid0.Coords, ∀ a, (cc0_transform_2 k0_off1_inb numel1_S1 (pf T) i a + 1) * S1x1x1024x1024.size a ≤ S4x32x1024x1024.size a := by
  intro i a
  rw [transform2_val]
  have h := T.ok.ex_lt (here i)
  fin_cases a
  · show (0 + 1) * 1 ≤ 4; omega
  · show ((T.ex (here i)).toNat + 1) * 1 ≤ 32; omega
  · exact Nat.le_refl _
  · exact Nat.le_refl _

theorem inb_3 (T : Tabs) : ∀ i : grid0.Coords, ∀ a, (cc0_transform_3 k0_off1_inb numel1_S1 (pf T) i a + 1) * S1x1x1x1024.size a ≤ S4x32x1x1024.size a := by
  intro i a
  rw [transform3_val]
  have h := T.ok.ex_lt (here i)
  fin_cases a
  · show (0 + 1) * 1 ≤ 4; omega
  · show ((T.ex (here i)).toNat + 1) * 1 ≤ 32; omega
  · exact Nat.le_refl _
  · exact Nat.le_refl _

theorem inb_4 (T : Tabs) : ∀ i : grid0.Coords, ∀ a, (cc0_transform_4 k0_off1_inb numel1_S1 (pf T) i a + 1) * S1x1x1x1024.size a ≤ S4x32x1x1024.size a := by
  intro i a
  rw [transform4_val]
  have h := T.ok.ex_lt (here i)
  fin_cases a
  · show (0 + 1) * 1 ≤ 4; omega
  · show ((T.ex (here i)).toNat + 1) * 1 ≤ 32; omega
  · exact Nat.le_refl _
  · exact Nat.le_refl _

theorem inb_5 (T : Tabs) : ∀ i : grid0.Coords, ∀ a, (cc0_transform_5 k0_off1_inb numel1_S1 (pf T) i a + 1) * S1x1x1x1024.size a ≤ S4x32x1x1024.size a := by
  intro i a
  rw [transform5_val]
  have h := T.ok.ex_lt (here i)
  fin_cases a
  · show (0 + 1) * 1 ≤ 4; omega
  · show ((T.ex (here i)).toNat + 1) * 1 ≤ 32; omega
  · exact Nat.le_refl _
  · exact Nat.le_refl _

theorem inb_6 (T : Tabs) : ∀ i : grid0.Coords, ∀ a, (cc0_transform_6 k0_off1_inb numel1_S1 (pf T) i a + 1) * S512x1024.size a ≤ S131072x1024.size a := by
  intro i a
  rw [transform6_val]
  have h := T.ok.blk_lt (here i)
  fin_cases a
  · show ((T.blk (here i)).toNat + 1) * 512 ≤ 131072; omega
  · exact Nat.le_refl _

theorem ok_pf (T : Tabs) : ok0 (F := Ideal) (pf T) :=
  ⟨fun i => ⟨inb_0 T i, .inr (Affine.block_words_dvd (s := S131072x1024) (p := EltTy.packing .bf16) (by decide) (by decide))⟩,
    fun i => ⟨inb_1 T i, .inl rfl⟩,
    fun i => ⟨inb_2 T i, .inl rfl⟩,
    fun i => ⟨inb_3 T i, .inl rfl⟩,
    fun i => ⟨inb_4 T i, .inl rfl⟩,
    fun i => ⟨inb_5 T i, .inl rfl⟩,
    fun i => ⟨inb_6 T i, .inr (Affine.block_words_dvd (s := S131072x1024) (p := EltTy.packing .bf16) (by decide) (by decide))⟩⟩

/-- The tables as admissible contents, and the pipeline at them. -/
def adm (T : Tabs) : (pcfg0 (F := Ideal)).Adm := ⟨pf T, ok_pf T⟩
abbrev cfgA (T : Tabs) : Pipeline.Cfg sig Λ₀ := cfg0 (F := Ideal) (adm T)
abbrev pcs (T : Tabs) : Fin 1 → Pipeline.Cfg sig Λ₀ := Pipeline.pin (pcfgs (F := Ideal)) fun _ => adm T

/-- The point's coordinates and staging memrefs. -/
abbrev crd (T : Tabs) (t : Fin (cfgA T).N) : (cfgA T).grid.Coords := (cfgA T).grid.coords t
abbrev ms0 (T : Tabs) (t : Fin (cfgA T).N) : Memref sig .tc .vmem S512x1024 .bf16 := spec0_0.stage ((cfgA T).slots t (0 : Fin 7))
abbrev hs0 (T : Tabs) (t : Fin (cfgA T).N) : (ms0 T t).IsWhole := hstage0_0 (((cfgA T).slots t (0 : Fin 7)).cast nbuf0_0)
abbrev ms1 (T : Tabs) (t : Fin (cfgA T).N) : Memref sig .tc .vmem S1x1x1024x2048 .f32 := spec0_1.stage ((cfgA T).slots t (1 : Fin 7))
abbrev hs1 (T : Tabs) (t : Fin (cfgA T).N) : (ms1 T t).IsWhole := hstage0_1 (((cfgA T).slots t (1 : Fin 7)).cast nbuf0_1)
abbrev ms2 (T : Tabs) (t : Fin (cfgA T).N) : Memref sig .tc .vmem S1x1x1024x1024 .f32 := spec0_2.stage ((cfgA T).slots t (2 : Fin 7))
abbrev hs2 (T : Tabs) (t : Fin (cfgA T).N) : (ms2 T t).IsWhole := hstage0_2 (((cfgA T).slots t (2 : Fin 7)).cast nbuf0_2)
abbrev ms3 (T : Tabs) (t : Fin (cfgA T).N) : Memref sig .tc .vmem S1x1x1x1024 .f32 := spec0_3.stage ((cfgA T).slots t (3 : Fin 7))
abbrev hs3 (T : Tabs) (t : Fin (cfgA T).N) : (ms3 T t).IsWhole := hstage0_3 (((cfgA T).slots t (3 : Fin 7)).cast nbuf0_3)
abbrev ms4 (T : Tabs) (t : Fin (cfgA T).N) : Memref sig .tc .vmem S1x1x1x1024 .f32 := spec0_4.stage ((cfgA T).slots t (4 : Fin 7))
abbrev hs4 (T : Tabs) (t : Fin (cfgA T).N) : (ms4 T t).IsWhole := hstage0_4 (((cfgA T).slots t (4 : Fin 7)).cast nbuf0_4)
abbrev ms5 (T : Tabs) (t : Fin (cfgA T).N) : Memref sig .tc .vmem S1x1x1x1024 .f32 := spec0_5.stage ((cfgA T).slots t (5 : Fin 7))
abbrev hs5 (T : Tabs) (t : Fin (cfgA T).N) : (ms5 T t).IsWhole := hstage0_5 (((cfgA T).slots t (5 : Fin 7)).cast nbuf0_5)
abbrev ms6 (T : Tabs) (t : Fin (cfgA T).N) : Memref sig .tc .vmem S512x1024 .bf16 := spec0_6.stage ((cfgA T).slots t (6 : Fin 7))
abbrev hs6 (T : Tabs) (t : Fin (cfgA T).N) : (ms6 T t).IsWhole := hstage0_6 (((cfgA T).slots t (6 : Fin 7)).cast nbuf0_6)

theorem crd_all : ∀ t : Fin grid0.N, ((grid0.coords t) 0).val = t.val := by decide +kernel

theorem crd_val (T : Tabs) (t : Fin (cfgA T).N) : ((crd T t) 0).val = t.val := crd_all t

theorem atD_here (p : pre0.Contents (Elt Ideal)) (i : grid0.Coords) :
    p.atD 0 (k0_off1 i) = p 0 (here i) ∧ p.atD 2 (k0_off1 i) = p 2 (here i) ∧ p.atD 3 (k0_off1 i) = p 3 (here i) := by
  have h : ∀ a, k0_off1 i a + 1 ≤ S288.size a := fun a => by have h := k0_off1_inb i a; obtain rfl : a = 0 := Subsingleton.elim _ _; exact h
  have e : (fun a => (⟨k0_off1 i a, h a⟩ : Fin (S288.size a))) = here i := by
    funext a
    refine Fin.ext ?_
    show k0_off1 i a = (i 0).val
    rw [off1_val]
    obtain rfl : a = 0 := Subsingleton.elim _ _
    rfl
  exact ⟨(dif_pos h).trans (congrArg (p 0) e), (dif_pos h).trans (congrArg (p 2) e), (dif_pos h).trans (congrArg (p 3) e)⟩

theorem atD_prior (p : pre0.Contents (Elt Ideal)) (i : grid0.Coords) : p.atD 0 (k0_off2 i) = p 0 (prior i) := by
  have h : ∀ a, k0_off2 i a + 1 ≤ S288.size a := fun a => by have h := k0_off2_inb i a; obtain rfl : a = 0 := Subsingleton.elim _ _; exact h
  have e : (fun a => (⟨k0_off2 i a, h a⟩ : Fin (S288.size a))) = prior i := by
    funext a
    refine Fin.ext ?_
    show k0_off2 i a = (i 0).val - 1
    rw [off2_val]
    obtain rfl : a = 0 := Subsingleton.elim _ _
    rfl
  exact (dif_pos h).trans (congrArg (p 0) e)

/-- Where the output block is not stored. -/
theorem idle6_val (T : Tabs) (i : grid0.Coords) : (cfgA T).idle (6 : Fin 7) i =
    (!(k0_cond2 (T.lo (here i)) (T.hi (here i)) == 1#1) && !(k0_cond3 i (T.blk (here i)) (T.lo (here i)) (T.hi (here i)) (T.blk (prior i)) == 1#1)
      && !(k0_cond4 (T.blk (here i)) (T.lo (here i)) (T.hi (here i)) == 1#1) && !(k0_cond5 (T.blk (here i)) (T.lo (here i)) (T.hi (here i)) == 1#1)) := by
  show idle0 (pf T) 6 i = _
  unfold idle0
  obtain ⟨h0, h2, h3⟩ := atD_here (pf T) i
  have hp := atD_prior (pf T) i
  dsimp only
  rw [h0, h2, h3, hp]
  rfl

/-! ## The conditions -/

theorem lift_one (b : BitVec 1) : Scalar.cmpi .ne (Scalar.extui b : BitVec 32) 0#32 = 1#1 ↔ b = 1#1 := by revert b; decide
theorem xor_one (b : BitVec 1) : Scalar.xori b 1#1 = 1#1 ↔ ¬ b = 1#1 := by revert b; decide

theorem cond2_iff (v3 v5 : BitVec 32) : k0_cond2 v3 v5 = 1#1 ↔ Scalar.subi v5 v3 = 512#32 := by
  unfold k0_cond2; dsimp only; rw [lift_one]; exact eq_one _ _

theorem cond3_iff (i : grid0.Coords) (v1 v3 v5 v10 : BitVec 32) :
    k0_cond3 i v1 v3 v5 v10 = 1#1 ↔ ((i 0).val = 0 ∨ v1 ≠ v10) ∧ ¬ Scalar.subi v5 v3 = 512#32 := by
  unfold k0_cond3; dsimp only; rw [lift_one]
  refine (andi_one _ _).trans (and_congr ((ori_one _ _).trans (or_congr ((eq_one _ _).trans ?_) (ne_one _ _))) ((xor_one _).trans (not_congr (eq_one _ _))))
  have : ∀ n : Fin 288, BitVec.ofNat 32 n.val = 0#32 ↔ n.val = 0 := by decide +kernel
  exact this (i 0)

theorem cond4_full (v1 v3 v5 : BitVec 32) (h : k0_cond4 v1 v3 v5 = 1#1) : ¬ Scalar.subi v5 v3 = 512#32 := by
  unfold k0_cond4 at h; dsimp only at h; rw [lift_one] at h
  exact fun e => (xor_one _).1 ((andi_one _ _).1 h).1 ((eq_one _ _).2 e)

theorem cond5_full (v1 v3 v5 : BitVec 32) (h : k0_cond5 v1 v3 v5 = 1#1) : ¬ Scalar.subi v5 v3 = 512#32 := by
  unfold k0_cond5 at h; dsimp only at h; rw [lift_one] at h
  exact fun e => (xor_one _).1 ((andi_one _ _).1 h).1 ((eq_one _ _).2 e)

theorem newExpert_iff (i : grid0.Coords) (a b : BitVec 32) : newExpert i a b = 1#1 ↔ (i 0).val = 0 ∨ a ≠ b := by
  unfold newExpert; rw [lift_one]
  refine (ori_one _ _).trans (or_congr ((eq_one _ _).trans ?_) (ne_one _ _))
  have : ∀ n : Fin 288, BitVec.ofNat 32 n.val = 0#32 ↔ n.val = 0 := by decide +kernel
  exact this (i 0)

/-- What a point does to the output block does not depend on what a fresh block held. -/
theorem stepOf_first (i : grid0.Coords) (v1 v3 v5 v10 : BitVec 32) (hf : (i 0).val = 0 ∨ v1 ≠ v10) (x0 : S512x1024.Idx → Elt Ideal .bf16) (g u w : S1024x1024.Idx → Elt Ideal .bf16)
    (x3 x4 x5 : S1x1x1x1024.Idx → Elt Ideal .f32) (d d' : S512x1024.Idx → Elt Ideal .bf16) :
    stepOf i v1 v3 v5 v10 x0 g u w x3 x4 x5 d = stepOf i v1 v3 v5 v10 x0 g u w x3 x4 x5 d' := by
  unfold stepOf
  by_cases h2 : k0_cond2 v3 v5 = 1#1
  · simp only [h2, if_true]
  · have h3 : k0_cond3 i v1 v3 v5 v10 = 1#1 := (cond3_iff i v1 v3 v5 v10).2 ⟨hf, fun e => h2 ((cond2_iff v3 v5).2 e)⟩
    simp only [h3, if_true]

/-- An idle point is not a block's first point, -/
theorem idle_not_first (T : Tabs) (i : grid0.Coords) (h : (cfgA T).idle (6 : Fin 7) i = true) : ¬ ((i 0).val = 0 ∨ T.blk (here i) ≠ T.blk (prior i)) := by
  rw [idle6_val] at h
  simp only [Bool.and_eq_true, Bool.not_eq_true', beq_eq_false_iff_ne] at h
  obtain ⟨⟨⟨h2, h3⟩, h4⟩, h5⟩ := h
  intro hf
  exact h3 ((cond3_iff i _ _ _ _).2 ⟨hf, fun e => h2 ((cond2_iff _ _).2 e)⟩)

/-- and it leaves the block as it was. -/
theorem idle_step (T : Tabs) (i : grid0.Coords) (h : (cfgA T).idle (6 : Fin 7) i = true) (x0 : S512x1024.Idx → Elt Ideal .bf16) (g u w : S1024x1024.Idx → Elt Ideal .bf16)
    (x3 x4 x5 : S1x1x1x1024.Idx → Elt Ideal .f32) (d : S512x1024.Idx → Elt Ideal .bf16) :
    stepOf i (T.blk (here i)) (T.lo (here i)) (T.hi (here i)) (T.blk (prior i)) x0 g u w x3 x4 x5 d = d := by
  rw [idle6_val] at h
  simp only [Bool.and_eq_true, Bool.not_eq_true', beq_eq_false_iff_ne] at h
  obtain ⟨⟨⟨h2, h3⟩, h4⟩, h5⟩ := h
  unfold stepOf
  simp only [h2, h3, h4, h5, if_false]

/-! ## The schedule -/

/-- The item before a later point is the point before's item. -/
theorem prior_eq (T : Tabs) (n : ℕ) (h : n + 1 < (cfgA T).N) : prior (crd T ⟨n + 1, h⟩) = here (crd T ⟨n, Nat.lt_of_succ_lt h⟩) := by
  funext a
  refine Fin.ext ?_
  show ((crd T ⟨n + 1, h⟩) 0).val - 1 = ((crd T ⟨n, Nat.lt_of_succ_lt h⟩) 0).val
  rw [crd_val, crd_val]
  rfl

/-- A block is written back only when the next item names another block. -/
theorem flush6_next (T : Tabs) (n : ℕ) (h : n + 1 < (cfgA T).N) (hf : ((cfgA T).win (6 : Fin 7)).flush ⟨n, Nat.lt_of_succ_lt h⟩ = true) :
    T.blk (here (crd T ⟨n + 1, h⟩)) ≠ T.blk (here (crd T ⟨n, Nat.lt_of_succ_lt h⟩)) := by
  unfold Pipeline.Window.flush at hf
  rw [Bool.and_eq_true, Bool.or_eq_true, decide_eq_true_eq, decide_eq_true_eq] at hf
  intro e
  rcases hf.2 with h' | ⟨h', hne⟩
  · have : n + 1 = (cfgA T).N := h'
    omega
  · refine hne ?_
    have e1 := transform6_val T (crd T ⟨n + 1, h⟩)
    have e2 := transform6_val T (crd T ⟨n, Nat.lt_of_succ_lt h⟩)
    rw [← e] at e2
    exact e1.trans e2.symm

/-- Where the output's buffer holds nothing yet, the point is its block's first. -/
theorem fresh_first (T : Tabs) : ∀ (n : ℕ) (h : n < (cfgA T).N), (cfgA T).fresh (6 : Fin 7) n = true →
    ((crd T ⟨n, h⟩) 0).val = 0 ∨ T.blk (here (crd T ⟨n, h⟩)) ≠ T.blk (prior (crd T ⟨n, h⟩))
  | 0, h, _ => .inl (crd_val T ⟨0, h⟩)
  | n + 1, h, hf => by
    rw [Pipeline.Cfg.fresh_succ (cfgA T) (6 : Fin 7) n (Nat.lt_of_succ_lt h), Bool.or_eq_true, Bool.and_eq_true] at hf
    rcases hf with hf | ⟨hi, hf⟩
    · right
      rw [prior_eq]
      exact flush6_next T n h hf
    · exact absurd (fresh_first T n (Nat.lt_of_succ_lt h) hf) (idle_not_first T _ hi)

end Cert.KernelIdeal.Moe

end
-- ==== Proof.KernelIdeal.Dat.lean ====
module

public import proofs.«01_k».proof.Proof.KernelIdeal.Cfg

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # What the buffers hold along the work list

Each point's input blocks are the block of rows and the expert's weights that the tables name. The scratch buffers hold the
expert's weights after each point, and the output block is carried from point to point. -/

open Cert.Items

set_option backward.proofsInPublic true in
/-- The element of layer 0's expert `e` that its block's element `y` is. -/
def firstIdx (e : Fin 32) (y : S1x1x1024x2048.Idx) : S4x32x1024x2048.Idx :=
  fun | ⟨0, _⟩ => (⟨0, by decide⟩ : Fin 4) | ⟨1, _⟩ => e | ⟨2, _⟩ => (y 2 : Fin (S4x32x1024x2048.size 2)) | ⟨3, _⟩ => (y 3 : Fin (S4x32x1024x2048.size 3)) | ⟨_ + 4, h⟩ => absurd h (by simp [S4x32x1024x2048])

set_option backward.proofsInPublic true in
/-- The element of layer 0's expert `e` that its block's element `y` is. -/
def downIdx (e : Fin 32) (y : S1x1x1024x1024.Idx) : S4x32x1024x1024.Idx :=
  fun | ⟨0, _⟩ => (⟨0, by decide⟩ : Fin 4) | ⟨1, _⟩ => e | ⟨2, _⟩ => (y 2 : Fin (S4x32x1024x1024.size 2)) | ⟨3, _⟩ => (y 3 : Fin (S4x32x1024x1024.size 3)) | ⟨_ + 4, h⟩ => absurd h (by simp [S4x32x1024x1024])

set_option backward.proofsInPublic true in
/-- The element of layer 0's expert `e` that its block's element `y` is. -/
def biasIdx (e : Fin 32) (y : S1x1x1x1024.Idx) : S4x32x1x1024.Idx :=
  fun | ⟨0, _⟩ => (⟨0, by decide⟩ : Fin 4) | ⟨1, _⟩ => e | ⟨2, _⟩ => (y 2 : Fin (S4x32x1x1024.size 2)) | ⟨3, _⟩ => (y 3 : Fin (S4x32x1x1024.size 3)) | ⟨_ + 4, h⟩ => absurd h (by simp [S4x32x1x1024])

set_option backward.proofsInPublic true in
/-- The element of the rows that the element `y` of block `b` is. -/
def rowIdx (b : Fin 256) (y : S512x1024.Idx) : S131072x1024.Idx :=
  fun | ⟨0, _⟩ => (⟨b.val * 512 + (y 0).val, by have h : (y 0).val < 512 := (y 0).isLt; omega⟩ : Fin 131072) | ⟨1, _⟩ => (y 1 : Fin 1024) | ⟨_ + 2, h⟩ => absurd h (by simp [S131072x1024])

variable (T : Tabs) (V : (c : Dev nD) → (b : Ref sig .tc) → Buf (Elt Ideal) ((c : Thread nD τ).loc b))

/-- A window's block at a point, read off its array. -/
def iblk (c : Dev nD) (w : Fin (cfgA T).W) (t : Fin (cfgA T).N) : (((cfgA T).win w).xblock (crd T t)).Idx → Elt Ideal ((cfgA T).win w).elt :=
  (((cfgA T).win w).blk t).view.read (Elt Ideal) (V c (Pipeline.arrRef (cfgA T).spec w))

theorem iblk0_eq (c : Dev nD) (t : Fin (cfgA T).N) : iblk T V c (0 : Fin 7) t = fun y : S512x1024.Idx => V c main_arg4 (rowIdx (T.block (here (crd T t))) y) := by
  funext y
  refine congrArg (V c main_arg4) (funext fun a => Fin.ext ?_)
  show cc0_transform_0 k0_off1_inb numel1_S1 (pf T) (crd T t) a * S512x1024.size a + 1 * (y a).val = (rowIdx (T.block (here (crd T t))) y a).val
  rw [transform0_val]
  fin_cases a
  · show (T.blk (here (crd T t))).toNat * 512 + 1 * (y 0).val = (T.blk (here (crd T t))).toNat * 512 + (y 0).val; omega
  · show 0 * _ + 1 * (y 1).val = (y 1).val; omega

theorem iblk1_eq (c : Dev nD) (t : Fin (cfgA T).N) : iblk T V c (1 : Fin 7) t = fun y : S1x1x1024x2048.Idx => V c main_arg5 (firstIdx (T.expert (here (crd T t))) y) := by
  funext y
  refine congrArg (V c main_arg5) (funext fun a => Fin.ext ?_)
  show cc0_transform_1 k0_off1_inb numel1_S1 (pf T) (crd T t) a * S1x1x1024x2048.size a + 1 * (y a).val = (firstIdx (T.expert (here (crd T t))) y a).val
  rw [transform1_val]
  have y0 : (y 0).val < 1 := (y 0).isLt
  have y1 : (y 1).val < 1 := (y 1).isLt
  fin_cases a
  · show 0 * 1 + 1 * (y 0).val = 0; omega
  · show (T.ex (here (crd T t))).toNat * 1 + 1 * (y 1).val = (T.ex (here (crd T t))).toNat; omega
  · show 0 * _ + 1 * (y 2).val = (y 2).val; omega
  · show 0 * _ + 1 * (y 3).val = (y 3).val; omega

theorem iblk2_eq (c : Dev nD) (t : Fin (cfgA T).N) : iblk T V c (2 : Fin 7) t = fun y : S1x1x1024x1024.Idx => V c main_arg7 (downIdx (T.expert (here (crd T t))) y) := by
  funext y
  refine congrArg (V c main_arg7) (funext fun a => Fin.ext ?_)
  show cc0_transform_2 k0_off1_inb numel1_S1 (pf T) (crd T t) a * S1x1x1024x1024.size a + 1 * (y a).val = (downIdx (T.expert (here (crd T t))) y a).val
  rw [transform2_val]
  have y0 : (y 0).val < 1 := (y 0).isLt
  have y1 : (y 1).val < 1 := (y 1).isLt
  fin_cases a
  · show 0 * 1 + 1 * (y 0).val = 0; omega
  · show (T.ex (here (crd T t))).toNat * 1 + 1 * (y 1).val = (T.ex (here (crd T t))).toNat; omega
  · show 0 * _ + 1 * (y 2).val = (y 2).val; omega
  · show 0 * _ + 1 * (y 3).val = (y 3).val; omega

theorem iblk3_eq (c : Dev nD) (t : Fin (cfgA T).N) : iblk T V c (3 : Fin 7) t = fun y : S1x1x1x1024.Idx => V c main_v1 (biasIdx (T.expert (here (crd T t))) y) := by
  funext y
  refine congrArg (V c main_v1) (funext fun a => Fin.ext ?_)
  show cc0_transform_3 k0_off1_inb numel1_S1 (pf T) (crd T t) a * S1x1x1x1024.size a + 1 * (y a).val = (biasIdx (T.expert (here (crd T t))) y a).val
  rw [transform3_val]
  have y0 : (y 0).val < 1 := (y 0).isLt
  have y1 : (y 1).val < 1 := (y 1).isLt
  fin_cases a
  · show 0 * 1 + 1 * (y 0).val = 0; omega
  · show (T.ex (here (crd T t))).toNat * 1 + 1 * (y 1).val = (T.ex (here (crd T t))).toNat; omega
  · show 0 * _ + 1 * (y 2).val = (y 2).val; omega
  · show 0 * _ + 1 * (y 3).val = (y 3).val; omega

theorem iblk4_eq (c : Dev nD) (t : Fin (cfgA T).N) : iblk T V c (4 : Fin 7) t = fun y : S1x1x1x1024.Idx => V c main_v3 (biasIdx (T.expert (here (crd T t))) y) := by
  funext y
  refine congrArg (V c main_v3) (funext fun a => Fin.ext ?_)
  show cc0_transform_4 k0_off1_inb numel1_S1 (pf T) (crd T t) a * S1x1x1x1024.size a + 1 * (y a).val = (biasIdx (T.expert (here (crd T t))) y a).val
  rw [transform4_val]
  have y0 : (y 0).val < 1 := (y 0).isLt
  have y1 : (y 1).val < 1 := (y 1).isLt
  fin_cases a
  · show 0 * 1 + 1 * (y 0).val = 0; omega
  · show (T.ex (here (crd T t))).toNat * 1 + 1 * (y 1).val = (T.ex (here (crd T t))).toNat; omega
  · show 0 * _ + 1 * (y 2).val = (y 2).val; omega
  · show 0 * _ + 1 * (y 3).val = (y 3).val; omega

theorem iblk5_eq (c : Dev nD) (t : Fin (cfgA T).N) : iblk T V c (5 : Fin 7) t = fun y : S1x1x1x1024.Idx => V c main_v4 (biasIdx (T.expert (here (crd T t))) y) := by
  funext y
  refine congrArg (V c main_v4) (funext fun a => Fin.ext ?_)
  show cc0_transform_5 k0_off1_inb numel1_S1 (pf T) (crd T t) a * S1x1x1x1024.size a + 1 * (y a).val = (biasIdx (T.expert (here (crd T t))) y a).val
  rw [transform5_val]
  have y0 : (y 0).val < 1 := (y 0).isLt
  have y1 : (y 1).val < 1 := (y 1).isLt
  fin_cases a
  · show 0 * 1 + 1 * (y 0).val = 0; omega
  · show (T.ex (here (crd T t))).toNat * 1 + 1 * (y 1).val = (T.ex (here (crd T t))).toNat; omega
  · show 0 * _ + 1 * (y 2).val = (y 2).val; omega
  · show 0 * _ + 1 * (y 3).val = (y 3).val; omega

/-- The output block before position `n`. -/
def traj (c : Dev nD) : ℕ → S512x1024.Idx → Elt Ideal .bf16
  | 0 => default
  | n + 1 => if h : n < (cfgA T).N then
      stepOf (crd T ⟨n, h⟩) (T.blk (here (crd T ⟨n, h⟩))) (T.lo (here (crd T ⟨n, h⟩))) (T.hi (here (crd T ⟨n, h⟩))) (T.blk (prior (crd T ⟨n, h⟩)))
        (iblk T V c (0 : Fin 7) ⟨n, h⟩) (gateOf (iblk T V c (1 : Fin 7) ⟨n, h⟩)) (upOf (iblk T V c (1 : Fin 7) ⟨n, h⟩)) (downOf (iblk T V c (2 : Fin 7) ⟨n, h⟩))
        (iblk T V c (3 : Fin 7) ⟨n, h⟩) (iblk T V c (4 : Fin 7) ⟨n, h⟩) (iblk T V c (5 : Fin 7) ⟨n, h⟩) (traj c n)
    else default

theorem traj_succ (c : Dev nD) (t : Fin (cfgA T).N) : traj T V c (t.val + 1) =
      stepOf (crd T t) (T.blk (here (crd T t))) (T.lo (here (crd T t))) (T.hi (here (crd T t))) (T.blk (prior (crd T t)))
        (iblk T V c (0 : Fin 7) t) (gateOf (iblk T V c (1 : Fin 7) t)) (upOf (iblk T V c (1 : Fin 7) t)) (downOf (iblk T V c (2 : Fin 7) t))
        (iblk T V c (3 : Fin 7) t) (iblk T V c (4 : Fin 7) t) (iblk T V c (5 : Fin 7) t) (traj T V c t.val) := by
  rw [traj, dif_pos t.isLt]

/-- The invariant before position `t`: the scratch buffers hold the weights of the point before, and the tables are at hand. -/
def Phi (c : Dev nD) (t : Fin ((cfgA T).N + 1)) : sProp 𝕄 :=
  iprop((∃ g, ⌜∀ n (h : n < (cfgA T).N), t.val = n + 1 → g = gateOf (iblk T V c (1 : Fin 7) ⟨n, h⟩)⌝ ∗ owns (c : Thread nD τ) gateBuf fullShare g)
    ∗ (∃ g, ⌜∀ n (h : n < (cfgA T).N), t.val = n + 1 → g = upOf (iblk T V c (1 : Fin 7) ⟨n, h⟩)⌝ ∗ owns (c : Thread nD τ) upBuf fullShare g)
    ∗ (∃ g, ⌜∀ n (h : n < (cfgA T).N), t.val = n + 1 → g = downOf (iblk T V c (2 : Fin 7) ⟨n, h⟩)⌝ ∗ owns (c : Thread nD τ) downBuf fullShare g)
    ∗ tables c T.blk T.ex T.lo T.hi)

/-- The proof data of the pipeline. -/
def dats (_ : Fin 1) (c : Dev nD) : Dat τ (Elt Ideal) Unit ℕ (UR sig nD τ) ℕ (cfgA T) c where
  A w := V c (Pipeline.arrRef (cfgA T).spec w)
  after w t := match w with
    | ⟨0, _⟩ => iblk T V c (0 : Fin 7) t
    | ⟨1, _⟩ => iblk T V c (1 : Fin 7) t
    | ⟨2, _⟩ => iblk T V c (2 : Fin 7) t
    | ⟨3, _⟩ => iblk T V c (3 : Fin 7) t
    | ⟨4, _⟩ => iblk T V c (4 : Fin 7) t
    | ⟨5, _⟩ => iblk T V c (5 : Fin 7) t
    | ⟨6, _⟩ => traj T V c (t.val + 1)
  Φ t := Phi T V c t
  q _ := fullShare
  owed _ := 0

theorem after_0 (c : Dev nD) (t : Fin (cfgA T).N) : (dats T V 0 c).after (0 : Fin 7) t = iblk T V c (0 : Fin 7) t := rfl
theorem after_1 (c : Dev nD) (t : Fin (cfgA T).N) : (dats T V 0 c).after (1 : Fin 7) t = iblk T V c (1 : Fin 7) t := rfl
theorem after_2 (c : Dev nD) (t : Fin (cfgA T).N) : (dats T V 0 c).after (2 : Fin 7) t = iblk T V c (2 : Fin 7) t := rfl
theorem after_3 (c : Dev nD) (t : Fin (cfgA T).N) : (dats T V 0 c).after (3 : Fin 7) t = iblk T V c (3 : Fin 7) t := rfl
theorem after_4 (c : Dev nD) (t : Fin (cfgA T).N) : (dats T V 0 c).after (4 : Fin 7) t = iblk T V c (4 : Fin 7) t := rfl
theorem after_5 (c : Dev nD) (t : Fin (cfgA T).N) : (dats T V 0 c).after (5 : Fin 7) t = iblk T V c (5 : Fin 7) t := rfl
theorem after_6 (c : Dev nD) (t : Fin (cfgA T).N) : (dats T V 0 c).after (6 : Fin 7) t = traj T V c (t.val + 1) := rfl

theorem before_0 (c : Dev nD) (t : Fin (cfgA T).N) (d) : (dats T V 0 c).before (0 : Fin 7) t d = iblk T V c (0 : Fin 7) t :=
  ((dats T V 0 c).before_in_eq_fetched (0 : Fin 7) rfl (fun _ => rfl) (fun _ _ _ => rfl) (fun t => by rw [after_0]; unfold Dat.blockOf iblk; rfl) t d).trans
    (by unfold Dat.fetched Dat.blockOf iblk; rfl)
theorem before_1 (c : Dev nD) (t : Fin (cfgA T).N) (d) : (dats T V 0 c).before (1 : Fin 7) t d = iblk T V c (1 : Fin 7) t :=
  ((dats T V 0 c).before_in_eq_fetched (1 : Fin 7) rfl (fun _ => rfl) (fun _ _ _ => rfl) (fun t => by rw [after_1]; unfold Dat.blockOf iblk; rfl) t d).trans
    (by unfold Dat.fetched Dat.blockOf iblk; rfl)
theorem before_2 (c : Dev nD) (t : Fin (cfgA T).N) (d) : (dats T V 0 c).before (2 : Fin 7) t d = iblk T V c (2 : Fin 7) t :=
  ((dats T V 0 c).before_in_eq_fetched (2 : Fin 7) rfl (fun _ => rfl) (fun _ _ _ => rfl) (fun t => by rw [after_2]; unfold Dat.blockOf iblk; rfl) t d).trans
    (by unfold Dat.fetched Dat.blockOf iblk; rfl)
theorem before_3 (c : Dev nD) (t : Fin (cfgA T).N) (d) : (dats T V 0 c).before (3 : Fin 7) t d = iblk T V c (3 : Fin 7) t :=
  ((dats T V 0 c).before_in_eq_fetched (3 : Fin 7) rfl (fun _ => rfl) (fun _ _ _ => rfl) (fun t => by rw [after_3]; unfold Dat.blockOf iblk; rfl) t d).trans
    (by unfold Dat.fetched Dat.blockOf iblk; rfl)
theorem before_4 (c : Dev nD) (t : Fin (cfgA T).N) (d) : (dats T V 0 c).before (4 : Fin 7) t d = iblk T V c (4 : Fin 7) t :=
  ((dats T V 0 c).before_in_eq_fetched (4 : Fin 7) rfl (fun _ => rfl) (fun _ _ _ => rfl) (fun t => by rw [after_4]; unfold Dat.blockOf iblk; rfl) t d).trans
    (by unfold Dat.fetched Dat.blockOf iblk; rfl)
theorem before_5 (c : Dev nD) (t : Fin (cfgA T).N) (d) : (dats T V 0 c).before (5 : Fin 7) t d = iblk T V c (5 : Fin 7) t :=
  ((dats T V 0 c).before_in_eq_fetched (5 : Fin 7) rfl (fun _ => rfl) (fun _ _ _ => rfl) (fun t => by rw [after_5]; unfold Dat.blockOf iblk; rfl) t d).trans
    (by unfold Dat.fetched Dat.blockOf iblk; rfl)

/-- A point that leaves the output block idle carries it on. -/
theorem carry6 (c : Dev nD) : ∀ (t : Fin (cfgA T).N) (ht : t.val ≠ 0), (cfgA T).idle (6 : Fin 7) ((cfgA T).grid.coords t) = true → (cfgA T).fresh (6 : Fin 7) t.val = false →
    (dats T V 0 c).after (6 : Fin 7) t = (dats T V 0 c).after (6 : Fin 7) ⟨t.val - 1, by omega⟩ := by
  intro t ht hi hf
  rw [after_6, after_6, traj_succ, idle_step T _ hi]
  exact congrArg (traj T V c) (by show t.val = t.val - 1 + 1; omega)

theorem before_6 (c : Dev nD) (t : Fin (cfgA T).N) (d) :
    (dats T V 0 c).before (6 : Fin 7) t d = if (cfgA T).fresh (6 : Fin 7) t.val then d else traj T V c t.val := by
  rw [(dats T V 0 c).before_out_traj (6 : Fin 7) rfl (fun _ _ => rfl) (carry6 T V c) t.val t rfl d]
  by_cases hf : (cfgA T).fresh (6 : Fin 7) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after_6]
    exact congrArg (traj T V c) (by show t.val - 1 + 1 = t.val; omega)

/-- What the body makes of the output block is the same whether the buffer was fresh or carried. -/
theorem step_before (c : Dev nD) (t : Fin (cfgA T).N) (d) :
    stepOf (crd T t) (T.blk (here (crd T t))) (T.lo (here (crd T t))) (T.hi (here (crd T t))) (T.blk (prior (crd T t)))
        (iblk T V c (0 : Fin 7) t) (gateOf (iblk T V c (1 : Fin 7) t)) (upOf (iblk T V c (1 : Fin 7) t)) (downOf (iblk T V c (2 : Fin 7) t))
        (iblk T V c (3 : Fin 7) t) (iblk T V c (4 : Fin 7) t) (iblk T V c (5 : Fin 7) t) ((dats T V 0 c).before (6 : Fin 7) t d) = traj T V c (t.val + 1) := by
  rw [traj_succ, before_6]
  by_cases hf : (cfgA T).fresh (6 : Fin 7) t.val = true
  · exact stepOf_first _ _ _ _ _ (fresh_first T t.val t.isLt hf) _ _ _ _ _ _ _ _ _
  · simp only [hf, if_false]; rfl

/-- The weights at hand after the body are the point's expert's. -/
theorem weights_kept (c : Dev nD) (t : Fin (cfgA T).N) {α : Type} (F : Fin (cfgA T).N → α) (hF : ∀ t t' : Fin (cfgA T).N, T.expert (here (crd T t)) = T.expert (here (crd T t')) → F t = F t')
    (g : α) (hg : ∀ n (h : n < (cfgA T).N), t.val = n + 1 → g = F ⟨n, h⟩) :
    (if newExpert (crd T t) (T.ex (here (crd T t))) (T.ex (prior (crd T t))) = 1#1 then F t else g) = F t := by
  split
  · rfl
  · rename_i hn
    rw [newExpert_iff, not_or, crd_val] at hn
    obtain ⟨h0, h1⟩ := hn
    obtain ⟨n, hn⟩ := t
    cases n with
    | zero => exact absurd rfl h0
    | succ n =>
      rw [hg n (Nat.lt_of_succ_lt hn) rfl]
      refine hF _ _ (Fin.ext ?_)
      show (T.ex _).toNat = (T.ex _).toNat
      rw [← prior_eq T n hn, not_not.1 h1]

end Cert.KernelIdeal.Moe

end
-- ==== Proof.KernelIdeal.Sound.lean ====
module

public import proofs.«01_k».proof.Proof.KernelIdeal.Dat

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # The body at every point

At every point the body takes the invariant, the input blocks and the output block to the next. -/

open Cert.Items

variable (T : Tabs) (V : (c : Dev nD) → (b : Ref sig .tc) → Buf (Elt Ideal) ((c : Thread nD τ).loc b))

/-- The body at point `t`, as the pipeline calls it. -/
abbrev bodyAt (t : Fin (cfgA T).N) : Prog (TpuEff nD τ sig (Elt Ideal) Λ₀ .tc) PUnit :=
  cc0_moe_ffn (F := Ideal) (crd T t) table0 (Memref.isWhole_whole _) table1 (Memref.isWhole_whole _) table2 (Memref.isWhole_whole _) table3 (Memref.isWhole_whole _) (ms0 T t) (hs0 T t) (ms1 T t) (hs1 T t) (ms2 T t) (hs2 T t) (ms3 T t) (hs3 T t) (ms4 T t) (hs4 T t) (ms5 T t) (hs5 T t) (ms6 T t) (hs6 T t) gateBuf (Memref.isWhole_whole _) upBuf (Memref.isWhole_whole _) downBuf (Memref.isWhole_whole _)

/-- Equal experts, equal weights. -/
theorem gate_of_expert (c : Dev nD) (t t' : Fin (cfgA T).N) (h : T.expert (here (crd T t)) = T.expert (here (crd T t'))) :
    gateOf (iblk T V c (1 : Fin 7) t) = gateOf (iblk T V c (1 : Fin 7) t') := by rw [iblk1_eq, iblk1_eq, h]
theorem up_of_expert (c : Dev nD) (t t' : Fin (cfgA T).N) (h : T.expert (here (crd T t)) = T.expert (here (crd T t'))) :
    upOf (iblk T V c (1 : Fin 7) t) = upOf (iblk T V c (1 : Fin 7) t') := by rw [iblk1_eq, iblk1_eq, h]
theorem down_of_expert (c : Dev nD) (t t' : Fin (cfgA T).N) (h : T.expert (here (crd T t)) = T.expert (here (crd T t'))) :
    downOf (iblk T V c (2 : Fin 7) t) = downOf (iblk T V c (2 : Fin 7) t') := by rw [iblk2_eq, iblk2_eq, h]

/-- The invariant again, at the next point. -/
theorem phi_succ (c : Dev nD) (t : Fin (cfgA T).N) :
    iprop(owns (c : Thread nD τ) gateBuf fullShare (gateOf (iblk T V c (1 : Fin 7) t)) ∗ owns (c : Thread nD τ) upBuf fullShare (upOf (iblk T V c (1 : Fin 7) t))
      ∗ owns (c : Thread nD τ) downBuf fullShare (downOf (iblk T V c (2 : Fin 7) t)) ∗ tables c T.blk T.ex T.lo T.hi) ⊢ Phi T V c t.succ := by
  have e : ∀ n (h : n < (cfgA T).N), (t.succ : Fin ((cfgA T).N + 1)).val = n + 1 → t = ⟨n, h⟩ := fun n h hn => Fin.ext (Nat.succ.inj hn)
  unfold Phi
  iintro ⟨HG, HU, HD, HT⟩
  isplitl [HG]
  · iexists _; isplitr; swap
    · iexact HG
    · ipureintro; intro n h hn; rw [e n h hn]
  isplitl [HU]
  · iexists _; isplitr; swap
    · iexact HU
    · ipureintro; intro n h hn; rw [e n h hn]
  isplitl [HD]
  · iexists _; isplitr; swap
    · iexact HD
    · ipureintro; intro n h hn; rw [e n h hn]
  iexact HT

/-- What is asked of the output block's buffer after the point. -/
theorem out_post (c : Dev nD) (t : Fin (cfgA T).N) (d6 : ((cfgA T).win (6 : Fin 7)).block.Idx → Elt Ideal ((cfgA T).win (6 : Fin 7)).elt) :
    owns (c : Thread nD τ) (ms6 T t) fullShare (traj T V c (t.val + 1)) ⊢
      (match (cfgA T).idle (6 : Fin 7) ((cfgA T).grid.coords t) with
        | true =>
          match ((cfgA T).win (6 : Fin 7)).flush t with
          | false => iprop(∃ d, owns (c : Thread nD τ) (((cfgA T).win (6 : Fin 7)).stage ((cfgA T).slots t (6 : Fin 7))) fullShare ((dats T V 0 c).before (6 : Fin 7) t d))
          | true => owns (c : Thread nD τ) (((cfgA T).win (6 : Fin 7)).stage ((cfgA T).slots t (6 : Fin 7))) fullShare ((dats T V 0 c).after (6 : Fin 7) t)
        | false => owns (c : Thread nD τ) (((cfgA T).win (6 : Fin 7)).stage ((cfgA T).slots t (6 : Fin 7))) fullShare ((dats T V 0 c).after (6 : Fin 7) t) : sProp 𝕄) := by
  by_cases hi : (cfgA T).idle (6 : Fin 7) ((cfgA T).grid.coords t) = true
  · rewrite [hi]
    by_cases hf : ((cfgA T).win (6 : Fin 7)).flush t = true
    · rewrite [hf]; exact .rfl
    · rw [Bool.not_eq_true] at hf
      rewrite [hf]
      iintro H6
      iexists d6
      rw [show (dats T V 0 c).before (6 : Fin 7) t d6 = traj T V c (t.val + 1) from (idle_step T _ hi _ _ _ _ _ _ _ _).symm.trans (step_before T V c t d6)]
      iexact H6
  · rw [Bool.not_eq_true] at hi
    rewrite [hi]; exact .rfl

set_option maxHeartbeats 4000000 in
theorem sound_body (c : Dev nD) (t : Fin (cfgA T).N) :
    iprop((dats T V 0 c).Φ t.castSucc ∗ (dats T V 0 c).owesAt () t.castSucc
        ∗ (∃ d, owns (c : Thread nD τ) (ms0 T t) fullShare ((dats T V 0 c).before (0 : Fin 7) t d))
        ∗ (∃ d, owns (c : Thread nD τ) (ms1 T t) fullShare ((dats T V 0 c).before (1 : Fin 7) t d))
        ∗ (∃ d, owns (c : Thread nD τ) (ms2 T t) fullShare ((dats T V 0 c).before (2 : Fin 7) t d))
        ∗ (∃ d, owns (c : Thread nD τ) (ms3 T t) fullShare ((dats T V 0 c).before (3 : Fin 7) t d))
        ∗ (∃ d, owns (c : Thread nD τ) (ms4 T t) fullShare ((dats T V 0 c).before (4 : Fin 7) t d))
        ∗ (∃ d, owns (c : Thread nD τ) (ms5 T t) fullShare ((dats T V 0 c).before (5 : Fin 7) t d))
        ∗ (∃ d, owns (c : Thread nD τ) (ms6 T t) fullShare ((dats T V 0 c).before (6 : Fin 7) t d)))
      ⊢ wp frame (wpE (defs₀ (F := Ideal)) Variants.none c none) Set.univ (bodyAt T t) fun _ =>
          iprop((dats T V 0 c).Φ t.succ ∗ (dats T V 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T V 0 c).before w t d))
                  | true => owns (c : Thread nD τ) (((cfgA T).win w).stage ((cfgA T).slots t w)) fullShare ((dats T V 0 c).after w t)
                | false => owns (c : Thread nD τ) (((cfgA T).win w).stage ((cfgA T).slots t w)) fullShare ((dats T V 0 c).after w t)) := by
  rw [bigSep_W0]
  rewrite [show (dats T V 0 c).Φ t.succ = Phi T V c t.succ from rfl, show (dats T V 0 c).Φ t.castSucc = Phi T V c t.castSucc from rfl,
    show (dats T V 0 c).owesAt () t.succ = (dats T V 0 c).owesAt () t.castSucc from rfl]
  simp only [before_0, before_1, before_2, before_3, before_4, before_5]
  conv_lhs => unfold Phi
  iintro ⟨⟨⟨%g, %hg, HG⟩, ⟨%u, %hu, HU⟩, ⟨%w, %hw, HD⟩, HT⟩, Ho, ⟨%d0, H0⟩, ⟨%d1, H1⟩, ⟨%d2, H2⟩, ⟨%d3, H3⟩, ⟨%d4, H4⟩, ⟨%d5, H5⟩, ⟨%d6, H6⟩⟩
  iapply (body_run c (crd T t) (ms0 T t) (hs0 T t) (ms1 T t) (hs1 T t) (ms2 T t) (hs2 T t) (ms3 T t) (hs3 T t) (ms4 T t) (hs4 T t) (ms5 T t) (hs5 T t) (ms6 T t) (hs6 T t) (iblk T V c (0 : Fin 7) t) (iblk T V c (1 : Fin 7) t) (iblk T V c (2 : Fin 7) t) (iblk T V c (3 : Fin 7) t) (iblk T V c (4 : Fin 7) t) (iblk T V c (5 : Fin 7) t) g u w ((dats T V 0 c).before (6 : Fin 7) t d6) T.blk T.ex T.lo T.hi ((dats T V 0 c).owesAt () t.castSucc) _ ?hK)
  case hK =>
    rw [weights_kept T c t (fun t => gateOf (iblk T V c (1 : Fin 7) t)) (gate_of_expert T V c) g hg,
      weights_kept T c t (fun t => upOf (iblk T V c (1 : Fin 7) t)) (up_of_expert T V c) u hu,
      weights_kept T c t (fun t => downOf (iblk T V c (2 : Fin 7) t)) (down_of_expert T V c) w hw]
    rw [step_before]
    unfold bank
    iintro ⟨⟨H0, H1, H2, H3, H4, H5, HG, HU, HD, H6⟩, HT, Ho⟩
    isplitl [HG HU HD HT]
    · iapply phi_succ
      isplitl [HG]; · iexact HG
      isplitl [HU]; · iexact HU
      isplitl [HD]; · iexact HD
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (out_post T V c t d6)
    iexact H6
  unfold bank
  isplitl [H0 H1 H2 H3 H4 H5 HG HU HD H6]
  · isplitl [H0]; · iexact H0
    isplitl [H1]; · iexact H1
    isplitl [H2]; · iexact H2
    isplitl [H3]; · iexact H3
    isplitl [H4]; · iexact H4
    isplitl [H5]; · iexact H5
    isplitl [HG]; · iexact HG
    isplitl [HU]; · iexact HU
    isplitl [HD]; · iexact HD
    iexact H6
  isplitl [HT]; · iexact HT
  iexact Ho

/-- The library's body obligation, at every point. -/
theorem body_obligation (c : Dev nD) : BodyObligation (dats T V 0 c) (defs₀ (F := Ideal)) Variants.none () Set.univ := fun t => by
  rw [bigSep_W0]
  exact sound_body T V c t

end Cert.KernelIdeal.Moe

end
-- ==== Proof.KernelIdeal.Launch.lean ====
module

public import proofs.«01_k».proof.Proof.KernelIdeal.Sound
public import Idealize.ShloMosaic.Lib.StableHlo.RunRead

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # The launch

The host lines prepare the biases, then the pipeline runs. What every array holds at the end. -/

open Cert.Items

/-- The pipeline's resources. -/
abbrev EP : Emb (UR sig nD τ) 𝕄 := emb₁

variable (T : Tabs) (m : (ℓ : Loc nD τ sig) → Buf (Elt Ideal) ℓ) (ρ : Dev nD → PrngReg)

/-- What the arrays hold when the pipeline starts. -/
def V (c : Dev nD) (b : Ref sig .tc) : Buf (Elt Ideal) ((c : Thread nD τ).loc b) :=
  StableHlo.after (hostOps0 (F := Ideal)) (fun b => m (c, b)) (Proc.devRef .tc b)

/-- The host lines write five arrays; every other one is as it was. -/
theorem V_of_not_written (c : Dev nD) (r : Ref sig .tc) (hr : r ∉ [main_v0, main_v1, main_v2, main_v3, main_v4]) :
    V m c r = m ((c : Thread nD τ).loc r) :=
  StableHlo.after_unwritten (τ := τ) (ops := hostOps0 (F := Ideal)) [main_v0, main_v1, main_v2, main_v3, main_v4] rfl hr _

theorem V_main_arg0 (c : Dev nD) : V m c main_arg0 = m ((c : Thread nD τ).loc main_arg0) := V_of_not_written m c main_arg0 (by decide)
theorem V_main_arg1 (c : Dev nD) : V m c main_arg1 = m ((c : Thread nD τ).loc main_arg1) := V_of_not_written m c main_arg1 (by decide)
theorem V_main_arg2 (c : Dev nD) : V m c main_arg2 = m ((c : Thread nD τ).loc main_arg2) := V_of_not_written m c main_arg2 (by decide)
theorem V_main_arg3 (c : Dev nD) : V m c main_arg3 = m ((c : Thread nD τ).loc main_arg3) := V_of_not_written m c main_arg3 (by decide)
theorem V_main_arg4 (c : Dev nD) : V m c main_arg4 = m ((c : Thread nD τ).loc main_arg4) := V_of_not_written m c main_arg4 (by decide)
theorem V_main_arg5 (c : Dev nD) : V m c main_arg5 = m ((c : Thread nD τ).loc main_arg5) := V_of_not_written m c main_arg5 (by decide)
theorem V_main_arg6 (c : Dev nD) : V m c main_arg6 = m ((c : Thread nD τ).loc main_arg6) := V_of_not_written m c main_arg6 (by decide)
theorem V_main_arg7 (c : Dev nD) : V m c main_arg7 = m ((c : Thread nD τ).loc main_arg7) := V_of_not_written m c main_arg7 (by decide)
theorem V_main_arg8 (c : Dev nD) : V m c main_arg8 = m ((c : Thread nD τ).loc main_arg8) := V_of_not_written m c main_arg8 (by decide)

/-- The tables in the launch memory are `T`'s. -/
def Tables : Prop := ∀ c : Dev nD, m ((c : Thread nD τ).loc main_arg0) = T.blk ∧ m ((c : Thread nD τ).loc main_arg1) = T.ex
  ∧ m ((c : Thread nD τ).loc main_arg2) = T.lo ∧ m ((c : Thread nD τ).loc main_arg3) = T.hi

theorem V_pre (hT : Tables T m) (c : Dev nD) (j : Fin 4) : V m c (pre0.ref j) = (adm T).1 j := by
  fin_cases j
  · exact (V_main_arg0 m c).trans (hT c).1
  · exact (V_main_arg1 m c).trans (hT c).2.1
  · exact (V_main_arg2 m c).trans (hT c).2.2.1
  · exact (V_main_arg3 m c).trans (hT c).2.2.2

/-- The element the launch begins with. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_full (c : Dev nD) (w : Fin (cfgA T).W) : (dats T (V m) 0 c).share w = fullShare := by unfold Dat.share; split <;> rfl

/-- The four tables, one by one. -/
theorem prefHeld_four (c : Dev nD) (q : Fin 4 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2) ∗ (((c : Thread nD τ).loc main_arg3) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- A whole scratch buffer at some contents, as the body holds it; and back. -/
theorem gate_whole (c : Dev nD) (f : S1024x1024.Idx → Elt Ideal EltTy.bf16) :
    (owns (c : Thread nD τ) gateBuf fullShare f : sProp 𝕄) = (((c : Thread nD τ).loc cc0_scratch0) ↦{fullShare} f) := by exact owns_whole (c : Thread nD τ) cc0_scratch0 fullShare f
theorem up_whole (c : Dev nD) (f : S1024x1024.Idx → Elt Ideal EltTy.bf16) :
    (owns (c : Thread nD τ) upBuf fullShare f : sProp 𝕄) = (((c : Thread nD τ).loc cc0_scratch1) ↦{fullShare} f) := by exact owns_whole (c : Thread nD τ) cc0_scratch1 fullShare f
theorem down_whole (c : Dev nD) (f : S1024x1024.Idx → Elt Ideal EltTy.bf16) :
    (owns (c : Thread nD τ) downBuf fullShare f : sProp 𝕄) = (((c : Thread nD τ).loc cc0_scratch2) ↦{fullShare} f) := by exact owns_whole (c : Thread nD τ) cc0_scratch2 fullShare f

/-- The invariant before the first point, -/
theorem phi_first (c : Dev nD) :
    iprop(BI.emp ∗ Pipeline.prefHeld pre0 c (fun _ => fullShare.right) (adm T).1 ∗ Pipeline.scopedRest spec0 c) ⊢ (dats T (V m) 0 c).Φ 0 := by
  rw [prefHeld_four, scopedRest0_eq, show (dats T (V m) 0 c).Φ 0 = Phi T (V m) c 0 from rfl]
  unfold Phi tables
  iintro ⟨-, HT, ⟨%a0, HS0⟩, ⟨%a1, HS1⟩, ⟨%a2, HS2⟩⟩
  isplitl [HS0]
  · iexists a0; isplitr; swap
    · rw [gate_whole]; iexact HS0
    · ipureintro; intro n _ h; exact absurd h (Nat.succ_ne_zero n).symm
  isplitl [HS1]
  · iexists a1; isplitr; swap
    · rw [up_whole]; iexact HS1
    · ipureintro; intro n _ h; exact absurd h (Nat.succ_ne_zero n).symm
  isplitl [HS2]
  · iexists a2; isplitr; swap
    · rw [down_whole]; iexact HS2
    · ipureintro; intro n _ h; exact absurd h (Nat.succ_ne_zero n).symm
  iexact HT

/-- and what it gives back after the last. -/
theorem phi_last (c : Dev nD) : (dats T (V m) 0 c).Φ (Fin.last (cfgA T).N) ⊢ iprop(BI.emp ∗ Pipeline.scopedRest spec0 c) := by
  rw [scopedRest0_eq, show (dats T (V m) 0 c).Φ (Fin.last (cfgA T).N) = Phi T (V m) c (Fin.last _) from rfl]
  unfold Phi
  iintro ⟨⟨%a0, -, HS0⟩, ⟨%a1, -, HS1⟩, ⟨%a2, -, HS2⟩, -⟩
  isplitr; · iempintro
  isplitl [HS0]
  · iexists a0; rw [← gate_whole]; iexact HS0
  isplitl [HS1]
  · iexists a1; rw [← up_whole]; iexact HS1
  iexists a2; rw [← down_whole]; iexact HS2

/-- The two bias arguments, which the pipeline does not touch. -/
def biases (c : Dev nD) : sProp 𝕄 :=
  iprop((((c : Thread nD τ).loc main_arg6) ↦{fullShare} m ((c : Thread nD τ).loc main_arg6)) ∗ (((c : Thread nD τ).loc main_arg8) ↦{fullShare} m ((c : Thread nD τ).loc main_arg8)))

theorem biases_of_rest (c : Dev nD) :
    (Pipeline.unscopedRestP (Ix := Unit) (Name := ℕ) (U := UR sig nD τ) (Lvl := ℕ) pre0 spec0 c (V m c) : sProp 𝕄) ⊢ iprop(emp ∗ biases m c) := by
  rw [unscopedRestP0_eq, V_main_arg6, V_main_arg8]
  unfold biases
  iintro ⟨H6, H8, -⟩
  isplitr; · iempintro
  isplitl [H6] <;> iassumption

theorem biases_read (c : Dev nD) (s' : Phys nD τ sig (Elt Ideal)) :
    iprop(emp ∗ biases m c ∗ SI s') ⊢ |={Set.univ}=> iprop(⌜s'.mem.mem ((c : Thread nD τ).loc main_arg6) = m ((c : Thread nD τ).loc main_arg6)
      ∧ s'.mem.mem ((c : Thread nD τ).loc main_arg8) = m ((c : Thread nD τ).loc main_arg8)⌝ ∗ SI s' : sProp 𝕄) := by
  unfold biases
  iintro ⟨-, ⟨H6, H8⟩, HSI⟩
  icombine HSI H6 gives %h6
  icombine HSI H8 gives %h8
  imodintro
  isplitr
  · ipureintro; exact ⟨funext fun i => h6 i (Finset.mem_univ i), funext fun i => h8 i (Finset.mem_univ i)⟩
  · iexact HSI

/-- What every array holds at the end. -/
def Ends : PUnit × MemSt nD τ sig (Elt Ideal) → Prop := fun r =>
  ∀ c : Dev nD, (∀ w : Fin (cfgA T).W, r.2.mem (((cfgA T).win w).arr.view.loc (c : Thread nD τ)) = (dats T (V m) 0 c).arrAt w (cfgA T).N)
    ∧ (∀ j, r.2.mem ((c : Thread nD τ).loc (pre0.ref j)) = (adm T).1 j)
    ∧ r.2.mem ((c : Thread nD τ).loc main_arg6) = m ((c : Thread nD τ).loc main_arg6)
    ∧ r.2.mem ((c : Thread nD τ).loc main_arg8) = m ((c : Thread nD τ).loc main_arg8)

set_option backward.isDefEq.respectTransparency.types false in
set_option maxHeartbeats 4000000 in
/-- The program ends, with every array at the contents the pipeline computes and every counter at zero. -/
theorem run_ends (hT : Tables T m) :
    θ_run (defs (F := Ideal)) (onTc (τ := τ) (main (F := Ideal))) ⟨m, fun _ => 0, ρ⟩ (fun r => Ends T m r ∧ r.2.sem = fun _ => 0) :=
  Pipeline.θ_run_region_noSem_pf_quiescent pcfgs (fun _ => adm T) (dats T (V m)) () ((launch0 (F := Ideal)).cellOf_inj fun _ => adm T) (0 : Fin 1)
    (launch0 (F := Ideal)).win.to₀ (launch0 (F := Ideal)).pre EP defs₀ Variants.none m ρ main
    (hbody := fun c => (body_obligation T (V m) c).loose) (hne := (launch0 (F := Ideal)).block_pos)
    (harr := (launch0 (F := Ideal)).arr_whole) (hstage := (launch0 (F := Ideal)).stage_whole) (howed := fun _ _ => rfl)
    (u₀ := u₀ T) (hu₀ := .rfl) (V := V m)
    (hmain := Pipeline.hmainP_prefix pcfgs 0 defs₀ Variants.none m main hostOps0 hostOps0_sub ⟨rfl, rfl, rfl, rfl, rfl⟩ main_chain)
    (hsplit := fun c => Pipeline.arrays_split (pcs T) (dats T (V m)) 0 (launch0 (F := Ideal)).win.arr_inj c (launch0 (F := Ideal)).arr_whole
      (share_full T m c) _ _ fun _ => rfl)
    (hpf := V_pre T m hT)
    (X := fun _ => iprop(emp)) (Y := fun _ => iprop(emp)) (Z := biases m)
    (hX := biases_of_rest m) (hin := phi_first T m) (hout := phi_last T m)
    (QY := fun c s => s.mem ((c : Thread nD τ).loc main_arg6) = m ((c : Thread nD τ).loc main_arg6) ∧ s.mem ((c : Thread nD τ).loc main_arg8) = m ((c : Thread nD τ).loc main_arg8))
    (hY := biases_read m)
    (hQ := fun _ h hz => ⟨fun c => ⟨(h c).1, (h c).2.1, (h c).2.2.1, (h c).2.2.2⟩, hz⟩)

/-- The arguments are unchanged at the end, -/
def Kept (r : PUnit × MemSt nD τ sig (Elt Ideal)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)

theorem kept_of_ends (hT : Tables T m) {r : PUnit × MemSt nD τ sig (Elt Ideal)} (h : Ends T m r) : Kept m r := fun c =>
  ⟨((h c).2.1 0).trans (hT c).1.symm, ((h c).2.1 1).trans (hT c).2.1.symm, ((h c).2.1 2).trans (hT c).2.2.1.symm, ((h c).2.1 3).trans (hT c).2.2.2.symm,
    (((h c).1 (0 : Fin 7)).trans ((dats T (V m) 0 c).arrAt_in (0 : Fin 7) rfl _)).trans (V_main_arg4 m c),
    (((h c).1 (1 : Fin 7)).trans ((dats T (V m) 0 c).arrAt_in (1 : Fin 7) rfl _)).trans (V_main_arg5 m c),
    (h c).2.2.1,
    (((h c).1 (2 : Fin 7)).trans ((dats T (V m) 0 c).arrAt_in (2 : Fin 7) rfl _)).trans (V_main_arg7 m c),
    (h c).2.2.2⟩

/-- and so the program keeps its arguments and leaves every counter at zero. -/
theorem run_kept (hT : Tables T m) :
    θ_run (defs (F := Ideal)) (onTc (τ := τ) (main (F := Ideal))) ⟨m, fun _ => 0, ρ⟩ (fun r => Kept m r ∧ r.2.sem = fun _ => 0) :=
  (θ_run defs _ _).mono (fun _ h => ⟨kept_of_ends T m hT h.1, h.2⟩) (run_ends T m ρ hT)

end Cert.KernelIdeal.Moe

end
-- ==== Proof.Frames.lean ====
module

public import proofs.«01_k».proof.Defs
public import proofs.«01_k».proof.Proof.Kernel.Launch
public import proofs.«01_k».proof.Proof.KernelIdeal.Launch
public import proofs.«01_k».proof.Proof.Gen.ReferenceIdeal.Run
public import Idealize.ShloMosaic.Lib.Bf16Pair

@[expose] public section

noncomputable section

namespace Cert.Frames

open Idealize.ShloMosaic Idealize.ShloMosaic.TcCoe Idealize.SL.Sem

/-! # The frames

Ordered items make the tables of the launch memory well formed, and with well formed tables the run is known. -/

/-- The tables of a launch memory whose items are in order: the kernel's, -/
theorem kernel_tables (m : (ℓ : Loc Cert.Kernel.nD Cert.Kernel.τ Cert.Kernel.sig) → Buf (Elt Bits) ℓ) (h : Cert.Pre_Kernel m) :
    ∃ T : Cert.Items.Tabs, Cert.Kernel.Moe.Tables T m :=
  ⟨⟨_, _, _, _, Cert.Items.ordered_of_pre _ _ _ _ _ _ _ _ _ (h 0)⟩, fun c => by
    obtain rfl : c = 0 := Subsingleton.elim _ _
    exact ⟨rfl, rfl, rfl, rfl⟩⟩

/-- and its idealization's. -/
theorem ideal_tables (m : (ℓ : Loc Cert.KernelIdeal.nD Cert.KernelIdeal.τ Cert.KernelIdeal.sig) → Buf (Elt Ideal) ℓ) (h : Cert.Pre_KernelIdeal m) :
    ∃ T : Cert.Items.Tabs, Cert.KernelIdeal.Moe.Tables T m :=
  ⟨⟨_, _, _, _, Cert.Items.ordered_of_pre _ _ _ _ _ _ _ _ _ (h 0)⟩, fun c => by
    obtain rfl : c = 0 := Subsingleton.elim _ _
    exact ⟨rfl, rfl, rfl, rfl⟩⟩

theorem kernel : Cert.quiescent_Kernel := fun m g h => by
  obtain ⟨T, hT⟩ := kernel_tables m h
  exact Cert.Kernel.Moe.run_kept T m g hT

theorem ideal : Cert.quiescent_KernelIdeal := fun m g h => by
  obtain ⟨T, hT⟩ := ideal_tables m h
  exact Cert.KernelIdeal.Moe.run_kept T m g hT

/-- The reference is host lines alone: it has no counter to leave. -/
theorem reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- so too where the items are in order, -/
theorem reference_ordered : Cert.quiescent_ReferenceIdeal_pre_items_in_order := fun m g _ => reference m g trivial

/-- The idealization splits words into their halves, as the rule has it. -/
theorem preserves : Cert.preserves_Kernel_KernelIdeal := IdealRules.bf16_pair.statement _ _

end Cert.Frames

end
-- ==== Proof.Spec.lean ====
module

public import Idealize.ShloMosaic.Lib.Pointwise
public import Idealize.ShloMosaic.PureOps.Ideal

@[expose] public section

noncomputable section

namespace Cert.Spec

open Idealize.ShloMosaic

/-! # One row through one expert, in plain sums -/

/-- A hidden unit: the capped gate `a` times its sigmoid at slope 1.702, times one more than the clipped linear part `b`. -/
def unit (a b : EReal) : EReal :=
  min a (Ideal.ofBits .f32 0x40E00000#32)
    * Ideal.div 1 (1 + Ideal.exp (-(Ideal.ofBits .f32 0x3FD9DB23#32 * min a (Ideal.ofBits .f32 0x40E00000#32))))
    * (min (Ideal.ofBits .f32 0x40E00000#32) (max (Ideal.ofBits .f32 0xC0E00000#32) b) + 1)

/-- Hidden unit `f` of the row `x`, from the gate and linear columns of its expert. -/
def hidden (x : Fin 1024 → EReal) (g u : Fin 1024 → Fin 1024 → EReal) (bg bu : Fin 1024 → EReal) (f : Fin 1024) : EReal :=
  unit ((∑ q : Fin 1024, x q * g q f) + bg f) ((∑ q : Fin 1024, x q * u q f) + bu f)

/-- Output `d` of the row. -/
def row (x : Fin 1024 → EReal) (g u : Fin 1024 → Fin 1024 → EReal) (bg bu : Fin 1024 → EReal) (w : Fin 1024 → Fin 1024 → EReal)
    (bd : Fin 1024 → EReal) (d : Fin 1024) : EReal :=
  (∑ f : Fin 1024, hidden x g u bg bu f * w f d) + bd d

/-- The gate column of hidden unit `f`, and the linear one beside it. -/
def even (f : Fin 1024) : Fin 2048 := ⟨2 * f.val, by omega⟩
def odd (f : Fin 1024) : Fin 2048 := ⟨2 * f.val + 1, by omega⟩

/-- Output `d` of row `R` through expert `e` of the first layer, read off the arrays. -/
def out (X : (⟨2, ![131072, 1024]⟩ : Shape).Idx → EReal) (W : (⟨4, ![4, 32, 1024, 2048]⟩ : Shape).Idx → EReal) (B : (⟨3, ![4, 32, 2048]⟩ : Shape).Idx → EReal)
    (W' : (⟨4, ![4, 32, 1024, 1024]⟩ : Shape).Idx → EReal) (B' : (⟨3, ![4, 32, 1024]⟩ : Shape).Idx → EReal) (e : Fin 32) (R : Fin 131072) (d : Fin 1024) : EReal :=
  row (fun q => X (ix2 R q)) (fun q f => W (ix4 0 e q (even f))) (fun q f => W (ix4 0 e q (odd f))) (fun f => B (ix3 0 e (even f))) (fun f => B (ix3 0 e (odd f)))
    (fun f d => W' (ix4 0 e f d)) (fun d => B' (ix3 0 e d)) d

end Cert.Spec
-- ==== Proof.Rows.lean ====
module

public import proofs.«01_k».proof.Proof.Items

@[expose] public section

noncomputable section

namespace Cert.Items

/-! # Whose row a row is -/

/-- The item that row `R` belongs to. -/
def Tabs.owner (T : Tabs) (R : Fin 131072) : Fin 288 :=
  ⟨(T.ok.cover R.val R.isLt).choose, (T.ok.cover R.val R.isLt).choose_spec.choose⟩

theorem Tabs.owner_spec (T : Tabs) (R : Fin 131072) :
    (T.lo (ix (T.owner R).val (T.owner R).isLt)).toNat ≤ R.val ∧ R.val < (T.hi (ix (T.owner R).val (T.owner R).isLt)).toNat :=
  (T.ok.cover R.val R.isLt).choose_spec.choose_spec

/-- An item that has the row is its owner. -/
theorem Tabs.owner_eq (T : Tabs) (R : Fin 131072) (k : ℕ) (h : k < 288) (hl : (T.lo (ix k h)).toNat ≤ R.val) (hu : R.val < (T.hi (ix k h)).toNat) :
    T.owner R = ⟨k, h⟩ := by
  obtain ⟨ol, ou⟩ := T.owner_spec R
  refine Fin.ext ?_
  show (T.owner R).val = k
  rcases Nat.lt_trichotomy (T.owner R).val k with hlt | heq | hgt
  · have := T.ok.hi_le_lo (T.owner R).val k hlt h; omega
  · exact heq
  · have := T.ok.hi_le_lo k (T.owner R).val hgt (T.owner R).isLt; omega

/-- The items that end at or before row `R` are those before its owner. -/
theorem Tabs.hi_le_iff (T : Tabs) (R : Fin 131072) (k : Fin 288) : (T.hi (ix k.val k.isLt)).toNat ≤ R.val ↔ k.val < (T.owner R).val := by
  obtain ⟨ol, ou⟩ := T.owner_spec R
  constructor
  · intro h
    by_contra hn
    rcases Nat.lt_or_eq_of_le (Nat.le_of_not_lt hn) with hlt | heq
    · have a := T.ok.hi_le_lo (T.owner R).val k.val hlt k.isLt
      have b := T.ok.lo_le (ix k.val k.isLt)
      omega
    · have : k = T.owner R := Fin.ext heq.symm
      subst this
      omega
  · intro h
    have := T.ok.hi_le_lo k.val (T.owner R).val h (T.owner R).isLt
    omega

/-- The expert of a row. -/
def Tabs.rowExpert (T : Tabs) (R : Fin 131072) : Fin 32 := T.expert (ix (T.owner R).val (T.owner R).isLt)

theorem Tabs.rowExpert_eq (T : Tabs) (R : Fin 131072) (k : ℕ) (h : k < 288) (hl : (T.lo (ix k h)).toNat ≤ R.val) (hu : R.val < (T.hi (ix k h)).toNat) :
    T.rowExpert R = T.expert (ix k h) := by
  have same : ∀ o : Fin 288, o = ⟨k, h⟩ → T.expert (ix o.val o.isLt) = T.expert (ix k h) := by
    rintro _ rfl
    rfl
  exact same _ (T.owner_eq R k h hl hu)

end Cert.Items
-- ==== Proof.Gather.lean ====
module

public import Idealize.ShloMosaic.Lib.Routing.OpsSearch

@[expose] public section

noncomputable section

namespace Cert.Picked

open Idealize.ShloMosaic

/-! # Slabs picked by number -/

/-- The place of the second and third axis, counted among the two of them. -/
theorem second (l k : List (Fin 3)) (hl : l = [1, 2]) (hk : k = [1, 2]) (p : k.idxOf 1 < l.length) : l[k.idxOf 1]'p = 1 := by
  subst hl hk
  rfl

theorem third (l k : List (Fin 3)) (hl : l = [1, 2]) (hk : k = [1, 2]) (p : k.idxOf 2 < l.length) : l[k.idxOf 2]'p = 2 := by
  subst hl hk
  rfl

theorem kept_rest : (List.finRange 3).filter (fun a => a ∉ ([0] : List (Fin 3))) = [1, 2] := by decide

/-- Picking whole slabs of a three-axis table: where the list of numbers has `b` at `r`, slab `r` of the result is slab `b` of the table. -/
theorem slab {α : Type} {nb A B n : ℕ} (d : GatherDims ⟨3, ![nb, A, B]⟩ ⟨2, ![n, 1]⟩ ⟨3, ![n, A, B]⟩) (hoff : d.offsetDims = [1, 2])
    (hcoll : d.collapsedSliceDims = [0]) (hob : d.operandBatchingDims = []) (hsim : d.startIndexMap = [0]) (hivd : d.indexVectorDim = 1)
    (x : (⟨3, ![nb, A, B]⟩ : Shape).Idx → α) (idx : IVec ⟨2, ![n, 1]⟩ 32) (r : Fin n) (y : Fin A) (z : Fin B) (b : Fin nb)
    (hb : idx (ValueIdx.ix2 r (0 : Fin 1)) = BitVec.ofNat 32 b.val) (hnb : nb < 2 ^ 31) :
    Host.gather d x idx (ValueIdx.ix3 r y z) = x (ValueIdx.ix3 b y z) := by
  unfold Host.gather
  refine congrArg x (funext fun a => Fin.ext ?_)
  have noB : ∀ a', a' ∉ d.operandBatchingDims := fun a' => by rw [hob]; exact List.not_mem_nil
  have kept : d.sKept = [1, 2] := by
    unfold GatherDims.sKept
    rw [hcoll, hob]
    exact kept_rest
  have first : ∀ k ∈ d.batchDims, k = (0 : Fin 3) := fun k hk => by
    have hk' : k ∉ d.offsetDims := of_decide_eq_true (List.mem_filter.1 hk).2
    rw [hoff] at hk'
    have all : ∀ k : Fin 3, k ∉ ([1, 2] : List (Fin 3)) → k = 0 := by decide
    exact all k hk'
  show d.start (ValueIdx.ix3 r y z) idx a + d.batchCoord (ValueIdx.ix3 r y z) a + d.offCoord (ValueIdx.ix3 r y z) a = _
  rw [d.batchCoord_eq_zero _ _ (noB a), Nat.add_zero]
  have at0 : ∀ X : Fin 3, X = 0 → (ValueIdx.ix3 r y z X).val = r.val := fun X h => by subst h; rfl
  have at1 : ∀ X : Fin 3, X = 1 → (ValueIdx.ix3 r y z X).val = y.val := fun X h => by subst h; rfl
  have at2 : ∀ X : Fin 3, X = 2 → (ValueIdx.ix3 r y z X).val = z.val := fun X h => by subst h; rfl
  match a with
  | ⟨0, _⟩ =>
    have hk : (0 : Fin 3) ∉ d.sKept := by rw [kept]; exact (by decide : (0 : Fin 3) ∉ ([1, 2] : List (Fin 3)))
    have hm : (0 : Fin 3) ∈ d.startIndexMap := by rw [hsim]; exact (by decide : (0 : Fin 3) ∈ ([0] : List (Fin 3)))
    have one : d.sliceSizes 0 = 1 := d.slice_collapsed 0 (by rw [hcoll]; exact List.mem_singleton.2 rfl)
    show d.start (ValueIdx.ix3 r y z) idx 0 + d.offCoord (ValueIdx.ix3 r y z) 0 = b.val
    rw [d.offCoord_eq_zero _ _ hk, Nat.add_zero]
    unfold GatherDims.start
    rw [dif_pos hm]
    have place : d.siIdx (ValueIdx.ix3 r y z) ⟨d.startIndexMap.idxOf 0, List.idxOf_lt_length_iff.2 hm⟩ = ValueIdx.ix2 r (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact at0 _ (first _ (List.getElem_mem _))
      | ⟨1, _⟩ =>
        unfold GatherDims.siIdx
        rw [dif_pos (by rw [hivd])]
        show List.idxOf (0 : Fin 3) d.startIndexMap = 0
        rw [hsim]; rfl
    have := b.isLt
    rw [place, hb, one, StableHlo.Predicate.toInt_ofNat_small _ (by omega)]
    show min ((b.val : Int)).toNat (nb - 1) = b.val
    omega
  | ⟨1, _⟩ =>
    have hk : (1 : Fin 3) ∈ d.sKept := by rw [kept]; exact (by decide : (1 : Fin 3) ∈ ([1, 2] : List (Fin 3)))
    have hm : (1 : Fin 3) ∉ d.startIndexMap := by rw [hsim]; exact (by decide : (1 : Fin 3) ∉ ([0] : List (Fin 3)))
    show d.start (ValueIdx.ix3 r y z) idx 1 + d.offCoord (ValueIdx.ix3 r y z) 1 = y.val
    unfold GatherDims.start GatherDims.offCoord
    rw [dif_neg hm, dif_pos hk, Nat.zero_add]
    exact at1 _ (second _ _ hoff kept _)
  | ⟨2, _⟩ =>
    have hk : (2 : Fin 3) ∈ d.sKept := by rw [kept]; exact (by decide : (2 : Fin 3) ∈ ([1, 2] : List (Fin 3)))
    have hm : (2 : Fin 3) ∉ d.startIndexMap := by rw [hsim]; exact (by decide : (2 : Fin 3) ∉ ([0] : List (Fin 3)))
    show d.start (ValueIdx.ix3 r y z) idx 2 + d.offCoord (ValueIdx.ix3 r y z) 2 = z.val
    unfold GatherDims.start GatherDims.offCoord
    rw [dif_neg hm, dif_pos hk, Nat.zero_add]
    exact at2 _ (third _ _ hoff kept _)

end Cert.Picked

end
-- ==== Proof.ReferenceRows.lean ====
module

public import proofs.«01_k».proof.Proof.Spec
public import proofs.«01_k».proof.Proof.Rows
public import proofs.«01_k».proof.Proof.Gather
public import proofs.«01_k».proof.Proof.Gen.ReferenceIdeal.Run
public import Idealize.ShloMosaic.Lib.Pointwise

@[expose] public section

set_option maxRecDepth 16384

noncomputable section

namespace Cert.ReferenceIdeal.Rows

open Cert.ReferenceIdeal Cert.ReferenceIdeal.Gen Idealize.ShloMosaic Idealize.ShloMosaic.TcCoe
open Cert.Items Cert.Spec

/-! # The reference, row by row -/

/-- A number filled over the result's shape. -/
def filled (b : BitVec 32) : S131072x1024.Idx → Elt Ideal .f32 := broadcastInDim S131072x1024 ![] bcast_S_S131072x1024 (constant (F := Ideal) S_ .f32 b)

section
variable (X : S131072x1024.Idx → Elt Ideal .bf16) (W : S131072x1024x2048.Idx → Elt Ideal .f32) (B : S131072x2048.Idx → Elt Ideal .f32)
  (D : S131072x1024x1024.Idx → Elt Ideal .f32) (A : S131072x1024.Idx → Elt Ideal .f32)

/-- The first matrix product, each row with its own matrix. -/
def wide : S131072x2048.Idx → Elt Ideal .f32 :=
  addf (F := Ideal) (φ := .f32) (Host.dotGeneral (F := Ideal) (φ₁ := .f32) (φ₂ := .f32) dot_S131072x1024_S131072x1024x2048_S131072x2048_1_1_n_2_0_0 none (extf (F := Ideal) (φ := .bf16) .f32 X bitsLt_bf16_f32) W) B

/-- The gate columns, capped. -/
def gates : S131072x1024.Idx → Elt Ideal .f32 :=
  minimumf (F := Ideal) (φ := .f32) (Host.slice S131072x1024 ![0, 0] ![1, 2] (wide X W B) slicesBy_S131072x2048_S131072x1024_0s1_0s2) (filled 0x40E00000#32)

/-- The hidden units. -/
def units : S131072x1024.Idx → Elt Ideal .f32 :=
  mulf (F := Ideal) (φ := .f32) (mulf (F := Ideal) (φ := .f32) (gates X W B) (Host.divf (F := Ideal) (φ := .f32) (filled 0x3F800000#32) (addf (F := Ideal) (φ := .f32) (filled 0x3F800000#32)
      (Host.exp (F := Ideal) (φ := .f32) (Host.negf (F := Ideal) (φ := .f32) (mulf (F := Ideal) (φ := .f32) (filled 0x3FD9DB23#32) (gates X W B)))))))
    (addf (F := Ideal) (φ := .f32) (minimumf (F := Ideal) (φ := .f32) (filled 0x40E00000#32) (maximumf (F := Ideal) (φ := .f32) (filled 0xC0E00000#32)
      (Host.slice S131072x1024 ![0, 1] ![1, 2] (wide X W B) slicesBy_S131072x2048_S131072x1024_0s1_1s2))) (filled 0x3F800000#32))

/-- The result, from the weights and biases each row has picked. -/
def outcome : S131072x1024.Idx → Elt Ideal .bf16 :=
  truncf (F := Ideal) (φ := .f32) .bf16 (addf (F := Ideal) (φ := .f32) (Host.dotGeneral (F := Ideal) (φ₁ := .f32) (φ₂ := .f32) dot_S131072x1024_S131072x1024x1024_S131072x1024_1_1_n_2_0_0 none (units X W B) D) A) bitsLt_bf16_f32

theorem wide_at (R : Fin 131072) (k : Fin 2048) : wide X W B (ix2 R k) = (∑ q : Fin 1024, X (ix2 R q) * W (ix3 R q k)) + B (ix2 R k) := by
  pointwise [wide]

theorem odd_eq (f : Fin 1024) (h : 1 + 2 * f.val < 2048) : (⟨1 + 2 * f.val, h⟩ : Fin 2048) = odd f := Fin.ext (Nat.add_comm 1 (2 * f.val))

theorem gates_at (R : Fin 131072) (f : Fin 1024) : gates X W B (ix2 R f) = min (wide X W B (ix2 R (even f))) (Ideal.ofBits .f32 0x40E00000#32) := by
  pointwise [gates, filled, even]

theorem units_at (R : Fin 131072) (f : Fin 1024) : units X W B (ix2 R f) = unit (wide X W B (ix2 R (even f))) (wide X W B (ix2 R (odd f))) := by
  pointwise [units, filled, unit, gates_at, odd_eq]

theorem outcome_at (R : Fin 131072) (d : Fin 1024) :
    outcome X W B D A (ix2 R d) = row (fun q => X (ix2 R q)) (fun q f => W (ix3 R q (even f))) (fun q f => W (ix3 R q (odd f))) (fun f => B (ix2 R (even f))) (fun f => B (ix2 R (odd f)))
      (fun f d => D (ix3 R f d)) (fun d => A (ix2 R d)) d := by
  pointwise [outcome, units_at, wide_at, row, Spec.hidden]

end

/-! ## The picked expert -/

/-- How many items end at or before each row. -/
def ended (hi : S288.Idx → BitVec 32) : S131072.Idx → BitVec 32 :=
  Host.reduce IntOp.addi (extui 32 (cmpi .sle (broadcastInDim S131072x288 ![0, 1] bcast_S1x288_S131072x288_0_1 (broadcastInDim S1x288 ![1] bcast_S288_S1x288_1 hi))
    (broadcastInDim S131072x288 ![0, 1] bcast_S131072x1_S131072x288_0_1 (broadcastInDim S131072x1 ![0] bcast_S131072_S131072x1_0 (iotaInDim S131072 32 0)))) natLt_1_32)
    (constantI S_ 32 0#32) reducesTo_S131072x288_S131072_d1 h_S_

/-- Each row's expert. -/
def picks (ex hi : S288.Idx → BitVec 32) : S131072x1.Idx → BitVec 32 :=
  broadcastInDim S131072x1 ![0] bcast_S131072_S131072x1_0 (Host.gather gather_S288_S131072x1_S131072_n_0_n_n_0_1_1 ex (broadcastInDim S131072x1 ![0] bcast_S131072_S131072x1_0 (ended hi)))

theorem count_below (o n : ℕ) : Nat.count (fun k => k < o) n = min o n := by
  induction n with
  | zero => rw [Nat.count_zero, Nat.min_zero]
  | succ n ih =>
    rw [Nat.count_succ, ih]
    split <;> omega

theorem column {α : Type} (v : S131072.Idx → α) (R : Fin 131072) : broadcastInDim S131072x1 ![0] bcast_S131072_S131072x1_0 v (ix2 R 0) = v (ix1 R) := by
  pointwise []

variable (T : Tabs)

theorem ended_at (R : Fin 131072) : ended T.hi (ix1 R) = BitVec.ofNat 32 (T.owner R).val := by
  have e1 : (ix1 R : S131072.Idx) = ValueIdx.ix1 R := by funext a; fin_cases a; rfl
  rw [e1]
  unfold ended
  refine (Routing.reduce_count (n := 131072) (m := 288) (by decide) _ natLt_1_32 reducesTo_S131072x288_S131072_d1 h_S_ R (fun k => k < (T.owner R).val) (fun q => ?_)).trans ?_
  · have e2 : (ValueIdx.ix2 R q : S131072x288.Idx) = ix2 R q := by funext a; fin_cases a <;> rfl
    have e3 : (ix1 q : S288.Idx) = ix q.val q.isLt := by funext a; fin_cases a; rfl
    have rd : cmpi .sle (broadcastInDim S131072x288 ![0, 1] bcast_S1x288_S131072x288_0_1 (broadcastInDim S1x288 ![1] bcast_S288_S1x288_1 T.hi))
        (broadcastInDim S131072x288 ![0, 1] bcast_S131072x1_S131072x288_0_1 (broadcastInDim S131072x1 ![0] bcast_S131072_S131072x1_0 (iotaInDim S131072 32 0))) (ix2 R q)
        = IntOp.cmpi .sle (T.hi (ix1 q)) (BitVec.ofNat 32 R.val) := by
      pointwise []
    have hh := T.ok.hi_le (ix q.val q.isLt)
    have hb := T.ok.blk_lt (ix q.val q.isLt)
    have small : (BitVec.ofNat 32 R.val).toNat = R.val := by
      rw [BitVec.toNat_ofNat]; exact Nat.mod_eq_of_lt (by omega)
    have word : IntOp.cmpi .sle (T.hi (ix q.val q.isLt)) (BitVec.ofNat 32 R.val) = 1#1 ↔ q.val < (T.owner R).val := by
      rw [sle_one, toInt_small _ (by omega), toInt_small _ (by omega), small, ← T.hi_le_iff R q]
      exact Int.ofNat_le
    rw [← e3, ← rd, ← e2] at word
    exact word
  · rw [count_below, Nat.min_eq_left (T.owner R).isLt.le]

theorem picks_at (R : Fin 131072) : picks T.ex T.hi (ix2 R 0) = BitVec.ofNat 32 (T.rowExpert R).val := by
  have e1 : (ix1 R : S131072.Idx) = ValueIdx.ix1 R := by funext a; fin_cases a; rfl
  have e2 : (ValueIdx.ix2 R (0 : Fin 1) : S131072x1.Idx) = ix2 R 0 := by funext a; fin_cases a <;> rfl
  have ol : (T.owner R).val < 288 := (T.owner R).isLt
  unfold picks
  rw [column, e1, Routing.take_ap (N := 288) (n := 131072) gather_S288_S131072x1_S131072_n_0_n_n_0_1_1 rfl rfl rfl rfl T.ex _ R ol (by omega)
    ((congrArg _ e2).trans ((column _ R).trans (ended_at T R)))]
  unfold Tabs.rowExpert Tabs.expert
  have e3 : (ValueIdx.ix1 ⟨(T.owner R).val, ol⟩ : S288.Idx) = ix (T.owner R).val ol := by funext a; fin_cases a; rfl
  refine (congrArg T.ex e3).trans ?_
  exact (BitVec.setWidth_eq _).symm.trans (BitVec.ofNat_toNat _ _).symm

/-! ## The whole -/

variable (m : (ℓ : Loc nD τ sig) → Buf (Elt Ideal) ℓ)

theorem res_eq (c : Dev nD) : Value.res_main_v48 m c = outcome (m ((c : Thread nD τ).loc main_arg4))
    (Host.gather gather_S32x1024x2048_S131072x1_S131072x1024x2048_12_0_n_n_0_1_110242048 (shapeCast S32x1024x2048 (extractStridedSlice S1x32x1024x2048 ![0, 0, 0, 0] (m ((c : Thread nD τ).loc main_arg5)) slices_S4x32x1024x2048_S1x32x1024x2048_0_0_0_0) shapeCasts_S1x32x1024x2048_S32x1024x2048) (picks (m ((c : Thread nD τ).loc main_arg1)) (m ((c : Thread nD τ).loc main_arg3))))
    (Host.gather gather_S32x2048_S131072x1_S131072x2048_1_0_n_n_0_1_12048 (shapeCast S32x2048 (extractStridedSlice S1x32x2048 ![0, 0, 0] (m ((c : Thread nD τ).loc main_arg6)) slices_S4x32x2048_S1x32x2048_0_0_0) shapeCasts_S1x32x2048_S32x2048) (picks (m ((c : Thread nD τ).loc main_arg1)) (m ((c : Thread nD τ).loc main_arg3))))
    (Host.gather gather_S32x1024x1024_S131072x1_S131072x1024x1024_12_0_n_n_0_1_110241024 (shapeCast S32x1024x1024 (extractStridedSlice S1x32x1024x1024 ![0, 0, 0, 0] (m ((c : Thread nD τ).loc main_arg7)) slices_S4x32x1024x1024_S1x32x1024x1024_0_0_0_0) shapeCasts_S1x32x1024x1024_S32x1024x1024) (picks (m ((c : Thread nD τ).loc main_arg1)) (m ((c : Thread nD τ).loc main_arg3))))
    (Host.gather gather_S32x1024_S131072x1_S131072x1024_1_0_n_n_0_1_11024 (shapeCast S32x1024 (extractStridedSlice S1x32x1024 ![0, 0, 0] (m ((c : Thread nD τ).loc main_arg8)) slices_S4x32x1024_S1x32x1024_0_0_0) shapeCasts_S1x32x1024_S32x1024) (picks (m ((c : Thread nD τ).loc main_arg1)) (m ((c : Thread nD τ).loc main_arg3)))) := by
  unfold Value.res_main_v48 outcome units gates wide filled picks ended
  rfl

section
variable (idx : S131072x1.Idx → BitVec 32) (R : Fin 131072) (b : Fin 32) (hb : idx (ix2 R 0) = BitVec.ofNat 32 b.val)
include hb

theorem hb' : idx (ValueIdx.ix2 R (0 : Fin 1)) = BitVec.ofNat 32 b.val := by
  have e2 : (ValueIdx.ix2 R (0 : Fin 1) : S131072x1.Idx) = ix2 R 0 := by funext a; fin_cases a <;> rfl
  exact (congrArg idx e2).trans hb

theorem first_at (x : S32x1024x2048.Idx → EReal) (q : Fin 1024) (k : Fin 2048) :
    Host.gather gather_S32x1024x2048_S131072x1_S131072x1024x2048_12_0_n_n_0_1_110242048 x idx (ix3 R q k) = x (ix3 b q k) := by
  have e : (ix3 R q k : S131072x1024x2048.Idx) = ValueIdx.ix3 R q k := by funext a; fin_cases a <;> rfl
  have e' : (ix3 b q k : S32x1024x2048.Idx) = ValueIdx.ix3 b q k := by funext a; fin_cases a <;> rfl
  rw [e, e']
  exact Picked.slab _ rfl rfl rfl rfl rfl x idx R q k b (hb' idx R b hb) (by decide)

theorem down_at (x : S32x1024x1024.Idx → EReal) (q : Fin 1024) (k : Fin 1024) :
    Host.gather gather_S32x1024x1024_S131072x1_S131072x1024x1024_12_0_n_n_0_1_110241024 x idx (ix3 R q k) = x (ix3 b q k) := by
  have e : (ix3 R q k : S131072x1024x1024.Idx) = ValueIdx.ix3 R q k := by funext a; fin_cases a <;> rfl
  have e' : (ix3 b q k : S32x1024x1024.Idx) = ValueIdx.ix3 b q k := by funext a; fin_cases a <;> rfl
  rw [e, e']
  exact Picked.slab _ rfl rfl rfl rfl rfl x idx R q k b (hb' idx R b hb) (by decide)

theorem firstBias_at (x : S32x2048.Idx → EReal) (k : Fin 2048) :
    Host.gather gather_S32x2048_S131072x1_S131072x2048_1_0_n_n_0_1_12048 x idx (ix2 R k) = x (ix2 b k) := by
  have e : (ix2 R k : S131072x2048.Idx) = ValueIdx.ix2 R k := by funext a; fin_cases a <;> rfl
  have e' : (ix2 b k : S32x2048.Idx) = ValueIdx.ix2 b k := by funext a; fin_cases a <;> rfl
  rw [e, e']
  exact Routing.gather_row _ rfl rfl rfl rfl rfl x idx R k b (hb' idx R b hb) (by decide)

theorem downBias_at (x : S32x1024.Idx → EReal) (k : Fin 1024) :
    Host.gather gather_S32x1024_S131072x1_S131072x1024_1_0_n_n_0_1_11024 x idx (ix2 R k) = x (ix2 b k) := by
  have e : (ix2 R k : S131072x1024.Idx) = ValueIdx.ix2 R k := by funext a; fin_cases a <;> rfl
  have e' : (ix2 b k : S32x1024.Idx) = ValueIdx.ix2 b k := by funext a; fin_cases a <;> rfl
  rw [e, e']
  exact Routing.gather_row _ rfl rfl rfl rfl rfl x idx R k b (hb' idx R b hb) (by decide)

end

/-- The first layer of each table. -/
theorem layer5 (x : S4x32x1024x2048.Idx → EReal) (b : Fin 32) (q : Fin 1024) (k : Fin 2048) :
    shapeCast S32x1024x2048 (extractStridedSlice S1x32x1024x2048 ![0, 0, 0, 0] x slices_S4x32x1024x2048_S1x32x1024x2048_0_0_0_0) shapeCasts_S1x32x1024x2048_S32x1024x2048 (ix3 b q k) = x (ix4 0 b q k) := by
  pointwise []

theorem layer6 (x : S4x32x2048.Idx → EReal) (b : Fin 32) (k : Fin 2048) :
    shapeCast S32x2048 (extractStridedSlice S1x32x2048 ![0, 0, 0] x slices_S4x32x2048_S1x32x2048_0_0_0) shapeCasts_S1x32x2048_S32x2048 (ix2 b k) = x (ix3 0 b k) := by
  pointwise []

theorem layer7 (x : S4x32x1024x1024.Idx → EReal) (b : Fin 32) (q : Fin 1024) (k : Fin 1024) :
    shapeCast S32x1024x1024 (extractStridedSlice S1x32x1024x1024 ![0, 0, 0, 0] x slices_S4x32x1024x1024_S1x32x1024x1024_0_0_0_0) shapeCasts_S1x32x1024x1024_S32x1024x1024 (ix3 b q k) = x (ix4 0 b q k) := by
  pointwise []

theorem layer8 (x : S4x32x1024.Idx → EReal) (b : Fin 32) (k : Fin 1024) :
    shapeCast S32x1024 (extractStridedSlice S1x32x1024 ![0, 0, 0] x slices_S4x32x1024_S1x32x1024_0_0_0) shapeCasts_S1x32x1024_S32x1024 (ix2 b k) = x (ix3 0 b k) := by
  pointwise []

/-- Row `R` of the reference's result is that row through its expert. -/
theorem res_at (c : Dev nD) (hex : m ((c : Thread nD τ).loc main_arg1) = T.ex) (hhi : m ((c : Thread nD τ).loc main_arg3) = T.hi) (R : Fin 131072) (d : Fin 1024) :
    Value.res_main_v48 m c (ix2 R d) = out (m ((c : Thread nD τ).loc main_arg4)) (m ((c : Thread nD τ).loc main_arg5)) (m ((c : Thread nD τ).loc main_arg6))
      (m ((c : Thread nD τ).loc main_arg7)) (m ((c : Thread nD τ).loc main_arg8)) (T.rowExpert R) R d := by
  have p : picks (m ((c : Thread nD τ).loc main_arg1)) (m ((c : Thread nD τ).loc main_arg3)) (ix2 R 0) = BitVec.ofNat 32 (T.rowExpert R).val :=
    (congrArg₂ (fun a b => picks a b (ix2 R 0)) hex hhi).trans (picks_at T R)
  rw [res_eq]
  refine (outcome_at _ _ _ _ _ R d).trans ?_
  unfold out
  simp only [first_at _ R _ p, down_at _ R _ p, firstBias_at _ R _ p, downBias_at _ R _ p, layer5, layer6, layer7, layer8]

end Cert.ReferenceIdeal.Rows

end
-- ==== Proof.KernelIdeal.Values.lean ====
module

public import proofs.«01_k».proof.Proof.Spec
public import proofs.«01_k».proof.Proof.KernelIdeal.Fill
public import Idealize.ShloMosaic.Lib.Pointwise

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # What one point computes, element by element

The scratch buffers are the expert's weights with the alternating columns sorted out, and each of the three block
computations gives the plain formula on the rows it is for. -/

/-- The copied piece of the gate columns, -/
theorem pay4_at (w : S1x1x128x512.Idx → Elt Ideal .f32) (a : Fin 256) (b : Fin 128) : k0_pay4 w (ix2 a b) = w (ix4 0 0 b ⟨2 * a.val, by omega⟩) := by
  pointwise [k0_pay4, k0_pay3]
/-- of the linear columns, -/
theorem pay5_at (w : S1x1x128x512.Idx → Elt Ideal .f32) (a : Fin 256) (b : Fin 128) : k0_pay5 w (ix2 a b) = w (ix4 0 0 b ⟨2 * a.val + 1, by omega⟩) := by
  pointwise [k0_pay5, k0_pay3]
/-- and of the output weights. -/
theorem pay102_at (w : S1x1x1024x1024.Idx → Elt Ideal .f32) (a b : Fin 1024) : k0_pay102 w (ix2 a b) = w (ix4 0 0 a b) := by
  pointwise [k0_pay102]

theorem inPiece_eq (r q : ℕ) : inPiece r q = ix2 ⟨r % 256, Nat.mod_lt _ (by decide)⟩ ⟨q % 128, Nat.mod_lt _ (by decide)⟩ := by
  funext a; fin_cases a <;> rfl

/-- The gate buffer is the even columns, -/
theorem gateOf_at (w : S1x1x1024x2048.Idx → Elt Ideal .f32) (f q : Fin 1024) : gateOf w (ix2 f q) = w (ix4 0 0 q ⟨2 * f.val, by omega⟩) := by
  show k0_pay4 (piece w f.val q.val f.isLt q.isLt) (inPiece f.val q.val) = _
  rw [inPiece_eq, pay4_at]
  refine congrArg w (funext fun a => Fin.ext ?_)
  fin_cases a
  · rfl
  · rfl
  · show q.val / 128 * 128 + 1 * (q.val % 128) = q.val; omega
  · show f.val / 256 * 512 + 1 * (2 * (f.val % 256)) = 2 * f.val; omega

/-- the linear buffer the odd columns, -/
theorem upOf_at (w : S1x1x1024x2048.Idx → Elt Ideal .f32) (f q : Fin 1024) : upOf w (ix2 f q) = w (ix4 0 0 q ⟨2 * f.val + 1, by omega⟩) := by
  show k0_pay5 (piece w f.val q.val f.isLt q.isLt) (inPiece f.val q.val) = _
  rw [inPiece_eq, pay5_at]
  refine congrArg w (funext fun a => Fin.ext ?_)
  fin_cases a
  · rfl
  · rfl
  · show q.val / 128 * 128 + 1 * (q.val % 128) = q.val; omega
  · show f.val / 256 * 512 + 1 * (2 * (f.val % 256) + 1) = 2 * f.val + 1; omega

/-- and the third buffer the output weights. -/
theorem downOf_at (w : S1x1x1024x1024.Idx → Elt Ideal .f32) (a b : Fin 1024) : downOf w (ix2 a b) = w (ix4 0 0 a b) := pay102_at w a b

/-- The plain formula over what a point has at hand, for the row `x`. -/
def atRow (x : Fin 1024 → EReal) (g u w : S1024x1024.Idx → Elt Ideal .bf16) (x3 x4 x5 : S1x1x1x1024.Idx → Elt Ideal .f32) (d : Fin 1024) : EReal :=
  Spec.row x (fun q f => g (ix2 f q)) (fun q f => u (ix2 f q)) (fun f => x3 (ix4 0 0 0 f)) (fun f => x4 (ix4 0 0 0 f)) (fun f d => w (ix2 f d)) (fun d => x5 (ix4 0 0 0 d)) d

theorem pay99_at (x : S512x1024.Idx → Elt Ideal .bf16) (g u : S1024x1024.Idx → Elt Ideal .bf16) (x3 x4 : S1x1x1x1024.Idx → Elt Ideal .f32) (r : Fin 512) (f : Fin 1024) :
    k0_pay99 x g x3 u x4 (ix2 r f)
      = Spec.hidden (fun q => x (ix2 r q)) (fun q f => g (ix2 f q)) (fun q f => u (ix2 f q)) (fun f => x3 (ix4 0 0 0 f)) (fun f => x4 (ix4 0 0 0 f)) f := by
  pointwise [k0_pay99, Spec.hidden, Spec.unit]
  rw [zero_sub]

theorem pay100_at (x : S256x1024.Idx → Elt Ideal .bf16) (g u : S1024x1024.Idx → Elt Ideal .bf16) (x3 x4 : S1x1x1x1024.Idx → Elt Ideal .f32) (r : Fin 256) (f : Fin 1024) :
    k0_pay100 x g x3 u x4 (ix2 r f)
      = Spec.hidden (fun q => x (ix2 r q)) (fun q f => g (ix2 f q)) (fun q f => u (ix2 f q)) (fun f => x3 (ix4 0 0 0 f)) (fun f => x4 (ix4 0 0 0 f)) f := by
  pointwise [k0_pay100, Spec.hidden, Spec.unit]
  rw [zero_sub]

theorem pay101_at (x : S256x1024.Idx → Elt Ideal .bf16) (g u : S1024x1024.Idx → Elt Ideal .bf16) (x3 x4 : S1x1x1x1024.Idx → Elt Ideal .f32) (r : Fin 256) (f : Fin 1024) :
    k0_pay101 x g x3 u x4 (ix2 r f)
      = Spec.hidden (fun q => x (ix2 r q)) (fun q f => g (ix2 f q)) (fun q f => u (ix2 f q)) (fun f => x3 (ix4 0 0 0 f)) (fun f => x4 (ix4 0 0 0 f)) f := by
  pointwise [k0_pay101, Spec.hidden, Spec.unit]
  rw [zero_sub]

theorem pay103_at (h : FVec Ideal S512x1024 .bf16) (w : S1024x1024.Idx → Elt Ideal .bf16) (x5 : S1x1x1x1024.Idx → Elt Ideal .f32) (r : Fin 512) (d : Fin 1024) :
    k0_pay103 h w x5 (ix2 r d) = (∑ f : Fin 1024, h (ix2 r f) * w (ix2 f d)) + x5 (ix4 0 0 0 d) := by
  pointwise [k0_pay103]

/-- Whether row `r`, counted from row `s`, is one of the item's rows. -/
def rowMask (v3 v5 s : BitVec 32) (r : ℕ) : BitVec 1 :=
  IntOp.andi (IntOp.cmpi .sge (IntOp.addi s (BitVec.ofNat 32 r)) v3) (IntOp.cmpi .slt (IntOp.addi s (BitVec.ofNat 32 r)) v5)

theorem pay1_at (v3 v5 v31 : BitVec 32) (h : FVec Ideal S256x1024 .bf16) (w : S1024x1024.Idx → Elt Ideal .bf16) (x5 : S1x1x1x1024.Idx → Elt Ideal .f32) (o : S256x1024.Idx → Elt Ideal .bf16) (r : Fin 256) (d : Fin 1024) :
    k0_pay1 v3 v5 v31 h w x5 o (ix2 r d) = Scalar.select (rowMask v3 v5 v31 r.val) ((∑ f : Fin 1024, h (ix2 r f) * w (ix2 f d)) + x5 (ix4 0 0 0 d)) (o (ix2 r d)) := by
  pointwise [k0_pay1, rowMask]

theorem pay2_at (v1 v3 v5 : BitVec 32) (h : FVec Ideal S256x1024 .bf16) (w : S1024x1024.Idx → Elt Ideal .bf16) (x5 : S1x1x1x1024.Idx → Elt Ideal .f32) (o : S256x1024.Idx → Elt Ideal .bf16) (r : Fin 256) (d : Fin 1024) :
    k0_pay2 v1 v3 v5 h w x5 o (ix2 r d) = Scalar.select (rowMask v3 v5 (Scalar.addi (Scalar.muli v1 512#32) 256#32) r.val) ((∑ f : Fin 1024, h (ix2 r f) * w (ix2 f d)) + x5 (ix4 0 0 0 d)) (o (ix2 r d)) := by
  pointwise [k0_pay2, rowMask]

/-- A block that is all one item's, -/
theorem wholeBlock_at (x0 : S512x1024.Idx → Elt Ideal .bf16) (g u w : S1024x1024.Idx → Elt Ideal .bf16) (x3 x4 x5 : S1x1x1x1024.Idx → Elt Ideal .f32) (r : Fin 512) (d : Fin 1024) :
    wholeBlock x0 g u w x3 x4 x5 (ix2 r d) = atRow (fun q => x0 (ix2 r q)) g u w x3 x4 x5 d := by
  unfold wholeBlock
  rw [pay103_at]
  simp only [pay99_at]
  rfl

theorem rowsFrom_at (s : ℕ) (inb : ∀ a, (![s, 0] : Fin 2 → ℕ) a + S256x1024.size a ≤ S512x1024.size a) (o : S512x1024.Idx → Elt Ideal .bf16) (r : Fin 256) (R : Fin 512) (hR : R.val = s + r.val) (q : Fin 1024) :
    rowsFrom s inb o (ix2 r q) = o (ix2 R q) := by
  refine congrArg o (funext fun a => Fin.ext ?_)
  fin_cases a
  · show s + 1 * r.val = R.val; omega
  · show 0 + 1 * q.val = q.val; omega

/-- and 256 rows of a shared block. -/
theorem put_at (s : ℕ) (inb : ∀ a, (![s, 0] : Fin 2 → ℕ) a + S256x1024.size a ≤ S512x1024.size a) (o : S512x1024.Idx → Elt Ideal .bf16) (v : S256x1024.Idx → Elt Ideal .bf16) (R : Fin 512) (q : Fin 1024) :
    VecWindow.put o ![s, 0] S256x1024.size v (ix2 R q) = if h : s ≤ R.val ∧ R.val < s + 256 then v (ix2 ⟨R.val - s, by omega⟩ q) else o (ix2 R q) := by
  unfold VecWindow.put
  by_cases h : s ≤ R.val ∧ R.val < s + 256
  · have hq : q.val < 1024 := q.isLt
    rw [dif_pos h, dif_pos (fun a => by
      fin_cases a
      · exact h
      · exact ⟨Nat.zero_le _, (Nat.zero_add 1024).symm ▸ hq⟩)]
    refine congrArg v (funext fun a => Fin.ext ?_)
    fin_cases a
    · rfl
    · rfl
  · rw [dif_neg h, dif_neg (fun hall => h (hall 0))]

/-- The upper half of a shared block, -/
theorem upperBlock_at (v3 v5 v31 : BitVec 32) (x0 : S512x1024.Idx → Elt Ideal .bf16) (g u w : S1024x1024.Idx → Elt Ideal .bf16) (x3 x4 x5 : S1x1x1x1024.Idx → Elt Ideal .f32) (o : S512x1024.Idx → Elt Ideal .bf16) (r : Fin 512) (d : Fin 1024) :
    upperBlock v3 v5 v31 x0 g u w x3 x4 x5 o (ix2 r d)
      = if r.val < 256 then Scalar.select (rowMask v3 v5 v31 r.val) (atRow (fun q => x0 (ix2 r q)) g u w x3 x4 x5 d) (o (ix2 r d)) else o (ix2 r d) := by
  unfold upperBlock
  rw [put_at 0 inb_S512x1024_S256x1024_0_0]
  by_cases h : r.val < 256
  · rw [dif_pos ⟨Nat.zero_le _, (by omega : r.val < 0 + 256)⟩, if_pos h, pay1_at, rowsFrom_at 0 _ o _ r (by show r.val = 0 + (r.val - 0); omega)]
    simp only [pay100_at]
    rw [show (fun q => rowsFrom 0 inb_S512x1024_S256x1024_0_0 x0 (ix2 ⟨r.val - 0, by omega⟩ q)) = fun q => x0 (ix2 r q) from
      funext fun q => rowsFrom_at 0 _ x0 _ r (by show r.val = 0 + (r.val - 0); omega) q]
    rfl
  · rw [dif_neg (fun hh => h (by omega)), if_neg h]

/-- and the lower half. -/
theorem lowerBlock_at (v1 v3 v5 : BitVec 32) (x0 : S512x1024.Idx → Elt Ideal .bf16) (g u w : S1024x1024.Idx → Elt Ideal .bf16) (x3 x4 x5 : S1x1x1x1024.Idx → Elt Ideal .f32) (o : S512x1024.Idx → Elt Ideal .bf16) (r : Fin 512) (d : Fin 1024) :
    lowerBlock v1 v3 v5 x0 g u w x3 x4 x5 o (ix2 r d)
      = if 256 ≤ r.val then Scalar.select (rowMask v3 v5 (Scalar.addi (Scalar.muli v1 512#32) 256#32) (r.val - 256)) (atRow (fun q => x0 (ix2 r q)) g u w x3 x4 x5 d) (o (ix2 r d)) else o (ix2 r d) := by
  unfold lowerBlock
  rw [put_at 256 inb_S512x1024_S256x1024_256_0]
  by_cases h : 256 ≤ r.val
  · rw [dif_pos ⟨h, (by omega : r.val < 256 + 256)⟩, if_pos h, pay2_at, rowsFrom_at 256 _ o _ r (by show r.val = 256 + (r.val - 256); omega)]
    simp only [pay101_at]
    rw [show (fun q => rowsFrom 256 inb_S512x1024_S256x1024_256_0 x0 (ix2 ⟨r.val - 256, by omega⟩ q)) = fun q => x0 (ix2 r q) from
      funext fun q => rowsFrom_at 256 _ x0 _ r (by show r.val = 256 + (r.val - 256); omega) q]
    rfl
  · rw [dif_neg (fun hh => h hh.1), if_neg h]

end Cert.KernelIdeal.Moe
-- ==== Proof.KernelIdeal.Steps.lean ====
module

public import proofs.«01_k».proof.Proof.KernelIdeal.Values
public import proofs.«01_k».proof.Proof.KernelIdeal.Cfg

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # One point of the grid, row by row

A point writes the rows of its item, and keeps the rows before them unless it is its block's first point. -/

open Cert.Items

theorem rowMask_iff (v3 v5 s : BitVec 32) (r : ℕ) (h3 : v3.toNat < 2 ^ 31) (h5 : v5.toNat < 2 ^ 31) (hs : s.toNat + r < 2 ^ 31) :
    rowMask v3 v5 s r = 1#1 ↔ v3.toNat ≤ s.toNat + r ∧ s.toNat + r < v5.toNat := by
  have e : (IntOp.addi s (BitVec.ofNat 32 r)).toNat = s.toNat + r := by
    have : (BitVec.ofNat 32 r).toNat = r := by rw [BitVec.toNat_ofNat]; exact Nat.mod_eq_of_lt (by omega)
    rw [addi_small _ _ (by omega), this]
  unfold rowMask
  rw [andi_one, sge_one, slt_one, toInt_small _ h3, toInt_small _ h5, toInt_small _ (by omega), e]
  omega

theorem subi_small (v3 v5 : BitVec 32) (h : v3.toNat ≤ v5.toNat) : (Scalar.subi v5 v3).toNat = v5.toNat - v3.toNat := by
  show (v5 - v3).toNat = _
  rw [BitVec.toNat_sub]
  have := v5.isLt
  have := v3.isLt
  omega

theorem full_iff (v3 v5 : BitVec 32) (h : v3.toNat ≤ v5.toNat) : Scalar.subi v5 v3 = 512#32 ↔ v5.toNat = v3.toNat + 512 := by
  rw [← BitVec.toNat_inj, subi_small _ _ h]
  show v5.toNat - v3.toNat = 512 ↔ _
  omega

/-- Where the item reaches into the upper half, the upper half is done, -/
theorem cond4_of (v1 v3 v5 : BitVec 32) (h1 : v1.toNat < 256) (hn : ¬ Scalar.subi v5 v3 = 512#32) (h3 : v3.toNat < 2 ^ 31) (h5 : v5.toNat < 2 ^ 31) (h : v3.toNat < v5.toNat)
    (hl : v3.toNat < v1.toNat * 512 + 256) (hu : v1.toNat * 512 < v5.toNat) : k0_cond4 v1 v3 v5 = 1#1 := by
  have m := muli_512 v1 h1
  have a : (IntOp.addi (IntOp.muli v1 512#32) 0#32).toNat = v1.toNat * 512 := by
    have e : (0#32 : BitVec 32).toNat = 0 := rfl
    rw [addi_small _ _ (by rw [m, e]; omega), m, e, Nat.add_zero]
  have b : (IntOp.addi (IntOp.addi (IntOp.muli v1 512#32) 0#32) 256#32).toNat = v1.toNat * 512 + 256 := by
    have e : (256#32 : BitVec 32).toNat = 256 := rfl
    rw [addi_small _ _ (by rw [a, e]; omega), a, e]
  unfold k0_cond4; dsimp only; rw [lift_one]
  refine (andi_one _ _).2 ⟨(xor_one _).2 fun e => hn ((eq_one _ _).1 e), (andi_one _ _).2 ⟨(sgt_one _ _).2 ?_, (andi_one _ _).2 ⟨(slt_one _ _).2 ?_, (sgt_one _ _).2 ?_⟩⟩⟩
  · rw [toInt_small _ h3, toInt_small _ h5]; exact_mod_cast h
  · show v3.toInt < (IntOp.addi (IntOp.addi (IntOp.muli v1 512#32) 0#32) 256#32).toInt
    rw [toInt_small _ h3, toInt_small _ (by omega), b]; exact_mod_cast hl
  · show (IntOp.addi (IntOp.muli v1 512#32) 0#32).toInt < v5.toInt
    rw [toInt_small _ h5, toInt_small _ (by omega), a]; exact_mod_cast hu

/-- and likewise the lower half. -/
theorem cond5_of (v1 v3 v5 : BitVec 32) (h1 : v1.toNat < 256) (hn : ¬ Scalar.subi v5 v3 = 512#32) (h3 : v3.toNat < 2 ^ 31) (h5 : v5.toNat < 2 ^ 31) (h : v3.toNat < v5.toNat)
    (hl : v3.toNat < v1.toNat * 512 + 512) (hu : v1.toNat * 512 + 256 < v5.toNat) : k0_cond5 v1 v3 v5 = 1#1 := by
  have m := muli_512 v1 h1
  have e : (256#32 : BitVec 32).toNat = 256 := rfl
  have a : (IntOp.addi (IntOp.muli v1 512#32) 256#32).toNat = v1.toNat * 512 + 256 := by
    rw [addi_small _ _ (by rw [m, e]; omega), m, e]
  have b : (IntOp.addi (IntOp.addi (IntOp.muli v1 512#32) 256#32) 256#32).toNat = v1.toNat * 512 + 512 := by
    rw [addi_small _ _ (by rw [a, e]; omega), a, e]
  unfold k0_cond5; dsimp only; rw [lift_one]
  refine (andi_one _ _).2 ⟨(xor_one _).2 fun e => hn ((eq_one _ _).1 e), (andi_one _ _).2 ⟨(sgt_one _ _).2 ?_, (andi_one _ _).2 ⟨(slt_one _ _).2 ?_, (sgt_one _ _).2 ?_⟩⟩⟩
  · rw [toInt_small _ h3, toInt_small _ h5]; exact_mod_cast h
  · show v3.toInt < (IntOp.addi (IntOp.addi (IntOp.muli v1 512#32) 256#32) 256#32).toInt
    rw [toInt_small _ h3, toInt_small _ (by omega), b]; exact_mod_cast hl
  · show (IntOp.addi (IntOp.muli v1 512#32) 256#32).toInt < v5.toInt
    rw [toInt_small _ h5, toInt_small _ (by omega), a]; exact_mod_cast hu

section
variable (i : grid0.Coords) (v1 v3 v5 v10 : BitVec 32) (x0 : S512x1024.Idx → Elt Ideal .bf16) (g u w : S1024x1024.Idx → Elt Ideal .bf16) (x3 x4 x5 : S1x1x1x1024.Idx → Elt Ideal .f32) (o : S512x1024.Idx → Elt Ideal .bf16)
  (h1 : v1.toNat < 256) (hlo : v1.toNat * 512 ≤ v3.toNat) (hle : v3.toNat ≤ v5.toNat) (hhi : v5.toNat ≤ v1.toNat * 512 + 512)

include h1 hlo hle hhi

theorem upper_mask (r : ℕ) (hr : r < 512) : rowMask v3 v5 (Scalar.addi (Scalar.muli v1 512#32) 0#32) r = 1#1 ↔ v3.toNat ≤ v1.toNat * 512 + r ∧ v1.toNat * 512 + r < v5.toNat := by
  have m : (Scalar.muli v1 512#32).toNat = v1.toNat * 512 := muli_512 v1 h1
  have a : (Scalar.addi (Scalar.muli v1 512#32) 0#32).toNat = v1.toNat * 512 := by
    have e : (0#32 : BitVec 32).toNat = 0 := rfl
    exact (addi_small _ _ (by rw [m, e]; omega)).trans (by rw [m, e]; omega)
  rw [rowMask_iff _ _ _ _ (by omega) (by omega) (by omega), a]

theorem lower_mask (r : ℕ) (hr : r < 256) : rowMask v3 v5 (Scalar.addi (Scalar.muli v1 512#32) 256#32) r = 1#1 ↔ v3.toNat ≤ v1.toNat * 512 + 256 + r ∧ v1.toNat * 512 + 256 + r < v5.toNat := by
  have m : (Scalar.muli v1 512#32).toNat = v1.toNat * 512 := muli_512 v1 h1
  have a : (Scalar.addi (Scalar.muli v1 512#32) 256#32).toNat = v1.toNat * 512 + 256 := by
    have e : (256#32 : BitVec 32).toNat = 256 := rfl
    exact (addi_small _ _ (by rw [m, e]; omega)).trans (by rw [m, e])
  rw [rowMask_iff _ _ _ _ (by omega) (by omega) (by omega), a]

/-- The item's rows get the formula. -/
theorem stepOf_done (r : Fin 512) (d : Fin 1024) (hr : v3.toNat ≤ v1.toNat * 512 + r.val) (hr' : v1.toNat * 512 + r.val < v5.toNat) :
    stepOf i v1 v3 v5 v10 x0 g u w x3 x4 x5 o (ix2 r d) = atRow (fun q => x0 (ix2 r q)) g u w x3 x4 x5 d := by
  unfold stepOf
  by_cases hf : Scalar.subi v5 v3 = 512#32
  · have c2 := (cond2_iff v3 v5).2 hf
    have c3 : ¬ k0_cond3 i v1 v3 v5 v10 = 1#1 := fun h => ((cond3_iff i v1 v3 v5 v10).1 h).2 hf
    have c4 : ¬ k0_cond4 v1 v3 v5 = 1#1 := fun h => cond4_full v1 v3 v5 h hf
    have c5 : ¬ k0_cond5 v1 v3 v5 = 1#1 := fun h => cond5_full v1 v3 v5 h hf
    rw [if_pos c2, if_neg c3, if_neg c4, if_neg c5]
    exact wholeBlock_at x0 g u w x3 x4 x5 r d
  · have h := r.isLt
    by_cases hh : r.val < 256
    · have c4 := cond4_of v1 v3 v5 h1 hf (by omega) (by omega) (by omega) (by omega) (by omega)
      have mk := (upper_mask v1 v3 v5 h1 hlo hle hhi r.val h).2 ⟨hr, hr'⟩
      rw [if_pos c4]
      have up : ∀ o', upperBlock v3 v5 (Scalar.addi (Scalar.muli v1 512#32) 0#32) x0 g u w x3 x4 x5 o' (ix2 r d) = atRow (fun q => x0 (ix2 r q)) g u w x3 x4 x5 d := fun o' => by
        rw [upperBlock_at, if_pos hh, mk]; rfl
      split
      · rw [lowerBlock_at, if_neg (by omega)]; exact up _
      · exact up _
    · have c5 := cond5_of v1 v3 v5 h1 hf (by omega) (by omega) (by omega) (by omega) (by omega)
      have mk := (lower_mask v1 v3 v5 h1 hlo hle hhi (r.val - 256) (by omega)).2 (by omega)
      rw [if_pos c5, lowerBlock_at, if_pos (by omega), mk]
      rfl

/-- The rows before them are kept, except by the block's first point. -/
theorem stepOf_kept (r : Fin 512) (d : Fin 1024) (hr : v1.toNat * 512 + r.val < v3.toNat) (hfirst : ¬ ((i 0).val = 0 ∨ v1 ≠ v10)) :
    stepOf i v1 v3 v5 v10 x0 g u w x3 x4 x5 o (ix2 r d) = o (ix2 r d) := by
  unfold stepOf
  have hf : ¬ Scalar.subi v5 v3 = 512#32 := fun e => by have := (full_iff v3 v5 hle).1 e; omega
  have c2 : ¬ k0_cond2 v3 v5 = 1#1 := fun h => hf ((cond2_iff v3 v5).1 h)
  have c3 : ¬ k0_cond3 i v1 v3 v5 v10 = 1#1 := fun h => hfirst ((cond3_iff i v1 v3 v5 v10).1 h).1
  rw [if_neg c2, if_neg c3]
  have h := r.isLt
  have up : ∀ o', upperBlock v3 v5 (Scalar.addi (Scalar.muli v1 512#32) 0#32) x0 g u w x3 x4 x5 o' (ix2 r d) = o' (ix2 r d) := fun o' => by
    rw [upperBlock_at]
    split
    · have mk : ¬ rowMask v3 v5 (Scalar.addi (Scalar.muli v1 512#32) 0#32) r.val = 1#1 := fun e => by
        have := (upper_mask v1 v3 v5 h1 hlo hle hhi r.val h).1 e; omega
      exact if_neg mk
    · rfl
  have low : ∀ o', lowerBlock v1 v3 v5 x0 g u w x3 x4 x5 o' (ix2 r d) = o' (ix2 r d) := fun o' => by
    rw [lowerBlock_at]
    split
    · have mk : ¬ rowMask v3 v5 (Scalar.addi (Scalar.muli v1 512#32) 256#32) (r.val - 256) = 1#1 := fun e => by
        have := (lower_mask v1 v3 v5 h1 hlo hle hhi (r.val - 256) (by omega)).1 e; omega
      exact if_neg mk
    · rfl
  by_cases c5 : k0_cond5 v1 v3 v5 = 1#1
  · rw [if_pos c5, low]
    split
    · exact up _
    · rfl
  · rw [if_neg c5]
    split
    · exact up _
    · rfl

end

end Cert.KernelIdeal.Moe
-- ==== Proof.KernelIdeal.Result.lean ====
module

public import proofs.«01_k».proof.Proof.Spec
public import proofs.«01_k».proof.Proof.Rows
public import proofs.«01_k».proof.Proof.KernelIdeal.Steps
public import proofs.«01_k».proof.Proof.KernelIdeal.Launch
public import Idealize.ShloMosaic.Lib.Pipeline.ValueKit.Geometry
public import Idealize.ShloMosaic.Lib.Pointwise

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # The result array

The rows a point has done stay done until their block is written back, and then all of the block's rows are done. -/

open Cert.Items Cert.Spec

variable (T : Tabs) (m : (ℓ : Loc nD τ sig) → Buf (Elt Ideal) ℓ)

theorem V_main_v1 (c : Dev nD) (e : Fin 32) (f : Fin 1024) : V m c main_v1 (ix4 0 e 0 f) = m ((c : Thread nD τ).loc main_arg6) (ix3 0 e (even f)) := by
  have h : V m c main_v1 = broadcastInDim S4x32x1x1024 ![0, 1, 3] bcast_S4x32x1024_S4x32x1x1024_0_1_3 (Host.slice S4x32x1024 ![0, 0, 0] ![1, 1, 2] (m ((c : Thread nD τ).loc main_arg6)) slicesBy_S4x32x2048_S4x32x1024_0s1_0s1_0s2) := by
    unfold V hostOps0
    after_results_simp <;> rfl
  rw [h]
  pointwise [even]

theorem V_main_v3 (c : Dev nD) (e : Fin 32) (f : Fin 1024) : V m c main_v3 (ix4 0 e 0 f) = m ((c : Thread nD τ).loc main_arg6) (ix3 0 e (odd f)) := by
  have h : V m c main_v3 = broadcastInDim S4x32x1x1024 ![0, 1, 3] bcast_S4x32x1024_S4x32x1x1024_0_1_3 (Host.slice S4x32x1024 ![0, 0, 1] ![1, 1, 2] (m ((c : Thread nD τ).loc main_arg6)) slicesBy_S4x32x2048_S4x32x1024_0s1_0s1_1s2) := by
    unfold V hostOps0
    after_results_simp <;> rfl
  rw [h]
  pointwise []
  exact congrArg (fun k : Fin 2048 => m ((c : Thread nD τ).loc main_arg6) (ix3 0 e k)) (Fin.ext (Nat.add_comm 1 (2 * f.val)))

theorem V_main_v4 (c : Dev nD) (e : Fin 32) (d : Fin 1024) : V m c main_v4 (ix4 0 e 0 d) = m ((c : Thread nD τ).loc main_arg8) (ix3 0 e d) := by
  have h : V m c main_v4 = broadcastInDim S4x32x1x1024 ![0, 1, 3] bcast_S4x32x1024_S4x32x1x1024_0_1_3 (m ((c : Thread nD τ).loc main_arg8)) := by
    unfold V hostOps0
    after_results_simp <;> rfl
  rw [h]
  pointwise []

theorem here_crd (t : Fin (cfgA T).N) : here (crd T t) = ix t.val (show t.val < 288 from t.isLt) := by
  funext a
  refine Fin.ext ?_
  fin_cases a
  exact crd_val T t

/-- Output `d` of row `R`, from the launch memory. -/
def result (c : Dev nD) (R : Fin 131072) (d : Fin 1024) : EReal :=
  out (m ((c : Thread nD τ).loc main_arg4)) (m ((c : Thread nD τ).loc main_arg5)) (m ((c : Thread nD τ).loc main_arg6)) (m ((c : Thread nD τ).loc main_arg7)) (m ((c : Thread nD τ).loc main_arg8))
    (T.rowExpert R) R d

/-- What a point has at hand gives its expert's outputs for its block's rows. -/
theorem atRow_point (c : Dev nD) (t : Fin (cfgA T).N) (r : Fin 512) (d : Fin 1024) (R : Fin 131072) (hR : R.val = (T.blk (here (crd T t))).toNat * 512 + r.val) :
    atRow (fun q => iblk T (V m) c (0 : Fin 7) t (ix2 r q)) (gateOf (iblk T (V m) c (1 : Fin 7) t)) (upOf (iblk T (V m) c (1 : Fin 7) t)) (downOf (iblk T (V m) c (2 : Fin 7) t))
        (iblk T (V m) c (3 : Fin 7) t) (iblk T (V m) c (4 : Fin 7) t) (iblk T (V m) c (5 : Fin 7) t) d
      = out (m ((c : Thread nD τ).loc main_arg4)) (m ((c : Thread nD τ).loc main_arg5)) (m ((c : Thread nD τ).loc main_arg6)) (m ((c : Thread nD τ).loc main_arg7)) (m ((c : Thread nD τ).loc main_arg8))
          (T.expert (here (crd T t))) R d := by
  have rI : ∀ q : Fin 1024, rowIdx (T.block (here (crd T t))) (ix2 r q) = ix2 R q := fun q => by
    funext a; refine Fin.ext ?_
    fin_cases a
    · exact hR.symm
    · rfl
  have fI : ∀ (q : Fin 1024) (k : Fin 2048), firstIdx (T.expert (here (crd T t))) (ix4 0 0 q k) = ix4 0 (T.expert (here (crd T t))) q k := fun q k => by
    funext a; fin_cases a <;> rfl
  have dI : ∀ (q : Fin 1024) (k : Fin 1024), downIdx (T.expert (here (crd T t))) (ix4 0 0 q k) = ix4 0 (T.expert (here (crd T t))) q k := fun q k => by
    funext a; fin_cases a <;> rfl
  have bI : ∀ k : Fin 1024, biasIdx (T.expert (here (crd T t))) (ix4 0 0 0 k) = ix4 0 (T.expert (here (crd T t))) 0 k := fun k => by
    funext a; fin_cases a <;> rfl
  unfold atRow out
  rw [iblk0_eq, iblk1_eq, iblk2_eq, iblk3_eq, iblk4_eq, iblk5_eq]
  simp only [gateOf_at, upOf_at, downOf_at, V_main_arg4, V_main_arg5, V_main_arg7]
  simp only [rI, fI, dI, bI, V_main_v1, V_main_v3, V_main_v4]
  rfl

/-- After a point, the rows of its block up to its item's end are done. -/
theorem traj_done (c : Dev nD) : ∀ (n : ℕ) (h : n < (cfgA T).N) (r : Fin 512) (d : Fin 1024) (R : Fin 131072), R.val = (T.blk (here (crd T ⟨n, h⟩))).toNat * 512 + r.val →
    R.val < (T.hi (here (crd T ⟨n, h⟩))).toNat → traj T (V m) c (n + 1) (ix2 r d) = result T m c R d := by
  intro n
  induction n with
  | zero =>
    intro h r d R hR hlt
    have lz := T.ok.lo_zero
    have e : here (crd T ⟨0, h⟩) = ix 0 (by decide) := here_crd T ⟨0, h⟩
    rw [traj_succ T (V m) c ⟨0, h⟩,
      stepOf_done _ _ _ _ _ _ _ _ _ _ _ _ _ (T.ok.blk_lt _) (T.ok.blk_le _) (T.ok.lo_le _) (T.ok.hi_le _) r d (by rw [e, lz]; exact Nat.zero_le _) (by omega),
      atRow_point T m c ⟨0, h⟩ r d R hR]
    rw [e] at hlt ⊢
    unfold result
    rw [T.rowExpert_eq R 0 (by decide) (by rw [lz]; exact Nat.zero_le _) hlt]
  | succ n ih =>
    intro h r d R hR hlt
    have h288 : n + 1 < 288 := h
    have e : here (crd T ⟨n + 1, h⟩) = ix (n + 1) h288 := here_crd T ⟨n + 1, h⟩
    have e' : here (crd T ⟨n, Nat.lt_of_succ_lt h⟩) = ix n (by omega) := here_crd T ⟨n, Nat.lt_of_succ_lt h⟩
    have nx := T.ok.next n h288
    rw [traj_succ T (V m) c ⟨n + 1, h⟩]
    by_cases hl : (T.lo (here (crd T ⟨n + 1, h⟩))).toNat ≤ R.val
    · rw [stepOf_done _ _ _ _ _ _ _ _ _ _ _ _ _ (T.ok.blk_lt _) (T.ok.blk_le _) (T.ok.lo_le _) (T.ok.hi_le _) r d (by omega) (by omega),
        atRow_point T m c ⟨n + 1, h⟩ r d R hR]
      rw [e] at hlt hl ⊢
      unfold result
      rw [T.rowExpert_eq R (n + 1) h288 hl hlt]
    · have st := T.ok.blk_step n h288
      have mo := T.ok.blk_mono n h288
      have hh := T.ok.hi_le (ix n (by omega))
      have bl := T.ok.blk_le (ix (n + 1) h288)
      rw [e] at hl hR hlt
      have same : T.blk (ix (n + 1) h288) = T.blk (ix n (by omega)) := BitVec.eq_of_toNat_eq (by omega)
      have first : ¬ (((crd T ⟨n + 1, h⟩) 0).val = 0 ∨ T.blk (here (crd T ⟨n + 1, h⟩)) ≠ T.blk (prior (crd T ⟨n + 1, h⟩))) := by
        rw [prior_eq, e, e', crd_val]
        exact fun hor => hor.elim (Nat.succ_ne_zero n) (fun hne => hne same)
      rw [stepOf_kept _ _ _ _ _ _ _ _ _ _ _ _ _ (T.ok.blk_lt _) (T.ok.blk_le _) (T.ok.lo_le _) (T.ok.hi_le _) r d (by rw [e]; omega) first]
      refine ih (Nat.lt_of_succ_lt h) r d R ?_ ?_
      · rw [e', ← same]; exact hR
      · rw [e', nx]; omega

/-- A written-back block's last point: its item ends with the block. -/
theorem flush_end (t : Fin (cfgA T).N) (hf : ((cfgA T).win (6 : Fin 7)).flush t = true) :
    (T.hi (here (crd T t))).toNat = (T.blk (here (crd T t))).toNat * 512 + 512 := by
  have h288 : t.val < 288 := t.isLt
  have hh := T.ok.hi_le (here (crd T t))
  have bb := T.ok.blk_lt (here (crd T t))
  have e := here_crd T t
  by_cases hl : t.val = 287
  · have la := T.ok.last
    have : here (crd T t) = ix 287 (by decide) := by rw [e]; congr 1
    rw [this] at hh bb ⊢
    omega
  · have hn : t.val + 1 < 288 := by omega
    have ne := flush6_next T t.val hn hf
    have e2 := here_crd T ⟨t.val + 1, hn⟩
    have nx := T.ok.next t.val hn
    have st := T.ok.blk_step t.val hn
    have mo := T.ok.blk_mono t.val hn
    have bl := T.ok.blk_le (ix (t.val + 1) hn)
    rw [e2] at ne
    have ne' : T.blk (ix (t.val + 1) hn) ≠ T.blk (ix t.val h288) := by rw [← e]; exact ne
    have : (T.blk (ix (t.val + 1) hn)).toNat ≠ (T.blk (ix t.val h288)).toNat := fun e => ne' (BitVec.eq_of_toNat_eq e)
    rw [e] at hh ⊢
    omega

/-- The last point writes its block back. -/
theorem flush6_last (h : 287 < (cfgA T).N) : ((cfgA T).win (6 : Fin 7)).flush ⟨287, h⟩ = true := by
  unfold Pipeline.Window.flush
  rw [Bool.and_eq_true, Bool.or_eq_true, decide_eq_true_eq, decide_eq_true_eq]
  exact ⟨rfl, .inl rfl⟩

/-- A point before one with another block writes its block back. -/
theorem flush6_before (n : ℕ) (h : n + 1 < (cfgA T).N) (hne : (T.blk (here (crd T ⟨n + 1, h⟩))).toNat ≠ (T.blk (here (crd T ⟨n, Nat.lt_of_succ_lt h⟩))).toNat) :
    ((cfgA T).win (6 : Fin 7)).flush ⟨n, Nat.lt_of_succ_lt h⟩ = true := by
  unfold Pipeline.Window.flush
  rw [Bool.and_eq_true, Bool.or_eq_true, decide_eq_true_eq, decide_eq_true_eq]
  refine ⟨rfl, .inr ⟨h, fun heq => hne ?_⟩⟩
  have e1 := transform6_val T (crd T ⟨n + 1, h⟩)
  have e2 := transform6_val T (crd T ⟨n, Nat.lt_of_succ_lt h⟩)
  exact congrFun (e1.symm.trans (Eq.trans heq e2)) 0

/-- Every block that some point names is written back after a point that names it. -/
theorem flushed (b : ℕ) : ∀ (k n : ℕ) (h : n < (cfgA T).N), n + k = 287 → (T.blk (here (crd T ⟨n, h⟩))).toNat = b →
    ∃ t : Fin (cfgA T).N, ((cfgA T).win (6 : Fin 7)).flush t = true ∧ (T.blk (here (crd T t))).toNat = b := by
  intro k
  induction k with
  | zero =>
    intro n h hk hb
    obtain rfl : n = 287 := hk
    exact ⟨⟨287, h⟩, flush6_last T h, hb⟩
  | succ k ih =>
    intro n h hk hb
    have hn : n + 1 < (cfgA T).N := show n + 1 < 288 by omega
    by_cases hs : (T.blk (here (crd T ⟨n + 1, hn⟩))).toNat = b
    · exact ih (n + 1) hn (by omega) hs
    · exact ⟨⟨n, h⟩, flush6_before T n hn (fun e => hs (e.trans hb)), hb⟩

/-- Where a block's element lies in the array. -/
theorem emb6 (t : Fin (cfgA T).N) (y : S512x1024.Idx) : (((((cfgA T).win (6 : Fin 7)).blk t).view.emb y : S131072x1024.Idx) 0).val = (T.blk (here (crd T t))).toNat * 512 + (y 0).val
    ∧ (((((cfgA T).win (6 : Fin 7)).blk t).view.emb y : S131072x1024.Idx) 1).val = (y 1).val := by
  have e := transform6_val T (crd T t)
  constructor
  · show cc0_transform_6 k0_off1_inb numel1_S1 (pf T) (crd T t) 0 * 512 + 1 * (y 0).val = _
    rw [e]
    show (T.blk (here (crd T t))).toNat * 512 + 1 * (y 0).val = _
    omega
  · show cc0_transform_6 k0_off1_inb numel1_S1 (pf T) (crd T t) 1 * 1024 + 1 * (y 1).val = _
    rw [e]
    show 0 * 1024 + 1 * (y 1).val = _
    omega

/-- The result array after the run. -/
theorem final (c : Dev nD) : (dats T (V m) 0 c).arrAt (6 : Fin 7) (cfgA T).N = fun y : S131072x1024.Idx => result T m c (y 0) (y 1) := by
  refine (dats T (V m) 0 c).arrAt_eq_of_emb (6 : Fin 7) _ (fun t hf y => ?_) (fun i => ?_)
  · show traj T (V m) c (t.val + 1) (y : S512x1024.Idx) = result T m c ((((((cfgA T).win (6 : Fin 7)).blk t).view.emb y : S131072x1024.Idx)) 0) ((((((cfgA T).win (6 : Fin 7)).blk t).view.emb y : S131072x1024.Idx)) 1)
    have y0 : ((y : S512x1024.Idx) 0).val < 512 := ((y : S512x1024.Idx) 0).isLt
    obtain ⟨e0, e1⟩ := emb6 T t y
    have fe := flush_end T t hf
    have ye : (y : S512x1024.Idx) = ix2 (y 0) (y 1) := by funext a; fin_cases a <;> rfl
    have e1' : (((((cfgA T).win (6 : Fin 7)).blk t).view.emb y : S131072x1024.Idx) 1) = ((y : S512x1024.Idx) 1 : Fin 1024) := Fin.ext e1
    rw [e1']
    refine (congrArg (traj T (V m) c (t.val + 1)) ye).trans ?_
    refine traj_done T m c t.val t.isLt _ _ _ e0 ?_
    show _ < (T.hi (here (crd T t))).toNat
    omega
  · have i0 : ((i : S131072x1024.Idx) 0).val < 131072 := ((i : S131072x1024.Idx) 0).isLt
    obtain ⟨ol, ou⟩ := T.owner_spec ((i : S131072x1024.Idx) 0)
    have on : (T.owner ((i : S131072x1024.Idx) 0)).val < 288 := (T.owner ((i : S131072x1024.Idx) 0)).isLt
    have eo : here (crd T ⟨(T.owner ((i : S131072x1024.Idx) 0)).val, on⟩) = ix _ on := here_crd T ⟨_, on⟩
    obtain ⟨t, hf, hb⟩ := flushed T _ (287 - (T.owner ((i : S131072x1024.Idx) 0)).val) _ on (by omega) rfl
    refine ⟨t, hf, ?_⟩
    have bl := T.ok.blk_le (ix _ on)
    have hh := T.ok.hi_le (ix _ on)
    rw [eo] at hb
    let y : S512x1024.Idx := ix2 ⟨((i : S131072x1024.Idx) 0).val - (T.blk (here (crd T t))).toNat * 512, by rw [hb]; omega⟩ ((i : S131072x1024.Idx) 1)
    have : (i : S131072x1024.Idx) = (((cfgA T).win (6 : Fin 7)).blk t).view.emb y := by
      obtain ⟨e0, e1⟩ := emb6 T t y
      funext a
      refine Fin.ext ?_
      fin_cases a
      · refine Eq.trans ?_ e0.symm
        show ((i : S131072x1024.Idx) 0).val = (T.blk (here (crd T t))).toNat * 512 + (((i : S131072x1024.Idx) 0).val - (T.blk (here (crd T t))).toNat * 512)
        rw [hb]; omega
      · exact e1.symm
    rw [this]
    exact View.emb_mem_set _ y

end Cert.KernelIdeal.Moe
-- ==== Proof.Value.lean ====
module

public import proofs.«01_k».proof.Proof.Frames
public import proofs.«01_k».proof.Proof.ReferenceRows
public import proofs.«01_k».proof.Proof.KernelIdeal.Result

@[expose] public section

noncomputable section

namespace Cert.Frames

open Idealize.ShloMosaic Idealize.ShloMosaic.TcCoe Idealize.SL.Sem

/-! # The two results are one array

Both give row `R` of the result as that row through the expert that owns it. -/

theorem algebraic : Cert.algebraic_KernelIdeal_ReferenceIdeal := fun m g m' g' h hm => by
  obtain ⟨T, hT⟩ := ideal_tables m h
  refine ⟨fun c => fun y : Cert.KernelIdeal.S131072x1024.Idx => Cert.KernelIdeal.Moe.result T m c (y 0) (y 1), ?_, ?_⟩
  · refine (θ_run Cert.KernelIdeal.defs _ _).mono (fun r hr c => ?_) (Cert.KernelIdeal.Moe.run_ends T m g hT)
    exact ⟨((hr.1 c).1 (6 : Fin 7)).trans (Cert.KernelIdeal.Moe.final T m c), Cert.KernelIdeal.Moe.kept_of_ends T m hT hr.1 c⟩
  · refine (θ_run Cert.ReferenceIdeal.defs _ _).mono (fun r hr c => ⟨(hr c).1.trans ?_, (hr c).2⟩) (Cert.ReferenceIdeal.Value.run (F := Ideal) m' g')
    obtain ⟨_, e1, _, e3, e4, e5, e6, e7, e8⟩ := hm c
    obtain ⟨_, t1, _, t3⟩ := hT c
    funext y
    have hy : (y : Cert.ReferenceIdeal.S131072x1024.Idx) = ix2 (y 0) (y 1) := by funext a; fin_cases a <;> rfl
    refine (congrArg (Cert.ReferenceIdeal.Value.res_main_v48 m' c) hy).trans ?_
    refine (Cert.ReferenceIdeal.Rows.res_at T m' c (e1.trans t1) (e3.trans t3) (y 0) (y 1)).trans ?_
    rw [e4, e5, e6, e7, e8]
    rfl

end Cert.Frames

end
-- ==== Proof.Combine.Spec.lean ====
module

public import Idealize.ShloMosaic.PureOps.Ideal

@[expose] public section

noncomputable section

namespace Cert.Combine.Spec

open Idealize.ShloMosaic

/-! # A token's experts, summed and normalized -/

/-- The mean of a row, `count` the word of its length. -/
def mean {n : ℕ} (count : BitVec 32) (x : Fin n → EReal) : EReal := Ideal.div (∑ d, x d) (Ideal.ofBits .f32 count)

/-- The normalized row at `d`: centred, over the root of its variance, scaled and shifted. -/
def normed {n : ℕ} (count : BitVec 32) (x g b : Fin n → EReal) (d : Fin n) : EReal :=
  (x d - mean count x) * Ideal.rsqrt (mean count (fun k => (x k - mean count x) * (x k - mean count x)) + Ideal.ofBits .f32 0x3727C5AC#32) * g d + b d

theorem normed_congr {n : ℕ} (count : BitVec 32) {x x' g g' b b' : Fin n → EReal} (hx : ∀ k, x k = x' k) (hg : ∀ k, g k = g' k) (hb : ∀ k, b k = b' k) (d : Fin n) :
    normed count x g b d = normed count x' g' b' d := by
  rw [funext hx, funext hg, funext hb]

/-- One entry of a token: its residual, weighted, and its four experts' entries, each by its gate. -/
def entry (x : EReal) (y w : Fin 4 → EReal) : EReal := Ideal.ofBits .f32 0x3FD744FD#32 * x + ∑ k, y k * w k

/-- A token's row before its norm, from the residuals, the experts' outputs and the gates (a token's four are the first of its eight). -/
def token {N : ℕ} (x : Fin N → Fin 1024 → EReal) (y : Fin 4 → Fin N → Fin 1024 → EReal) (w : Fin 8 → Fin N → EReal) (R : Fin N) (d : Fin 1024) : EReal :=
  entry (x R d) (fun k => y k R d) fun k => w ⟨k.val, Nat.lt_trans k.isLt (by decide)⟩ R

/-- and after it. -/
def combined {N : ℕ} (x : Fin N → Fin 1024 → EReal) (y : Fin 4 → Fin N → Fin 1024 → EReal) (w : Fin 8 → Fin N → EReal) (g b : Fin 1024 → EReal) (R : Fin N) (d : Fin 1024) : EReal :=
  normed 0x44800000#32 (token x y w R) g b d

/-- Summing a column times an identity matrix's column picks the column's entry. -/
theorem pick (f : Fin 8 → EReal) (k : Fin 8) : ∑ x : Fin 8, Scalar.select (IntOp.cmpi .eq (BitVec.ofNat 32 x.val) (BitVec.ofNat 32 k.val)) (f x) 0 = f k := by
  have h : ∀ x k : Fin 8, IntOp.cmpi .eq (BitVec.ofNat 32 x.val) (BitVec.ofNat 32 k.val) = if x = k then 1#1 else 0#1 := by decide
  rw [Finset.sum_eq_single k (fun x _ hx => by rw [h, if_neg hx]; rfl) (fun hk => absurd (Finset.mem_univ k) hk), h, if_pos rfl]
  rfl

end Cert.Combine.Spec

end
-- ==== Proof.Combine.KernelRows.lean ====
module

public import proofs.«01_k».proof.Proof.Combine.Spec
public import proofs.«01_k».proof.Proof.Gen.CombineIdeal.Value
public import Idealize.ShloMosaic.Lib.Pointwise
public import Idealize.ShloMosaic.Lib.Pipeline.ValueKit.Geometry
public import Idealize.ShloMosaic.Lib.Pipeline.ValueKit.Acc

@[expose] public section

noncomputable section

namespace Cert.CombineIdeal.Rows

open Cert.CombineIdeal Cert.CombineIdeal.Gen Idealize.ShloMosaic Idealize.ShloMosaic.TcCoe Idealize.SL.Sem
open Idealize.ShloMosaic.Pipeline (Dat)
open Cert.Combine.Spec

/-! # The weighted sum and its norm, block by block -/

/-- The block's norm, row by row. -/
theorem normed_at (X : FVec Ideal S512x1024 .f32) (G B : Vec Ideal S1x1024 .f32) (t : Fin 512) (d : Fin 1024) :
    k0_pay1 X G B (ix2 t d) = normed 0x44800000#32 (fun k => X (ix2 t k)) (fun k => G (ix2 0 k)) (fun k => B (ix2 0 k)) d := by
  pointwise [k0_pay1, normed, mean]

/-- The block's sum: the product with the identity turns the gates. -/
theorem entry_at (W : Vec Ideal S8x512 .f32) (Y0 Y1 Y2 Y3 : Vec Ideal S1x512x1024 .bf16) (X : Vec Ideal S512x1024 .f32) (t : Fin 512) (d : Fin 1024) :
    k0_pay2 W Y0 Y1 Y2 Y3 X (ix2 t d) = entry (X (ix2 t d)) ![Y0 (ix3 0 t d), Y1 (ix3 0 t d), Y2 (ix3 0 t d), Y3 (ix3 0 t d)] ![W (ix2 0 t), W (ix2 1 t), W (ix2 2 t), W (ix2 3 t)] := by
  pointwise [k0_pay2, entry]
  rw [Fin.sum_univ_four]
  have p := pick fun x => W (ix2 x t)
  exact congrArg (_ + ·) (congrArg₂ (· + ·) (congrArg₂ (· + ·) (congrArg₂ (· + ·) (congrArg (_ * ·) (p 0)) (congrArg (_ * ·) (p 1))) (congrArg (_ * ·) (p 2))) (congrArg (_ * ·) (p 3)))

variable (m : (ℓ : Loc nD τ sig) → Buf (Elt Ideal) ℓ)

/-- What the call's output holds. -/
def result (c : Dev nD) : S32768x1024.Idx → Elt Ideal .f32 := fun y =>
  combined (fun R d => m ((c : Thread nD τ).loc main_arg0) (ix2 R d)) (fun k R d => m ((c : Thread nD τ).loc main_arg1) (ix3 k R d)) (fun k R => m ((c : Thread nD τ).loc main_arg2) (ix2 k R))
    (fun k => m ((c : Thread nD τ).loc main_arg3) (ix2 0 k)) (fun k => m ((c : Thread nD τ).loc main_arg4) (ix2 0 k)) (y 0) (y 1)

theorem N_eq : cfg0.N = 64 := by decide +kernel

/-- Row `r` of point `t`'s block. -/
def at_ (t : Fin cfg0.N) (r : Fin 512) : Fin 32768 := ⟨t.val * 512 + r.val, by have := t.isLt; have := N_eq; omega⟩

theorem e0 : ∀ t : Fin cfg0.N, win0_0.index t = ![t.val, 0] := (by decide +kernel : ∀ t : Fin grid0.N, _)
theorem e1 : ∀ t : Fin cfg0.N, win0_1.index t = ![0, t.val, 0] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)

theorem block0 (c : Dev nD) (t : Fin cfg0.N) (r : Fin 512) (d : Fin 1024) : iblk m c 0 t (ix2 r d) = m ((c : Thread nD τ).loc main_arg0) (ix2 (at_ t r) d) := by
  blk_simp [iblk]
  exact congrArg (m ((c : Thread nD τ).loc main_arg0)) (by blk_ext [e0, at_])

theorem block1 (c : Dev nD) (t : Fin cfg0.N) (k : Fin 4) (r : Fin 512) (d : Fin 1024) : iblk m c 1 t (ix3 k r d) = m ((c : Thread nD τ).loc main_arg1) (ix3 k (at_ t r) d) := by
  blk_simp [iblk]
  exact congrArg (m ((c : Thread nD τ).loc main_arg1)) (by blk_ext [e1, at_])

theorem block2 (c : Dev nD) (t : Fin cfg0.N) (k : Fin 8) (r : Fin 512) : iblk m c 2 t (ix2 k r) = m ((c : Thread nD τ).loc main_arg2) (ix2 k (at_ t r)) := by
  blk_simp [iblk]
  exact congrArg (m ((c : Thread nD τ).loc main_arg2)) (by blk_ext [e2, at_])

theorem block3 (c : Dev nD) (t : Fin cfg0.N) (d : Fin 1024) : iblk m c 3 t (ix2 0 d) = m ((c : Thread nD τ).loc main_arg3) (ix2 0 d) := by
  blk_simp [iblk]
  exact congrArg (m ((c : Thread nD τ).loc main_arg3)) (by blk_ext [e3])

theorem block4 (c : Dev nD) (t : Fin cfg0.N) (d : Fin 1024) : iblk m c 4 t (ix2 0 d) = m ((c : Thread nD τ).loc main_arg4) (ix2 0 d) := by
  blk_simp [iblk]
  exact congrArg (m ((c : Thread nD τ).loc main_arg4)) (by blk_ext [e4])

/-- One expert's part of a block. -/
theorem part_at (Y : S4x512x1024.Idx → Elt Ideal .bf16) (k : Fin 4) (inb : ∀ a, (![k.val, 0, 0] : Fin 3 → ℕ) a + S1x512x1024.size a ≤ S4x512x1024.size a) (r : Fin 512) (d : Fin 1024) :
    View.ld Y (Rect.unit (s := S4x512x1024) ![k.val, 0, 0] S1x512x1024.size inb) (ix3 0 r d) = Y (ix3 k r d) := by
  refine congrArg Y (funext fun a => Fin.ext ?_)
  fin_cases a
  · rfl
  · show 0 + 1 * r.val = r.val; omega
  · show 0 + 1 * d.val = d.val; omega

/-- A block's sum, from its five operands. -/
theorem token_at (X : S512x1024.Idx → Elt Ideal .f32) (Y : S4x512x1024.Idx → Elt Ideal .bf16) (W : S8x512.Idx → Elt Ideal .f32) (r : Fin 512) (d : Fin 1024) :
    k0_pay2 W (View.ld Y r0_1) (View.ld Y r0_2) (View.ld Y r0_3) (View.ld Y r0_4) X (ix2 r d) = token (fun r d => X (ix2 r d)) (fun k r d => Y (ix3 k r d)) (fun k r => W (ix2 k r)) r d := by
  rw [entry_at]
  refine congrArg₂ (entry _) (funext fun k => ?_) (funext fun k => ?_)
  · fin_cases k
    · exact part_at Y 0 _ r d
    · exact part_at Y 1 _ r d
    · exact part_at Y 2 _ r d
    · exact part_at Y 3 _ r d
  · fin_cases k <;> rfl

/-- The output is, row by row, the normalized sum. -/
theorem final (c : Dev nD) : (dats m 0 c).arrAt 5 cfg0.N = result m c := by
  refine (dats m 0 c).arrAt_eq_of_covers 5 _ (by decide +kernel) fun t hf y => ?_
  blk_simp
  rw [after0_5]
  unfold out0_5
  frame_out
  obtain ⟨r, d, rfl⟩ : ∃ (r : Fin 512) (d : Fin 1024), y = ix2 r d := ⟨y 0, y 1, by funext a; fin_cases a <;> rfl⟩
  have hy : ((View.whole main_v0).slice (win0_5.rect t)).emb (ix2 r d) = ix2 (at_ t r) d := by blk_ext [e5, at_]
  rw [hy]
  refine (normed_at _ _ _ r d).trans ?_
  unfold result combined
  refine normed_congr _ (fun k => ?_) (block3 m c t) (block4 m c t) d
  refine (token_at _ _ _ r k).trans ?_
  unfold token
  simp only [block0, block1, block2]
  rfl

end Cert.CombineIdeal.Rows

end
-- ==== Proof.Combine.ReferenceRows.lean ====
module

public import proofs.«01_k».proof.Proof.Combine.Spec
public import proofs.«01_k».proof.Proof.Gen.CombineReferenceIdeal.Run
public import Idealize.ShloMosaic.Lib.Pointwise

@[expose] public section

set_option maxRecDepth 16384

noncomputable section

namespace Cert.CombineReferenceIdeal.Rows

open Cert.CombineReferenceIdeal Cert.CombineReferenceIdeal.Gen Idealize.ShloMosaic Idealize.ShloMosaic.TcCoe
open Cert.Combine.Spec

/-! # The weighted sum and its norm, as the reference writes them -/

theorem res_at (m : (ℓ : Loc nD τ sig) → Buf (Elt Ideal) ℓ) (c : Dev nD) (R : Fin 32768) (d : Fin 1024) :
    Value.res_out0 m c (ix2 R d) =
      combined (fun R d => m ((c.tc : Thread nD τ).loc main_arg0) (ix2 R d)) (fun k R d => m ((c.tc : Thread nD τ).loc main_arg1) (ix3 k R d)) (fun k R => m ((c.tc : Thread nD τ).loc main_arg2) (ix2 k R))
        (fun k => m ((c.tc : Thread nD τ).loc main_arg3) (ix2 0 k)) (fun k => m ((c.tc : Thread nD τ).loc main_arg4) (ix2 0 k)) R d := by
  pointwise [Value.res_main_v34, combined, normed, mean, token, entry]

end Cert.CombineReferenceIdeal.Rows

end
-- ==== Proof.Combine.Claims.lean ====
module

public import proofs.«01_k».proof.Defs
public import proofs.«01_k».proof.Proof.Gen.Combine.Frame
public import proofs.«01_k».proof.Proof.Combine.KernelRows
public import proofs.«01_k».proof.Proof.Combine.ReferenceRows

@[expose] public section

noncomputable section

namespace Cert.Combine.Claims

open Idealize.ShloMosaic Idealize.ShloMosaic.TcCoe Idealize.SL.Sem

/-! # The claims of the weighted sum and its norm -/

theorem kernel : Cert.quiescent_Combine := fun m g _ => Cert.Combine.Gen.frame m g

theorem ideal : Cert.quiescent_CombineIdeal := fun m g _ => Cert.CombineIdeal.Gen.frame m g

theorem reference : Cert.quiescent_CombineReferenceIdeal := fun m g _ =>
  (θ_run Cert.CombineReferenceIdeal.defs _ _).mono (fun r h => ⟨fun c => (h c).2, sem_eq_zero_of_no_sems (by decide) r.2⟩)
    (Cert.CombineReferenceIdeal.Value.run (F := Ideal) m g)

theorem preserves : Cert.preserves_Combine_CombineIdeal := trivial

theorem algebraic : Cert.algebraic_CombineIdeal_CombineReferenceIdeal := fun m g m' g' _ hm => by
  refine ⟨fun c => Cert.CombineIdeal.Rows.result m c, ?_, ?_⟩
  · refine (θ_run Cert.CombineIdeal.defs _ _).mono (fun r hr c => ⟨(hr c).1.trans (Cert.CombineIdeal.Rows.final m c), (hr c).2⟩) (Cert.CombineIdeal.Value.run_blocks (F := Ideal) m g)
  · refine (θ_run Cert.CombineReferenceIdeal.defs _ _).mono (fun r hr c => ⟨(hr c).1.trans ?_, (hr c).2⟩) (Cert.CombineReferenceIdeal.Value.run (F := Ideal) m' g')
    obtain ⟨e0, e1, e2, e3, e4⟩ := hm c
    funext y
    have hy : (y : Cert.CombineReferenceIdeal.S32768x1024.Idx) = ix2 (y 0) (y 1) := by funext a; fin_cases a <;> rfl
    refine (congrArg (Cert.CombineReferenceIdeal.Value.res_out0 m' c) hy).trans ?_
    refine (Cert.CombineReferenceIdeal.Rows.res_at m' c (y 0) (y 1)).trans ?_
    rw [e0, e1, e2, e3, e4]
    rfl

end Cert.Combine.Claims

end
-- ==== Proof.EvenIn.Spec.lean ====
module

public import proofs.«01_k».proof.Proof.Combine.Spec

@[expose] public section

noncomputable section

namespace Cert.EvenIn.Spec

open Idealize.ShloMosaic Cert.Combine.Spec

/-! # A token's projection, and the gate that mixes a block's tokens -/

/-- The exact Gaussian unit. -/
def gelu (z : EReal) : EReal := Ideal.ofBits .f32 0x3F000000#32 * z * (1 + FloatOps.erf (F := Ideal) (φ := .f32) (z * Ideal.ofBits .f32 0x3F3504F3#32))

/-- A row times the columns of a matrix. -/
def proj {n : ℕ} (x : Fin 1024 → EReal) (w : Fin 1024 → Fin n → EReal) (f : Fin n) : EReal := ∑ k, x k * w k f

/-- A matrix with zero columns added gives zeros there. -/
theorem proj_padded {n N : ℕ} (x : Fin 1024 → EReal) (w : Fin 1024 → Fin n → EReal) (w' : Fin 1024 → Fin N → EReal) (hw : ∀ k f, w' k f = if h : f.val < n then w k ⟨f.val, h⟩ else 0) (f : Fin N) :
    proj x w' f = if h : f.val < n then proj x w ⟨f.val, h⟩ else 0 := by
  unfold proj
  split
  · rename_i h
    exact Finset.sum_congr rfl fun k _ => congrArg (fun z : EReal => x k * z) ((hw k f).trans (dif_pos h))
  · rename_i h
    exact Finset.sum_eq_zero fun k _ => (congrArg (fun z : EReal => x k * z) ((hw k f).trans (dif_neg h))).trans (mul_zero _)

/-- One gated entry: the unit of `u`, times the mix by `w` of the block's tokens, each the norm of its own units `v`, and a bias. -/
def mixed (u : EReal) (v : Fin 128 → Fin 128 → EReal) (g b : Fin 128 → EReal) (w : Fin 128 → EReal) (bias : EReal) (c : Fin 128) : EReal :=
  gelu u * (∑ p, w p * normed 0x43000000#32 (fun q => gelu (v p q)) g b c + bias)

theorem mixed_congr {u u' : EReal} {v v' : Fin 128 → Fin 128 → EReal} {g g' b b' w w' : Fin 128 → EReal} {bias bias' : EReal} (hu : u = u') (hv : ∀ p q, v p q = v' p q)
    (hg : ∀ q, g q = g' q) (hb : ∀ q, b q = b' q) (hw : ∀ p, w p = w' p) (hs : bias = bias') (c : Fin 128) : mixed u v g b w bias c = mixed u' v' g' b' w' bias' c := by
  rw [hu, hs, funext fun p => funext (hv p), funext hg, funext hb, funext hw]

/-- Whether the mix lets position `i` see position `j`: both are counted in chunks of sixty-four. -/
def sees (i j : Fin 128) : Prop := j.val / 64 ≤ i.val / 64

instance (i j : Fin 128) : Decidable (sees i j) := inferInstanceAs (Decidable (_ ≤ _))

/-- Dividing downwards by sixty-four, as words. -/
theorem chunk : ∀ i : Fin 128, Scalar.select
      (IntOp.andi (IntOp.cmpi .ne (if BitVec.ofNat 32 i.val = 0 then (0 : BitVec 32) else if (BitVec.ofNat 32 i.val).msb = true then -1 else 1) (if 64#32 = 0 then 0 else if (64#32).msb = true then -1 else 1))
        (IntOp.cmpi .ne (IntOp.remsi .host (BitVec.ofNat 32 i.val) 64#32) 0#32))
      (IntOp.subi (IntOp.divsi .host (BitVec.ofNat 32 i.val) 64#32) 1#32) (IntOp.divsi .host (BitVec.ofNat 32 i.val) 64#32) = BitVec.ofNat 32 (i.val / 64) := by decide

theorem sees_word (i j : Fin 128) : IntOp.cmpi .sle (BitVec.ofNat 32 (j.val / 64)) (BitVec.ofNat 32 (i.val / 64)) = if sees i j then 1#1 else 0#1 := by
  have h : ∀ a b : Fin 2, IntOp.cmpi .sle (BitVec.ofNat 32 b.val) (BitVec.ofNat 32 a.val) = if b.val ≤ a.val then 1#1 else 0#1 := by decide
  exact h ⟨i.val / 64, by omega⟩ ⟨j.val / 64, by omega⟩

/-- Choosing by that word is choosing by who sees whom. -/
theorem choose (i j : Fin 128) (x y : EReal) : Scalar.select (IntOp.cmpi .sle (BitVec.ofNat 32 (j.val / 64)) (BitVec.ofNat 32 (i.val / 64))) x y = if sees i j then x else y := by
  rw [sees_word]
  split <;> rfl

/-- Token `i` of block `n`. -/
def row (n : Fin 256) (i : Fin 128) : Fin 32768 := ⟨n.val * 128 + i.val, by omega⟩

/-- Lane `c` of group `g`. -/
def lane (g : Fin 4) (c : Fin 128) : Fin 512 := ⟨g.val * 128 + c.val, by omega⟩

/-- A lane's group and its place there. -/
def group (y : Fin 512) : Fin 4 := ⟨y.val / 128, by omega⟩
def place (y : Fin 512) : Fin 128 := ⟨y.val % 128, by omega⟩

/-- The column of the projection that lane is read from for the gate's first factor, -/
def first (g : Fin 4) (c : Fin 128) : Fin 3080 := ⟨g.val * 128 + c.val, by omega⟩

/-- and the one for what is mixed. -/
def second (g : Fin 4) (c : Fin 128) : Fin 3080 := ⟨512 + (g.val * 128 + c.val), by omega⟩

/-- The gated entry of token `i` of block `n` at lane `c` of group `g`. -/
def gated (h : Fin 32768 → Fin 3080 → EReal) (G B : Fin 512 → EReal) (W : Fin 4 → Fin 128 → Fin 128 → EReal) (bias : Fin 4 → Fin 128 → EReal)
    (n : Fin 256) (i : Fin 128) (g : Fin 4) (c : Fin 128) : EReal :=
  mixed (h (row n i) (first g c)) (fun p q => h (row n p) (second g q)) (fun q => G (lane g q)) (fun q => B (lane g q))
    (fun p => if sees i p then W g i p else 0) (bias g i) c

end Cert.EvenIn.Spec

end
-- ==== Proof.EvenIn.Host.lean ====
module

public import proofs.«01_k».proof.Proof.EvenIn.Spec
public import proofs.«01_k».proof.Proof.Gen.EvenInIdeal.Frame
public import Idealize.ShloMosaic.Lib.Pointwise

@[expose] public section

noncomputable section

namespace Cert.EvenInIdeal.Rows

open Cert.EvenInIdeal Cert.EvenInIdeal.Gen Idealize.ShloMosaic Idealize.ShloMosaic.TcCoe Cert.EvenIn.Spec

/-! # The arrays the call prepares: the padded weights, the masked mix and the spread bias -/

/-- The word sixty-four at every position, -/
abbrev step : IVec S128 32 := broadcastInDim S128 ![] bcast_S_S128 (constantI S_ 32 64#32)

/-- the chunk each position falls in, -/
def chunks : IVec S128 32 :=
  select (andi (cmpi .ne (signi (iotaInDim S128 32 0)) (broadcastInDim S128 ![] bcast_S_S128 (signi (constantI S_ 32 64#32))))
      (cmpi .ne (Host.remsi (iotaInDim S128 32 0) step) (broadcastInDim S128 ![] bcast_S_S128 (constantI S_ 32 0#32))))
    (subi (Host.divsi (iotaInDim S128 32 0) step) (broadcastInDim S128 ![] bcast_S_S128 (constantI S_ 32 1#32)))
    (Host.divsi (iotaInDim S128 32 0) step)

/-- and which position sees which. -/
def mask : IVec S128x128 1 :=
  cmpi .sle (broadcastInDim S128x128 ![0, 1] bcast_S1x128_S128x128_0_1 (broadcastInDim S1x128 ![1] bcast_S128_S1x128_1 chunks))
    (broadcastInDim S128x128 ![0, 1] bcast_S128x1_S128x128_0_1 (broadcastInDim S128x1 ![0] bcast_S128_S128x1_0 chunks))

theorem chunks_at (i : Fin 128) : chunks (ix1 i) = BitVec.ofNat 32 (i.val / 64) := by
  pointwise [chunks]
  exact chunk i

theorem mask_at (i j : Fin 128) : mask (ix2 i j) = IntOp.cmpi .sle (BitVec.ofNat 32 (j.val / 64)) (BitVec.ofNat 32 (i.val / 64)) := by
  pointwise [mask, chunks_at]

/-- The weights, their added columns zero, -/
def padded (W : FVec Ideal S1024x3080 .f32) : FVec Ideal S1024x3200 .bf16 :=
  truncf (F := Ideal) (φ := .f32) .bf16 (pad S1024x3200 ![0, 0] ![0, 120] ![0, 0] W (sitofp (F := Ideal) .f32 (constantI S_ 32 0#32)) pads_S1024x3080_S1024x3200_000_01200 h_S_) bitsLt_bf16_f32

/-- the mix under its mask, -/
def masked (W : FVec Ideal S4x128x128 .f32) : FVec Ideal S4x128x128 .bf16 :=
  truncf (F := Ideal) (φ := .f32) .bf16 (select (broadcastInDim S4x128x128 ![0, 1, 2] bcast_S1x128x128_S4x128x128_0_1_2 (broadcastInDim S1x128x128 ![1, 2] bcast_S128x128_S1x128x128_1_2 mask))
    W (broadcastInDim S4x128x128 ![] bcast_S_S4x128x128 (sitofp (F := Ideal) .f32 (constantI S_ 32 0#32)))) bitsLt_bf16_f32

/-- and the bias, spread over the lanes. -/
def widened (S : FVec Ideal S4x128 .f32) : FVec Ideal S4x128x128 .f32 :=
  broadcastInDim S4x128x128 ![0, 1, 2] bcast_S4x128x1_S4x128x128_0_1_2 (broadcastInDim S4x128x1 ![0, 1] bcast_S4x128_S4x128x1_0_1 S)

/-- Zero, read from its word. -/
theorem zero_word : FloatOps.sitofp (F := Ideal) .f32 (0#32) = (0 : EReal) := by
  simp [FloatOps.sitofp]

theorem padded_at (W : FVec Ideal S1024x3080 .f32) (k : Fin 1024) (f : Fin 3200) : padded W (ix2 k f) = if h : f.val < 3080 then W (ix2 k ⟨f.val, h⟩) else (0 : EReal) := by
  pointwise [padded, zero_word]

theorem masked_at (W : FVec Ideal S4x128x128 .f32) (g : Fin 4) (i j : Fin 128) : masked W (ix3 g i j) = if sees i j then W (ix3 g i j) else (0 : EReal) := by
  pointwise [masked, mask_at, zero_word]
  exact choose i j _ _

theorem widened_at (S : FVec Ideal S4x128 .f32) (g : Fin 4) (i j : Fin 128) : widened S (ix3 g i j) = S (ix2 g i) := by
  pointwise [widened]

variable (m : (ℓ : Loc nD τ sig) → Buf (Elt Ideal) ℓ)

/-! The call's operands are these. -/

theorem weights (c : Dev nD) : V m c main_v8 = padded (m ((c : Thread nD τ).loc main_arg5)) := by
  unfold V
  simp only [hostOps0, hostOps0_1, hostOps0_2, hostOps0_3, hostOps0_4, hostOps0_5, hostOps0_6, List.flatten_cons, List.flatten_nil, List.append_nil, List.cons_append, List.nil_append]
  after_results_simp
  rfl

theorem mixes (c : Dev nD) : V m c main_v11 = masked (m ((c : Thread nD τ).loc main_arg8)) := by
  unfold V
  simp only [hostOps0, hostOps0_1, hostOps0_2, hostOps0_3, hostOps0_4, hostOps0_5, hostOps0_6, List.flatten_cons, List.flatten_nil, List.append_nil, List.cons_append, List.nil_append]
  after_results_simp
  rfl

theorem biases (c : Dev nD) : V m c main_v13 = widened (m ((c : Thread nD τ).loc main_arg9)) := by
  unfold V
  simp only [hostOps0, hostOps0_1, hostOps0_2, hostOps0_3, hostOps0_4, hostOps0_5, hostOps0_6, List.flatten_cons, List.flatten_nil, List.append_nil, List.cons_append, List.nil_append]
  after_results_simp
  rfl

end Cert.EvenInIdeal.Rows

end
-- ==== Proof.EvenIn.Payloads.lean ====
module

public import proofs.«01_k».proof.Proof.EvenIn.Spec
public import proofs.«01_k».proof.Proof.Gen.EvenInIdeal.Skeleton
public import Idealize.ShloMosaic.Lib.Pointwise

@[expose] public section

noncomputable section

namespace Cert.EvenInIdeal.Rows

open Cert.EvenInIdeal Cert.EvenInIdeal.Gen Idealize.ShloMosaic Cert.Combine.Spec Cert.EvenIn.Spec

/-! # What one block's body computes, entry by entry -/

variable (X : FVec Ideal S512x1024 .f32) (L M : Vec Ideal S1x1024 .f32) (w : Vec Ideal S1024x3200 .bf16)

/-- The block's norm. -/
theorem normed_at (r : Fin 512) (d : Fin 1024) : k0_pay3 X L M (ix2 r d) = normed 0x44800000#32 (fun k => X (ix2 r k)) (fun k => L (ix2 0 k)) (fun k => M (ix2 0 k)) d := by
  pointwise [k0_pay3, normed, mean]

/-- The block's sum: the product with the identity turns the gates. -/
theorem entry_at (W : Vec Ideal S8x512 .f32) (Y0 Y1 Y2 Y3 : Vec Ideal S1x512x1024 .bf16) (X : Vec Ideal S512x1024 .f32) (t : Fin 512) (d : Fin 1024) :
    k0_pay2 W Y0 Y1 Y2 Y3 X (ix2 t d) = entry (X (ix2 t d)) ![Y0 (ix3 0 t d), Y1 (ix3 0 t d), Y2 (ix3 0 t d), Y3 (ix3 0 t d)] ![W (ix2 0 t), W (ix2 1 t), W (ix2 2 t), W (ix2 3 t)] := by
  pointwise [k0_pay2, entry]
  rw [Fin.sum_univ_four]
  have p := pick fun x => W (ix2 x t)
  exact congrArg (_ + ·) (congrArg₂ (· + ·) (congrArg₂ (· + ·) (congrArg₂ (· + ·) (congrArg (_ * ·) (p 0)) (congrArg (_ * ·) (p 1))) (congrArg (_ * ·) (p 2))) (congrArg (_ * ·) (p 3)))

/-- The block's projection, -/
theorem proj_at (r : Fin 512) (f : Fin 3200) :
    k0_pay4 X L M w (ix2 r f) = proj (normed 0x44800000#32 (fun k => X (ix2 r k)) (fun k => L (ix2 0 k)) fun k => M (ix2 0 k)) (fun k f => w (ix2 k f)) f := by
  pointwise [k0_pay4, proj]
  exact Finset.sum_congr rfl fun k _ => congrArg (· * _) (normed_at X L M r k)

/-- its columns for the second mixer, -/
theorem middle_at (r : Fin 512) (f : Fin 2048) : k0_pay5 X L M w (ix2 r f) = k0_pay4 X L M w (ix2 r ⟨1024 + f.val, by omega⟩) := by
  pointwise [k0_pay5]

/-- and its last, padded. -/
theorem last_at (r : Fin 512) (f : Fin 128) : k0_pay6 X L M w (ix2 r f) = k0_pay4 X L M w (ix2 r ⟨3072 + f.val, by omega⟩) := by
  pointwise [k0_pay6]

/-- Position `i` of the block's `s`-th part, or lane `i` of the `s`-th group. -/
def at4 : Fin 4 → ℕ → ℕ
  | 0, i => i
  | 1, i => 128 + i
  | 2, i => 256 + i
  | 3, i => 384 + i

/-- That lane among the columns that are mixed. -/
def at8 : Fin 4 → ℕ → ℕ
  | 0, i => 512 + i
  | 1, i => 640 + i
  | 2, i => 768 + i
  | 3, i => 896 + i

theorem at4_eq (s : Fin 4) (i : ℕ) : at4 s i = s.val * 128 + i := by fin_cases s <;> first | rfl | exact (Nat.zero_add i).symm

theorem at8_eq (s : Fin 4) (i : ℕ) : at8 s i = 512 + (s.val * 128 + i) := by fin_cases s <;> simp [at8, ← Nat.add_assoc]

/-- One entry of a piece: strip `s`, group `g`. -/
def piece (H : FVec Ideal S512x3200 .f32) (G B : Vec Ideal S1x128 .f32) (W : Vec Ideal S1x128x128 .bf16) (S : Vec Ideal S1x128x128 .f32) (s g : Fin 4) (i c : Fin 128) : EReal :=
  mixed (H (ix2 ⟨at4 s i, by rw [at4_eq]; omega⟩ ⟨at4 g c, by rw [at4_eq]; omega⟩)) (fun p q => H (ix2 ⟨at4 s p, by rw [at4_eq]; omega⟩ ⟨at8 g q, by rw [at8_eq]; omega⟩))
    (fun q => G (ix2 0 q)) (fun q => B (ix2 0 q)) (fun p => W (ix3 0 i p)) (S (ix3 0 i c)) c

variable (G B : Vec Ideal S1x128 .f32) (W : Vec Ideal S1x128x128 .bf16) (S : Vec Ideal S1x128x128 .f32) (H : FVec Ideal S512x3200 .f32) (i c : Fin 128)

/-- The pieces of the first group, -/
theorem group0 :
    k0_pay13 (k0_pay10 (k0_pay8 X L M w) (k0_pay9 X L M w)) (k0_pay12 (k0_pay4 X L M w) G B W) S (ix2 i c) = piece (k0_pay4 X L M w) G B W S 0 0 i c
      ∧ k0_pay14 (k0_pay10 (k0_pay8 X L M w) (k0_pay9 X L M w)) (k0_pay11 (k0_pay4 X L M w) G B) W S (ix2 i c) = piece (k0_pay4 X L M w) G B W S 1 0 i c
      ∧ k0_pay15 (k0_pay10 (k0_pay8 X L M w) (k0_pay9 X L M w)) (k0_pay11 (k0_pay4 X L M w) G B) W S (ix2 i c) = piece (k0_pay4 X L M w) G B W S 2 0 i c
      ∧ k0_pay17 (k0_pay10 (k0_pay8 X L M w) (k0_pay9 X L M w)) (k0_pay16 (k0_pay11 (k0_pay4 X L M w) G B) W) S (ix2 i c) = piece (k0_pay4 X L M w) G B W S 3 0 i c := by
  generalize hH : k0_pay4 X L M w = H
  refine ⟨?_, ?_, ?_, ?_⟩ <;>
    pointwise [k0_pay13, k0_pay14, k0_pay15, k0_pay17, k0_pay16, k0_pay10, k0_pay8, k0_pay9, k0_pay12, k0_pay11, k0_pay7, hH, piece, mixed, normed, mean, gelu, at4, at8]

/-- of the second, -/
theorem group1 :
    k0_pay23 (k0_pay18 H) G B (k0_pay19 H) (k0_pay20 H) k0_pay21 W S (ix2 i c) = piece H G B W S 0 1 i c
      ∧ k0_pay24 (k0_pay18 H) G B (k0_pay19 H) (k0_pay20 H) k0_pay21 W S (ix2 i c) = piece H G B W S 1 1 i c
      ∧ k0_pay26 (k0_pay18 H) (k0_pay25 G B (k0_pay19 H) (k0_pay20 H) k0_pay21 W) S (ix2 i c) = piece H G B W S 2 1 i c
      ∧ k0_pay27 (k0_pay18 H) (k0_pay22 G B (k0_pay19 H) (k0_pay20 H) k0_pay21) W S (ix2 i c) = piece H G B W S 3 1 i c := by
  refine ⟨?_, ?_, ?_, ?_⟩ <;>
    pointwise [k0_pay23, k0_pay24, k0_pay25, k0_pay26, k0_pay27, k0_pay22, k0_pay18, k0_pay19, k0_pay20, k0_pay21, piece, mixed, normed, mean, gelu, at4, at8]

/-- of the third, -/
theorem group2 :
    k0_pay31 (k0_pay28 H) (k0_pay29 H) G B W S (ix2 i c) = piece H G B W S 0 2 i c
      ∧ k0_pay33 (k0_pay28 H) (k0_pay32 (k0_pay29 H) G B W) S (ix2 i c) = piece H G B W S 1 2 i c
      ∧ k0_pay34 (k0_pay28 H) (k0_pay30 (k0_pay29 H) G B) W S (ix2 i c) = piece H G B W S 2 2 i c
      ∧ k0_pay35 (k0_pay28 H) (k0_pay30 (k0_pay29 H) G B) W S (ix2 i c) = piece H G B W S 3 2 i c := by
  refine ⟨?_, ?_, ?_, ?_⟩ <;>
    pointwise [k0_pay31, k0_pay33, k0_pay32, k0_pay34, k0_pay35, k0_pay30, k0_pay28, k0_pay29, piece, mixed, normed, mean, gelu, at4, at8]

/-- and of the last. -/
theorem group3 :
    k0_pay42 (k0_pay39 (k0_pay37 H) (k0_pay38 H)) (k0_pay41 H G B W) S (ix2 i c) = piece H G B W S 0 3 i c
      ∧ k0_pay43 (k0_pay39 (k0_pay37 H) (k0_pay38 H)) (k0_pay40 H G B) W S (ix2 i c) = piece H G B W S 1 3 i c
      ∧ k0_pay44 (k0_pay39 (k0_pay37 H) (k0_pay38 H)) (k0_pay40 H G B) W S (ix2 i c) = piece H G B W S 2 3 i c
      ∧ k0_pay1 (k0_pay39 (k0_pay37 H) (k0_pay38 H)) (k0_pay45 (k0_pay40 H G B) W) S (ix2 i c) = piece H G B W S 3 3 i c := by
  refine ⟨?_, ?_, ?_, ?_⟩ <;>
    pointwise [k0_pay42, k0_pay43, k0_pay44, k0_pay1, k0_pay45, k0_pay41, k0_pay40, k0_pay39, k0_pay38, k0_pay37, k0_pay36, piece, mixed, normed, mean, gelu, at4, at8]

end Cert.EvenInIdeal.Rows

end
-- ==== Proof.EvenIn.Block.lean ====
module

public import proofs.«01_k».proof.Proof.EvenIn.Payloads
public import proofs.«01_k».proof.Proof.Gen.EvenInIdeal.Frame
public import Idealize.ShloMosaic.Lib.Pipeline.ValueKit.Geometry
public import Idealize.ShloMosaic.Lib.Pipeline.ValueKit.Acc

@[expose] public section

noncomputable section

namespace Cert.EvenInIdeal.Rows

open Cert.EvenInIdeal Cert.EvenInIdeal.Gen Idealize.ShloMosaic Cert.Combine.Spec Cert.EvenIn.Spec

/-! # The gated block, put together from its sixteen pieces -/

/-- The gated entry of the block's part `s` at position `i`, from the block's projection and the arrays of the mix. -/
def cell (H : FVec Ideal S512x3200 .f32) (x6 x7 : Vec Ideal S1x512 .f32) (x8 : Vec Ideal S4x128x128 .bf16) (x9 : Vec Ideal S4x128x128 .f32) (s : Fin 4) (i : Fin 128) (g : Fin 4) (c : Fin 128) : EReal :=
  mixed (H (ix2 (lane s i) ⟨(first g c).val, by have := (first g c).isLt; omega⟩)) (fun p q => H (ix2 (lane s p) ⟨(second g q).val, by have := (second g q).isLt; omega⟩))
    (fun q => x6 (ix2 0 (lane g q))) (fun q => x7 (ix2 0 (lane g q))) (fun p => x8 (ix3 g i p)) (x9 (ix3 g i c)) c

theorem lane_group_place (y : Fin 512) : lane (group y) (place y) = y := Fin.ext (Nat.div_add_mod' _ _)

variable (x6 x7 : Vec Ideal S1x512 .f32) (x8 : Vec Ideal S4x128x128 .bf16) (x9 : Vec Ideal S4x128x128 .f32) (H : FVec Ideal S512x3200 .f32)

/-- What the block holds at `y`. -/
def block (y : S512x512.Idx) : EReal := cell H x6 x7 x8 x9 (group (y 0)) (place (y 0)) (group (y 1)) (place (y 1))

/-- A group's scales. -/
theorem scales_at (x : Vec Ideal S1x512 .f32) (g : Fin 4) {o : ℕ} (ho : o = g.val * 128) (inb : ∀ a, (![0, o] : Fin 2 → ℕ) a + S1x128.size a ≤ S1x512.size a) (q : Fin 128) :
    View.ld x (Rect.unit (s := S1x512) ![0, o] S1x128.size inb) (ix2 0 q) = x (ix2 0 (lane g q)) := by
  subst ho
  refine congrArg x (funext fun a => Fin.ext ?_)
  fin_cases a
  · rfl
  · show g.val * 128 + 1 * q.val = g.val * 128 + q.val; omega

/-- A group's matrix. -/
theorem matrix_at {e : EltTy} (x : Vec Ideal S4x128x128 e) (g : Fin 4) {o : ℕ} (ho : o = g.val) (inb : ∀ a, (![o, 0, 0] : Fin 3 → ℕ) a + S1x128x128.size a ≤ S4x128x128.size a) (i p : Fin 128) :
    View.ld x (Rect.unit (s := S4x128x128) ![o, 0, 0] S1x128x128.size inb) (ix3 0 i p) = x (ix3 g i p) := by
  subst ho
  refine congrArg x (funext fun a => Fin.ext ?_)
  fin_cases a
  · rfl
  · show 0 + 1 * i.val = i.val; omega
  · show 0 + 1 * p.val = p.val; omega

/-- A piece is its tile of the block. -/
theorem tile {s g : Fin 4} {o₁ o₂ o₃ : ℕ} (h₁ : o₁ = s.val * 128) (h₂ : o₂ = g.val * 128) (h₃ : o₃ = g.val)
    (inb : ∀ a, (![o₁, o₂] : Fin 2 → ℕ) a + S128x128.size a ≤ S512x512.size a) (inb' : ∀ a, (![0, o₂] : Fin 2 → ℕ) a + S1x128.size a ≤ S1x512.size a)
    (inb'' : ∀ a, (![o₃, 0, 0] : Fin 3 → ℕ) a + S1x128x128.size a ≤ S4x128x128.size a) (P : FVec Ideal S128x128 .bf16)
    (hP : ∀ i c, P (ix2 i c) = piece H (View.ld x6 (Rect.unit (s := S1x512) ![0, o₂] S1x128.size inb')) (View.ld x7 (Rect.unit (s := S1x512) ![0, o₂] S1x128.size inb'))
      (View.ld x8 (Rect.unit (s := S4x128x128) ![o₃, 0, 0] S1x128x128.size inb'')) (View.ld x9 (Rect.unit (s := S4x128x128) ![o₃, 0, 0] S1x128x128.size inb'')) s g i c)
    (x : S128x128.Idx) : P x = block x6 x7 x8 x9 H ((Rect.unit (s := S512x512) ![o₁, o₂] S128x128.size inb).emb x) := by
  obtain ⟨i, c, rfl⟩ : ∃ i c : Fin 128, x = ix2 i c := ⟨x 0, x 1, by funext a; fin_cases a <;> rfl⟩
  rw [hP]
  have e₀ : (Rect.unit (s := S512x512) ![o₁, o₂] S128x128.size inb).emb (ix2 i c) 0 = lane s i := Fin.ext (by subst h₁; show s.val * 128 + 1 * i.val = s.val * 128 + i.val; omega)
  have e₁ : (Rect.unit (s := S512x512) ![o₁, o₂] S128x128.size inb).emb (ix2 i c) 1 = lane g c := Fin.ext (by subst h₂; show g.val * 128 + 1 * c.val = g.val * 128 + c.val; omega)
  have hg : ∀ (g : Fin 4) (c : Fin 128), group (lane g c) = g ∧ place (lane g c) = c := fun g c =>
    ⟨Fin.ext (by show (g.val * 128 + c.val) / 128 = g.val; omega), Fin.ext (by show (g.val * 128 + c.val) % 128 = c.val; omega)⟩
  unfold block
  rw [e₀, e₁, (hg _ _).1, (hg _ _).2, (hg _ _).1, (hg _ _).2]
  have k₀ : ∀ i : Fin 128, (⟨at4 s i, by rw [at4_eq]; omega⟩ : Fin 512) = lane s i := fun i => Fin.ext (at4_eq s i)
  have k₁ : ∀ c : Fin 128, (⟨at4 g c, by rw [at4_eq]; omega⟩ : Fin 3200) = ⟨(first g c).val, by have := (first g c).isLt; omega⟩ := fun c => Fin.ext (at4_eq g c)
  have k₂ : ∀ c : Fin 128, (⟨at8 g c, by rw [at8_eq]; omega⟩ : Fin 3200) = ⟨(second g c).val, by have := (second g c).isLt; omega⟩ := fun c => Fin.ext (at8_eq g c)
  unfold piece cell
  refine mixed_congr ?_ (fun p q => ?_) (scales_at x6 g h₂ inb') (scales_at x7 g h₂ inb') (matrix_at x8 g h₃ inb'' i) (matrix_at x9 g h₃ inb'' i c) c
  · rw [k₀, k₁]
  · rw [k₀, k₂]

/-- The block of `T` is the gated entries of its tokens, when its operands are theirs. -/
theorem block_gated (h : Fin 32768 → Fin 3080 → EReal) (G B : Fin 512 → EReal) (W : Fin 4 → Fin 128 → Fin 128 → EReal) (bias : Fin 4 → Fin 128 → EReal) (T : ℕ) (R : Fin 512 → Fin 32768)
    (hR : ∀ r, (R r).val = T * 512 + r.val) (hH : ∀ (r : Fin 512) (f : Fin 3200) (hf : f.val < 3080), H (ix2 r f) = h (R r) ⟨f.val, hf⟩) (h6 : ∀ k, x6 (ix2 0 k) = G k) (h7 : ∀ k, x7 (ix2 0 k) = B k)
    (h8 : ∀ g i j, x8 (ix3 g i j) = if sees i j then W g i j else 0) (h9 : ∀ g i j, x9 (ix3 g i j) = bias g i) (r d : Fin 512) :
    block x6 x7 x8 x9 H (ix2 r d) = gated h G B W bias ⟨(R r).val / 128, by have := (R r).isLt; omega⟩ ⟨(R r).val % 128, by omega⟩ (group d) (place d) := by
  have hp : (⟨(R r).val % 128, by omega⟩ : Fin 128) = place r := Fin.ext (by show (R r).val % 128 = r.val % 128; rw [hR]; omega)
  have hr : ∀ p, R (lane (group r) p) = row ⟨(R r).val / 128, by have := (R r).isLt; omega⟩ p := fun p =>
    Fin.ext (by show (R (lane (group r) p)).val = (R r).val / 128 * 128 + p.val; rw [hR, hR]; show T * 512 + (r.val / 128 * 128 + p.val) = _; omega)
  show cell _ _ _ _ _ (group r) (place r) (group d) (place d) = _
  rw [hp]
  unfold cell gated
  refine mixed_congr ?_ (fun p q => ?_) (fun q => h6 _) (fun q => h7 _) (fun p => h8 _ _ _) (h9 _ _ _) _
  · exact (hH _ _ (first _ _).isLt).trans (congrArg (fun z => h z _) (hr _))
  · exact (hH _ _ (second _ _).isLt).trans (congrArg (fun z => h z _) (hr _))

/-- The sixteen pieces make the block. -/
theorem block_at (x0 : Vec Ideal S512x1024 .f32) (x1 : Vec Ideal S4x512x1024 .bf16) (x2 : Vec Ideal S8x512 .f32) (x3 x4 : Vec Ideal S1x1024 .f32) (x5 : Vec Ideal S1024x3200 .bf16) (y : S512x512.Idx) :
    out0_11 x0 x1 x2 x3 x4 x5 x6 x7 x8 x9 y = block x6 x7 x8 x9 (k0_pay47 x0 x1 x2 x3 x4 x5 x6 x7 x8 x9) y := by
  unfold out0_11
  refine View.canon_apply_of_pieces (Val := Elt Ideal) (e := .bf16) (block x6 x7 x8 x9 (k0_pay47 x0 x1 x2 x3 x4 x5 x6 x7 x8 x9)) _ ?_ y (cover0_11 _ _ _ _ _ _ _ _ _ _ _ _ _ _ _ _ y)
  simp only [List.forall_mem_cons, List.not_mem_nil, false_implies, implies_true, and_true]
  refine ⟨?_, ?_, ?_, ?_, ?_, ?_, ?_, ?_, ?_, ?_, ?_, ?_, ?_, ?_, ?_, ?_⟩
  · exact tile (s := 3) (g := 3) x6 x7 x8 x9 _ rfl rfl rfl _ _ _ _ fun i c => (group3 _ _ _ _ _ i c).2.2.2
  · exact tile (s := 2) (g := 3) x6 x7 x8 x9 _ rfl rfl rfl _ _ _ _ fun i c => (group3 _ _ _ _ _ i c).2.2.1
  · exact tile (s := 1) (g := 3) x6 x7 x8 x9 _ rfl rfl rfl _ _ _ _ fun i c => (group3 _ _ _ _ _ i c).2.1
  · exact tile (s := 0) (g := 3) x6 x7 x8 x9 _ rfl rfl rfl _ _ _ _ fun i c => (group3 _ _ _ _ _ i c).1
  · exact tile (s := 3) (g := 2) x6 x7 x8 x9 _ rfl rfl rfl _ _ _ _ fun i c => (group2 _ _ _ _ _ i c).2.2.2
  · exact tile (s := 2) (g := 2) x6 x7 x8 x9 _ rfl rfl rfl _ _ _ _ fun i c => (group2 _ _ _ _ _ i c).2.2.1
  · exact tile (s := 1) (g := 2) x6 x7 x8 x9 _ rfl rfl rfl _ _ _ _ fun i c => (group2 _ _ _ _ _ i c).2.1
  · exact tile (s := 0) (g := 2) x6 x7 x8 x9 _ rfl rfl rfl _ _ _ _ fun i c => (group2 _ _ _ _ _ i c).1
  · exact tile (s := 3) (g := 1) x6 x7 x8 x9 _ rfl rfl rfl _ _ _ _ fun i c => (group1 _ _ _ _ _ i c).2.2.2
  · exact tile (s := 2) (g := 1) x6 x7 x8 x9 _ rfl rfl rfl _ _ _ _ fun i c => (group1 _ _ _ _ _ i c).2.2.1
  · exact tile (s := 1) (g := 1) x6 x7 x8 x9 _ rfl rfl rfl _ _ _ _ fun i c => (group1 _ _ _ _ _ i c).2.1
  · exact tile (s := 0) (g := 1) x6 x7 x8 x9 _ rfl rfl rfl _ _ _ _ fun i c => (group1 _ _ _ _ _ i c).1
  · exact tile (s := 3) (g := 0) x6 x7 x8 x9 _ rfl rfl rfl _ _ _ _ fun i c => (group0 _ _ _ _ _ _ _ _ i c).2.2.2
  · exact tile (s := 2) (g := 0) x6 x7 x8 x9 _ rfl rfl rfl _ _ _ _ fun i c => (group0 _ _ _ _ _ _ _ _ i c).2.2.1
  · exact tile (s := 1) (g := 0) x6 x7 x8 x9 _ rfl rfl rfl _ _ _ _ fun i c => (group0 _ _ _ _ _ _ _ _ i c).2.1
  · exact tile (s := 0) (g := 0) x6 x7 x8 x9 _ rfl rfl rfl _ _ _ _ fun i c => (group0 _ _ _ _ _ _ _ _ i c).1

end Cert.EvenInIdeal.Rows

end
-- ==== Proof.EvenFirst.Block.lean ====
module

public import proofs.«01_k».proof.Proof.EvenIn.Block
public import proofs.«01_k».proof.Proof.Gen.EvenFirstIdeal.Frame
public import Idealize.ShloMosaic.Lib.Pointwise

@[expose] public section

noncomputable section

namespace Cert.EvenFirstIdeal.Rows

open Cert.EvenFirstIdeal Cert.EvenFirstIdeal.Gen Idealize.ShloMosaic Cert.Combine.Spec Cert.EvenIn.Spec
open Cert.EvenInIdeal.Rows (piece block tile at4 at8)

/-! # What one block's body computes when the rows come as they are -/

variable (X : Vec Ideal S512x1024 .f32) (w : Vec Ideal S1024x3200 .bf16)

/-- The block's projection, -/
theorem proj_at (r : Fin 512) (f : Fin 3200) : k0_pay3 X w (ix2 r f) = proj (fun k => X (ix2 r k)) (fun k f => w (ix2 k f)) f := by
  pointwise [k0_pay3, proj]

/-- its columns for the second mixer, -/
theorem middle_at (r : Fin 512) (f : Fin 2048) : k0_pay4 X w (ix2 r f) = k0_pay3 X w (ix2 r ⟨1024 + f.val, by omega⟩) := by
  pointwise [k0_pay4]

/-- and its last, padded. -/
theorem last_at (r : Fin 512) (f : Fin 128) : k0_pay5 X w (ix2 r f) = k0_pay3 X w (ix2 r ⟨3072 + f.val, by omega⟩) := by
  pointwise [k0_pay5]

variable (G B : Vec Ideal S1x128 .f32) (W : Vec Ideal S1x128x128 .bf16) (S : Vec Ideal S1x128x128 .f32) (H : FVec Ideal S512x3200 .f32) (i c : Fin 128)

/-- The pieces of the first group, -/
theorem group0 :
    k0_pay9 (k0_pay6 X w) G B (k0_pay7 X w) W S (ix2 i c) = piece (k0_pay3 X w) G B W S 0 0 i c
      ∧ k0_pay10 (k0_pay6 X w) G B (k0_pay7 X w) W S (ix2 i c) = piece (k0_pay3 X w) G B W S 1 0 i c
      ∧ k0_pay11 (k0_pay6 X w) (k0_pay8 G B (k0_pay7 X w)) W S (ix2 i c) = piece (k0_pay3 X w) G B W S 2 0 i c
      ∧ k0_pay12 (k0_pay6 X w) (k0_pay8 G B (k0_pay7 X w)) W S (ix2 i c) = piece (k0_pay3 X w) G B W S 3 0 i c := by
  generalize hH : k0_pay3 X w = H
  refine ⟨?_, ?_, ?_, ?_⟩ <;>
    pointwise [k0_pay9, k0_pay10, k0_pay11, k0_pay12, k0_pay6, k0_pay7, k0_pay8, hH, EvenInIdeal.Rows.piece, mixed, normed, mean, gelu, at4, at8]

/-- of the second, -/
theorem group1 :
    k0_pay18 (k0_pay13 H) (k0_pay14 H) (k0_pay15 H) k0_pay16 G B W S (ix2 i c) = piece H G B W S 0 1 i c
      ∧ k0_pay19 (k0_pay13 H) (k0_pay17 (k0_pay14 H) (k0_pay15 H) k0_pay16 G B) W S (ix2 i c) = piece H G B W S 1 1 i c
      ∧ k0_pay20 (k0_pay13 H) (k0_pay17 (k0_pay14 H) (k0_pay15 H) k0_pay16 G B) W S (ix2 i c) = piece H G B W S 2 1 i c
      ∧ k0_pay21 (k0_pay13 H) (k0_pay17 (k0_pay14 H) (k0_pay15 H) k0_pay16 G B) W S (ix2 i c) = piece H G B W S 3 1 i c := by
  refine ⟨?_, ?_, ?_, ?_⟩ <;>
    pointwise [k0_pay13, k0_pay14, k0_pay15, k0_pay16, k0_pay17, k0_pay18, k0_pay19, k0_pay20, k0_pay21, EvenInIdeal.Rows.piece, mixed, normed, mean, gelu, at4, at8]

/-- of the third, -/
theorem group2 :
    k0_pay24 (k0_pay22 H) (k0_pay23 H G B) W S (ix2 i c) = piece H G B W S 0 2 i c
      ∧ k0_pay25 (k0_pay22 H) (k0_pay23 H G B) W S (ix2 i c) = piece H G B W S 1 2 i c
      ∧ k0_pay26 (k0_pay22 H) (k0_pay23 H G B) W S (ix2 i c) = piece H G B W S 2 2 i c
      ∧ k0_pay27 (k0_pay22 H) (k0_pay23 H G B) W S (ix2 i c) = piece H G B W S 3 2 i c := by
  refine ⟨?_, ?_, ?_, ?_⟩ <;>
    pointwise [k0_pay22, k0_pay23, k0_pay24, k0_pay25, k0_pay26, k0_pay27, EvenInIdeal.Rows.piece, mixed, normed, mean, gelu, at4, at8]

/-- and of the last. -/
theorem group3 :
    k0_pay31 (k0_pay28 H) G B (k0_pay29 H) W S (ix2 i c) = piece H G B W S 0 3 i c
      ∧ k0_pay32 (k0_pay28 H) G B (k0_pay29 H) W S (ix2 i c) = piece H G B W S 1 3 i c
      ∧ k0_pay1 (k0_pay28 H) (k0_pay30 G B (k0_pay29 H)) W S (ix2 i c) = piece H G B W S 2 3 i c
      ∧ k0_pay2 (k0_pay28 H) (k0_pay30 G B (k0_pay29 H)) W S (ix2 i c) = piece H G B W S 3 3 i c := by
  refine ⟨?_, ?_, ?_, ?_⟩ <;>
    pointwise [k0_pay28, k0_pay29, k0_pay30, k0_pay31, k0_pay32, k0_pay1, k0_pay2, EvenInIdeal.Rows.piece, mixed, normed, mean, gelu, at4, at8]

/-- The sixteen pieces make the block. -/
theorem block_at (x0 : Vec Ideal S512x1024 .f32) (x1 : Vec Ideal S1024x3200 .bf16) (x2 x3 : Vec Ideal S1x512 .f32) (x4 : Vec Ideal S4x128x128 .bf16) (x5 : Vec Ideal S4x128x128 .f32) (y : S512x512.Idx) :
    out0_6 x0 x1 x2 x3 x4 x5 y = block x2 x3 x4 x5 (k0_pay33 x0 x1 x2 x3 x4 x5) y := by
  unfold out0_6
  refine View.canon_apply_of_pieces (Val := Elt Ideal) (e := .bf16) (block x2 x3 x4 x5 (k0_pay33 x0 x1 x2 x3 x4 x5)) _ ?_ y (cover0_6 _ _ _ _ _ _ _ _ _ _ _ _ _ _ _ _ y)
  simp only [List.forall_mem_cons, List.not_mem_nil, false_implies, implies_true, and_true]
  refine ⟨?_, ?_, ?_, ?_, ?_, ?_, ?_, ?_, ?_, ?_, ?_, ?_, ?_, ?_, ?_, ?_⟩
  · exact tile (s := 3) (g := 3) x2 x3 x4 x5 _ rfl rfl rfl _ _ _ _ fun i c => (group3 _ _ _ _ _ i c).2.2.2
  · exact tile (s := 2) (g := 3) x2 x3 x4 x5 _ rfl rfl rfl _ _ _ _ fun i c => (group3 _ _ _ _ _ i c).2.2.1
  · exact tile (s := 1) (g := 3) x2 x3 x4 x5 _ rfl rfl rfl _ _ _ _ fun i c => (group3 _ _ _ _ _ i c).2.1
  · exact tile (s := 0) (g := 3) x2 x3 x4 x5 _ rfl rfl rfl _ _ _ _ fun i c => (group3 _ _ _ _ _ i c).1
  · exact tile (s := 3) (g := 2) x2 x3 x4 x5 _ rfl rfl rfl _ _ _ _ fun i c => (group2 _ _ _ _ _ i c).2.2.2
  · exact tile (s := 2) (g := 2) x2 x3 x4 x5 _ rfl rfl rfl _ _ _ _ fun i c => (group2 _ _ _ _ _ i c).2.2.1
  · exact tile (s := 1) (g := 2) x2 x3 x4 x5 _ rfl rfl rfl _ _ _ _ fun i c => (group2 _ _ _ _ _ i c).2.1
  · exact tile (s := 0) (g := 2) x2 x3 x4 x5 _ rfl rfl rfl _ _ _ _ fun i c => (group2 _ _ _ _ _ i c).1
  · exact tile (s := 3) (g := 1) x2 x3 x4 x5 _ rfl rfl rfl _ _ _ _ fun i c => (group1 _ _ _ _ _ i c).2.2.2
  · exact tile (s := 2) (g := 1) x2 x3 x4 x5 _ rfl rfl rfl _ _ _ _ fun i c => (group1 _ _ _ _ _ i c).2.2.1
  · exact tile (s := 1) (g := 1) x2 x3 x4 x5 _ rfl rfl rfl _ _ _ _ fun i c => (group1 _ _ _ _ _ i c).2.1
  · exact tile (s := 0) (g := 1) x2 x3 x4 x5 _ rfl rfl rfl _ _ _ _ fun i c => (group1 _ _ _ _ _ i c).1
  · exact tile (s := 3) (g := 0) x2 x3 x4 x5 _ rfl rfl rfl _ _ _ _ fun i c => (group0 _ _ _ _ _ _ i c).2.2.2
  · exact tile (s := 2) (g := 0) x2 x3 x4 x5 _ rfl rfl rfl _ _ _ _ fun i c => (group0 _ _ _ _ _ _ i c).2.2.1
  · exact tile (s := 1) (g := 0) x2 x3 x4 x5 _ rfl rfl rfl _ _ _ _ fun i c => (group0 _ _ _ _ _ _ i c).2.1
  · exact tile (s := 0) (g := 0) x2 x3 x4 x5 _ rfl rfl rfl _ _ _ _ fun i c => (group0 _ _ _ _ _ _ i c).1

end Cert.EvenFirstIdeal.Rows

end
-- ==== Proof.EvenFirst.KernelRows.lean ====
module

public import proofs.«01_k».proof.Proof.EvenIn.Host
public import proofs.«01_k».proof.Proof.EvenFirst.Block
public import proofs.«01_k».proof.Proof.Gen.EvenFirstIdeal.Value

@[expose] public section

noncomputable section

namespace Cert.EvenFirstIdeal.Rows

open Cert.EvenFirstIdeal Cert.EvenFirstIdeal.Gen Idealize.ShloMosaic Idealize.ShloMosaic.TcCoe Cert.Combine.Spec Cert.EvenIn.Spec
open Cert.EvenInIdeal.Rows (padded padded_at masked masked_at widened widened_at block_gated)

/-! # The three results of the first layer's call, from blocks to arrays -/

variable (m : (ℓ : Loc nD τ sig) → Buf (Elt Ideal) ℓ)

/-! The arrays the call prepares are those of the fused call. -/

theorem weights (c : Dev nD) : V m c main_v8 = padded (m ((c : Thread nD τ).loc main_arg1)) := by
  unfold V
  simp only [hostOps0, hostOps0_1, hostOps0_2, hostOps0_3, hostOps0_4, hostOps0_5, hostOps0_6, List.flatten_cons, List.flatten_nil, List.append_nil, List.cons_append, List.nil_append]
  after_results_simp
  rfl

theorem mixes (c : Dev nD) : V m c main_v11 = masked (m ((c : Thread nD τ).loc main_arg4)) := by
  unfold V
  simp only [hostOps0, hostOps0_1, hostOps0_2, hostOps0_3, hostOps0_4, hostOps0_5, hostOps0_6, List.flatten_cons, List.flatten_nil, List.append_nil, List.cons_append, List.nil_append]
  after_results_simp
  rfl

theorem biases (c : Dev nD) : V m c main_v13 = widened (m ((c : Thread nD τ).loc main_arg5)) := by
  unfold V
  simp only [hostOps0, hostOps0_1, hostOps0_2, hostOps0_3, hostOps0_4, hostOps0_5, hostOps0_6, List.flatten_cons, List.flatten_nil, List.append_nil, List.cons_append, List.nil_append]
  after_results_simp
  rfl

/-- A token's projection. -/
def projected (c : Dev nD) (R : Fin 32768) (f : Fin 3080) : EReal := proj (fun d => m ((c : Thread nD τ).loc main_arg0) (ix2 R d)) (fun k f => m ((c : Thread nD τ).loc main_arg1) (ix2 k f)) f

/-- What the outputs hold. -/
def result0 (c : Dev nD) : S32768x512.Idx → Elt Ideal .bf16 := fun y =>
  gated (projected m c) (fun k => m ((c : Thread nD τ).loc main_arg2) (ix2 0 k)) (fun k => m ((c : Thread nD τ).loc main_arg3) (ix2 0 k))
    (fun g i j => m ((c : Thread nD τ).loc main_arg4) (ix3 g i j)) (fun g i => m ((c : Thread nD τ).loc main_arg5) (ix2 g i))
    ⟨(y 0).val / 128, by have : (y 0).val < 32768 := (y 0).isLt; omega⟩ ⟨(y 0).val % 128, by omega⟩ (group (y 1)) (place (y 1))

def result1 (c : Dev nD) : S32768x2048.Idx → Elt Ideal .bf16 := fun y => projected m c (y 0) ⟨1024 + (y 1).val, by have : (y 1).val < 2048 := (y 1).isLt; omega⟩

def result2 (c : Dev nD) : S32768x128.Idx → Elt Ideal .f32 := fun y => if h : (y 1).val < 8 then projected m c (y 0) ⟨3072 + (y 1).val, by omega⟩ else (0 : EReal)

theorem N_eq : cfg0.N = 64 := by decide +kernel

/-- Row `r` of point `t`'s block. -/
def at_ (t : Fin cfg0.N) (r : Fin 512) : Fin 32768 := ⟨t.val * 512 + r.val, by have := t.isLt; have := N_eq; omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![0, 0, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)

/-! The blocks the body reads. -/

theorem block0 (c : Dev nD) (t : Fin cfg0.N) (r : Fin 512) (d : Fin 1024) : iblk m c 0 t (ix2 r d) = m ((c : Thread nD τ).loc main_arg0) (ix2 (at_ t r) d) := by
  blk_simp [iblk]
  exact congrArg (m ((c : Thread nD τ).loc main_arg0)) (by blk_ext [e0, at_])

theorem block1 (c : Dev nD) (t : Fin cfg0.N) (k : Fin 1024) (f : Fin 3200) : iblk m c 1 t (ix2 k f) = V m c main_v8 (ix2 k f) := by
  blk_simp [iblk]
  exact congrArg (V m c main_v8) (by blk_ext [e1])

theorem block2 (c : Dev nD) (t : Fin cfg0.N) (k : Fin 512) : iblk m c 2 t (ix2 0 k) = m ((c : Thread nD τ).loc main_arg2) (ix2 0 k) := by
  blk_simp [iblk]
  exact congrArg (m ((c : Thread nD τ).loc main_arg2)) (by blk_ext [e2])

theorem block3 (c : Dev nD) (t : Fin cfg0.N) (k : Fin 512) : iblk m c 3 t (ix2 0 k) = m ((c : Thread nD τ).loc main_arg3) (ix2 0 k) := by
  blk_simp [iblk]
  exact congrArg (m ((c : Thread nD τ).loc main_arg3)) (by blk_ext [e3])

theorem block4 (c : Dev nD) (t : Fin cfg0.N) (g : Fin 4) (i j : Fin 128) : iblk m c 4 t (ix3 g i j) = V m c main_v11 (ix3 g i j) := by
  blk_simp [iblk]
  exact congrArg (V m c main_v11) (by blk_ext [e4])

theorem block5 (c : Dev nD) (t : Fin cfg0.N) (g : Fin 4) (i j : Fin 128) : iblk m c 5 t (ix3 g i j) = V m c main_v13 (ix3 g i j) := by
  blk_simp [iblk]
  exact congrArg (V m c main_v13) (by blk_ext [e5])

/-- The block's projection is the tokens', and zero in the added columns. -/
theorem projection_at (c : Dev nD) (t : Fin cfg0.N) (r : Fin 512) (f : Fin 3200) :
    k0_pay3 (iblk m c 0 t) (iblk m c 1 t) (ix2 r f) = if h : f.val < 3080 then projected m c (at_ t r) ⟨f.val, h⟩ else (0 : EReal) := by
  refine (proj_at _ _ r f).trans ?_
  rw [show (fun k => iblk m c 0 t (ix2 r k)) = fun k => m ((c : Thread nD τ).loc main_arg0) (ix2 (at_ t r) k) from funext (block0 m c t r)]
  exact proj_padded _ _ _ (fun k f => (block1 m c t k f).trans ((congrFun (weights m c) _).trans (padded_at _ k f))) f

/-- The gated entries. -/
theorem final0 (c : Dev nD) : (dats m 0 c).arrAt 6 cfg0.N = result0 m c := by
  refine (dats m 0 c).arrAt_eq_of_covers 6 _ (by decide +kernel) fun t hf y => ?_
  blk_simp
  rw [after0_6, block_at]
  unfold k0_pay33
  frame_out
  obtain ⟨r, d, rfl⟩ : ∃ (r : Fin 512) (d : Fin 512), y = ix2 r d := ⟨y 0, y 1, by funext a; fin_cases a <;> rfl⟩
  have hy : ((View.whole main_v14_0).slice (win0_6.rect t)).emb (ix2 r d) = ix2 (at_ t r) d := by blk_ext [e6, at_]
  rw [hy]
  exact block_gated _ _ _ _ _ (projected m c) _ _ _ _ t.val (at_ t) (fun _ => rfl) (fun r f hf => (projection_at m c t r f).trans (dif_pos hf)) (block2 m c t) (block3 m c t)
    (fun g i j => (block4 m c t g i j).trans ((congrFun (mixes m c) _).trans (masked_at _ g i j))) (fun g i j => (block5 m c t g i j).trans ((congrFun (biases m c) _).trans (widened_at _ g i j))) r d

/-- The columns for the second mixer. -/
theorem final1 (c : Dev nD) : (dats m 0 c).arrAt 7 cfg0.N = result1 m c := by
  refine (dats m 0 c).arrAt_eq_of_covers 7 _ (by decide +kernel) fun t hf y => ?_
  blk_simp
  rw [after0_7]
  unfold_out out0_7
  frame_out
  obtain ⟨r, d, rfl⟩ : ∃ (r : Fin 512) (d : Fin 2048), y = ix2 r d := ⟨y 0, y 1, by funext a; fin_cases a <;> rfl⟩
  have hy : ((View.whole main_v14_1).slice (win0_7.rect t)).emb (ix2 r d) = ix2 (at_ t r) d := by blk_ext [e7, at_]
  rw [hy]
  refine (middle_at _ _ r d).trans ((projection_at m c t r _).trans (dif_pos ?_))
  show 1024 + d.val < 3080; omega

/-- The last columns, padded. -/
theorem final2 (c : Dev nD) : (dats m 0 c).arrAt 8 cfg0.N = result2 m c := by
  refine (dats m 0 c).arrAt_eq_of_covers 8 _ (by decide +kernel) fun t hf y => ?_
  blk_simp
  rw [after0_8]
  unfold_out out0_8
  frame_out
  obtain ⟨r, d, rfl⟩ : ∃ (r : Fin 512) (d : Fin 128), y = ix2 r d := ⟨y 0, y 1, by funext a; fin_cases a <;> rfl⟩
  have hy : ((View.whole main_v14_2).slice (win0_8.rect t)).emb (ix2 r d) = ix2 (at_ t r) d := by blk_ext [e8, at_]
  rw [hy]
  refine (last_at _ _ r d).trans ((projection_at m c t r _).trans ?_)
  show (if h : 3072 + d.val < 3080 then _ else _) = if h : d.val < 8 then _ else _
  by_cases h : d.val < 8
  · rw [dif_pos h, dif_pos (by omega)]
    rfl
  · rw [dif_neg h, dif_neg (by omega)]

end Cert.EvenFirstIdeal.Rows

end
-- ==== Proof.EvenIn.ReferenceRows.lean ====
module

public import proofs.«01_k».proof.Proof.EvenIn.Spec
public import proofs.«01_k».proof.Proof.Gen.EvenInReferenceIdeal.Run
public import Idealize.ShloMosaic.Lib.Pointwise

@[expose] public section

set_option maxRecDepth 16384

noncomputable section

namespace Cert.EvenInReferenceIdeal.Rows

open Cert.EvenInReferenceIdeal Cert.EvenInReferenceIdeal.Gen Idealize.ShloMosaic Idealize.ShloMosaic.TcCoe
open Cert.Combine.Spec Cert.EvenIn.Spec

/-! # The reference's results, entry by entry

The written-out results repeat their parts many times over, so each part gets a name first. -/

/-- The unit over a whole array. -/
def units (U : FVec Ideal S32768x512 .f32) : FVec Ideal S32768x512 .f32 :=
  mulf (mulf (broadcastInDim S32768x512 ![] bcast_S_S32768x512 (constant S_ .f32 0x3F000000#32)) U)
    (addf (broadcastInDim S32768x512 ![] bcast_S_S32768x512 (constant S_ .f32 0x3F800000#32)) (Host.erf (mulf U (broadcastInDim S32768x512 ![] bcast_S_S32768x512 (constant S_ .f32 0x3F3504F3#32)))))

/-- What is mixed, by groups. -/
def groups (H : FVec Ideal S32768x3080 .f32) : FVec Ideal S32768x4x128 .f32 :=
  shapeCast _ (units (extractStridedSlice S32768x512 ![0, 512] H slices_S32768x3080_S32768x512_0_512)) shapeCasts_S32768x512_S32768x4x128

/-- The mean of each group, -/
def means (V : FVec Ideal S32768x4x128 .f32) : FVec Ideal S32768x4x1 .f32 :=
  Host.divf (broadcastInDim S32768x4x1 ![0, 1] bcast_S32768x4_S32768x4x1_0_1 (Host.reduceAdd V (constant S_ .f32 0x00000000#32) reducesTo_S32768x4x128_S32768x4_d2 h_S_))
    (broadcastInDim S32768x4x1 ![] bcast_S_S32768x4x1 (constant S_ .f32 0x43000000#32))

/-- the group less its mean, -/
def centred (V : FVec Ideal S32768x4x128 .f32) : FVec Ideal S32768x4x128 .f32 :=
  subf V (broadcastInDim S32768x4x128 ![0, 1, 2] bcast_S32768x4x1_S32768x4x128_0_1_2 (means V))

/-- a row of scales, spread over the tokens, -/
def spread (G : FVec Ideal S1x512 .f32) : FVec Ideal S32768x4x128 .f32 :=
  broadcastInDim S32768x4x128 ![0, 1, 2] bcast_S1x4x128_S32768x4x128_0_1_2 (broadcastInDim S1x4x128 ![1, 2] bcast_S4x128_S1x4x128_1_2 (shapeCast _ (shapeCast _ G shapeCasts_S1x512_S512) shapeCasts_S512_S4x128))

/-- and the norm of each group. -/
def norms (V : FVec Ideal S32768x4x128 .f32) (G B : FVec Ideal S1x512 .f32) : FVec Ideal S32768x4x128 .f32 :=
  addf (mulf (mulf (centred V) (broadcastInDim S32768x4x128 ![0, 1, 2] bcast_S32768x4x1_S32768x4x128_0_1_2
    (Host.rsqrt (addf (means (mulf (centred V) (centred V))) (broadcastInDim S32768x4x1 ![] bcast_S_S32768x4x1 (constant S_ .f32 0x3727C5AC#32)))))) (spread G)) (spread B)

/-- The word sixty-four at every position, -/
abbrev step : IVec S128 32 := broadcastInDim S128 ![] bcast_S_S128 (id (constantI S_ 32 64#32))

/-- the chunk each position falls in, -/
def chunks : IVec S128 32 :=
  select (andi (cmpi .ne (signi (iotaInDim S128 32 0)) (broadcastInDim S128 ![] bcast_S_S128 (signi (id (constantI S_ 32 64#32)))))
      (cmpi .ne (Host.remsi (iotaInDim S128 32 0) step) (broadcastInDim S128 ![] bcast_S_S128 (constantI S_ 32 0#32))))
    (subi (Host.divsi (iotaInDim S128 32 0) step) (broadcastInDim S128 ![] bcast_S_S128 (constantI S_ 32 1#32)))
    (Host.divsi (iotaInDim S128 32 0) step)

/-- which position sees which, -/
def mask : IVec S128x128 1 :=
  cmpi .sle (broadcastInDim S128x128 ![0, 1] bcast_S1x128_S128x128_0_1 (broadcastInDim S1x128 ![1] bcast_S128_S1x128_1 chunks))
    (broadcastInDim S128x128 ![0, 1] bcast_S128x1_S128x128_0_1 (broadcastInDim S128x1 ![0] bcast_S128_S128x1_0 chunks))

/-- and the mixes it leaves. -/
def mixes (W : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2 mask)) W
    (broadcastInDim S4x128x128 ![] bcast_S_S4x128x128 (sitofp .f32 (constantI S_ 32 0#32)))

/-- The mixed tokens of every block, with their bias. -/
def mixture (N : FVec Ideal S32768x4x128 .f32) (W : FVec Ideal S4x128x128 .f32) (S : FVec Ideal S4x128 .f32) : FVec Ideal S256x128x4x128 .f32 :=
  addf (transpose S256x128x4x128 [1, 3, 0, 2] (Host.dotGeneral dot_S256x128x4x128_S4x128x128_S4x256x128x128_1_2_03_1_2_0 none (shapeCast _ N shapeCasts_S32768x4x128_S256x128x4x128) W) transposes_S4x256x128x128_S256x128x4x128_1_3_0_2)
    (broadcastInDim S256x128x4x128 ![0, 1, 2, 3] bcast_S1x128x4x1_S256x128x4x128_0_1_2_3 (broadcastInDim S1x128x4x1 ![1, 2, 3] bcast_S128x4x1_S1x128x4x1_1_2_3
      (broadcastInDim S128x4x1 ![0, 1] bcast_S128x4_S128x4x1_0_1 (transpose S128x4 [1, 0] S transposes_S4x128_S128x4_1_0))))

theorem chunks_at (i : Fin 128) : chunks (ix1 i) = BitVec.ofNat 32 (i.val / 64) := by
  pointwise [chunks, id]
  exact chunk i

theorem mask_at (i j : Fin 128) : mask (ix2 i j) = IntOp.cmpi .sle (BitVec.ofNat 32 (j.val / 64)) (BitVec.ofNat 32 (i.val / 64)) := by
  pointwise [mask, chunks_at]

theorem zero_word : FloatOps.sitofp (F := Ideal) .f32 (0#32) = (0 : EReal) := by
  simp [FloatOps.sitofp]

theorem mixes_at (W : FVec Ideal S4x128x128 .f32) (g : Fin 4) (i j : Fin 128) : mixes W (ix3 g i j) = if sees i j then W (ix3 g i j) else (0 : EReal) := by
  pointwise [mixes, mask_at, zero_word]
  exact choose i j _ _

theorem means_at (V : FVec Ideal S32768x4x128 .f32) (R : Fin 32768) (g : Fin 4) : means V (ix3 R g 0) = mean 0x43000000#32 fun c => V (ix3 R g c) := by
  pointwise [means, mean]

theorem centred_at (V : FVec Ideal S32768x4x128 .f32) (R : Fin 32768) (g : Fin 4) (c : Fin 128) : centred V (ix3 R g c) = V (ix3 R g c) - mean 0x43000000#32 fun c => V (ix3 R g c) := by
  pointwise [centred, means_at]

theorem spread_at (G : FVec Ideal S1x512 .f32) (R : Fin 32768) (g : Fin 4) (c : Fin 128) : spread G (ix3 R g c) = G (ix2 0 (lane g c)) := by
  pointwise [spread]
  rfl

theorem norms_at (V : FVec Ideal S32768x4x128 .f32) (G B : FVec Ideal S1x512 .f32) (R : Fin 32768) (g : Fin 4) (c : Fin 128) :
    norms V G B (ix3 R g c) = normed 0x43000000#32 (fun c => V (ix3 R g c)) (fun c => G (ix2 0 (lane g c))) (fun c => B (ix2 0 (lane g c))) c := by
  pointwise [norms, means_at, centred_at, spread_at, normed]

theorem groups_at (H : FVec Ideal S32768x3080 .f32) (R : Fin 32768) (g : Fin 4) (c : Fin 128) : groups H (ix3 R g c) = gelu (H (ix2 R (second g c))) := by
  pointwise [groups, units, gelu]
  rfl

theorem mixture_at (N : FVec Ideal S32768x4x128 .f32) (W : FVec Ideal S4x128x128 .f32) (S : FVec Ideal S4x128 .f32) (n : Fin 256) (i : Fin 128) (g : Fin 4) (c : Fin 128) :
    mixture N W S (ix4 n i g c) = ∑ p, N (ix3 (row n p) g c) * W (ix3 g i p) + S (ix2 g i) := by
  pointwise [mixture]
  rfl

/-- The gate over a whole array. -/
def gate (H : FVec Ideal S32768x3080 .f32) (G B : FVec Ideal S1x512 .f32) (W : FVec Ideal S4x128x128 .f32) (S : FVec Ideal S4x128 .f32) : FVec Ideal S32768x512 .bf16 :=
  truncf .bf16 (mulf (units (extractStridedSlice S32768x512 ![0, 0] H slices_S32768x3080_S32768x512_0_0))
    (shapeCast _ (mixture (norms (groups H) G B) (mixes W) S) shapeCasts_S256x128x4x128_S32768x512)) bitsLt_bf16_f32

theorem gate_at (H : FVec Ideal S32768x3080 .f32) (G B : FVec Ideal S1x512 .f32) (W : FVec Ideal S4x128x128 .f32) (S : FVec Ideal S4x128 .f32) (n : Fin 256) (i : Fin 128) (g : Fin 4) (d : Fin 128) :
    gate H G B W S (ix2 (row n i) (lane g d)) = gated (fun R f => H (ix2 R f)) (fun k => G (ix2 0 k)) (fun k => B (ix2 0 k)) (fun g i j => W (ix3 g i j)) (fun g i => S (ix2 g i)) n i g d := by
  have hR : (row n i).val / 128 = n.val ∧ (row n i).val % 128 = i.val := by show (n.val * 128 + i.val) / 128 = _ ∧ (n.val * 128 + i.val) % 128 = _; omega
  have hd : (lane g d).val / 128 = g.val ∧ (lane g d).val % 128 = d.val := by show (g.val * 128 + d.val) / 128 = _ ∧ (g.val * 128 + d.val) % 128 = _; omega
  pointwise [gate, units, hR, hd]
  rw [mixture_at]
  unfold gated mixed gelu
  refine congrArg₂ (· * ·) rfl (congrArg (· + _) (Finset.sum_congr rfl fun p _ => ?_))
  rw [norms_at, mixes_at, mul_comm]
  simp only [groups_at]
  rfl

/-- Every entry of it. -/
theorem gate_apply (H : FVec Ideal S32768x3080 .f32) (G B : FVec Ideal S1x512 .f32) (W : FVec Ideal S4x128x128 .f32) (S : FVec Ideal S4x128 .f32) (y : S32768x512.Idx) :
    gate H G B W S y = gated (fun R f => H (ix2 R f)) (fun k => G (ix2 0 k)) (fun k => B (ix2 0 k)) (fun g i j => W (ix3 g i j)) (fun g i => S (ix2 g i))
      ⟨(y 0).val / 128, by have : (y 0).val < 32768 := (y 0).isLt; omega⟩ ⟨(y 0).val % 128, by omega⟩ (group (y 1)) (place (y 1)) := by
  refine (congrArg (gate H G B W S) ?_).trans (gate_at H G B W S _ _ _ _)
  funext a
  fin_cases a
  · exact Fin.ext (Nat.div_add_mod' _ _).symm
  · exact Fin.ext (Nat.div_add_mod' _ _).symm

variable (m : (ℓ : Loc nD τ sig) → Buf (Elt Ideal) ℓ) (c : Dev nD)

/-- The normalized rows, -/
def hidden : FVec Ideal S32768x1024 .f32 := Value.res_main_v34 m c

/-- and their projection. -/
def projected : FVec Ideal S32768x3080 .f32 := Host.dotGeneral (φ₁ := .f32) (φ₂ := .f32) dot_S32768x1024_S1024x3080_S32768x3080_1_0_0_1_n_n none (hidden m c) (m ((c : Thread nD τ).loc main_arg5) : FVec Ideal S1024x3080 .f32)

/-- What the reference's first result holds. -/
theorem hidden_at (R : Fin 32768) (d : Fin 1024) :
    Value.res_main_v34 m c (ix2 R d) = combined (fun R d => m ((c : Thread nD τ).loc main_arg0) (ix2 R d)) (fun k R d => m ((c : Thread nD τ).loc main_arg1) (ix3 k R d)) (fun k R => m ((c : Thread nD τ).loc main_arg2) (ix2 k R))
      (fun k => m ((c : Thread nD τ).loc main_arg3) (ix2 0 k)) (fun k => m ((c : Thread nD τ).loc main_arg4) (ix2 0 k)) R d := by
  pointwise [Value.res_main_v34, combined, normed, mean, token, entry]

theorem projected_at (R : Fin 32768) (f : Fin 3080) :
    projected m c (ix2 R f) = proj (fun d => Value.res_main_v34 m c (ix2 R d)) (fun k f => m ((c : Thread nD τ).loc main_arg5) (ix2 k f)) f := by
  pointwise [projected, hidden, proj]

theorem last_eq : Value.res_main_v103 m c = pad S32768x128 ![0, 0] ![0, 120] ![0, 0] (extractStridedSlice S32768x8 ![0, 3072] (projected m c) slices_S32768x3080_S32768x8_0_3072) (sitofp .f32 (constantI S_ 32 0#32)) pads_S32768x8_S32768x128_000_01200 h_S_ := by
  unfold Value.res_main_v103 projected hidden Value.res_main_v34
  rfl

/-- The last columns, and zeros after them. -/
theorem last_at (R : Fin 32768) (f : Fin 128) : Value.res_main_v103 m c (ix2 R f) = if h : f.val < 8 then projected m c (ix2 R ⟨3072 + f.val, by omega⟩) else (0 : EReal) := by
  rw [last_eq]
  pointwise [zero_word]

theorem middle_eq : Value.res_main_v106 m c = truncf .bf16 (extractStridedSlice S32768x2048 ![0, 1024] (projected m c) slices_S32768x3080_S32768x2048_0_1024) bitsLt_bf16_f32 := by
  unfold Value.res_main_v106 projected hidden Value.res_main_v34
  rfl

/-- The columns for the second mixer. -/
theorem middle_at (R : Fin 32768) (f : Fin 2048) : Value.res_main_v106 m c (ix2 R f) = projected m c (ix2 R ⟨1024 + f.val, by omega⟩) := by
  rw [middle_eq]
  pointwise

theorem gated_eq : Value.res_main_v104 m c = gate (projected m c) (m ((c : Thread nD τ).loc main_arg6)) (m ((c : Thread nD τ).loc main_arg7)) (m ((c : Thread nD τ).loc main_arg8)) (m ((c : Thread nD τ).loc main_arg9)) := by
  unfold Value.res_main_v104 gate mixture norms centred means groups units spread mixes mask chunks projected hidden Value.res_main_v34
  rfl

end Cert.EvenInReferenceIdeal.Rows

end
-- ==== Proof.EvenFirst.ReferenceRows.lean ====
module

public import proofs.«01_k».proof.Proof.EvenIn.ReferenceRows
public import proofs.«01_k».proof.Proof.Gen.EvenFirstReferenceIdeal.Run

@[expose] public section

set_option maxRecDepth 16384

noncomputable section

namespace Cert.EvenFirstReferenceIdeal.Rows

open Cert.EvenFirstReferenceIdeal Cert.EvenFirstReferenceIdeal.Gen Idealize.ShloMosaic Idealize.ShloMosaic.TcCoe
open Cert.EvenIn.Spec
open Cert.EvenInReferenceIdeal.Rows (zero_word)

/-! # The reference's three results, entry by entry -/

variable (m : (ℓ : Loc nD τ sig) → Buf (Elt Ideal) ℓ) (c : Dev nD)

/-- The rows' projection. -/
def projected : FVec Ideal S32768x3080 .f32 :=
  Host.dotGeneral (φ₁ := .f32) (φ₂ := .f32) dot_S32768x1024_S1024x3080_S32768x3080_1_0_0_1_n_n none (m ((c : Thread nD τ).loc main_arg0) : FVec Ideal S32768x1024 .f32) (m ((c : Thread nD τ).loc main_arg1) : FVec Ideal S1024x3080 .f32)

theorem projected_at (R : Fin 32768) (f : Fin 3080) :
    projected m c (ix2 R f) = proj (fun d => m ((c : Thread nD τ).loc main_arg0) (ix2 R d)) (fun k f => m ((c : Thread nD τ).loc main_arg1) (ix2 k f)) f := by
  pointwise [projected, proj]

/-- The last columns, and zeros after them. -/
theorem last_at (R : Fin 32768) (f : Fin 128) :
    pad S32768x128 ![0, 0] ![0, 120] ![0, 0] (extractStridedSlice S32768x8 ![0, 3072] (projected m c) slices_S32768x3080_S32768x8_0_3072) (sitofp .f32 (constantI S_ 32 0#32)) pads_S32768x8_S32768x128_000_01200 h_S_ (ix2 R f)
      = if h : f.val < 8 then projected m c (ix2 R ⟨3072 + f.val, by omega⟩) else (0 : EReal) := by
  pointwise [zero_word]

/-- The columns for the second mixer. -/
theorem middle_at (R : Fin 32768) (f : Fin 2048) :
    truncf (F := Ideal) (φ := .f32) .bf16 (extractStridedSlice S32768x2048 ![0, 1024] (projected m c) slices_S32768x3080_S32768x2048_0_1024) bitsLt_bf16_f32 (ix2 R f) = projected m c (ix2 R ⟨1024 + f.val, by omega⟩) := by
  pointwise

open Cert.EvenInReferenceIdeal.Rows in
/-- The gated entries are the fused call's, of this projection. -/
theorem gated_eq : Value.res_main_v69 m c = gate (projected m c) (m ((c : Thread nD τ).loc main_arg2)) (m ((c : Thread nD τ).loc main_arg3)) (m ((c : Thread nD τ).loc main_arg4)) (m ((c : Thread nD τ).loc main_arg5)) := by
  unfold Value.res_main_v69 gate mixture norms centred means groups units spread mixes mask chunks EvenFirstReferenceIdeal.Rows.projected
  rfl

end Cert.EvenFirstReferenceIdeal.Rows

end
-- ==== Proof.EvenFirst.Claims.lean ====
module

public import proofs.«01_k».proof.Defs
public import proofs.«01_k».proof.Proof.EvenFirst.KernelRows
public import proofs.«01_k».proof.Proof.EvenFirst.ReferenceRows
public import proofs.«01_k».proof.Proof.Gen.EvenFirst.Frame

@[expose] public section

noncomputable section

namespace Cert.EvenFirst.Claims

open Idealize.ShloMosaic Idealize.ShloMosaic.TcCoe Idealize.SL.Sem Cert.EvenIn.Spec

/-! # The claims of the first layer's projection and gate -/

theorem kernel : Cert.quiescent_EvenFirst := fun m g _ => Cert.EvenFirst.Gen.frame m g

theorem ideal : Cert.quiescent_EvenFirstIdeal := fun m g _ => Cert.EvenFirstIdeal.Gen.frame m g

theorem reference : Cert.quiescent_EvenFirstReferenceIdeal := fun m g _ =>
  (θ_run Cert.EvenFirstReferenceIdeal.defs _ _).mono (fun r h => ⟨fun c => (h c).2.2.2, sem_eq_zero_of_no_sems (by decide) r.2⟩)
    (Cert.EvenFirstReferenceIdeal.Value.run (F := Ideal) m g)

theorem preserves : Cert.preserves_EvenFirst_EvenFirstIdeal := trivial

theorem algebraic : Cert.algebraic_EvenFirstIdeal_EvenFirstReferenceIdeal := fun m g m' g' _ hm => by
  refine ⟨EvenFirstIdeal.Rows.result0 m, EvenFirstIdeal.Rows.result1 m, EvenFirstIdeal.Rows.result2 m, ?_, ?_⟩
  · refine (θ_run Cert.EvenFirstIdeal.defs _ _).mono (fun r hr c => ?_) (Cert.EvenFirstIdeal.Value.run_blocks (F := Ideal) m g)
    obtain ⟨h0, h1, h2, hk⟩ := hr c
    exact ⟨h0.trans (EvenFirstIdeal.Rows.final0 m c), h1.trans (EvenFirstIdeal.Rows.final1 m c), h2.trans (EvenFirstIdeal.Rows.final2 m c), hk⟩
  · refine (θ_run Cert.EvenFirstReferenceIdeal.defs _ _).mono (fun r hr c => ?_) (Cert.EvenFirstReferenceIdeal.Value.run (F := Ideal) m' g')
    obtain ⟨h0, h1, h2, hk⟩ := hr c
    obtain ⟨e0, e1, e2, e3, e4, e5⟩ := hm c
    have hp : ∀ (R : Fin 32768) (f : Fin 3080), EvenFirstReferenceIdeal.Rows.projected m' c (ix2 R f) = EvenFirstIdeal.Rows.projected m c R f := fun R f => by
      refine (EvenFirstReferenceIdeal.Rows.projected_at m' c R f).trans ?_
      rw [e0, e1]
      rfl
    refine ⟨h0.trans ?_, h1.trans ?_, h2.trans ?_, hk⟩
    · funext y
      refine (congrFun (EvenFirstReferenceIdeal.Rows.gated_eq m' c) y).trans ((EvenInReferenceIdeal.Rows.gate_apply _ _ _ _ _ y).trans ?_)
      simp only [hp]
      rw [e2, e3, e4, e5]
      rfl
    · funext y
      have hy : (y : EvenFirstReferenceIdeal.S32768x2048.Idx) = ix2 (y 0) (y 1) := by funext a; fin_cases a <;> rfl
      rw [hy]
      exact (EvenFirstReferenceIdeal.Rows.middle_at m' c (y 0) (y 1)).trans (hp _ _)
    · funext y
      have hy : (y : EvenFirstReferenceIdeal.S32768x128.Idx) = ix2 (y 0) (y 1) := by funext a; fin_cases a <;> rfl
      rw [hy]
      refine (EvenFirstReferenceIdeal.Rows.last_at m' c (y 0) (y 1)).trans ?_
      exact dite_congr rfl (fun h => hp _ _) fun _ => rfl

end Cert.EvenFirst.Claims

end
-- ==== Proof.ProjEven.Spec.lean ====
module

public import proofs.«01_k».proof.Proof.EvenIn.Spec

@[expose] public section

noncomputable section

namespace Cert.ProjEven.Spec

open Idealize.ShloMosaic Cert.Combine.Spec Cert.EvenIn.Spec

/-! # A token's mixed row projected, added to its residual and normalized -/

/-- The row before its norm: the residual, weighted, and the projection of the mixers' row. -/
def before (x y : Fin 1024 → EReal) (w : Fin 1024 → Fin 1024 → EReal) (d : Fin 1024) : EReal := Ideal.ofBits .f32 0x3FD744FD#32 * x d + proj y w d

/-- and after it. -/
def after (x y : Fin 1024 → EReal) (w : Fin 1024 → Fin 1024 → EReal) (g b : Fin 1024 → EReal) (d : Fin 1024) : EReal := normed 0x44800000#32 (before x y w) g b d

/-- Two mixers' rows, side by side. -/
def joined (a b : Fin 512 → EReal) (k : Fin 1024) : EReal := if h : k.val < 512 then a ⟨k.val, h⟩ else b ⟨k.val - 512, by omega⟩

/-- Row `k` of the lower half of the weights. -/
def low (k : Fin 512) : Fin 1024 := ⟨512 + k.val, by omega⟩

/-- The projection of the joined row is the sum of the two rows' own projections. -/
theorem proj_joined (a b : Fin 512 → EReal) (w : Fin 1024 → Fin 1024 → EReal) (d : Fin 1024) :
    proj (joined a b) w d = ∑ k : Fin 512, a k * w ⟨k.val, by omega⟩ d + ∑ k : Fin 512, b k * w (low k) d := by
  refine (Fin.sum_univ_add (a := 512) (b := 512) fun k => joined a b k * w k d).trans ?_
  refine congrArg₂ (fun s t : EReal => s + t) (Finset.sum_congr rfl fun k _ => ?_) (Finset.sum_congr rfl fun k _ => ?_)
  · exact congrArg (fun z : EReal => z * _) (dif_pos k.isLt)
  · refine congrArg (fun z : EReal => z * _) ((dif_neg (by simp)).trans (congrArg b (Fin.ext ?_)))
    show 512 + k.val - 512 = k.val; omega

end Cert.ProjEven.Spec

end
-- ==== Proof.ProjEven.Gates.lean ====
module

public import proofs.«01_k».proof.Proof.ProjEven.Spec

@[expose] public section

noncomputable section

namespace Cert.ProjEven.Gates

open Idealize.ShloMosaic

/-! # A token's gates: the four largest logits, weighed against each other -/

/-- A token's score for expert `e`. -/
def logits (x : Fin 1024 → EReal) (w : Fin 1024 → Fin 32 → EReal) (b : Fin 32 → EReal) (e : Fin 32) : EReal := ∑ k : Fin 1024, x k * w k e + b e

/-- An expert's number. -/
def num (e : Fin 32) : EReal := FloatOps.sitofp (F := Ideal) .f32 (BitVec.ofNat 32 e.val)

/-- The largest score. -/
def top (z : Fin 32 → EReal) : EReal := Finset.univ.fold max (Ideal.ofBits .f32 0xFF800000#32) z

/-- The lowest number of an expert with the largest score. -/
def first (z : Fin 32 → EReal) : EReal := Finset.univ.fold min (Ideal.ofBits .f32 0x7F800000#32) fun e => if z e = top z then num e else Ideal.ofBits .f32 0x42000000#32

/-- The scores without that expert's. -/
def rest (z : Fin 32 → EReal) (e : Fin 32) : EReal := if num e = first z then Ideal.ofBits .f32 0xF149F2CA#32 else z e

/-- The exponential of the largest of the scores `y`, taken from the largest of the first ones. -/
def weight (z y : Fin 32 → EReal) : EReal := Ideal.exp (top y - top z)

/-- The four together. -/
def total (z : Fin 32 → EReal) : EReal := weight z z + weight z (rest z) + weight z (rest (rest z)) + weight z (rest (rest (rest z)))

/-- The gates: four, and four zeros. -/
def gate (z : Fin 32 → EReal) (j : Fin 8) : EReal :=
  match j with
  | 0 => Ideal.div (weight z z) (total z)
  | 1 => Ideal.div (weight z (rest z)) (total z)
  | 2 => Ideal.div (weight z (rest (rest z))) (total z)
  | 3 => Ideal.div (weight z (rest (rest (rest z)))) (total z)
  | _ => 0

end Cert.ProjEven.Gates

end
-- ==== Proof.ProjEven.KernelGates.lean ====
module

public import proofs.«01_k».proof.Proof.ProjEven.Gates
public import proofs.«01_k».proof.Proof.Gen.ProjEvenIdeal.Skeleton
public import Idealize.ShloMosaic.Lib.Pointwise

@[expose] public section

noncomputable section

namespace Cert.ProjEvenIdeal.GateRows

open Cert.ProjEvenIdeal Cert.ProjEvenIdeal.Gen Idealize.ShloMosaic Idealize.ShloMosaic.TcCoe Cert.ProjEven.Gates

/-! # One block's gates, in the even layers' form -/

/-- The experts' numbers. -/
theorem number (e : Fin 32) (r : Fin 512) : k0_pay11 (F := Ideal) (ix2 e r) = num e := by
  pointwise [k0_pay11, num]

section
variable (G H : Vec Ideal S1x1024 .f32) (X : FVec Ideal S512x1024 .f32) (W : Vec Ideal S32x1024 .bf16) (B : Vec Ideal S32x1 .f32) (r : Fin 512)

/-- The scores of the block's rows. -/
theorem scores (e : Fin 32) : k0_pay10 G H X W B (ix2 e r) = logits (fun k => k0_pay8 G H X (ix2 r k)) (fun k e => W (ix2 e k)) (fun e => B (ix2 e 0)) e := by
  unfold k0_pay10 logits
  have h9 : k0_pay9 G H X = k0_pay8 G H X := rfl
  rw [h9]
  generalize k0_pay8 G H X = Y
  pointwise
  exact congrArg (fun s : EReal => s + _) (Finset.sum_congr rfl fun k _ => mul_comm _ _)

variable {G H X W B r} {z : Fin 32 → EReal} (hz : ∀ e, k0_pay10 G H X W B (ix2 e r) = z e)
include hz

/-! The first two rounds. -/

theorem top0 : k0_pay12 G H X W B (ix2 0 r) = top z := by
  pointwise [k0_pay12, hz, top]

theorem first0 : k0_pay13 G H X W B (ix2 0 r) = first z := by
  pointwise [k0_pay13, number, hz, top0 hz, first]

theorem rest0 (e : Fin 32) : k0_pay15 G H X W B (ix2 e r) = rest z e := by
  pointwise [k0_pay15, k0_pay14, number, hz, first0 hz, rest]

theorem top1 : k0_pay17 G H X W B (ix2 0 r) = top (rest z) := by
  pointwise [k0_pay17, rest0 hz, top]

theorem pick1 (e : Fin 32) : k0_pay18 G H X W B (ix2 e r) = if rest z e = top (rest z) then num e else Ideal.ofBits .f32 0x42000000#32 := by
  pointwise [k0_pay18, number, rest0 hz, top1 hz]

end

section
variable {Z P : FVec Ideal S32x512 .f32} {r : Fin 512} {z : Fin 32 → EReal} (hz : ∀ e, Z (ix2 e r) = z e)
  (hp : ∀ e, P (ix2 e r) = if z e = top z then num e else Ideal.ofBits .f32 0x42000000#32)
include hz hp

/-! The last two, of the scores `Z` and the numbers `P` that the second round chose from. -/

theorem first1 : k0_pay19 P (ix2 0 r) = first z := by
  pointwise [k0_pay19, hp, first]

theorem rest1 (e : Fin 32) : k0_pay21 k0_pay11 Z P (ix2 e r) = rest z e := by
  pointwise [k0_pay21, k0_pay20, number, hz, first1 hz hp, rest]

theorem top2 : k0_pay22 k0_pay11 Z P (ix2 0 r) = top (rest z) := by
  pointwise [k0_pay22, rest1 hz hp, top]

theorem first2 : k0_pay23 k0_pay11 Z P (ix2 0 r) = first (rest z) := by
  unfold k0_pay23
  pointwise [rest1 hz hp, top2 hz hp, number, first]

theorem rest2 (e : Fin 32) : k0_pay25 k0_pay11 Z P (ix2 e r) = rest (rest z) e := by
  show _ = if num e = first (rest z) then _ else rest z e
  pointwise [k0_pay25, k0_pay24, rest1 hz hp, first2 hz hp, number]

theorem top3 : k0_pay26 k0_pay11 Z P (ix2 0 r) = top (rest (rest z)) := by
  pointwise [k0_pay26, rest2 hz hp, top]

end

/-- The eight rows written, from the four largest scores, the first three weights and their sum. -/
theorem written (T0 T3 E0 E1 E2 : FVec Ideal S1x512 .f32) (r : Fin 512) (j : Fin 8) :
    k0_pay2 (k0_pay33 T0 T3) (k0_pay34 T0 T3 E0 E1 E2) (iota .tc S8x512 32 [0] iota_S8x512_d0_w32)
      (k0_pay40 E1 E2 (k0_pay34 T0 T3 E0 E1 E2) (iota .tc S8x512 32 [0] iota_S8x512_d0_w32) (k0_pay37 T0 T3 E0 E1 E2)) (ix2 j r) =
      match j with
      | 0 => Ideal.div (E0 (ix2 0 r)) (k0_pay34 T0 T3 E0 E1 E2 (ix2 0 r))
      | 1 => Ideal.div (E1 (ix2 0 r)) (k0_pay34 T0 T3 E0 E1 E2 (ix2 0 r))
      | 2 => Ideal.div (E2 (ix2 0 r)) (k0_pay34 T0 T3 E0 E1 E2 (ix2 0 r))
      | 3 => Ideal.div (k0_pay33 T0 T3 (ix2 0 r)) (k0_pay34 T0 T3 E0 E1 E2 (ix2 0 r))
      | _ => 0 := by
  unfold k0_pay2 k0_pay40 k0_pay37
  generalize k0_pay34 T0 T3 E0 E1 E2 = D
  generalize k0_pay33 T0 T3 = E3
  fin_cases j <;> pointwise <;> rfl

/-- The gates the block's body writes. -/
def gates (G H : Vec Ideal S1x1024 .f32) (X : FVec Ideal S512x1024 .f32) (W : Vec Ideal S32x1024 .bf16) (B : Vec Ideal S32x1 .f32) : FVec Ideal S8x512 .f32 :=
  let T0 := k0_pay12 G H X W B
  let T3 := k0_pay26 k0_pay11 (k0_pay15 G H X W B) (k0_pay18 G H X W B)
  let E0 := k0_pay30 T0
  let E1 := k0_pay31 T0 (k0_pay17 G H X W B)
  let E2 := k0_pay32 k0_pay11 T0 (k0_pay15 G H X W B) (k0_pay18 G H X W B)
  k0_pay2 (k0_pay33 T0 T3) (k0_pay34 T0 T3 E0 E1 E2) (iota .tc S8x512 32 [0] iota_S8x512_d0_w32)
    (k0_pay40 E1 E2 (k0_pay34 T0 T3 E0 E1 E2) (iota .tc S8x512 32 [0] iota_S8x512_d0_w32) (k0_pay37 T0 T3 E0 E1 E2))

/-- They are the gates of the rows' scores. -/
theorem gates_at (G H : Vec Ideal S1x1024 .f32) (X : FVec Ideal S512x1024 .f32) (W : Vec Ideal S32x1024 .bf16) (B : Vec Ideal S32x1 .f32) (r : Fin 512) (j : Fin 8) :
    gates G H X W B (ix2 j r) = gate (logits (fun k => k0_pay8 G H X (ix2 r k)) (fun k e => W (ix2 e k)) fun e => B (ix2 e 0)) j := by
  have hz := scores G H X W B r
  generalize logits (fun k => k0_pay8 G H X (ix2 r k)) (fun k e => W (ix2 e k)) (fun e => B (ix2 e 0)) = z at hz ⊢
  have h0 : k0_pay30 (k0_pay12 G H X W B) (ix2 0 r) = weight z z := by
    pointwise [k0_pay30, top0 hz, weight]
  have h1 : k0_pay31 (k0_pay12 G H X W B) (k0_pay17 G H X W B) (ix2 0 r) = weight z (rest z) := by
    pointwise [k0_pay31, top0 hz, top1 hz, weight]
  have h2 : k0_pay32 k0_pay11 (k0_pay12 G H X W B) (k0_pay15 G H X W B) (k0_pay18 G H X W B) (ix2 0 r) = weight z (rest (rest z)) := by
    pointwise [k0_pay32, top0 hz, top2 (rest0 hz) (pick1 hz), weight]
  have h3 : k0_pay33 (k0_pay12 G H X W B) (k0_pay26 k0_pay11 (k0_pay15 G H X W B) (k0_pay18 G H X W B)) (ix2 0 r) = weight z (rest (rest (rest z))) := by
    pointwise [k0_pay33, top0 hz, top3 (rest0 hz) (pick1 hz), weight]
  unfold gates
  refine (written _ _ _ _ _ r j).trans ?_
  unfold k0_pay34 gate total
  rw [addf_apply, addf_apply, addf_apply, h0, h1, h2, h3]
  rfl

end Cert.ProjEvenIdeal.GateRows

end
-- ==== Proof.ProjEven.KernelRows.lean ====
module

public import proofs.«01_k».proof.Proof.ProjEven.Spec
public import proofs.«01_k».proof.Proof.ProjEven.KernelGates
public import proofs.«01_k».proof.Proof.Gen.ProjEvenIdeal.Value
public import Idealize.ShloMosaic.Lib.Pointwise
public import Idealize.ShloMosaic.Lib.Pipeline.ValueKit.Geometry
public import Idealize.ShloMosaic.Lib.Pipeline.ValueKit.Acc

@[expose] public section

noncomputable section

namespace Cert.ProjEvenIdeal.Rows

open Cert.ProjEvenIdeal Cert.ProjEvenIdeal.Gen Idealize.ShloMosaic Idealize.ShloMosaic.TcCoe Cert.Combine.Spec Cert.EvenIn.Spec Cert.ProjEven.Spec Cert.ProjEven.Gates

/-! # The even layers' projection and first norm, from blocks to arrays -/

variable (m : (ℓ : Loc nD τ sig) → Buf (Elt Ideal) ℓ)

/-- One block's rows, normalized. -/
theorem rows_at (A B : Vec Ideal S512x512 .bf16) (P Q : Vec Ideal S512x1024 .bf16) (X : Vec Ideal S512x1024 .f32) (G H : Vec Ideal S1x1024 .f32) (w : Fin 1024 → Fin 1024 → EReal)
    (hP : ∀ k d, P (ix2 k d) = w ⟨k.val, by omega⟩ d) (hQ : ∀ k d, Q (ix2 k d) = w (low k) d) (r : Fin 512) (d : Fin 1024) :
    k0_pay8 G H (k0_pay7 A P B Q X) (ix2 r d) = after (fun k => X (ix2 r k)) (joined (fun k => A (ix2 r k)) fun k => B (ix2 r k)) w (fun k => G (ix2 0 k)) (fun k => H (ix2 0 k)) d := by
  unfold after before
  simp only [proj_joined, ← hP, ← hQ]
  pointwise [k0_pay8, k0_pay7, normed, mean]

/-- The copy kept in the short format is of the same rows. -/
theorem short_at (X : FVec Ideal S512x1024 .f32) (G H : Vec Ideal S1x1024 .f32) (y : S512x1024.Idx) : k0_pay9 G H X y = k0_pay8 G H X y := rfl

/-! What a point leaves in the two outputs, whether or not it is the first. -/

theorem left0 (c : Dev nD) (t : Fin cfg0.N) :
    (outsAt0 m c t.val t.isLt).1 = k0_pay8 (iblk m c 5 t) (iblk m c 6 t) (k0_pay7 (iblk m c 0 t) (iblk m c 2 t) (iblk m c 1 t) (iblk m c 3 t) (iblk m c 4 t)) := by
  by_cases h0 : t.val % 64 = 0
  · rw [outsAt0_A m c t h0]
    dsimp only
    frame_out
  · rw [outsAt0_B m c t h0]
    dsimp only
    frame_out

theorem left1 (c : Dev nD) (t : Fin cfg0.N) :
    (outsAt0 m c t.val t.isLt).2.1 = k0_pay9 (iblk m c 5 t) (iblk m c 6 t) (k0_pay7 (iblk m c 0 t) (iblk m c 2 t) (iblk m c 1 t) (iblk m c 3 t) (iblk m c 4 t)) := by
  by_cases h0 : t.val % 64 = 0
  · rw [outsAt0_A m c t h0]
    dsimp only
    frame_out
  · rw [outsAt0_B m c t h0]
    dsimp only
    frame_out

/-! The two halves of the weights, as the call prepares them. -/

theorem upper (c : Dev nD) (k : Fin 512) (d : Fin 1024) : V m c main_v5 (ix2 k d) = m ((c : Thread nD τ).loc main_arg5) (ix2 (⟨k.val, by omega⟩ : Fin 1024) d) := by
  refine (congrFun (show V m c main_v5 = extractStridedSlice S512x1024 ![0, 0] (truncf (F := Ideal) (φ := .f32) .bf16 (m ((c : Thread nD τ).loc main_arg5)) bitsLt_bf16_f32) slices_S1024x1024_S512x1024_0_0 from ?_) _).trans ?_
  · unfold V
    simp only [hostOps0, List.flatten_cons, List.flatten_nil, List.append_nil, List.cons_append, List.nil_append]
    after_results_simp
  · pointwise

theorem lower (c : Dev nD) (k : Fin 512) (d : Fin 1024) : V m c main_v6 (ix2 k d) = m ((c : Thread nD τ).loc main_arg5) (ix2 (low k) d) := by
  refine (congrFun (show V m c main_v6 = extractStridedSlice S512x1024 ![512, 0] (truncf (F := Ideal) (φ := .f32) .bf16 (m ((c : Thread nD τ).loc main_arg5)) bitsLt_bf16_f32) slices_S1024x1024_S512x1024_512_0 from ?_) _).trans ?_
  · unfold V
    simp only [hostOps0, List.flatten_cons, List.flatten_nil, List.append_nil, List.cons_append, List.nil_append]
    after_results_simp
  · pointwise [low]

/-- What both outputs hold. -/
def result (c : Dev nD) (R : Fin 32768) (d : Fin 1024) : EReal :=
  after (fun k => m ((c : Thread nD τ).loc main_arg2) (ix2 R k)) (joined (fun k => m ((c : Thread nD τ).loc main_arg0) (ix2 R k)) fun k => m ((c : Thread nD τ).loc main_arg1) (ix2 R k))
    (fun k f => m ((c : Thread nD τ).loc main_arg5) (ix2 k f)) (fun k => m ((c : Thread nD τ).loc main_arg3) (ix2 0 k)) (fun k => m ((c : Thread nD τ).loc main_arg4) (ix2 0 k)) d

def result0 (c : Dev nD) : S32768x1024.Idx → Elt Ideal .f32 := fun y => result m c (y 0) (y 1)

def result1 (c : Dev nD) : S32768x1024.Idx → Elt Ideal .bf16 := fun y => result m c (y 0) (y 1)

theorem N_eq : cfg0.N = 64 := by decide +kernel

/-- Row `r` of point `t`'s block. -/
def at_ (t : Fin cfg0.N) (r : Fin 512) : Fin 32768 := ⟨t.val * 512 + r.val, by have := t.isLt; have := N_eq; omega⟩

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)

/-! The blocks the body reads. -/

theorem block0 (c : Dev nD) (t : Fin cfg0.N) (r k : Fin 512) : iblk m c 0 t (ix2 r k) = m ((c : Thread nD τ).loc main_arg0) (ix2 (at_ t r) k) := by
  blk_simp [iblk]
  exact congrArg (m ((c : Thread nD τ).loc main_arg0)) (by blk_ext [e0, at_])

theorem block1 (c : Dev nD) (t : Fin cfg0.N) (r k : Fin 512) : iblk m c 1 t (ix2 r k) = m ((c : Thread nD τ).loc main_arg1) (ix2 (at_ t r) k) := by
  blk_simp [iblk]
  exact congrArg (m ((c : Thread nD τ).loc main_arg1)) (by blk_ext [e1, at_])

theorem block2 (c : Dev nD) (t : Fin cfg0.N) (k : Fin 512) (d : Fin 1024) : iblk m c 2 t (ix2 k d) = V m c main_v5 (ix2 k d) := by
  blk_simp [iblk]
  exact congrArg (V m c main_v5) (by blk_ext [e2])

theorem block3 (c : Dev nD) (t : Fin cfg0.N) (k : Fin 512) (d : Fin 1024) : iblk m c 3 t (ix2 k d) = V m c main_v6 (ix2 k d) := by
  blk_simp [iblk]
  exact congrArg (V m c main_v6) (by blk_ext [e3])

theorem block4 (c : Dev nD) (t : Fin cfg0.N) (r : Fin 512) (d : Fin 1024) : iblk m c 4 t (ix2 r d) = m ((c : Thread nD τ).loc main_arg2) (ix2 (at_ t r) d) := by
  blk_simp [iblk]
  exact congrArg (m ((c : Thread nD τ).loc main_arg2)) (by blk_ext [e4, at_])

theorem block5 (c : Dev nD) (t : Fin cfg0.N) (d : Fin 1024) : iblk m c 5 t (ix2 0 d) = m ((c : Thread nD τ).loc main_arg3) (ix2 0 d) := by
  blk_simp [iblk]
  exact congrArg (m ((c : Thread nD τ).loc main_arg3)) (by blk_ext [e5])

theorem block6 (c : Dev nD) (t : Fin cfg0.N) (d : Fin 1024) : iblk m c 6 t (ix2 0 d) = m ((c : Thread nD τ).loc main_arg4) (ix2 0 d) := by
  blk_simp [iblk]
  exact congrArg (m ((c : Thread nD τ).loc main_arg4)) (by blk_ext [e6])

/-- A block's rows are the tokens' results. -/
theorem block_at (c : Dev nD) (t : Fin cfg0.N) (r : Fin 512) (d : Fin 1024) :
    k0_pay8 (iblk m c 5 t) (iblk m c 6 t) (k0_pay7 (iblk m c 0 t) (iblk m c 2 t) (iblk m c 1 t) (iblk m c 3 t) (iblk m c 4 t)) (ix2 r d) = result m c (at_ t r) d := by
  refine (rows_at _ _ _ _ _ _ _ (fun k f => m ((c : Thread nD τ).loc main_arg5) (ix2 k f)) (fun k d => (block2 m c t k d).trans (upper m c k d)) (fun k d => (block3 m c t k d).trans (lower m c k d)) r d).trans ?_
  unfold result
  simp only [block0, block1, block4, block5, block6]

theorem final0 (c : Dev nD) : (dats m 0 c).arrAt 9 cfg0.N = result0 m c := by
  refine (dats m 0 c).arrAt_eq_of_covers 9 _ (by decide +kernel) fun t hf y => ?_
  blk_simp
  rw [after0_9, left0]
  obtain ⟨r, d, rfl⟩ : ∃ (r : Fin 512) (d : Fin 1024), y = ix2 r d := ⟨y 0, y 1, by funext a; fin_cases a <;> rfl⟩
  have hy : ((View.whole main_v7_0).slice (win0_9.rect t)).emb (ix2 r d) = ix2 (at_ t r) d := by blk_ext [e9, at_]
  rw [hy]
  exact block_at m c t r d

theorem final1 (c : Dev nD) : (dats m 0 c).arrAt 10 cfg0.N = result1 m c := by
  refine (dats m 0 c).arrAt_eq_of_covers 10 _ (by decide +kernel) fun t hf y => ?_
  blk_simp
  rw [after0_10, left1]
  obtain ⟨r, d, rfl⟩ : ∃ (r : Fin 512) (d : Fin 1024), y = ix2 r d := ⟨y 0, y 1, by funext a; fin_cases a <;> rfl⟩
  have hy : ((View.whole main_v7_1).slice (win0_10.rect t)).emb (ix2 r d) = ix2 (at_ t r) d := by blk_ext [e10, at_]
  rw [hy]
  exact (short_at _ _ _ _).trans (block_at m c t r d)

/-! # The gates -/

/-- The bias column the body reads. -/
def column (B : Vec Ideal S32x128 .f32) : Vec Ideal S32x1 .f32 := View.ld B (Rect.unit ![0, 0] ![32, 1] inb_S32x128_S32x1_0_0)

theorem column_at (B : Vec Ideal S32x128 .f32) (e : Fin 32) : column B (ix2 e 0) = B (ix2 e 0) := by
  show B _ = _
  exact congrArg B (by funext a; fin_cases a; exacts [Fin.ext (by simp [Rect.unit]), rfl])

theorem left3 (c : Dev nD) (t : Fin cfg0.N) :
    (outsAt0 m c t.val t.isLt).2.2.2.1 = GateRows.gates (iblk m c 5 t) (iblk m c 6 t) (k0_pay7 (iblk m c 0 t) (iblk m c 2 t) (iblk m c 1 t) (iblk m c 3 t) (iblk m c 4 t)) (iblk m c 7 t) (column (iblk m c 8 t)) := by
  by_cases h0 : t.val % 64 = 0
  · rw [outsAt0_A m c t h0]
    dsimp only
    frame_out
    rfl
  · rw [outsAt0_B m c t h0]
    dsimp only
    frame_out
    rfl

/-! The router's weights and bias, as the call prepares them. -/

theorem router (c : Dev nD) (e : Fin 32) (k : Fin 1024) : V m c main_v2 (ix2 e k) = m ((c : Thread nD τ).loc main_arg6) (ix2 k e) := by
  refine (congrFun (show V m c main_v2 = truncf (F := Ideal) (φ := .f32) .bf16 (transpose S32x1024 [1, 0] (m ((c : Thread nD τ).loc main_arg6)) transposes_S1024x32_S32x1024_1_0) bitsLt_bf16_f32 from ?_) _).trans ?_
  · unfold V
    simp only [hostOps0, List.flatten_cons, List.flatten_nil, List.append_nil, List.cons_append, List.nil_append]
    after_results_simp
  · pointwise

theorem bias (c : Dev nD) (e : Fin 32) (l : Fin 128) : V m c main_v4 (ix2 e l) = m ((c : Thread nD τ).loc main_arg7) (ix1 e) := by
  refine (congrFun (show V m c main_v4 = broadcastInDim S32x128 ![0, 1] bcast_S32x1_S32x128_0_1 (broadcastInDim S32x1 ![0] bcast_S32_S32x1_0 (m ((c : Thread nD τ).loc main_arg7))) from ?_) _).trans ?_
  · unfold V
    simp only [hostOps0, List.flatten_cons, List.flatten_nil, List.append_nil, List.cons_append, List.nil_append]
    after_results_simp
  · pointwise

theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e12 : ∀ t : Fin cfg0.N, win0_12.index t = ![0, t.val] := (by decide +kernel : ∀ t : Fin grid0.N, _)

theorem block7 (c : Dev nD) (t : Fin cfg0.N) (e : Fin 32) (k : Fin 1024) : iblk m c 7 t (ix2 e k) = m ((c : Thread nD τ).loc main_arg6) (ix2 k e) := by
  refine Eq.trans ?_ (router m c e k)
  blk_simp [iblk]
  exact congrArg (V m c main_v2) (by blk_ext [e7])

theorem block8 (c : Dev nD) (t : Fin cfg0.N) (e : Fin 32) : column (iblk m c 8 t) (ix2 e 0) = m ((c : Thread nD τ).loc main_arg7) (ix1 e) := by
  refine Eq.trans ?_ (bias m c e 0)
  rw [column_at]
  blk_simp [iblk]
  exact congrArg (V m c main_v4) (by blk_ext [e8])

/-- What the output holds. -/
def result2 (c : Dev nD) : S8x32768.Idx → Elt Ideal .f32 := fun y =>
  gate (logits (fun k => result m c (y 1) k) (fun k e => m ((c : Thread nD τ).loc main_arg6) (ix2 k e)) fun e => m ((c : Thread nD τ).loc main_arg7) (ix1 e)) (y 0)

theorem final3 (c : Dev nD) : (dats m 0 c).arrAt 12 cfg0.N = result2 m c := by
  refine (dats m 0 c).arrAt_eq_of_covers 12 _ (by decide +kernel) fun t hf y => ?_
  blk_simp
  rw [after0_12, left3]
  obtain ⟨j, r, rfl⟩ : ∃ (j : Fin 8) (r : Fin 512), y = ix2 j r := ⟨y 0, y 1, by funext a; fin_cases a <;> rfl⟩
  have hy : ((View.whole main_v7_3).slice (win0_12.rect t)).emb (ix2 j r) = ix2 j (at_ t r) := by blk_ext [e12, at_]
  rw [hy]
  refine (GateRows.gates_at _ _ _ _ _ r j).trans ?_
  simp only [block_at, block7, block8]
  rfl

end Cert.ProjEvenIdeal.Rows

end
-- ==== Proof.ProjEven.ReferenceGates.lean ====
module

public import proofs.«01_k».proof.Proof.ProjEven.Gates
public import proofs.«01_k».proof.Proof.Gen.ProjEvenReferenceIdeal.Run
public import Idealize.ShloMosaic.Lib.Pointwise
public import Idealize.ShloMosaic.Lib.KernelVsHost

@[expose] public section

set_option maxRecDepth 16384

noncomputable section

namespace Cert.ProjEvenReferenceIdeal.GateRows

open Cert.ProjEvenReferenceIdeal Cert.ProjEvenReferenceIdeal.Gen Idealize.ShloMosaic Idealize.ShloMosaic.TcCoe Cert.ProjEven.Gates

/-! # The gates, as the reference writes them, of any scores -/

/-- The experts' numbers. -/
def numbers : FVec Ideal S32 .f32 := sitofp .f32 (iotaInDim S32 32 0)

/-- Each token's largest score. -/
def tops (Z : FVec Ideal S32768x32 .f32) : FVec Ideal S32768x1 .f32 :=
  broadcastInDim S32768x1 ![0] bcast_S32768_S32768x1_0 (Host.reduce FloatOps.maximumf Z (constant S_ .f32 0xFF800000#32) reducesTo_S32768x32_S32768_d1 h_S_)

/-- The lowest number with it. -/
def firsts (Z : FVec Ideal S32768x32 .f32) : FVec Ideal S32768x1 .f32 :=
  broadcastInDim S32768x1 ![0] bcast_S32768_S32768x1_0 (Host.reduce FloatOps.minimumf
    (select (cmpf .oeq Z (broadcastInDim S32768x32 ![0, 1] bcast_S32768x1_S32768x32_0_1 (tops Z))) (broadcastInDim S32768x32 ![1] bcast_S32_S32768x32_1 numbers)
      (broadcastInDim S32768x32 ![] bcast_S_S32768x32 (constant S_ .f32 0x42000000#32)))
    (constant S_ .f32 0x7F800000#32) reducesTo_S32768x32_S32768_d1 h_S_)

/-- The scores without that expert's. -/
def rests (Z : FVec Ideal S32768x32 .f32) : FVec Ideal S32768x32 .f32 :=
  select (cmpf .oeq (broadcastInDim S32768x32 ![0, 1] bcast_S1x32_S32768x32_0_1 (broadcastInDim S1x32 ![1] bcast_S32_S1x32_1 numbers)) (broadcastInDim S32768x32 ![0, 1] bcast_S32768x1_S32768x32_0_1 (firsts Z)))
    (broadcastInDim S32768x32 ![] bcast_S_S32768x32 (constant S_ .f32 0xF149F2CA#32)) Z

/-- Four columns, side by side. -/
def beside (A B C D : FVec Ideal S32768x1 .f32) : FVec Ideal S32768x4 .f32 :=
  (concatenate S32768x4 1 [⟨S32768x1, (A : (⟨S32768x1, .f32⟩ : BufTy).Contents (Elt Ideal))⟩, ⟨S32768x1, (B : (⟨S32768x1, .f32⟩ : BufTy).Contents (Elt Ideal))⟩, ⟨S32768x1, (C : (⟨S32768x1, .f32⟩ : BufTy).Contents (Elt Ideal))⟩, ⟨S32768x1, (D : (⟨S32768x1, .f32⟩ : BufTy).Contents (Elt Ideal))⟩] concatenates_S32768x1_S32768x1_S32768x1_S32768x1_S32768x4_d1 : (⟨S32768x4, .f32⟩ : BufTy).Contents (Elt Ideal))

/-- Their exponentials, taken from the first. -/
def exps (T : FVec Ideal S32768x4 .f32) : FVec Ideal S32768x4 .f32 :=
  Host.exp (subf T (broadcastInDim S32768x4 ![0, 1] bcast_S32768x1_S32768x4_0_1 (extractStridedSlice S32768x1 ![0, 0] T slices_S32768x4_S32768x1_0_0)))

/-- Those over their sum, turned and filled to eight rows. -/
def shares (E : FVec Ideal S32768x4 .f32) : FVec Ideal S8x32768 .f32 :=
  pad S8x32768 ![0, 0] ![4, 0] ![0, 0] (transpose S4x32768 [1, 0] (Host.divf E (broadcastInDim S32768x4 ![0, 1] bcast_S32768x1_S32768x4_0_1 (broadcastInDim S32768x1 ![0] bcast_S32768_S32768x1_0 (Host.reduceAdd E (constant S_ .f32 0x00000000#32) reducesTo_S32768x4_S32768_d1 h_S_)))) transposes_S32768x4_S4x32768_1_0)
    (sitofp .f32 (constantI S_ 32 0#32)) pads_S4x32768_S8x32768_040_000 h_S_

/-- The gates of the scores `Z`. -/
def gates (Z : FVec Ideal S32768x32 .f32) : FVec Ideal S8x32768 .f32 :=
  shares (exps (beside (tops Z) (tops (rests Z)) (tops (rests (rests Z))) (tops (rests (rests (rests Z))))))

theorem number (e : Fin 32) : numbers (ix1 e) = num e := by
  pointwise [numbers, num]

theorem reduces : S32768x32.Reduces [1] S32768 := by decide +kernel

section
variable {Z : FVec Ideal S32768x32 .f32} {R : Fin 32768} {z : Fin 32 → EReal} (hz : ∀ e, Z (ix2 R e) = z e)
include hz

theorem tops_at : tops Z (ix2 R 0) = top z := by
  unfold tops
  rw [hostReduce_maximumf_eq_multiReduction Z 0xFF800000#32 _ _ reduces (.inl rfl) rfl]
  pointwise [hz, top]

theorem firsts_at : firsts Z (ix2 R 0) = first z := by
  unfold firsts
  rw [hostReduce_minimumf_eq_multiReduction _ 0x7F800000#32 _ _ reduces (.inl rfl) rfl]
  pointwise [hz, tops_at hz, number, first]

theorem rests_at (e : Fin 32) : rests Z (ix2 R e) = rest z e := by
  pointwise [rests, hz, firsts_at hz, number, rest]

end

theorem beside_at (A B C D : FVec Ideal S32768x1 .f32) (R : Fin 32768) (j : Fin 4) :
    beside A B C D (ix2 R j) = match j with
      | 0 => A (ix2 R 0)
      | 1 => B (ix2 R 0)
      | 2 => C (ix2 R 0)
      | 3 => D (ix2 R 0) := by
  pointwise [beside]
  fin_cases j <;> rfl

theorem exps_at (T : FVec Ideal S32768x4 .f32) (R : Fin 32768) (j : Fin 4) : exps T (ix2 R j) = Ideal.exp (T (ix2 R j) - T (ix2 R 0)) := by
  pointwise [exps]

theorem shares_at (E : FVec Ideal S32768x4 .f32) (R : Fin 32768) (j : Fin 8) :
    shares E (ix2 j R) = match j with
      | 0 => Ideal.div (E (ix2 R 0)) (E (ix2 R 0) + E (ix2 R 1) + E (ix2 R 2) + E (ix2 R 3))
      | 1 => Ideal.div (E (ix2 R 1)) (E (ix2 R 0) + E (ix2 R 1) + E (ix2 R 2) + E (ix2 R 3))
      | 2 => Ideal.div (E (ix2 R 2)) (E (ix2 R 0) + E (ix2 R 1) + E (ix2 R 2) + E (ix2 R 3))
      | 3 => Ideal.div (E (ix2 R 3)) (E (ix2 R 0) + E (ix2 R 1) + E (ix2 R 2) + E (ix2 R 3))
      | _ => 0 := by
  pointwise [shares]
  fin_cases j <;> simp [Fin.sum_univ_four, FloatOps.sitofp]

theorem gates_at (Z : FVec Ideal S32768x32 .f32) (R : Fin 32768) (z : Fin 32 → EReal) (hz : ∀ e, Z (ix2 R e) = z e) (j : Fin 8) : gates Z (ix2 j R) = gate z j := by
  have h1 := rests_at hz
  have h2 := rests_at h1
  have h3 := rests_at h2
  refine (shares_at _ R j).trans ?_
  simp only [exps_at, beside_at, tops_at hz, tops_at h1, tops_at h2, tops_at h3]
  rfl

end Cert.ProjEvenReferenceIdeal.GateRows

end
-- ==== Proof.ProjEven.ReferenceRows.lean ====
module

public import proofs.«01_k».proof.Proof.ProjEven.Spec
public import proofs.«01_k».proof.Proof.ProjEven.ReferenceGates
public import Idealize.ShloMosaic.Lib.Pointwise

@[expose] public section

set_option maxRecDepth 16384

noncomputable section

namespace Cert.ProjEvenReferenceIdeal.Rows

open Cert.ProjEvenReferenceIdeal Cert.ProjEvenReferenceIdeal.Gen Idealize.ShloMosaic Idealize.ShloMosaic.TcCoe
open Cert.Combine.Spec Cert.EvenIn.Spec Cert.ProjEven.Spec Cert.ProjEven.Gates
open Idealize.ShloMosaic.StableHlo (launchContents)

/-! # The even layers' projection, first norm and gates, as the reference writes them -/

section
variable (V0 : Valuation τ sig (Elt Ideal))

theorem after_at (R : Fin 32768) (d : Fin 1024) :
    Value.res_main_v32 V0 (ix2 R d) =
      after (fun k => V0 (Proc.devRef .tc main_arg2) (ix2 R k)) (joined (fun k => V0 (Proc.devRef .tc main_arg0) (ix2 R k)) fun k => V0 (Proc.devRef .tc main_arg1) (ix2 R k))
        (fun k f => V0 (Proc.devRef .tc main_arg5) (ix2 k f)) (fun k => V0 (Proc.devRef .tc main_arg3) (ix2 0 k)) (fun k => V0 (Proc.devRef .tc main_arg4) (ix2 0 k)) d := by
  pointwise [Value.res_main_v32, Value.res_main_v14, Value.res_main_v12, Value.res_main_v6, after, before, proj, joined, normed, mean]

/-- The scores are of the normalized rows. -/
theorem logits_at (R : Fin 32768) (e : Fin 32) :
    Value.res_main_v38 V0 (ix2 R e) = logits (fun k => Value.res_main_v32 V0 (ix2 R k)) (fun k e => V0 (Proc.devRef .tc main_arg6) (ix2 k e)) (fun e => V0 (Proc.devRef .tc main_arg7) (ix1 e)) e := by
  unfold Value.res_main_v38 logits
  generalize Value.res_main_v32 V0 = X
  pointwise

/-- The rounds are the reference's, one by one. -/
theorem rounds : GateRows.shares (Value.res_main_v91 V0) = GateRows.gates (Value.res_main_v38 V0) := by
  have t0 : Value.res_main_v40 V0 = GateRows.tops (Value.res_main_v38 V0) := rfl
  have z1 : Value.res_main_v50 V0 = GateRows.rests (Value.res_main_v38 V0) := rfl
  have t1 : Value.res_main_v52 V0 = GateRows.tops (Value.res_main_v50 V0) := rfl
  have z2 : Value.res_main_v62 V0 = GateRows.rests (Value.res_main_v50 V0) := rfl
  have t2 : Value.res_main_v64 V0 = GateRows.tops (Value.res_main_v62 V0) := rfl
  have z3 : Value.res_main_v74 V0 = GateRows.rests (Value.res_main_v62 V0) := rfl
  have t3 : Value.res_main_v76 V0 = GateRows.tops (Value.res_main_v74 V0) := rfl
  have h : Value.res_main_v91 V0 = GateRows.exps (GateRows.beside (Value.res_main_v40 V0) (Value.res_main_v52 V0) (Value.res_main_v64 V0) (Value.res_main_v76 V0)) := rfl
  rw [h, t0, t1, t2, t3, z3, z2, z1]
  rfl

end

variable (m : (ℓ : Loc nD τ sig) → Buf (Elt Ideal) ℓ) (c : Dev nD)

/-- The first two results, -/
def rows : FVec Ideal S32768x1024 .f32 := Value.res_main_v32 (launchContents m c)

/-- and the third. -/
def gates : FVec Ideal S8x32768 .f32 := GateRows.shares (Value.res_main_v91 (launchContents m c))

theorem res_at (R : Fin 32768) (d : Fin 1024) :
    rows m c (ix2 R d) =
      after (fun k => m ((c.tc : Thread nD τ).loc main_arg2) (ix2 R k)) (joined (fun k => m ((c.tc : Thread nD τ).loc main_arg0) (ix2 R k)) fun k => m ((c.tc : Thread nD τ).loc main_arg1) (ix2 R k))
        (fun k f => m ((c.tc : Thread nD τ).loc main_arg5) (ix2 k f)) (fun k => m ((c.tc : Thread nD τ).loc main_arg3) (ix2 0 k)) (fun k => m ((c.tc : Thread nD τ).loc main_arg4) (ix2 0 k)) d :=
  after_at (launchContents m c) R d

theorem gates_at (R : Fin 32768) (j : Fin 8) :
    gates m c (ix2 j R) = gate (logits (fun k => rows m c (ix2 R k)) (fun k e => m ((c.tc : Thread nD τ).loc main_arg6) (ix2 k e)) fun e => m ((c.tc : Thread nD τ).loc main_arg7) (ix1 e)) j :=
  (congrFun (rounds (launchContents m c)) _).trans (GateRows.gates_at _ R _ (fun e => logits_at (launchContents m c) R e) j)

end Cert.ProjEvenReferenceIdeal.Rows

end
-- ==== Proof.ProjEven.Claims.lean ====
module

public import proofs.«01_k».proof.Defs
public import proofs.«01_k».proof.Proof.ProjEven.KernelRows
public import proofs.«01_k».proof.Proof.ProjEven.ReferenceRows
public import proofs.«01_k».proof.Proof.Gen.ProjEven.Frame

@[expose] public section

noncomputable section

namespace Cert.ProjEven.Claims

open Idealize.ShloMosaic Idealize.ShloMosaic.TcCoe Idealize.SL.Sem

/-! # The claims of the even layers' projection and first norm, with the gates -/

theorem kernel : Cert.quiescent_ProjEven := fun m g _ => Cert.ProjEven.Gen.frame m g

theorem ideal : Cert.quiescent_ProjEvenIdeal := fun m g _ => Cert.ProjEvenIdeal.Gen.frame m g

theorem reference : Cert.quiescent_ProjEvenReferenceIdeal := fun m g _ =>
  (θ_run Cert.ProjEvenReferenceIdeal.defs _ _).mono (fun r h => ⟨fun c => (h c).2.2.2, sem_eq_zero_of_no_sems (by decide) r.2⟩)
    (Cert.ProjEvenReferenceIdeal.Value.run (F := Ideal) m g)

theorem preserves : Cert.preserves_ProjEven_ProjEvenIdeal := trivial

theorem algebraic : Cert.algebraic_ProjEvenIdeal_ProjEvenReferenceIdeal := fun m g m' g' _ hm => by
  refine ⟨ProjEvenIdeal.Rows.result0 m, ProjEvenIdeal.Rows.result1 m, ProjEvenIdeal.Rows.result2 m, ?_, ?_⟩
  · refine (θ_run Cert.ProjEvenIdeal.defs _ _).mono (fun r hr c => ?_) (Cert.ProjEvenIdeal.Value.run_blocks (F := Ideal) m g)
    obtain ⟨h0, h1, _, h3, _, hk⟩ := hr c
    exact ⟨h0.trans (ProjEvenIdeal.Rows.final0 m c), h1.trans (ProjEvenIdeal.Rows.final1 m c), h3.trans (ProjEvenIdeal.Rows.final3 m c), hk⟩
  · refine (θ_run Cert.ProjEvenReferenceIdeal.defs _ _).mono (fun r hr c => ?_) (Cert.ProjEvenReferenceIdeal.Value.run (F := Ideal) m' g')
    obtain ⟨h0, h1, h2, hk⟩ := hr c
    obtain ⟨e0, e1, e2, e3, e4, e5, e6, e7⟩ := hm c
    have hp : ∀ y : ProjEvenReferenceIdeal.S32768x1024.Idx, ProjEvenReferenceIdeal.Rows.rows m' c y = ProjEvenIdeal.Rows.result m c (y 0) (y 1) := fun y => by
      have hy : y = ix2 (y 0) (y 1) := by funext a; fin_cases a <;> rfl
      refine (congrArg (ProjEvenReferenceIdeal.Rows.rows m' c) hy).trans ((ProjEvenReferenceIdeal.Rows.res_at m' c (y 0) (y 1)).trans ?_)
      rw [e0, e1, e2, e3, e4, e5]
      rfl
    have hg : ∀ y : ProjEvenReferenceIdeal.S8x32768.Idx, ProjEvenReferenceIdeal.Rows.gates m' c y = ProjEvenIdeal.Rows.result2 m c y := fun y => by
      have hy : y = ix2 (y 0) (y 1) := by funext a; fin_cases a <;> rfl
      refine (congrArg (ProjEvenReferenceIdeal.Rows.gates m' c) hy).trans ((ProjEvenReferenceIdeal.Rows.gates_at m' c (y 1) (y 0)).trans ?_)
      simp only [hp]
      rw [e6, e7]
      rfl
    exact ⟨h0.trans (funext hp), h1.trans (funext hp), h2.trans (funext hg), hk⟩

end Cert.ProjEven.Claims

end
-- ==== Proof.ProjOdd.KernelGates.lean ====
module

public import proofs.«01_k».proof.Proof.ProjEven.Gates
public import proofs.«01_k».proof.Proof.Gen.ProjOddIdeal.Skeleton
public import Idealize.ShloMosaic.Lib.Pointwise

@[expose] public section

noncomputable section

namespace Cert.ProjOddIdeal.GateRows

open Cert.ProjOddIdeal Cert.ProjOddIdeal.Gen Idealize.ShloMosaic Idealize.ShloMosaic.TcCoe Cert.ProjEven.Gates

/-! # One block's gates, in the odd layers' form -/

/-- The experts' numbers. -/
theorem number (e : Fin 32) (r : Fin 512) : k0_pay9 (F := Ideal) (ix2 e r) = num e := by
  pointwise [k0_pay9, num]

section
variable (X : FVec Ideal S512x1024 .bf16) (W : Vec Ideal S32x1024 .bf16) (B : Vec Ideal S32x1 .f32) (r : Fin 512)

/-- The scores of the block's rows. -/
theorem scores (e : Fin 32) : k0_pay8 X W B (ix2 e r) = logits (fun k => X (ix2 r k)) (fun k e => W (ix2 e k)) (fun e => B (ix2 e 0)) e := by
  pointwise [k0_pay8, logits]
  exact congrArg (fun s : EReal => s + _) (Finset.sum_congr rfl fun k _ => mul_comm _ _)

variable {X W B r} {z : Fin 32 → EReal} (hz : ∀ e, k0_pay8 X W B (ix2 e r) = z e)
include hz

/-! The first two rounds. -/

theorem top0 : k0_pay10 X W B (ix2 0 r) = top z := by
  pointwise [k0_pay10, hz, top]

theorem first0 : k0_pay11 X W B (ix2 0 r) = first z := by
  pointwise [k0_pay11, number, hz, top0 hz, first]

theorem rest0 (e : Fin 32) : k0_pay13 X W B (ix2 e r) = rest z e := by
  pointwise [k0_pay13, k0_pay12, number, hz, first0 hz, rest]

theorem top1 : k0_pay15 X W B (ix2 0 r) = top (rest z) := by
  pointwise [k0_pay15, rest0 hz, top]

theorem first1 : k0_pay16 X W B (ix2 0 r) = first (rest z) := by
  pointwise [k0_pay16, number, rest0 hz, top1 hz, first]

theorem rest1 (e : Fin 32) : k0_pay18 X W B (ix2 e r) = rest (rest z) e := by
  show _ = if num e = first (rest z) then _ else rest z e
  pointwise [k0_pay18, k0_pay17, number, rest0 hz, first1 hz]

end

section
variable {Z : FVec Ideal S32x512 .f32} {r : Fin 512} {z : Fin 32 → EReal} (hz : ∀ e, Z (ix2 e r) = z e)
include hz

/-! The last two, of the scores `Z` that the first two leave. -/

theorem top2 : k0_pay20 Z (ix2 0 r) = top z := by
  pointwise [k0_pay20, hz, top]

theorem first2 : k0_pay21 k0_pay9 Z (ix2 0 r) = first z := by
  unfold k0_pay21
  pointwise [number, hz, top2 hz, first]

theorem rest2 (e : Fin 32) : k0_pay23 k0_pay9 Z (ix2 e r) = rest z e := by
  pointwise [k0_pay23, k0_pay22, number, hz, first2 hz, rest]

theorem top3 : k0_pay24 k0_pay9 Z (ix2 0 r) = top (rest z) := by
  pointwise [k0_pay24, rest2 hz, top]

end

/-- The eight rows written, from the four weights and their sum. -/
theorem written (E0 E1 E2 E3 D : FVec Ideal S1x512 .f32) (r : Fin 512) (j : Fin 8) :
    k0_pay1 E3 D (iota .tc S8x512 32 [0] iota_S8x512_d0_w32) (k0_pay39 E1 E2 D (iota .tc S8x512 32 [0] iota_S8x512_d0_w32) (k0_pay35 E0 D)) k0_pay41 (ix2 j r) =
      match j with
      | 0 => Ideal.div (E0 (ix2 0 r)) (D (ix2 0 r))
      | 1 => Ideal.div (E1 (ix2 0 r)) (D (ix2 0 r))
      | 2 => Ideal.div (E2 (ix2 0 r)) (D (ix2 0 r))
      | 3 => Ideal.div (E3 (ix2 0 r)) (D (ix2 0 r))
      | _ => 0 := by
  unfold k0_pay1 k0_pay39 k0_pay35 k0_pay41
  fin_cases j <;> pointwise <;> rfl

/-- The gates the block's body writes. -/
def gates (X : FVec Ideal S512x1024 .bf16) (W : Vec Ideal S32x1024 .bf16) (B : Vec Ideal S32x1 .f32) : FVec Ideal S8x512 .f32 :=
  let T0 := k0_pay10 X W B
  let T1 := k0_pay15 X W B
  let Z := k0_pay18 X W B
  let D := k0_pay32 k0_pay9 T0 T1 Z
  k0_pay1 (k0_pay31 k0_pay9 T0 Z) D (iota .tc S8x512 32 [0] iota_S8x512_d0_w32)
    (k0_pay39 (k0_pay29 T0 T1) (k0_pay30 T0 Z) D (iota .tc S8x512 32 [0] iota_S8x512_d0_w32) (k0_pay35 (k0_pay28 T0) D)) k0_pay41

/-- They are the gates of the rows' scores. -/
theorem gates_at (X : FVec Ideal S512x1024 .bf16) (W : Vec Ideal S32x1024 .bf16) (B : Vec Ideal S32x1 .f32) (r : Fin 512) (j : Fin 8) :
    gates X W B (ix2 j r) = gate (logits (fun k => X (ix2 r k)) (fun k e => W (ix2 e k)) fun e => B (ix2 e 0)) j := by
  have hz := scores X W B r
  generalize logits (fun k => X (ix2 r k)) (fun k e => W (ix2 e k)) (fun e => B (ix2 e 0)) = z at hz ⊢
  have h0 : k0_pay28 (k0_pay10 X W B) (ix2 0 r) = weight z z := by
    pointwise [k0_pay28, top0 hz, weight]
  have h1 : k0_pay29 (k0_pay10 X W B) (k0_pay15 X W B) (ix2 0 r) = weight z (rest z) := by
    pointwise [k0_pay29, top0 hz, top1 hz, weight]
  have h2 : k0_pay30 (k0_pay10 X W B) (k0_pay18 X W B) (ix2 0 r) = weight z (rest (rest z)) := by
    pointwise [k0_pay30, top0 hz, top2 (rest1 hz), weight]
  have h3 : k0_pay31 k0_pay9 (k0_pay10 X W B) (k0_pay18 X W B) (ix2 0 r) = weight z (rest (rest (rest z))) := by
    pointwise [k0_pay31, top0 hz, top3 (rest1 hz), weight]
  unfold gates
  refine (written _ _ _ _ _ r j).trans ?_
  unfold k0_pay32 gate total
  rw [addf_apply, addf_apply, addf_apply, h0, h1, h2, h3]
  rfl

end Cert.ProjOddIdeal.GateRows

end
-- ==== Proof.ProjOdd.KernelRows.lean ====
module

public import proofs.«01_k».proof.Proof.ProjEven.Spec
public import proofs.«01_k».proof.Proof.ProjOdd.KernelGates
public import proofs.«01_k».proof.Proof.Gen.ProjOddIdeal.Value
public import Idealize.ShloMosaic.Lib.Pointwise
public import Idealize.ShloMosaic.Lib.Pipeline.ValueKit.Geometry
public import Idealize.ShloMosaic.Lib.Pipeline.ValueKit.Acc

@[expose] public section

noncomputable section

namespace Cert.ProjOddIdeal.Rows

open Cert.ProjOddIdeal Cert.ProjOddIdeal.Gen Idealize.ShloMosaic Idealize.ShloMosaic.TcCoe Cert.Combine.Spec Cert.EvenIn.Spec Cert.ProjEven.Spec Cert.ProjEven.Gates

/-! # The odd layers' projection and first norm, from blocks to arrays -/

variable (m : (ℓ : Loc nD τ sig) → Buf (Elt Ideal) ℓ)

/-- One block's rows, normalized. -/
theorem rows_at (A : Vec Ideal S512x1024 .bf16) (W : Vec Ideal S1024x1024 .bf16) (X : Vec Ideal S512x1024 .f32) (G H : Vec Ideal S1x1024 .f32) (r : Fin 512) (d : Fin 1024) :
    k0_pay6 A W X G H (ix2 r d) = after (fun k => X (ix2 r k)) (fun k => A (ix2 r k)) (fun k f => W (ix2 k f)) (fun k => G (ix2 0 k)) (fun k => H (ix2 0 k)) d := by
  pointwise [k0_pay6, after, before, proj, normed, mean]

/-- The copy kept in the short format is of the same rows. -/
theorem short_at (A : Vec Ideal S512x1024 .bf16) (W : Vec Ideal S1024x1024 .bf16) (X : Vec Ideal S512x1024 .f32) (G H : Vec Ideal S1x1024 .f32) (y : S512x1024.Idx) :
    k0_pay7 A W X G H y = k0_pay6 A W X G H y := rfl

/-! What a point leaves in the two outputs, whether or not it is the first. -/

theorem left0 (c : Dev nD) (t : Fin cfg0.N) : (outsAt0 m c t.val t.isLt).1 = k0_pay6 (iblk m c 0 t) (iblk m c 1 t) (iblk m c 2 t) (iblk m c 3 t) (iblk m c 4 t) := by
  by_cases h0 : t.val % 64 = 0
  · rw [outsAt0_A m c t h0]
    dsimp only
    frame_out
  · rw [outsAt0_B m c t h0]
    dsimp only
    frame_out

theorem left1 (c : Dev nD) (t : Fin cfg0.N) : (outsAt0 m c t.val t.isLt).2.1 = k0_pay7 (iblk m c 0 t) (iblk m c 1 t) (iblk m c 2 t) (iblk m c 3 t) (iblk m c 4 t) := by
  by_cases h0 : t.val % 64 = 0
  · rw [outsAt0_A m c t h0]
    dsimp only
    frame_out
  · rw [outsAt0_B m c t h0]
    dsimp only
    frame_out

/-- The weights, as the call prepares them. -/
theorem weights (c : Dev nD) (k d : Fin 1024) : V m c main_v4 (ix2 k d) = m ((c : Thread nD τ).loc main_arg4) (ix2 k d) := by
  refine congrFun (show V m c main_v4 = truncf (F := Ideal) (φ := .f32) .bf16 (m ((c : Thread nD τ).loc main_arg4)) bitsLt_bf16_f32 from ?_) _
  unfold V
  simp only [hostOps0, List.flatten_cons, List.flatten_nil, List.append_nil, List.cons_append, List.nil_append]
  after_results_simp

/-- What both outputs hold. -/
def result (c : Dev nD) (R : Fin 32768) (d : Fin 1024) : EReal :=
  after (fun k => m ((c : Thread nD τ).loc main_arg1) (ix2 R k)) (fun k => m ((c : Thread nD τ).loc main_arg0) (ix2 R k))
    (fun k f => m ((c : Thread nD τ).loc main_arg4) (ix2 k f)) (fun k => m ((c : Thread nD τ).loc main_arg2) (ix2 0 k)) (fun k => m ((c : Thread nD τ).loc main_arg3) (ix2 0 k)) d

def result0 (c : Dev nD) : S32768x1024.Idx → Elt Ideal .f32 := fun y => result m c (y 0) (y 1)

def result1 (c : Dev nD) : S32768x1024.Idx → Elt Ideal .bf16 := fun y => result m c (y 0) (y 1)

theorem N_eq : cfg0.N = 64 := by decide +kernel

/-- Row `r` of point `t`'s block. -/
def at_ (t : Fin cfg0.N) (r : Fin 512) : Fin 32768 := ⟨t.val * 512 + r.val, by have := t.isLt; have := N_eq; omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)

/-! The blocks the body reads. -/

theorem block0 (c : Dev nD) (t : Fin cfg0.N) (r : Fin 512) (k : Fin 1024) : iblk m c 0 t (ix2 r k) = m ((c : Thread nD τ).loc main_arg0) (ix2 (at_ t r) k) := by
  blk_simp [iblk]
  exact congrArg (m ((c : Thread nD τ).loc main_arg0)) (by blk_ext [e0, at_])

theorem block1 (c : Dev nD) (t : Fin cfg0.N) (k d : Fin 1024) : iblk m c 1 t (ix2 k d) = V m c main_v4 (ix2 k d) := by
  blk_simp [iblk]
  exact congrArg (V m c main_v4) (by blk_ext [e1])

theorem block2 (c : Dev nD) (t : Fin cfg0.N) (r : Fin 512) (d : Fin 1024) : iblk m c 2 t (ix2 r d) = m ((c : Thread nD τ).loc main_arg1) (ix2 (at_ t r) d) := by
  blk_simp [iblk]
  exact congrArg (m ((c : Thread nD τ).loc main_arg1)) (by blk_ext [e2, at_])

theorem block3 (c : Dev nD) (t : Fin cfg0.N) (d : Fin 1024) : iblk m c 3 t (ix2 0 d) = m ((c : Thread nD τ).loc main_arg2) (ix2 0 d) := by
  blk_simp [iblk]
  exact congrArg (m ((c : Thread nD τ).loc main_arg2)) (by blk_ext [e3])

theorem block4 (c : Dev nD) (t : Fin cfg0.N) (d : Fin 1024) : iblk m c 4 t (ix2 0 d) = m ((c : Thread nD τ).loc main_arg3) (ix2 0 d) := by
  blk_simp [iblk]
  exact congrArg (m ((c : Thread nD τ).loc main_arg3)) (by blk_ext [e4])

/-- A block's rows are the tokens' results. -/
theorem block_at (c : Dev nD) (t : Fin cfg0.N) (r : Fin 512) (d : Fin 1024) :
    k0_pay6 (iblk m c 0 t) (iblk m c 1 t) (iblk m c 2 t) (iblk m c 3 t) (iblk m c 4 t) (ix2 r d) = result m c (at_ t r) d := by
  refine (rows_at _ _ _ _ _ r d).trans ?_
  unfold result
  simp only [block0, block1, block2, block3, block4]
  exact congrArg (fun w => after _ _ w _ _ d) (funext fun k => funext fun f => weights m c k f)

theorem final0 (c : Dev nD) : (dats m 0 c).arrAt 7 cfg0.N = result0 m c := by
  refine (dats m 0 c).arrAt_eq_of_covers 7 _ (by decide +kernel) fun t hf y => ?_
  blk_simp
  rw [after0_7, left0]
  obtain ⟨r, d, rfl⟩ : ∃ (r : Fin 512) (d : Fin 1024), y = ix2 r d := ⟨y 0, y 1, by funext a; fin_cases a <;> rfl⟩
  have hy : ((View.whole main_v5_0).slice (win0_7.rect t)).emb (ix2 r d) = ix2 (at_ t r) d := by blk_ext [e7, at_]
  rw [hy]
  exact block_at m c t r d

theorem final1 (c : Dev nD) : (dats m 0 c).arrAt 8 cfg0.N = result1 m c := by
  refine (dats m 0 c).arrAt_eq_of_covers 8 _ (by decide +kernel) fun t hf y => ?_
  blk_simp
  rw [after0_8, left1]
  obtain ⟨r, d, rfl⟩ : ∃ (r : Fin 512) (d : Fin 1024), y = ix2 r d := ⟨y 0, y 1, by funext a; fin_cases a <;> rfl⟩
  have hy : ((View.whole main_v5_1).slice (win0_8.rect t)).emb (ix2 r d) = ix2 (at_ t r) d := by blk_ext [e8, at_]
  rw [hy]
  exact (short_at _ _ _ _ _ _).trans (block_at m c t r d)

/-! # The gates -/

/-- The bias column the body reads. -/
def column (B : Vec Ideal S32x128 .f32) : Vec Ideal S32x1 .f32 := View.ld B (Rect.unit ![0, 0] ![32, 1] inb_S32x128_S32x1_0_0)

theorem column_at (B : Vec Ideal S32x128 .f32) (e : Fin 32) : column B (ix2 e 0) = B (ix2 e 0) := by
  show B _ = _
  exact congrArg B (by funext a; fin_cases a; exacts [Fin.ext (by simp [Rect.unit]), rfl])

theorem left3 (c : Dev nD) (t : Fin cfg0.N) :
    (outsAt0 m c t.val t.isLt).2.2.2.1 = GateRows.gates (k0_pay7 (iblk m c 0 t) (iblk m c 1 t) (iblk m c 2 t) (iblk m c 3 t) (iblk m c 4 t)) (iblk m c 5 t) (column (iblk m c 6 t)) := by
  by_cases h0 : t.val % 64 = 0
  · rw [outsAt0_A m c t h0]
    dsimp only
    frame_out
    rfl
  · rw [outsAt0_B m c t h0]
    dsimp only
    frame_out
    rfl

/-! The router's weights and bias, as the call prepares them. -/

theorem router (c : Dev nD) (e : Fin 32) (k : Fin 1024) : V m c main_v1 (ix2 e k) = m ((c : Thread nD τ).loc main_arg5) (ix2 k e) := by
  refine (congrFun (show V m c main_v1 = truncf (F := Ideal) (φ := .f32) .bf16 (transpose S32x1024 [1, 0] (m ((c : Thread nD τ).loc main_arg5)) transposes_S1024x32_S32x1024_1_0) bitsLt_bf16_f32 from ?_) _).trans ?_
  · unfold V
    simp only [hostOps0, List.flatten_cons, List.flatten_nil, List.append_nil, List.cons_append, List.nil_append]
    after_results_simp
  · pointwise

theorem bias (c : Dev nD) (e : Fin 32) (l : Fin 128) : V m c main_v3 (ix2 e l) = m ((c : Thread nD τ).loc main_arg6) (ix1 e) := by
  refine (congrFun (show V m c main_v3 = broadcastInDim S32x128 ![0, 1] bcast_S32x1_S32x128_0_1 (broadcastInDim S32x1 ![0] bcast_S32_S32x1_0 (m ((c : Thread nD τ).loc main_arg6))) from ?_) _).trans ?_
  · unfold V
    simp only [hostOps0, List.flatten_cons, List.flatten_nil, List.append_nil, List.cons_append, List.nil_append]
    after_results_simp
  · pointwise

theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e10 : ∀ t : Fin cfg0.N, win0_10.index t = ![0, t.val] := (by decide +kernel : ∀ t : Fin grid0.N, _)

theorem block5 (c : Dev nD) (t : Fin cfg0.N) (e : Fin 32) (k : Fin 1024) : iblk m c 5 t (ix2 e k) = m ((c : Thread nD τ).loc main_arg5) (ix2 k e) := by
  refine Eq.trans ?_ (router m c e k)
  blk_simp [iblk]
  exact congrArg (V m c main_v1) (by blk_ext [e5])

theorem block6 (c : Dev nD) (t : Fin cfg0.N) (e : Fin 32) : column (iblk m c 6 t) (ix2 e 0) = m ((c : Thread nD τ).loc main_arg6) (ix1 e) := by
  refine Eq.trans ?_ (bias m c e 0)
  rw [column_at]
  blk_simp [iblk]
  exact congrArg (V m c main_v3) (by blk_ext [e6])

/-- What the output holds. -/
def result2 (c : Dev nD) : S8x32768.Idx → Elt Ideal .f32 := fun y =>
  gate (logits (fun k => result m c (y 1) k) (fun k e => m ((c : Thread nD τ).loc main_arg5) (ix2 k e)) fun e => m ((c : Thread nD τ).loc main_arg6) (ix1 e)) (y 0)

theorem final3 (c : Dev nD) : (dats m 0 c).arrAt 10 cfg0.N = result2 m c := by
  refine (dats m 0 c).arrAt_eq_of_covers 10 _ (by decide +kernel) fun t hf y => ?_
  blk_simp
  rw [after0_10, left3]
  obtain ⟨j, r, rfl⟩ : ∃ (j : Fin 8) (r : Fin 512), y = ix2 j r := ⟨y 0, y 1, by funext a; fin_cases a <;> rfl⟩
  have hy : ((View.whole main_v5_3).slice (win0_10.rect t)).emb (ix2 j r) = ix2 j (at_ t r) := by blk_ext [e10, at_]
  rw [hy]
  refine (GateRows.gates_at _ _ _ r j).trans ?_
  simp only [short_at, block_at, block5, block6]
  rfl

end Cert.ProjOddIdeal.Rows

end
-- ==== Proof.ProjOdd.ReferenceRows.lean ====
module

public import proofs.«01_k».proof.Proof.ProjEven.Spec
public import proofs.«01_k».proof.Proof.ProjEven.ReferenceGates
public import proofs.«01_k».proof.Proof.Gen.ProjOddReferenceIdeal.Run
public import Idealize.ShloMosaic.Lib.Pointwise

@[expose] public section

set_option maxRecDepth 16384

noncomputable section

namespace Cert.ProjOddReferenceIdeal.Rows

open Cert.ProjOddReferenceIdeal Cert.ProjOddReferenceIdeal.Gen Idealize.ShloMosaic Idealize.ShloMosaic.TcCoe
open Cert.Combine.Spec Cert.EvenIn.Spec Cert.ProjEven.Spec Cert.ProjEven.Gates
open Idealize.ShloMosaic.StableHlo (launchContents)

/-! # The odd layers' projection, first norm and gates, as the reference writes them -/

section
variable (V0 : Valuation τ sig (Elt Ideal))

theorem after_at (R : Fin 32768) (d : Fin 1024) :
    Value.res_main_v30 V0 (ix2 R d) =
      after (fun k => V0 (Proc.devRef .tc main_arg1) (ix2 R k)) (fun k => V0 (Proc.devRef .tc main_arg0) (ix2 R k))
        (fun k f => V0 (Proc.devRef .tc main_arg4) (ix2 k f)) (fun k => V0 (Proc.devRef .tc main_arg2) (ix2 0 k)) (fun k => V0 (Proc.devRef .tc main_arg3) (ix2 0 k)) d := by
  pointwise [Value.res_main_v30, Value.res_main_v12, Value.res_main_v10, Value.res_main_v4, after, before, proj, normed, mean]

/-- The scores are of the normalized rows. -/
theorem logits_at (R : Fin 32768) (e : Fin 32) :
    Value.res_main_v36 V0 (ix2 R e) = logits (fun k => Value.res_main_v30 V0 (ix2 R k)) (fun k e => V0 (Proc.devRef .tc main_arg5) (ix2 k e)) (fun e => V0 (Proc.devRef .tc main_arg6) (ix1 e)) e := by
  unfold Value.res_main_v36 logits
  generalize Value.res_main_v30 V0 = X
  pointwise

/-- The rounds are the reference's, one by one. -/
theorem rounds : ProjEvenReferenceIdeal.GateRows.shares (Value.res_main_v89 V0) = ProjEvenReferenceIdeal.GateRows.gates (Value.res_main_v36 V0) := by
  have t0 : Value.res_main_v38 V0 = ProjEvenReferenceIdeal.GateRows.tops (Value.res_main_v36 V0) := rfl
  have z1 : Value.res_main_v48 V0 = ProjEvenReferenceIdeal.GateRows.rests (Value.res_main_v36 V0) := rfl
  have t1 : Value.res_main_v50 V0 = ProjEvenReferenceIdeal.GateRows.tops (Value.res_main_v48 V0) := rfl
  have z2 : Value.res_main_v60 V0 = ProjEvenReferenceIdeal.GateRows.rests (Value.res_main_v48 V0) := rfl
  have t2 : Value.res_main_v62 V0 = ProjEvenReferenceIdeal.GateRows.tops (Value.res_main_v60 V0) := rfl
  have z3 : Value.res_main_v72 V0 = ProjEvenReferenceIdeal.GateRows.rests (Value.res_main_v60 V0) := rfl
  have t3 : Value.res_main_v74 V0 = ProjEvenReferenceIdeal.GateRows.tops (Value.res_main_v72 V0) := rfl
  have h : Value.res_main_v89 V0 = ProjEvenReferenceIdeal.GateRows.exps (ProjEvenReferenceIdeal.GateRows.beside (Value.res_main_v38 V0) (Value.res_main_v50 V0) (Value.res_main_v62 V0) (Value.res_main_v74 V0)) := rfl
  rw [h, t0, t1, t2, t3, z3, z2, z1]
  rfl

end

variable (m : (ℓ : Loc nD τ sig) → Buf (Elt Ideal) ℓ) (c : Dev nD)

/-- The first two results, -/
def rows : FVec Ideal S32768x1024 .f32 := Value.res_main_v30 (launchContents m c)

/-- and the third. -/
def gates : FVec Ideal S8x32768 .f32 := ProjEvenReferenceIdeal.GateRows.shares (Value.res_main_v89 (launchContents m c))

theorem res_at (R : Fin 32768) (d : Fin 1024) :
    rows m c (ix2 R d) =
      after (fun k => m ((c.tc : Thread nD τ).loc main_arg1) (ix2 R k)) (fun k => m ((c.tc : Thread nD τ).loc main_arg0) (ix2 R k))
        (fun k f => m ((c.tc : Thread nD τ).loc main_arg4) (ix2 k f)) (fun k => m ((c.tc : Thread nD τ).loc main_arg2) (ix2 0 k)) (fun k => m ((c.tc : Thread nD τ).loc main_arg3) (ix2 0 k)) d :=
  after_at (launchContents m c) R d

theorem gates_at (R : Fin 32768) (j : Fin 8) :
    gates m c (ix2 j R) = gate (logits (fun k => rows m c (ix2 R k)) (fun k e => m ((c.tc : Thread nD τ).loc main_arg5) (ix2 k e)) fun e => m ((c.tc : Thread nD τ).loc main_arg6) (ix1 e)) j :=
  (congrFun (rounds (launchContents m c)) _).trans (ProjEvenReferenceIdeal.GateRows.gates_at _ R _ (fun e => logits_at (launchContents m c) R e) j)

end Cert.ProjOddReferenceIdeal.Rows

end
-- ==== Proof.ProjOdd.Claims.lean ====
module

public import proofs.«01_k».proof.Defs
public import proofs.«01_k».proof.Proof.ProjOdd.KernelRows
public import proofs.«01_k».proof.Proof.ProjOdd.ReferenceRows
public import proofs.«01_k».proof.Proof.Gen.ProjOdd.Frame

@[expose] public section

noncomputable section

namespace Cert.ProjOdd.Claims

open Idealize.ShloMosaic Idealize.ShloMosaic.TcCoe Idealize.SL.Sem

/-! # The claims of the odd layers' projection and first norm, with the gates -/

theorem kernel : Cert.quiescent_ProjOdd := fun m g _ => Cert.ProjOdd.Gen.frame m g

theorem ideal : Cert.quiescent_ProjOddIdeal := fun m g _ => Cert.ProjOddIdeal.Gen.frame m g

theorem reference : Cert.quiescent_ProjOddReferenceIdeal := fun m g _ =>
  (θ_run Cert.ProjOddReferenceIdeal.defs _ _).mono (fun r h => ⟨fun c => (h c).2.2.2, sem_eq_zero_of_no_sems (by decide) r.2⟩)
    (Cert.ProjOddReferenceIdeal.Value.run (F := Ideal) m g)

theorem preserves : Cert.preserves_ProjOdd_ProjOddIdeal := trivial

theorem algebraic : Cert.algebraic_ProjOddIdeal_ProjOddReferenceIdeal := fun m g m' g' _ hm => by
  refine ⟨ProjOddIdeal.Rows.result0 m, ProjOddIdeal.Rows.result1 m, ProjOddIdeal.Rows.result2 m, ?_, ?_⟩
  · refine (θ_run Cert.ProjOddIdeal.defs _ _).mono (fun r hr c => ?_) (Cert.ProjOddIdeal.Value.run_blocks (F := Ideal) m g)
    obtain ⟨h0, h1, _, h3, _, hk⟩ := hr c
    exact ⟨h0.trans (ProjOddIdeal.Rows.final0 m c), h1.trans (ProjOddIdeal.Rows.final1 m c), h3.trans (ProjOddIdeal.Rows.final3 m c), hk⟩
  · refine (θ_run Cert.ProjOddReferenceIdeal.defs _ _).mono (fun r hr c => ?_) (Cert.ProjOddReferenceIdeal.Value.run (F := Ideal) m' g')
    obtain ⟨h0, h1, h2, hk⟩ := hr c
    obtain ⟨e0, e1, e2, e3, e4, e5, e6⟩ := hm c
    have hp : ∀ y : ProjOddReferenceIdeal.S32768x1024.Idx, ProjOddReferenceIdeal.Rows.rows m' c y = ProjOddIdeal.Rows.result m c (y 0) (y 1) := fun y => by
      have hy : y = ix2 (y 0) (y 1) := by funext a; fin_cases a <;> rfl
      refine (congrArg (ProjOddReferenceIdeal.Rows.rows m' c) hy).trans ((ProjOddReferenceIdeal.Rows.res_at m' c (y 0) (y 1)).trans ?_)
      rw [e0, e1, e2, e3, e4]
      rfl
    have hg : ∀ y : ProjOddReferenceIdeal.S8x32768.Idx, ProjOddReferenceIdeal.Rows.gates m' c y = ProjOddIdeal.Rows.result2 m c y := fun y => by
      have hy : y = ix2 (y 0) (y 1) := by funext a; fin_cases a <;> rfl
      refine (congrArg (ProjOddReferenceIdeal.Rows.gates m' c) hy).trans ((ProjOddReferenceIdeal.Rows.gates_at m' c (y 1) (y 0)).trans ?_)
      simp only [hp]
      rw [e5, e6]
      rfl
    exact ⟨h0.trans (funext hp), h1.trans (funext hp), h2.trans (funext hg), hk⟩

end Cert.ProjOdd.Claims

end
-- ==== Proof.EvenIn.KernelRows.lean ====
module

public import proofs.«01_k».proof.Proof.EvenIn.Block
public import proofs.«01_k».proof.Proof.EvenIn.Host
public import proofs.«01_k».proof.Proof.Gen.EvenInIdeal.Value

@[expose] public section

noncomputable section

namespace Cert.EvenInIdeal.Rows

open Cert.EvenInIdeal Cert.EvenInIdeal.Gen Idealize.ShloMosaic Idealize.ShloMosaic.TcCoe Cert.Combine.Spec Cert.EvenIn.Spec

/-! # The four results, from blocks to arrays -/

variable (m : (ℓ : Loc nD τ sig) → Buf (Elt Ideal) ℓ)

/-- A token's normalized row, -/
def hidden (c : Dev nD) (R : Fin 32768) (d : Fin 1024) : EReal :=
  combined (fun R d => m ((c : Thread nD τ).loc main_arg0) (ix2 R d)) (fun k R d => m ((c : Thread nD τ).loc main_arg1) (ix3 k R d)) (fun k R => m ((c : Thread nD τ).loc main_arg2) (ix2 k R))
    (fun k => m ((c : Thread nD τ).loc main_arg3) (ix2 0 k)) (fun k => m ((c : Thread nD τ).loc main_arg4) (ix2 0 k)) R d

/-- and its projection. -/
def projected (c : Dev nD) (R : Fin 32768) (f : Fin 3080) : EReal := proj (hidden m c R) (fun k f => m ((c : Thread nD τ).loc main_arg5) (ix2 k f)) f

/-- What the outputs hold. -/
def result0 (c : Dev nD) : S32768x1024.Idx → Elt Ideal .f32 := fun y => hidden m c (y 0) (y 1)

def result1 (c : Dev nD) : S32768x512.Idx → Elt Ideal .bf16 := fun y =>
  gated (projected m c) (fun k => m ((c : Thread nD τ).loc main_arg6) (ix2 0 k)) (fun k => m ((c : Thread nD τ).loc main_arg7) (ix2 0 k))
    (fun g i j => m ((c : Thread nD τ).loc main_arg8) (ix3 g i j)) (fun g i => m ((c : Thread nD τ).loc main_arg9) (ix2 g i))
    ⟨(y 0).val / 128, by have : (y 0).val < 32768 := (y 0).isLt; omega⟩ ⟨(y 0).val % 128, by omega⟩ (group (y 1)) (place (y 1))

def result2 (c : Dev nD) : S32768x2048.Idx → Elt Ideal .bf16 := fun y => projected m c (y 0) ⟨1024 + (y 1).val, by have : (y 1).val < 2048 := (y 1).isLt; omega⟩

def result3 (c : Dev nD) : S32768x128.Idx → Elt Ideal .f32 := fun y => if h : (y 1).val < 8 then projected m c (y 0) ⟨3072 + (y 1).val, by omega⟩ else (0 : EReal)

theorem N_eq : cfg0.N = 64 := by decide +kernel

/-- Row `r` of point `t`'s block. -/
def at_ (t : Fin cfg0.N) (r : Fin 512) : Fin 32768 := ⟨t.val * 512 + r.val, by have := t.isLt; have := N_eq; omega⟩

theorem e0 : ∀ t : Fin cfg0.N, win0_0.index t = ![t.val, 0] := (by decide +kernel : ∀ t : Fin grid0.N, _)
theorem e1 : ∀ t : Fin cfg0.N, win0_1.index t = ![0, t.val, 0] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0, 0] := (by decide +kernel : ∀ t : Fin grid0.N, _)
theorem e9 : ∀ t : Fin cfg0.N, win0_9.index t = ![0, 0, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![t.val, 0] := (by decide +kernel : ∀ t : Fin grid0.N, _)
theorem e13 : ∀ t : Fin cfg0.N, win0_13.index t = ![t.val, 0] := (by decide +kernel : ∀ t : Fin grid0.N, _)

/-! The blocks the body reads. -/

theorem block0 (c : Dev nD) (t : Fin cfg0.N) (r : Fin 512) (d : Fin 1024) : iblk m c 0 t (ix2 r d) = m ((c : Thread nD τ).loc main_arg0) (ix2 (at_ t r) d) := by
  blk_simp [iblk]
  exact congrArg (m ((c : Thread nD τ).loc main_arg0)) (by blk_ext [e0, at_])

theorem block1 (c : Dev nD) (t : Fin cfg0.N) (k : Fin 4) (r : Fin 512) (d : Fin 1024) : iblk m c 1 t (ix3 k r d) = m ((c : Thread nD τ).loc main_arg1) (ix3 k (at_ t r) d) := by
  blk_simp [iblk]
  exact congrArg (m ((c : Thread nD τ).loc main_arg1)) (by blk_ext [e1, at_])

theorem block2 (c : Dev nD) (t : Fin cfg0.N) (k : Fin 8) (r : Fin 512) : iblk m c 2 t (ix2 k r) = m ((c : Thread nD τ).loc main_arg2) (ix2 k (at_ t r)) := by
  blk_simp [iblk]
  exact congrArg (m ((c : Thread nD τ).loc main_arg2)) (by blk_ext [e2, at_])

theorem block3 (c : Dev nD) (t : Fin cfg0.N) (d : Fin 1024) : iblk m c 3 t (ix2 0 d) = m ((c : Thread nD τ).loc main_arg3) (ix2 0 d) := by
  blk_simp [iblk]
  exact congrArg (m ((c : Thread nD τ).loc main_arg3)) (by blk_ext [e3])

theorem block4 (c : Dev nD) (t : Fin cfg0.N) (d : Fin 1024) : iblk m c 4 t (ix2 0 d) = m ((c : Thread nD τ).loc main_arg4) (ix2 0 d) := by
  blk_simp [iblk]
  exact congrArg (m ((c : Thread nD τ).loc main_arg4)) (by blk_ext [e4])

theorem block5 (c : Dev nD) (t : Fin cfg0.N) (k : Fin 1024) (f : Fin 3200) : iblk m c 5 t (ix2 k f) = V m c main_v8 (ix2 k f) := by
  blk_simp [iblk]
  exact congrArg (V m c main_v8) (by blk_ext [e5])

theorem block6 (c : Dev nD) (t : Fin cfg0.N) (k : Fin 512) : iblk m c 6 t (ix2 0 k) = m ((c : Thread nD τ).loc main_arg6) (ix2 0 k) := by
  blk_simp [iblk]
  exact congrArg (m ((c : Thread nD τ).loc main_arg6)) (by blk_ext [e6])

theorem block7 (c : Dev nD) (t : Fin cfg0.N) (k : Fin 512) : iblk m c 7 t (ix2 0 k) = m ((c : Thread nD τ).loc main_arg7) (ix2 0 k) := by
  blk_simp [iblk]
  exact congrArg (m ((c : Thread nD τ).loc main_arg7)) (by blk_ext [e7])

theorem block8 (c : Dev nD) (t : Fin cfg0.N) (g : Fin 4) (i j : Fin 128) : iblk m c 8 t (ix3 g i j) = V m c main_v11 (ix3 g i j) := by
  blk_simp [iblk]
  exact congrArg (V m c main_v11) (by blk_ext [e8])

theorem block9 (c : Dev nD) (t : Fin cfg0.N) (g : Fin 4) (i j : Fin 128) : iblk m c 9 t (ix3 g i j) = V m c main_v13 (ix3 g i j) := by
  blk_simp [iblk]
  exact congrArg (V m c main_v13) (by blk_ext [e9])

/-- One expert's part of a block. -/
theorem part_at (Y : S4x512x1024.Idx → Elt Ideal .bf16) (k : Fin 4) (inb : ∀ a, (![k.val, 0, 0] : Fin 3 → ℕ) a + S1x512x1024.size a ≤ S4x512x1024.size a) (r : Fin 512) (d : Fin 1024) :
    View.ld Y (Rect.unit (s := S4x512x1024) ![k.val, 0, 0] S1x512x1024.size inb) (ix3 0 r d) = Y (ix3 k r d) := by
  refine congrArg Y (funext fun a => Fin.ext ?_)
  fin_cases a
  · rfl
  · show 0 + 1 * r.val = r.val; omega
  · show 0 + 1 * d.val = d.val; omega

/-- A block's sum, from its five operands. -/
theorem token_at (X : S512x1024.Idx → Elt Ideal .f32) (Y : S4x512x1024.Idx → Elt Ideal .bf16) (W : S8x512.Idx → Elt Ideal .f32) (r : Fin 512) (d : Fin 1024) :
    k0_pay2 W (View.ld Y r0_1) (View.ld Y r0_2) (View.ld Y r0_3) (View.ld Y r0_4) X (ix2 r d) = token (fun r d => X (ix2 r d)) (fun k r d => Y (ix3 k r d)) (fun k r => W (ix2 k r)) r d := by
  rw [entry_at]
  refine congrArg₂ (entry _) (funext fun k => ?_) (funext fun k => ?_)
  · fin_cases k
    · exact part_at Y 0 _ r d
    · exact part_at Y 1 _ r d
    · exact part_at Y 2 _ r d
    · exact part_at Y 3 _ r d
  · fin_cases k <;> rfl

/-- The block's sums are its tokens'. -/
theorem sum_at (c : Dev nD) (t : Fin cfg0.N) (r : Fin 512) (d : Fin 1024) :
    k0_pay2 (iblk m c 2 t) (View.ld (iblk m c 1 t) r0_1) (View.ld (iblk m c 1 t) r0_2) (View.ld (iblk m c 1 t) r0_3) (View.ld (iblk m c 1 t) r0_4) (iblk m c 0 t) (ix2 r d)
      = token (fun R d => m ((c : Thread nD τ).loc main_arg0) (ix2 R d)) (fun k R d => m ((c : Thread nD τ).loc main_arg1) (ix3 k R d)) (fun k R => m ((c : Thread nD τ).loc main_arg2) (ix2 k R)) (at_ t r) d := by
  refine (token_at _ _ _ r d).trans ?_
  unfold token
  simp only [block0, block1, block2]

/-- The block's projection, from its operands' blocks. -/
abbrev projection (c : Dev nD) (t : Fin cfg0.N) : FVec Ideal S512x3200 .f32 :=
  k0_pay4 (k0_pay2 (iblk m c 2 t) (View.ld (iblk m c 1 t) r0_1) (View.ld (iblk m c 1 t) r0_2) (View.ld (iblk m c 1 t) r0_3) (View.ld (iblk m c 1 t) r0_4) (iblk m c 0 t)) (iblk m c 3 t) (iblk m c 4 t) (iblk m c 5 t)

/-- It is the tokens' projection, and zero in the added columns. -/
theorem projection_at (c : Dev nD) (t : Fin cfg0.N) (r : Fin 512) (f : Fin 3200) :
    projection m c t (ix2 r f) = if h : f.val < 3080 then projected m c (at_ t r) ⟨f.val, h⟩ else (0 : EReal) := by
  refine (proj_at _ _ _ _ r f).trans ?_
  have hx : ∀ k, normed 0x44800000#32 (fun k => k0_pay2 (iblk m c 2 t) (View.ld (iblk m c 1 t) r0_1) (View.ld (iblk m c 1 t) r0_2) (View.ld (iblk m c 1 t) r0_3) (View.ld (iblk m c 1 t) r0_4) (iblk m c 0 t) (ix2 r k))
      (fun k => iblk m c 3 t (ix2 0 k)) (fun k => iblk m c 4 t (ix2 0 k)) k = hidden m c (at_ t r) k := fun k =>
    normed_congr _ (sum_at m c t r) (block3 m c t) (block4 m c t) k
  refine (congrArg (fun x => proj x _ f) (funext hx)).trans ?_
  exact proj_padded _ _ _ (fun k f => (block5 m c t k f).trans ((congrFun (weights m c) _).trans (padded_at _ k f))) f

/-- The normalized rows. -/
theorem final0 (c : Dev nD) : (dats m 0 c).arrAt 10 cfg0.N = result0 m c := by
  refine (dats m 0 c).arrAt_eq_of_covers 10 _ (by decide +kernel) fun t hf y => ?_
  blk_simp
  rw [after0_10]
  unfold_out out0_10
  frame_out
  obtain ⟨r, d, rfl⟩ : ∃ (r : Fin 512) (d : Fin 1024), y = ix2 r d := ⟨y 0, y 1, by funext a; fin_cases a <;> rfl⟩
  have hy : ((View.whole main_v14_0).slice (win0_10.rect t)).emb (ix2 r d) = ix2 (at_ t r) d := by blk_ext [e10, at_]
  rw [hy]
  refine (normed_at _ _ _ r d).trans ?_
  exact normed_congr _ (sum_at m c t r) (block3 m c t) (block4 m c t) d

/-- The columns for the second mixer. -/
theorem final2 (c : Dev nD) : (dats m 0 c).arrAt 12 cfg0.N = result2 m c := by
  refine (dats m 0 c).arrAt_eq_of_covers 12 _ (by decide +kernel) fun t hf y => ?_
  blk_simp
  rw [after0_12]
  unfold_out out0_12
  frame_out
  obtain ⟨r, d, rfl⟩ : ∃ (r : Fin 512) (d : Fin 2048), y = ix2 r d := ⟨y 0, y 1, by funext a; fin_cases a <;> rfl⟩
  have hy : ((View.whole main_v14_2).slice (win0_12.rect t)).emb (ix2 r d) = ix2 (at_ t r) d := by blk_ext [e12, at_]
  rw [hy]
  refine (middle_at _ _ _ _ r d).trans ((projection_at m c t r _).trans (dif_pos ?_))
  show 1024 + d.val < 3080; omega

/-- The last columns, padded. -/
theorem final3 (c : Dev nD) : (dats m 0 c).arrAt 13 cfg0.N = result3 m c := by
  refine (dats m 0 c).arrAt_eq_of_covers 13 _ (by decide +kernel) fun t hf y => ?_
  blk_simp
  rw [after0_13]
  unfold_out out0_13
  frame_out
  obtain ⟨r, d, rfl⟩ : ∃ (r : Fin 512) (d : Fin 128), y = ix2 r d := ⟨y 0, y 1, by funext a; fin_cases a <;> rfl⟩
  have hy : ((View.whole main_v14_3).slice (win0_13.rect t)).emb (ix2 r d) = ix2 (at_ t r) d := by blk_ext [e13, at_]
  rw [hy]
  refine (last_at _ _ _ _ r d).trans ((projection_at m c t r _).trans ?_)
  show (if h : 3072 + d.val < 3080 then _ else _) = if h : d.val < 8 then _ else _
  by_cases h : d.val < 8
  · rw [dif_pos h, dif_pos (by omega)]
    rfl
  · rw [dif_neg h, dif_neg (by omega)]

/-- The gated entries. -/
theorem final1 (c : Dev nD) : (dats m 0 c).arrAt 11 cfg0.N = result1 m c := by
  refine (dats m 0 c).arrAt_eq_of_covers 11 _ (by decide +kernel) fun t hf y => ?_
  blk_simp
  rw [after0_11, block_at]
  unfold k0_pay47 k0_pay46
  frame_out
  obtain ⟨r, d, rfl⟩ : ∃ (r : Fin 512) (d : Fin 512), y = ix2 r d := ⟨y 0, y 1, by funext a; fin_cases a <;> rfl⟩
  have hy : ((View.whole main_v14_1).slice (win0_11.rect t)).emb (ix2 r d) = ix2 (at_ t r) d := by blk_ext [e11, at_]
  rw [hy]
  exact block_gated _ _ _ _ _ (projected m c) _ _ _ _ t.val (at_ t) (fun _ => rfl) (fun r f hf => (projection_at m c t r f).trans (dif_pos hf)) (block6 m c t) (block7 m c t)
    (fun g i j => (block8 m c t g i j).trans ((congrFun (mixes m c) _).trans (masked_at _ g i j))) (fun g i j => (block9 m c t g i j).trans ((congrFun (biases m c) _).trans (widened_at _ g i j))) r d

end Cert.EvenInIdeal.Rows

end
-- ==== Proof.EvenIn.Claims.lean ====
module

public import proofs.«01_k».proof.Defs
public import proofs.«01_k».proof.Proof.Gen.EvenIn.Frame
public import proofs.«01_k».proof.Proof.EvenIn.KernelRows
public import proofs.«01_k».proof.Proof.EvenIn.ReferenceRows

@[expose] public section

noncomputable section

namespace Cert.EvenIn.Claims

open Idealize.ShloMosaic Idealize.ShloMosaic.TcCoe Idealize.SL.Sem Cert.EvenIn.Spec

/-! # The claims of the sum, its norm and projection, and the gate -/

theorem kernel : Cert.quiescent_EvenIn := fun m g _ => Cert.EvenIn.Gen.frame m g

theorem ideal : Cert.quiescent_EvenInIdeal := fun m g _ => Cert.EvenInIdeal.Gen.frame m g

theorem reference : Cert.quiescent_EvenInReferenceIdeal := fun m g _ =>
  (θ_run Cert.EvenInReferenceIdeal.defs _ _).mono (fun r h => ⟨fun c => (h c).2.2.2.2, sem_eq_zero_of_no_sems (by decide) r.2⟩)
    (Cert.EvenInReferenceIdeal.Value.run (F := Ideal) m g)

theorem preserves : Cert.preserves_EvenIn_EvenInIdeal := trivial

section Rows

variable (m : (ℓ : Loc EvenInIdeal.nD EvenInIdeal.τ EvenInIdeal.sig) → Buf (Elt Ideal) ℓ) (m' : (ℓ : Loc EvenInReferenceIdeal.nD EvenInReferenceIdeal.τ EvenInReferenceIdeal.sig) → Buf (Elt Ideal) ℓ)
  (c : Dev EvenInIdeal.nD)
  (e0 : m' ((c : Thread EvenInReferenceIdeal.nD EvenInReferenceIdeal.τ).loc EvenInReferenceIdeal.main_arg0) = m ((c : Thread EvenInIdeal.nD EvenInIdeal.τ).loc EvenInIdeal.main_arg0))
  (e1 : m' ((c : Thread EvenInReferenceIdeal.nD EvenInReferenceIdeal.τ).loc EvenInReferenceIdeal.main_arg1) = m ((c : Thread EvenInIdeal.nD EvenInIdeal.τ).loc EvenInIdeal.main_arg1))
  (e2 : m' ((c : Thread EvenInReferenceIdeal.nD EvenInReferenceIdeal.τ).loc EvenInReferenceIdeal.main_arg2) = m ((c : Thread EvenInIdeal.nD EvenInIdeal.τ).loc EvenInIdeal.main_arg2))
  (e3 : m' ((c : Thread EvenInReferenceIdeal.nD EvenInReferenceIdeal.τ).loc EvenInReferenceIdeal.main_arg3) = m ((c : Thread EvenInIdeal.nD EvenInIdeal.τ).loc EvenInIdeal.main_arg3))
  (e4 : m' ((c : Thread EvenInReferenceIdeal.nD EvenInReferenceIdeal.τ).loc EvenInReferenceIdeal.main_arg4) = m ((c : Thread EvenInIdeal.nD EvenInIdeal.τ).loc EvenInIdeal.main_arg4))
  (e5 : m' ((c : Thread EvenInReferenceIdeal.nD EvenInReferenceIdeal.τ).loc EvenInReferenceIdeal.main_arg5) = m ((c : Thread EvenInIdeal.nD EvenInIdeal.τ).loc EvenInIdeal.main_arg5))

include e0 e1 e2 e3 e4

/-- Equal arguments have equal normalized rows, -/
theorem hidden_eq (R : Fin 32768) (d : Fin 1024) : EvenInReferenceIdeal.Value.res_main_v34 m' c (ix2 R d) = EvenInIdeal.Rows.hidden m c R d := by
  refine (EvenInReferenceIdeal.Rows.hidden_at m' c R d).trans ?_
  rw [e0, e1, e2, e3, e4]
  rfl

include e5

/-- and equal projections. -/
theorem projected_eq (R : Fin 32768) (f : Fin 3080) : EvenInReferenceIdeal.Rows.projected m' c (ix2 R f) = EvenInIdeal.Rows.projected m c R f := by
  refine (EvenInReferenceIdeal.Rows.projected_at m' c R f).trans ?_
  unfold EvenInIdeal.Rows.projected proj
  refine Finset.sum_congr rfl fun k _ => congrArg₂ (fun a b : EReal => a * b) (hidden_eq m m' c e0 e1 e2 e3 e4 R k) ?_
  exact congrFun e5 (ix2 k f)

end Rows

theorem algebraic : Cert.algebraic_EvenInIdeal_EvenInReferenceIdeal := fun m g m' g' _ hm => by
  refine ⟨EvenInIdeal.Rows.result0 m, EvenInIdeal.Rows.result1 m, EvenInIdeal.Rows.result2 m, EvenInIdeal.Rows.result3 m, ?_, ?_⟩
  · refine (θ_run Cert.EvenInIdeal.defs _ _).mono (fun r hr c => ?_) (Cert.EvenInIdeal.Value.run_blocks (F := Ideal) m g)
    obtain ⟨h0, h1, h2, h3, hk⟩ := hr c
    exact ⟨h0.trans (EvenInIdeal.Rows.final0 m c), h1.trans (EvenInIdeal.Rows.final1 m c), h2.trans (EvenInIdeal.Rows.final2 m c), h3.trans (EvenInIdeal.Rows.final3 m c), hk⟩
  · refine (θ_run Cert.EvenInReferenceIdeal.defs _ _).mono (fun r hr c => ?_) (Cert.EvenInReferenceIdeal.Value.run (F := Ideal) m' g')
    obtain ⟨h0, h1, h2, h3, hk⟩ := hr c
    obtain ⟨e0, e1, e2, e3, e4, e5, e6, e7, e8, e9⟩ := hm c
    have hp := projected_eq m m' c e0 e1 e2 e3 e4 e5
    refine ⟨h0.trans ?_, h1.trans ?_, h2.trans ?_, h3.trans ?_, hk⟩
    · funext y
      have hy : (y : EvenInReferenceIdeal.S32768x1024.Idx) = ix2 (y 0) (y 1) := by funext a; fin_cases a <;> rfl
      exact (congrArg (EvenInReferenceIdeal.Value.res_main_v34 m' c) hy).trans (hidden_eq m m' c e0 e1 e2 e3 e4 (y 0) (y 1))
    · funext y
      refine (congrFun (EvenInReferenceIdeal.Rows.gated_eq m' c) y).trans ((EvenInReferenceIdeal.Rows.gate_apply _ _ _ _ _ y).trans ?_)
      simp only [hp]
      rw [e6, e7, e8, e9]
      rfl
    · funext y
      have hy : (y : EvenInReferenceIdeal.S32768x2048.Idx) = ix2 (y 0) (y 1) := by funext a; fin_cases a <;> rfl
      exact (congrArg (EvenInReferenceIdeal.Value.res_main_v106 m' c) hy).trans ((EvenInReferenceIdeal.Rows.middle_at m' c (y 0) (y 1)).trans (hp _ _))
    · funext y
      have hy : (y : EvenInReferenceIdeal.S32768x128.Idx) = ix2 (y 0) (y 1) := by funext a; fin_cases a <;> rfl
      refine (congrArg (EvenInReferenceIdeal.Value.res_main_v103 m' c) hy).trans ((EvenInReferenceIdeal.Rows.last_at m' c (y 0) (y 1)).trans ?_)
      exact dite_congr rfl (fun h => hp _ _) fun _ => rfl

end Cert.EvenIn.Claims

end
-- ==== Proof.lean ====
module

public import proofs.«01_k».proof.Defs
public import proofs.«01_k».proof.Proof.Frames
public import proofs.«01_k».proof.Proof.Value
public import proofs.«01_k».proof.Proof.Combine.Claims
public import proofs.«01_k».proof.Proof.EvenFirst.Claims
public import proofs.«01_k».proof.Proof.ProjEven.Claims
public import proofs.«01_k».proof.Proof.ProjOdd.Claims
public import proofs.«01_k».proof.Proof.EvenIn.Claims
public import proofs.«01_k».proof.Proof.Kernel.Launch
public import proofs.«01_k».proof.Proof.KernelIdeal.Launch
public import proofs.«01_k».proof.Proof.Gen.ProjEven
public import proofs.«01_k».proof.Proof.Gen.ProjEven.Frame
public import proofs.«01_k».proof.Proof.Gen.ProjEvenIdeal
public import proofs.«01_k».proof.Proof.Gen.ProjEvenIdeal.Value
public import proofs.«01_k».proof.Proof.Gen.ProjEvenReferenceIdeal
public import proofs.«01_k».proof.Proof.Gen.ProjEvenReferenceIdeal.Run
public import proofs.«01_k».proof.Proof.Gen.ProjOdd
public import proofs.«01_k».proof.Proof.Gen.ProjOdd.Frame
public import proofs.«01_k».proof.Proof.Gen.ProjOddIdeal
public import proofs.«01_k».proof.Proof.Gen.ProjOddIdeal.Value
public import proofs.«01_k».proof.Proof.Gen.ProjOddReferenceIdeal
public import proofs.«01_k».proof.Proof.Gen.ProjOddReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_items_in_order
public import proofs.«01_k».proof.Proof.Gen.EvenFirst
public import proofs.«01_k».proof.Proof.Gen.EvenFirst.Frame
public import proofs.«01_k».proof.Proof.Gen.EvenFirstIdeal
public import proofs.«01_k».proof.Proof.Gen.EvenFirstIdeal.Value
public import proofs.«01_k».proof.Proof.Gen.EvenFirstReferenceIdeal
public import proofs.«01_k».proof.Proof.Gen.EvenFirstReferenceIdeal.Run
public import proofs.«01_k».proof.Proof.Gen.EvenIn
public import proofs.«01_k».proof.Proof.Gen.EvenIn.Frame
public import proofs.«01_k».proof.Proof.Gen.EvenInIdeal
public import proofs.«01_k».proof.Proof.Gen.EvenInIdeal.Value
public import proofs.«01_k».proof.Proof.Gen.EvenInReferenceIdeal
public import proofs.«01_k».proof.Proof.Gen.EvenInReferenceIdeal.Run
public import proofs.«01_k».proof.Proof.Gen.Combine
public import proofs.«01_k».proof.Proof.Gen.Combine.Frame
public import proofs.«01_k».proof.Proof.Gen.CombineIdeal
public import proofs.«01_k».proof.Proof.Gen.CombineIdeal.Value
public import proofs.«01_k».proof.Proof.Gen.CombineReferenceIdeal
public import proofs.«01_k».proof.Proof.Gen.CombineReferenceIdeal.Run
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Combine.Gen.facts, Cert.CombineIdeal.Gen.facts,
  Cert.CombineReferenceIdeal.Gen.facts, Cert.EvenIn.Gen.facts, Cert.EvenInIdeal.Gen.facts, Cert.EvenInReferenceIdeal.Gen.facts,
  Cert.EvenFirst.Gen.facts, Cert.EvenFirstIdeal.Gen.facts, Cert.EvenFirstReferenceIdeal.Gen.facts,
  Cert.ProjEven.Gen.facts, Cert.ProjEvenIdeal.Gen.facts, Cert.ProjEvenReferenceIdeal.Gen.facts, Cert.ProjOdd.Gen.facts, Cert.ProjOddIdeal.Gen.facts, Cert.ProjOddReferenceIdeal.Gen.facts,
  Cert.Pre_items_in_order.Gen.facts,
  Cert.Frames.kernel, Cert.Frames.ideal, Cert.Frames.reference, Cert.Frames.reference_ordered,
  Cert.Combine.Claims.kernel, Cert.Combine.Claims.ideal, Cert.Combine.Claims.reference,
  Cert.EvenIn.Claims.kernel, Cert.EvenIn.Claims.ideal, Cert.EvenIn.Claims.reference,
  Cert.EvenFirst.Claims.kernel, Cert.EvenFirst.Claims.ideal, Cert.EvenFirst.Claims.reference,
  Cert.ProjEven.Claims.kernel, Cert.ProjEven.Claims.ideal, Cert.ProjEven.Claims.reference,
  Cert.ProjOdd.Claims.kernel, Cert.ProjOdd.Claims.ideal, Cert.ProjOdd.Claims.reference,
  Cert.Frames.preserves, Cert.Frames.algebraic, Cert.Combine.Claims.preserves, Cert.Combine.Claims.algebraic,
  Cert.EvenIn.Claims.preserves, Cert.EvenIn.Claims.algebraic,
  Cert.EvenFirst.Claims.preserves, Cert.EvenFirst.Claims.algebraic,
  Cert.ProjEven.Claims.preserves, Cert.ProjEven.Claims.algebraic, Cert.ProjOdd.Claims.preserves, Cert.ProjOdd.Claims.algebraic⟩

end Cert.Proof

end
